-- ==== Defs.lean ====
def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryIdeal_finite_scores [hPre_finite_scores : Cert.Pre_finite_scores.Facts] (m : (ℓ : Loc Cert.MemoryIdeal.nD Cert.MemoryIdeal.τ Cert.MemoryIdeal.sig) → Buf (Elt Ideal) ℓ) : Prop :=
  ∀ c : Dev Cert.MemoryIdeal.nD,
    (Cert.Pre_finite_scores.fn (F := Ideal) (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1)) (m ((c.tc : Thread Cert.MemoryIdeal.nD Cert.MemoryIdeal.τ).loc Cert.MemoryIdeal.main_arg2))).1 = (fun _ => 1#1)
    ∧ (Cert.Pre_finite_scores.fn (F := Ideal) (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1)) (m ((c.tc : Thread Cert.MemoryIdeal.nD Cert.MemoryIdeal.τ).loc Cert.MemoryIdeal.main_arg2))).2 = (fun _ => 1#1)

def Pre_MemoryRefIdeal (m : (ℓ : Loc Cert.MemoryRefIdeal.nD Cert.MemoryRefIdeal.τ Cert.MemoryRefIdeal.sig) → Buf (Elt Ideal) ℓ) : Prop :=
  True

def Pre_MemoryRefIdeal_finite_scores [hPre_finite_scores : Cert.Pre_finite_scores.Facts] (m : (ℓ : Loc Cert.MemoryRefIdeal.nD Cert.MemoryRefIdeal.τ Cert.MemoryRefIdeal.sig) → Buf (Elt Ideal) ℓ) : Prop :=
  ∀ c : Dev Cert.MemoryRefIdeal.nD,
    (Cert.Pre_finite_scores.fn (F := Ideal) (m ((c.tc : Thread Cert.MemoryRefIdeal.nD Cert.MemoryRefIdeal.τ).loc Cert.MemoryRefIdeal.main_arg0)) (m ((c.tc : Thread Cert.MemoryRefIdeal.nD Cert.MemoryRefIdeal.τ).loc Cert.MemoryRefIdeal.main_arg1)) (m ((c.tc : Thread Cert.MemoryRefIdeal.nD Cert.MemoryRefIdeal.τ).loc Cert.MemoryRefIdeal.main_arg2))).1 = (fun _ => 1#1)
    ∧ (Cert.Pre_finite_scores.fn (F := Ideal) (m ((c.tc : Thread Cert.MemoryRefIdeal.nD Cert.MemoryRefIdeal.τ).loc Cert.MemoryRefIdeal.main_arg0)) (m ((c.tc : Thread Cert.MemoryRefIdeal.nD Cert.MemoryRefIdeal.τ).loc Cert.MemoryRefIdeal.main_arg1)) (m ((c.tc : Thread Cert.MemoryRefIdeal.nD Cert.MemoryRefIdeal.τ).loc Cert.MemoryRefIdeal.main_arg2))).2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_SampleTail (m : (ℓ : Loc Cert.SampleTail.nD Cert.SampleTail.τ Cert.SampleTail.sig) → Buf (Elt Bits) ℓ) : Prop :=
  True

def Pre_SampleTailIdeal (m : (ℓ : Loc Cert.SampleTailIdeal.nD Cert.SampleTailIdeal.τ Cert.SampleTailIdeal.sig) → Buf (Elt Ideal) ℓ) : Prop :=
  True

def Pre_SampleTailRefIdeal (m : (ℓ : Loc Cert.SampleTailRefIdeal.nD Cert.SampleTailRefIdeal.τ Cert.SampleTailRefIdeal.sig) → Buf (Elt Ideal) ℓ) : Prop :=
  True

def Pre_SampleProj (m : (ℓ : Loc Cert.SampleProj.nD Cert.SampleProj.τ Cert.SampleProj.sig) → Buf (Elt Bits) ℓ) : Prop :=
  True

def Pre_SampleProjIdeal (m : (ℓ : Loc Cert.SampleProjIdeal.nD Cert.SampleProjIdeal.τ Cert.SampleProjIdeal.sig) → Buf (Elt Ideal) ℓ) : Prop :=
  True

def Pre_SampleProjRefIdeal (m : (ℓ : Loc Cert.SampleProjRefIdeal.nD Cert.SampleProjRefIdeal.τ Cert.SampleProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite_gates [hPre_finite_gates : Cert.Pre_finite_gates.Facts] (m : (ℓ : Loc Cert.MobaIdeal.nD Cert.MobaIdeal.τ Cert.MobaIdeal.sig) → Buf (Elt Ideal) ℓ) : Prop :=
  ∀ c : Dev Cert.MobaIdeal.nD,
    (Cert.Pre_finite_gates.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2))).1 = (fun _ => 1#1)
    ∧ (Cert.Pre_finite_gates.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2))).2 = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite_gates [hPre_finite_gates : Cert.Pre_finite_gates.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite_gates.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2))).1 = (fun _ => 1#1)
    ∧ (Cert.Pre_finite_gates.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2))).2 = (fun _ => 1#1)

def Pre_SampleMemory (m : (ℓ : Loc Cert.SampleMemory.nD Cert.SampleMemory.τ Cert.SampleMemory.sig) → Buf (Elt Bits) ℓ) : Prop :=
  True

def Pre_SampleMemoryIdeal (m : (ℓ : Loc Cert.SampleMemoryIdeal.nD Cert.SampleMemoryIdeal.τ Cert.SampleMemoryIdeal.sig) → Buf (Elt Ideal) ℓ) : Prop :=
  True

def Pre_SampleMemoryIdeal_finite_sample_scores [hPre_finite_sample_scores : Cert.Pre_finite_sample_scores.Facts] (m : (ℓ : Loc Cert.SampleMemoryIdeal.nD Cert.SampleMemoryIdeal.τ Cert.SampleMemoryIdeal.sig) → Buf (Elt Ideal) ℓ) : Prop :=
  ∀ c : Dev Cert.SampleMemoryIdeal.nD,
    (Cert.Pre_finite_sample_scores.fn (F := Ideal) (m ((c.tc : Thread Cert.SampleMemoryIdeal.nD Cert.SampleMemoryIdeal.τ).loc Cert.SampleMemoryIdeal.main_arg0)) (m ((c.tc : Thread Cert.SampleMemoryIdeal.nD Cert.SampleMemoryIdeal.τ).loc Cert.SampleMemoryIdeal.main_arg1)) (m ((c.tc : Thread Cert.SampleMemoryIdeal.nD Cert.SampleMemoryIdeal.τ).loc Cert.SampleMemoryIdeal.main_arg2))).1 = (fun _ => 1#1)
    ∧ (Cert.Pre_finite_sample_scores.fn (F := Ideal) (m ((c.tc : Thread Cert.SampleMemoryIdeal.nD Cert.SampleMemoryIdeal.τ).loc Cert.SampleMemoryIdeal.main_arg0)) (m ((c.tc : Thread Cert.SampleMemoryIdeal.nD Cert.SampleMemoryIdeal.τ).loc Cert.SampleMemoryIdeal.main_arg1)) (m ((c.tc : Thread Cert.SampleMemoryIdeal.nD Cert.SampleMemoryIdeal.τ).loc Cert.SampleMemoryIdeal.main_arg2))).2 = (fun _ => 1#1)

def Pre_SampleMemoryRefIdeal (m : (ℓ : Loc Cert.SampleMemoryRefIdeal.nD Cert.SampleMemoryRefIdeal.τ Cert.SampleMemoryRefIdeal.sig) → Buf (Elt Ideal) ℓ) : Prop :=
  True

def Pre_SampleMemoryRefIdeal_finite_sample_scores [hPre_finite_sample_scores : Cert.Pre_finite_sample_scores.Facts] (m : (ℓ : Loc Cert.SampleMemoryRefIdeal.nD Cert.SampleMemoryRefIdeal.τ Cert.SampleMemoryRefIdeal.sig) → Buf (Elt Ideal) ℓ) : Prop :=
  ∀ c : Dev Cert.SampleMemoryRefIdeal.nD,
    (Cert.Pre_finite_sample_scores.fn (F := Ideal) (m ((c.tc : Thread Cert.SampleMemoryRefIdeal.nD Cert.SampleMemoryRefIdeal.τ).loc Cert.SampleMemoryRefIdeal.main_arg0)) (m ((c.tc : Thread Cert.SampleMemoryRefIdeal.nD Cert.SampleMemoryRefIdeal.τ).loc Cert.SampleMemoryRefIdeal.main_arg1)) (m ((c.tc : Thread Cert.SampleMemoryRefIdeal.nD Cert.SampleMemoryRefIdeal.τ).loc Cert.SampleMemoryRefIdeal.main_arg2))).1 = (fun _ => 1#1)
    ∧ (Cert.Pre_finite_sample_scores.fn (F := Ideal) (m ((c.tc : Thread Cert.SampleMemoryRefIdeal.nD Cert.SampleMemoryRefIdeal.τ).loc Cert.SampleMemoryRefIdeal.main_arg0)) (m ((c.tc : Thread Cert.SampleMemoryRefIdeal.nD Cert.SampleMemoryRefIdeal.τ).loc Cert.SampleMemoryRefIdeal.main_arg1)) (m ((c.tc : Thread Cert.SampleMemoryRefIdeal.nD Cert.SampleMemoryRefIdeal.τ).loc Cert.SampleMemoryRefIdeal.main_arg2))).2 = (fun _ => 1#1)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryIdeal_pre_finite_scores [hMemoryIdeal : Cert.MemoryIdeal.Facts] [hPre_finite_scores : Cert.Pre_finite_scores.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal_finite_scores m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_MemoryRefIdeal_pre_finite_scores [hMemoryRefIdeal : Cert.MemoryRefIdeal.Facts] [hPre_finite_scores : Cert.Pre_finite_scores.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal_finite_scores m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_SampleTail [hSampleTail : Cert.SampleTail.Facts] : Prop :=
  ∀ (m : (ℓ : Loc Cert.SampleTail.nD Cert.SampleTail.τ Cert.SampleTail.sig) → Buf (Elt Bits) ℓ) (g : Dev Cert.SampleTail.nD → PrngReg), Pre_SampleTail m →
    θ_run (Cert.SampleTail.defs (F := Bits)) (onTc (τ := Cert.SampleTail.τ) (Cert.SampleTail.main (F := Bits))) ⟨m, fun _ => 0, g⟩ (fun r => (∀ c : Dev Cert.SampleTail.nD,
      r.2.mem ((c.tc : Thread Cert.SampleTail.nD Cert.SampleTail.τ).loc Cert.SampleTail.main_arg0) = m ((c.tc : Thread Cert.SampleTail.nD Cert.SampleTail.τ).loc Cert.SampleTail.main_arg0)
      ∧ r.2.mem ((c.tc : Thread Cert.SampleTail.nD Cert.SampleTail.τ).loc Cert.SampleTail.main_arg1) = m ((c.tc : Thread Cert.SampleTail.nD Cert.SampleTail.τ).loc Cert.SampleTail.main_arg1)
      ∧ r.2.mem ((c.tc : Thread Cert.SampleTail.nD Cert.SampleTail.τ).loc Cert.SampleTail.main_arg2) = m ((c.tc : Thread Cert.SampleTail.nD Cert.SampleTail.τ).loc Cert.SampleTail.main_arg2)
      ∧ r.2.mem ((c.tc : Thread Cert.SampleTail.nD Cert.SampleTail.τ).loc Cert.SampleTail.main_arg3) = m ((c.tc : Thread Cert.SampleTail.nD Cert.SampleTail.τ).loc Cert.SampleTail.main_arg3)
      ∧ r.2.mem ((c.tc : Thread Cert.SampleTail.nD Cert.SampleTail.τ).loc Cert.SampleTail.main_arg4) = m ((c.tc : Thread Cert.SampleTail.nD Cert.SampleTail.τ).loc Cert.SampleTail.main_arg4)
      ∧ r.2.mem ((c.tc : Thread Cert.SampleTail.nD Cert.SampleTail.τ).loc Cert.SampleTail.main_arg5) = m ((c.tc : Thread Cert.SampleTail.nD Cert.SampleTail.τ).loc Cert.SampleTail.main_arg5)
      ∧ r.2.mem ((c.tc : Thread Cert.SampleTail.nD Cert.SampleTail.τ).loc Cert.SampleTail.main_arg6) = m ((c.tc : Thread Cert.SampleTail.nD Cert.SampleTail.τ).loc Cert.SampleTail.main_arg6)
      ∧ r.2.mem ((c.tc : Thread Cert.SampleTail.nD Cert.SampleTail.τ).loc Cert.SampleTail.main_arg7) = m ((c.tc : Thread Cert.SampleTail.nD Cert.SampleTail.τ).loc Cert.SampleTail.main_arg7)
      ∧ r.2.mem ((c.tc : Thread Cert.SampleTail.nD Cert.SampleTail.τ).loc Cert.SampleTail.main_arg8) = m ((c.tc : Thread Cert.SampleTail.nD Cert.SampleTail.τ).loc Cert.SampleTail.main_arg8)
      ∧ r.2.mem ((c.tc : Thread Cert.SampleTail.nD Cert.SampleTail.τ).loc Cert.SampleTail.main_arg9) = m ((c.tc : Thread Cert.SampleTail.nD Cert.SampleTail.τ).loc Cert.SampleTail.main_arg9)
      ∧ r.2.mem ((c.tc : Thread Cert.SampleTail.nD Cert.SampleTail.τ).loc Cert.SampleTail.main_arg10) = m ((c.tc : Thread Cert.SampleTail.nD Cert.SampleTail.τ).loc Cert.SampleTail.main_arg10))
      ∧ r.2.sem = fun _ => 0)

def quiescent_SampleTailIdeal [hSampleTailIdeal : Cert.SampleTailIdeal.Facts] : Prop :=
  ∀ (m : (ℓ : Loc Cert.SampleTailIdeal.nD Cert.SampleTailIdeal.τ Cert.SampleTailIdeal.sig) → Buf (Elt Ideal) ℓ) (g : Dev Cert.SampleTailIdeal.nD → PrngReg), Pre_SampleTailIdeal m →
    θ_run (Cert.SampleTailIdeal.defs (F := Ideal)) (onTc (τ := Cert.SampleTailIdeal.τ) (Cert.SampleTailIdeal.main (F := Ideal))) ⟨m, fun _ => 0, g⟩ (fun r => (∀ c : Dev Cert.SampleTailIdeal.nD,
      r.2.mem ((c.tc : Thread Cert.SampleTailIdeal.nD Cert.SampleTailIdeal.τ).loc Cert.SampleTailIdeal.main_arg0) = m ((c.tc : Thread Cert.SampleTailIdeal.nD Cert.SampleTailIdeal.τ).loc Cert.SampleTailIdeal.main_arg0)
      ∧ r.2.mem ((c.tc : Thread Cert.SampleTailIdeal.nD Cert.SampleTailIdeal.τ).loc Cert.SampleTailIdeal.main_arg1) = m ((c.tc : Thread Cert.SampleTailIdeal.nD Cert.SampleTailIdeal.τ).loc Cert.SampleTailIdeal.main_arg1)
      ∧ r.2.mem ((c.tc : Thread Cert.SampleTailIdeal.nD Cert.SampleTailIdeal.τ).loc Cert.SampleTailIdeal.main_arg2) = m ((c.tc : Thread Cert.SampleTailIdeal.nD Cert.SampleTailIdeal.τ).loc Cert.SampleTailIdeal.main_arg2)
      ∧ r.2.mem ((c.tc : Thread Cert.SampleTailIdeal.nD Cert.SampleTailIdeal.τ).loc Cert.SampleTailIdeal.main_arg3) = m ((c.tc : Thread Cert.SampleTailIdeal.nD Cert.SampleTailIdeal.τ).loc Cert.SampleTailIdeal.main_arg3)
      ∧ r.2.mem ((c.tc : Thread Cert.SampleTailIdeal.nD Cert.SampleTailIdeal.τ).loc Cert.SampleTailIdeal.main_arg4) = m ((c.tc : Thread Cert.SampleTailIdeal.nD Cert.SampleTailIdeal.τ).loc Cert.SampleTailIdeal.main_arg4)
      ∧ r.2.mem ((c.tc : Thread Cert.SampleTailIdeal.nD Cert.SampleTailIdeal.τ).loc Cert.SampleTailIdeal.main_arg5) = m ((c.tc : Thread Cert.SampleTailIdeal.nD Cert.SampleTailIdeal.τ).loc Cert.SampleTailIdeal.main_arg5)
      ∧ r.2.mem ((c.tc : Thread Cert.SampleTailIdeal.nD Cert.SampleTailIdeal.τ).loc Cert.SampleTailIdeal.main_arg6) = m ((c.tc : Thread Cert.SampleTailIdeal.nD Cert.SampleTailIdeal.τ).loc Cert.SampleTailIdeal.main_arg6)
      ∧ r.2.mem ((c.tc : Thread Cert.SampleTailIdeal.nD Cert.SampleTailIdeal.τ).loc Cert.SampleTailIdeal.main_arg7) = m ((c.tc : Thread Cert.SampleTailIdeal.nD Cert.SampleTailIdeal.τ).loc Cert.SampleTailIdeal.main_arg7)
      ∧ r.2.mem ((c.tc : Thread Cert.SampleTailIdeal.nD Cert.SampleTailIdeal.τ).loc Cert.SampleTailIdeal.main_arg8) = m ((c.tc : Thread Cert.SampleTailIdeal.nD Cert.SampleTailIdeal.τ).loc Cert.SampleTailIdeal.main_arg8)
      ∧ r.2.mem ((c.tc : Thread Cert.SampleTailIdeal.nD Cert.SampleTailIdeal.τ).loc Cert.SampleTailIdeal.main_arg9) = m ((c.tc : Thread Cert.SampleTailIdeal.nD Cert.SampleTailIdeal.τ).loc Cert.SampleTailIdeal.main_arg9)
      ∧ r.2.mem ((c.tc : Thread Cert.SampleTailIdeal.nD Cert.SampleTailIdeal.τ).loc Cert.SampleTailIdeal.main_arg10) = m ((c.tc : Thread Cert.SampleTailIdeal.nD Cert.SampleTailIdeal.τ).loc Cert.SampleTailIdeal.main_arg10))
      ∧ r.2.sem = fun _ => 0)

def quiescent_SampleTailRefIdeal [hSampleTailRefIdeal : Cert.SampleTailRefIdeal.Facts] : Prop :=
  ∀ (m : (ℓ : Loc Cert.SampleTailRefIdeal.nD Cert.SampleTailRefIdeal.τ Cert.SampleTailRefIdeal.sig) → Buf (Elt Ideal) ℓ) (g : Dev Cert.SampleTailRefIdeal.nD → PrngReg), Pre_SampleTailRefIdeal m →
    θ_run (Cert.SampleTailRefIdeal.defs (F := Ideal)) (onTc (τ := Cert.SampleTailRefIdeal.τ) (Cert.SampleTailRefIdeal.main (F := Ideal))) ⟨m, fun _ => 0, g⟩ (fun r => (∀ c : Dev Cert.SampleTailRefIdeal.nD,
      r.2.mem ((c.tc : Thread Cert.SampleTailRefIdeal.nD Cert.SampleTailRefIdeal.τ).loc Cert.SampleTailRefIdeal.main_arg0) = m ((c.tc : Thread Cert.SampleTailRefIdeal.nD Cert.SampleTailRefIdeal.τ).loc Cert.SampleTailRefIdeal.main_arg0)
      ∧ r.2.mem ((c.tc : Thread Cert.SampleTailRefIdeal.nD Cert.SampleTailRefIdeal.τ).loc Cert.SampleTailRefIdeal.main_arg1) = m ((c.tc : Thread Cert.SampleTailRefIdeal.nD Cert.SampleTailRefIdeal.τ).loc Cert.SampleTailRefIdeal.main_arg1)
      ∧ r.2.mem ((c.tc : Thread Cert.SampleTailRefIdeal.nD Cert.SampleTailRefIdeal.τ).loc Cert.SampleTailRefIdeal.main_arg2) = m ((c.tc : Thread Cert.SampleTailRefIdeal.nD Cert.SampleTailRefIdeal.τ).loc Cert.SampleTailRefIdeal.main_arg2)
      ∧ r.2.mem ((c.tc : Thread Cert.SampleTailRefIdeal.nD Cert.SampleTailRefIdeal.τ).loc Cert.SampleTailRefIdeal.main_arg3) = m ((c.tc : Thread Cert.SampleTailRefIdeal.nD Cert.SampleTailRefIdeal.τ).loc Cert.SampleTailRefIdeal.main_arg3)
      ∧ r.2.mem ((c.tc : Thread Cert.SampleTailRefIdeal.nD Cert.SampleTailRefIdeal.τ).loc Cert.SampleTailRefIdeal.main_arg4) = m ((c.tc : Thread Cert.SampleTailRefIdeal.nD Cert.SampleTailRefIdeal.τ).loc Cert.SampleTailRefIdeal.main_arg4)
      ∧ r.2.mem ((c.tc : Thread Cert.SampleTailRefIdeal.nD Cert.SampleTailRefIdeal.τ).loc Cert.SampleTailRefIdeal.main_arg5) = m ((c.tc : Thread Cert.SampleTailRefIdeal.nD Cert.SampleTailRefIdeal.τ).loc Cert.SampleTailRefIdeal.main_arg5)
      ∧ r.2.mem ((c.tc : Thread Cert.SampleTailRefIdeal.nD Cert.SampleTailRefIdeal.τ).loc Cert.SampleTailRefIdeal.main_arg6) = m ((c.tc : Thread Cert.SampleTailRefIdeal.nD Cert.SampleTailRefIdeal.τ).loc Cert.SampleTailRefIdeal.main_arg6)
      ∧ r.2.mem ((c.tc : Thread Cert.SampleTailRefIdeal.nD Cert.SampleTailRefIdeal.τ).loc Cert.SampleTailRefIdeal.main_arg7) = m ((c.tc : Thread Cert.SampleTailRefIdeal.nD Cert.SampleTailRefIdeal.τ).loc Cert.SampleTailRefIdeal.main_arg7)
      ∧ r.2.mem ((c.tc : Thread Cert.SampleTailRefIdeal.nD Cert.SampleTailRefIdeal.τ).loc Cert.SampleTailRefIdeal.main_arg8) = m ((c.tc : Thread Cert.SampleTailRefIdeal.nD Cert.SampleTailRefIdeal.τ).loc Cert.SampleTailRefIdeal.main_arg8)
      ∧ r.2.mem ((c.tc : Thread Cert.SampleTailRefIdeal.nD Cert.SampleTailRefIdeal.τ).loc Cert.SampleTailRefIdeal.main_arg9) = m ((c.tc : Thread Cert.SampleTailRefIdeal.nD Cert.SampleTailRefIdeal.τ).loc Cert.SampleTailRefIdeal.main_arg9)
      ∧ r.2.mem ((c.tc : Thread Cert.SampleTailRefIdeal.nD Cert.SampleTailRefIdeal.τ).loc Cert.SampleTailRefIdeal.main_arg10) = m ((c.tc : Thread Cert.SampleTailRefIdeal.nD Cert.SampleTailRefIdeal.τ).loc Cert.SampleTailRefIdeal.main_arg10))
      ∧ r.2.sem = fun _ => 0)

def quiescent_SampleProj [hSampleProj : Cert.SampleProj.Facts] : Prop :=
  ∀ (m : (ℓ : Loc Cert.SampleProj.nD Cert.SampleProj.τ Cert.SampleProj.sig) → Buf (Elt Bits) ℓ) (g : Dev Cert.SampleProj.nD → PrngReg), Pre_SampleProj m →
    θ_run (Cert.SampleProj.defs (F := Bits)) (onTc (τ := Cert.SampleProj.τ) (Cert.SampleProj.main (F := Bits))) ⟨m, fun _ => 0, g⟩ (fun r => (∀ c : Dev Cert.SampleProj.nD,
      r.2.mem ((c.tc : Thread Cert.SampleProj.nD Cert.SampleProj.τ).loc Cert.SampleProj.main_arg0) = m ((c.tc : Thread Cert.SampleProj.nD Cert.SampleProj.τ).loc Cert.SampleProj.main_arg0)
      ∧ r.2.mem ((c.tc : Thread Cert.SampleProj.nD Cert.SampleProj.τ).loc Cert.SampleProj.main_arg1) = m ((c.tc : Thread Cert.SampleProj.nD Cert.SampleProj.τ).loc Cert.SampleProj.main_arg1))
      ∧ r.2.sem = fun _ => 0)

def quiescent_SampleProjIdeal [hSampleProjIdeal : Cert.SampleProjIdeal.Facts] : Prop :=
  ∀ (m : (ℓ : Loc Cert.SampleProjIdeal.nD Cert.SampleProjIdeal.τ Cert.SampleProjIdeal.sig) → Buf (Elt Ideal) ℓ) (g : Dev Cert.SampleProjIdeal.nD → PrngReg), Pre_SampleProjIdeal m →
    θ_run (Cert.SampleProjIdeal.defs (F := Ideal)) (onTc (τ := Cert.SampleProjIdeal.τ) (Cert.SampleProjIdeal.main (F := Ideal))) ⟨m, fun _ => 0, g⟩ (fun r => (∀ c : Dev Cert.SampleProjIdeal.nD,
      r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
      ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1))
      ∧ r.2.sem = fun _ => 0)

def quiescent_SampleProjRefIdeal [hSampleProjRefIdeal : Cert.SampleProjRefIdeal.Facts] : Prop :=
  ∀ (m : (ℓ : Loc Cert.SampleProjRefIdeal.nD Cert.SampleProjRefIdeal.τ Cert.SampleProjRefIdeal.sig) → Buf (Elt Ideal) ℓ) (g : Dev Cert.SampleProjRefIdeal.nD → PrngReg), Pre_SampleProjRefIdeal m →
    θ_run (Cert.SampleProjRefIdeal.defs (F := Ideal)) (onTc (τ := Cert.SampleProjRefIdeal.τ) (Cert.SampleProjRefIdeal.main (F := Ideal))) ⟨m, fun _ => 0, g⟩ (fun r => (∀ c : Dev Cert.SampleProjRefIdeal.nD,
      r.2.mem ((c.tc : Thread Cert.SampleProjRefIdeal.nD Cert.SampleProjRefIdeal.τ).loc Cert.SampleProjRefIdeal.main_arg0) = m ((c.tc : Thread Cert.SampleProjRefIdeal.nD Cert.SampleProjRefIdeal.τ).loc Cert.SampleProjRefIdeal.main_arg0)
      ∧ r.2.mem ((c.tc : Thread Cert.SampleProjRefIdeal.nD Cert.SampleProjRefIdeal.τ).loc Cert.SampleProjRefIdeal.main_arg1) = m ((c.tc : Thread Cert.SampleProjRefIdeal.nD Cert.SampleProjRefIdeal.τ).loc Cert.SampleProjRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def quiescent_MobaIdeal_pre_finite_gates [hMobaIdeal : Cert.MobaIdeal.Facts] [hPre_finite_gates : Cert.Pre_finite_gates.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite_gates m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2))
      ∧ r.2.sem = fun _ => 0)

def quiescent_MobaRefIdeal_pre_finite_gates [hMobaRefIdeal : Cert.MobaRefIdeal.Facts] [hPre_finite_gates : Cert.Pre_finite_gates.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite_gates m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2))
      ∧ r.2.sem = fun _ => 0)

def quiescent_SampleMemory [hSampleMemory : Cert.SampleMemory.Facts] : Prop :=
  ∀ (m : (ℓ : Loc Cert.SampleMemory.nD Cert.SampleMemory.τ Cert.SampleMemory.sig) → Buf (Elt Bits) ℓ) (g : Dev Cert.SampleMemory.nD → PrngReg), Pre_SampleMemory m →
    θ_run (Cert.SampleMemory.defs (F := Bits)) (onTc (τ := Cert.SampleMemory.τ) (Cert.SampleMemory.main (F := Bits))) ⟨m, fun _ => 0, g⟩ (fun r => (∀ c : Dev Cert.SampleMemory.nD,
      r.2.mem ((c.tc : Thread Cert.SampleMemory.nD Cert.SampleMemory.τ).loc Cert.SampleMemory.main_arg0) = m ((c.tc : Thread Cert.SampleMemory.nD Cert.SampleMemory.τ).loc Cert.SampleMemory.main_arg0)
      ∧ r.2.mem ((c.tc : Thread Cert.SampleMemory.nD Cert.SampleMemory.τ).loc Cert.SampleMemory.main_arg1) = m ((c.tc : Thread Cert.SampleMemory.nD Cert.SampleMemory.τ).loc Cert.SampleMemory.main_arg1)
      ∧ r.2.mem ((c.tc : Thread Cert.SampleMemory.nD Cert.SampleMemory.τ).loc Cert.SampleMemory.main_arg2) = m ((c.tc : Thread Cert.SampleMemory.nD Cert.SampleMemory.τ).loc Cert.SampleMemory.main_arg2))
      ∧ r.2.sem = fun _ => 0)

def quiescent_SampleMemoryIdeal [hSampleMemoryIdeal : Cert.SampleMemoryIdeal.Facts] : Prop :=
  ∀ (m : (ℓ : Loc Cert.SampleMemoryIdeal.nD Cert.SampleMemoryIdeal.τ Cert.SampleMemoryIdeal.sig) → Buf (Elt Ideal) ℓ) (g : Dev Cert.SampleMemoryIdeal.nD → PrngReg), Pre_SampleMemoryIdeal m →
    θ_run (Cert.SampleMemoryIdeal.defs (F := Ideal)) (onTc (τ := Cert.SampleMemoryIdeal.τ) (Cert.SampleMemoryIdeal.main (F := Ideal))) ⟨m, fun _ => 0, g⟩ (fun r => (∀ c : Dev Cert.SampleMemoryIdeal.nD,
      r.2.mem ((c.tc : Thread Cert.SampleMemoryIdeal.nD Cert.SampleMemoryIdeal.τ).loc Cert.SampleMemoryIdeal.main_arg0) = m ((c.tc : Thread Cert.SampleMemoryIdeal.nD Cert.SampleMemoryIdeal.τ).loc Cert.SampleMemoryIdeal.main_arg0)
      ∧ r.2.mem ((c.tc : Thread Cert.SampleMemoryIdeal.nD Cert.SampleMemoryIdeal.τ).loc Cert.SampleMemoryIdeal.main_arg1) = m ((c.tc : Thread Cert.SampleMemoryIdeal.nD Cert.SampleMemoryIdeal.τ).loc Cert.SampleMemoryIdeal.main_arg1)
      ∧ r.2.mem ((c.tc : Thread Cert.SampleMemoryIdeal.nD Cert.SampleMemoryIdeal.τ).loc Cert.SampleMemoryIdeal.main_arg2) = m ((c.tc : Thread Cert.SampleMemoryIdeal.nD Cert.SampleMemoryIdeal.τ).loc Cert.SampleMemoryIdeal.main_arg2))
      ∧ r.2.sem = fun _ => 0)

def quiescent_SampleMemoryIdeal_pre_finite_sample_scores [hSampleMemoryIdeal : Cert.SampleMemoryIdeal.Facts] [hPre_finite_sample_scores : Cert.Pre_finite_sample_scores.Facts] : Prop :=
  ∀ (m : (ℓ : Loc Cert.SampleMemoryIdeal.nD Cert.SampleMemoryIdeal.τ Cert.SampleMemoryIdeal.sig) → Buf (Elt Ideal) ℓ) (g : Dev Cert.SampleMemoryIdeal.nD → PrngReg), Pre_SampleMemoryIdeal_finite_sample_scores m →
    θ_run (Cert.SampleMemoryIdeal.defs (F := Ideal)) (onTc (τ := Cert.SampleMemoryIdeal.τ) (Cert.SampleMemoryIdeal.main (F := Ideal))) ⟨m, fun _ => 0, g⟩ (fun r => (∀ c : Dev Cert.SampleMemoryIdeal.nD,
      r.2.mem ((c.tc : Thread Cert.SampleMemoryIdeal.nD Cert.SampleMemoryIdeal.τ).loc Cert.SampleMemoryIdeal.main_arg0) = m ((c.tc : Thread Cert.SampleMemoryIdeal.nD Cert.SampleMemoryIdeal.τ).loc Cert.SampleMemoryIdeal.main_arg0)
      ∧ r.2.mem ((c.tc : Thread Cert.SampleMemoryIdeal.nD Cert.SampleMemoryIdeal.τ).loc Cert.SampleMemoryIdeal.main_arg1) = m ((c.tc : Thread Cert.SampleMemoryIdeal.nD Cert.SampleMemoryIdeal.τ).loc Cert.SampleMemoryIdeal.main_arg1)
      ∧ r.2.mem ((c.tc : Thread Cert.SampleMemoryIdeal.nD Cert.SampleMemoryIdeal.τ).loc Cert.SampleMemoryIdeal.main_arg2) = m ((c.tc : Thread Cert.SampleMemoryIdeal.nD Cert.SampleMemoryIdeal.τ).loc Cert.SampleMemoryIdeal.main_arg2))
      ∧ r.2.sem = fun _ => 0)

def quiescent_SampleMemoryRefIdeal [hSampleMemoryRefIdeal : Cert.SampleMemoryRefIdeal.Facts] : Prop :=
  ∀ (m : (ℓ : Loc Cert.SampleMemoryRefIdeal.nD Cert.SampleMemoryRefIdeal.τ Cert.SampleMemoryRefIdeal.sig) → Buf (Elt Ideal) ℓ) (g : Dev Cert.SampleMemoryRefIdeal.nD → PrngReg), Pre_SampleMemoryRefIdeal m →
    θ_run (Cert.SampleMemoryRefIdeal.defs (F := Ideal)) (onTc (τ := Cert.SampleMemoryRefIdeal.τ) (Cert.SampleMemoryRefIdeal.main (F := Ideal))) ⟨m, fun _ => 0, g⟩ (fun r => (∀ c : Dev Cert.SampleMemoryRefIdeal.nD,
      r.2.mem ((c.tc : Thread Cert.SampleMemoryRefIdeal.nD Cert.SampleMemoryRefIdeal.τ).loc Cert.SampleMemoryRefIdeal.main_arg0) = m ((c.tc : Thread Cert.SampleMemoryRefIdeal.nD Cert.SampleMemoryRefIdeal.τ).loc Cert.SampleMemoryRefIdeal.main_arg0)
      ∧ r.2.mem ((c.tc : Thread Cert.SampleMemoryRefIdeal.nD Cert.SampleMemoryRefIdeal.τ).loc Cert.SampleMemoryRefIdeal.main_arg1) = m ((c.tc : Thread Cert.SampleMemoryRefIdeal.nD Cert.SampleMemoryRefIdeal.τ).loc Cert.SampleMemoryRefIdeal.main_arg1)
      ∧ r.2.mem ((c.tc : Thread Cert.SampleMemoryRefIdeal.nD Cert.SampleMemoryRefIdeal.τ).loc Cert.SampleMemoryRefIdeal.main_arg2) = m ((c.tc : Thread Cert.SampleMemoryRefIdeal.nD Cert.SampleMemoryRefIdeal.τ).loc Cert.SampleMemoryRefIdeal.main_arg2))
      ∧ r.2.sem = fun _ => 0)

def quiescent_SampleMemoryRefIdeal_pre_finite_sample_scores [hSampleMemoryRefIdeal : Cert.SampleMemoryRefIdeal.Facts] [hPre_finite_sample_scores : Cert.Pre_finite_sample_scores.Facts] : Prop :=
  ∀ (m : (ℓ : Loc Cert.SampleMemoryRefIdeal.nD Cert.SampleMemoryRefIdeal.τ Cert.SampleMemoryRefIdeal.sig) → Buf (Elt Ideal) ℓ) (g : Dev Cert.SampleMemoryRefIdeal.nD → PrngReg), Pre_SampleMemoryRefIdeal_finite_sample_scores m →
    θ_run (Cert.SampleMemoryRefIdeal.defs (F := Ideal)) (onTc (τ := Cert.SampleMemoryRefIdeal.τ) (Cert.SampleMemoryRefIdeal.main (F := Ideal))) ⟨m, fun _ => 0, g⟩ (fun r => (∀ c : Dev Cert.SampleMemoryRefIdeal.nD,
      r.2.mem ((c.tc : Thread Cert.SampleMemoryRefIdeal.nD Cert.SampleMemoryRefIdeal.τ).loc Cert.SampleMemoryRefIdeal.main_arg0) = m ((c.tc : Thread Cert.SampleMemoryRefIdeal.nD Cert.SampleMemoryRefIdeal.τ).loc Cert.SampleMemoryRefIdeal.main_arg0)
      ∧ r.2.mem ((c.tc : Thread Cert.SampleMemoryRefIdeal.nD Cert.SampleMemoryRefIdeal.τ).loc Cert.SampleMemoryRefIdeal.main_arg1) = m ((c.tc : Thread Cert.SampleMemoryRefIdeal.nD Cert.SampleMemoryRefIdeal.τ).loc Cert.SampleMemoryRefIdeal.main_arg1)
      ∧ r.2.mem ((c.tc : Thread Cert.SampleMemoryRefIdeal.nD Cert.SampleMemoryRefIdeal.τ).loc Cert.SampleMemoryRefIdeal.main_arg2) = m ((c.tc : Thread Cert.SampleMemoryRefIdeal.nD Cert.SampleMemoryRefIdeal.τ).loc Cert.SampleMemoryRefIdeal.main_arg2))
      ∧ r.2.sem = fun _ => 0)

def preserves_Memory_MemoryIdeal : Prop :=
  True

def algebraic_MemoryIdeal_MemoryRefIdeal_pre_finite_scores [hMemoryIdeal : Cert.MemoryIdeal.Facts] [hMemoryRefIdeal : Cert.MemoryRefIdeal.Facts] [hPre_finite_scores : Cert.Pre_finite_scores.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal_finite_scores m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v6)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v6) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v17) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v14)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v14) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v63) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v20_0)) (v1 : (c : Dev Cert.ProjIdeal.nD) → Buf (Elt Ideal) ((c.tc : Thread Cert.ProjIdeal.nD Cert.ProjIdeal.τ).loc Cert.ProjIdeal.main_v20_1)) (v2 : (c : Dev Cert.ProjIdeal.nD) → Buf (Elt Ideal) ((c.tc : Thread Cert.ProjIdeal.nD Cert.ProjIdeal.τ).loc Cert.ProjIdeal.main_v20_2)) (v3 : (c : Dev Cert.ProjIdeal.nD) → Buf (Elt Ideal) ((c.tc : Thread Cert.ProjIdeal.nD Cert.ProjIdeal.τ).loc Cert.ProjIdeal.main_v20_3)) (v4 : (c : Dev Cert.ProjIdeal.nD) → Buf (Elt Ideal) ((c.tc : Thread Cert.ProjIdeal.nD Cert.ProjIdeal.τ).loc Cert.ProjIdeal.main_v20_4)) (v5 : (c : Dev Cert.ProjIdeal.nD) → Buf (Elt Ideal) ((c.tc : Thread Cert.ProjIdeal.nD Cert.ProjIdeal.τ).loc Cert.ProjIdeal.main_v20_5)) (v6 : (c : Dev Cert.ProjIdeal.nD) → Buf (Elt Ideal) ((c.tc : Thread Cert.ProjIdeal.nD Cert.ProjIdeal.τ).loc Cert.ProjIdeal.main_v20_6)) (v7 : (c : Dev Cert.ProjIdeal.nD) → Buf (Elt Ideal) ((c.tc : Thread Cert.ProjIdeal.nD Cert.ProjIdeal.τ).loc Cert.ProjIdeal.main_v20_7)) (v8 : (c : Dev Cert.ProjIdeal.nD) → Buf (Elt Ideal) ((c.tc : Thread Cert.ProjIdeal.nD Cert.ProjIdeal.τ).loc Cert.ProjIdeal.main_v20_8)) (v9 : (c : Dev Cert.ProjIdeal.nD) → Buf (Elt Ideal) ((c.tc : Thread Cert.ProjIdeal.nD Cert.ProjIdeal.τ).loc Cert.ProjIdeal.main_v20_9)) (v10 : (c : Dev Cert.ProjIdeal.nD) → Buf (Elt Ideal) ((c.tc : Thread Cert.ProjIdeal.nD Cert.ProjIdeal.τ).loc Cert.ProjIdeal.main_v20_10)) (v11 : (c : Dev Cert.ProjIdeal.nD) → Buf (Elt Ideal) ((c.tc : Thread Cert.ProjIdeal.nD Cert.ProjIdeal.τ).loc Cert.ProjIdeal.main_v20_11)) (v12 : (c : Dev Cert.ProjIdeal.nD) → Buf (Elt Ideal) ((c.tc : Thread Cert.ProjIdeal.nD Cert.ProjIdeal.τ).loc Cert.ProjIdeal.main_v20_12)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v20_0) = v0 c
          ∧ r.2.mem ((c.tc : Thread Cert.ProjIdeal.nD Cert.ProjIdeal.τ).loc Cert.ProjIdeal.main_v20_1) = v1 c
          ∧ r.2.mem ((c.tc : Thread Cert.ProjIdeal.nD Cert.ProjIdeal.τ).loc Cert.ProjIdeal.main_v20_2) = v2 c
          ∧ r.2.mem ((c.tc : Thread Cert.ProjIdeal.nD Cert.ProjIdeal.τ).loc Cert.ProjIdeal.main_v20_3) = v3 c
          ∧ r.2.mem ((c.tc : Thread Cert.ProjIdeal.nD Cert.ProjIdeal.τ).loc Cert.ProjIdeal.main_v20_4) = v4 c
          ∧ r.2.mem ((c.tc : Thread Cert.ProjIdeal.nD Cert.ProjIdeal.τ).loc Cert.ProjIdeal.main_v20_5) = v5 c
          ∧ r.2.mem ((c.tc : Thread Cert.ProjIdeal.nD Cert.ProjIdeal.τ).loc Cert.ProjIdeal.main_v20_6) = v6 c
          ∧ r.2.mem ((c.tc : Thread Cert.ProjIdeal.nD Cert.ProjIdeal.τ).loc Cert.ProjIdeal.main_v20_7) = v7 c
          ∧ r.2.mem ((c.tc : Thread Cert.ProjIdeal.nD Cert.ProjIdeal.τ).loc Cert.ProjIdeal.main_v20_8) = v8 c
          ∧ r.2.mem ((c.tc : Thread Cert.ProjIdeal.nD Cert.ProjIdeal.τ).loc Cert.ProjIdeal.main_v20_9) = v9 c
          ∧ r.2.mem ((c.tc : Thread Cert.ProjIdeal.nD Cert.ProjIdeal.τ).loc Cert.ProjIdeal.main_v20_10) = v10 c
          ∧ r.2.mem ((c.tc : Thread Cert.ProjIdeal.nD Cert.ProjIdeal.τ).loc Cert.ProjIdeal.main_v20_11) = v11 c
          ∧ r.2.mem ((c.tc : Thread Cert.ProjIdeal.nD Cert.ProjIdeal.τ).loc Cert.ProjIdeal.main_v20_12) = v12 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_v14) = v1 c
          ∧ r.2.mem ((c.tc : Thread Cert.ProjRefIdeal.nD Cert.ProjRefIdeal.τ).loc Cert.ProjRefIdeal.main_v15) = v2 c
          ∧ r.2.mem ((c.tc : Thread Cert.ProjRefIdeal.nD Cert.ProjRefIdeal.τ).loc Cert.ProjRefIdeal.main_v16) = v3 c
          ∧ r.2.mem ((c.tc : Thread Cert.ProjRefIdeal.nD Cert.ProjRefIdeal.τ).loc Cert.ProjRefIdeal.main_v17) = v4 c
          ∧ r.2.mem ((c.tc : Thread Cert.ProjRefIdeal.nD Cert.ProjRefIdeal.τ).loc Cert.ProjRefIdeal.main_v18) = v5 c
          ∧ r.2.mem ((c.tc : Thread Cert.ProjRefIdeal.nD Cert.ProjRefIdeal.τ).loc Cert.ProjRefIdeal.main_v19) = v6 c
          ∧ r.2.mem ((c.tc : Thread Cert.ProjRefIdeal.nD Cert.ProjRefIdeal.τ).loc Cert.ProjRefIdeal.main_v20) = v7 c
          ∧ r.2.mem ((c.tc : Thread Cert.ProjRefIdeal.nD Cert.ProjRefIdeal.τ).loc Cert.ProjRefIdeal.main_v21) = v8 c
          ∧ r.2.mem ((c.tc : Thread Cert.ProjRefIdeal.nD Cert.ProjRefIdeal.τ).loc Cert.ProjRefIdeal.main_v23) = v9 c
          ∧ r.2.mem ((c.tc : Thread Cert.ProjRefIdeal.nD Cert.ProjRefIdeal.τ).loc Cert.ProjRefIdeal.main_v25) = v10 c
          ∧ r.2.mem ((c.tc : Thread Cert.ProjRefIdeal.nD Cert.ProjRefIdeal.τ).loc Cert.ProjRefIdeal.main_v27) = v11 c
          ∧ r.2.mem ((c.tc : Thread Cert.ProjRefIdeal.nD Cert.ProjRefIdeal.τ).loc Cert.ProjRefIdeal.main_v28) = v12 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_SampleTail_SampleTailIdeal : Prop :=
  True

def algebraic_SampleTailIdeal_SampleTailRefIdeal [hSampleTailIdeal : Cert.SampleTailIdeal.Facts] [hSampleTailRefIdeal : Cert.SampleTailRefIdeal.Facts] : Prop :=
  ∀ (m : (ℓ : Loc Cert.SampleTailIdeal.nD Cert.SampleTailIdeal.τ Cert.SampleTailIdeal.sig) → Buf (Elt Ideal) ℓ) (g : Dev Cert.SampleTailIdeal.nD → PrngReg)
    (m' : (ℓ : Loc Cert.SampleTailRefIdeal.nD Cert.SampleTailRefIdeal.τ Cert.SampleTailRefIdeal.sig) → Buf (Elt Ideal) ℓ) (g' : Dev Cert.SampleTailRefIdeal.nD → PrngReg), Pre_SampleTailIdeal m →
    (∀ c : Dev Cert.SampleTailIdeal.nD,
      m' ((c.tc : Thread Cert.SampleTailRefIdeal.nD Cert.SampleTailRefIdeal.τ).loc Cert.SampleTailRefIdeal.main_arg0) = m ((c.tc : Thread Cert.SampleTailIdeal.nD Cert.SampleTailIdeal.τ).loc Cert.SampleTailIdeal.main_arg0)
      ∧ m' ((c.tc : Thread Cert.SampleTailRefIdeal.nD Cert.SampleTailRefIdeal.τ).loc Cert.SampleTailRefIdeal.main_arg1) = m ((c.tc : Thread Cert.SampleTailIdeal.nD Cert.SampleTailIdeal.τ).loc Cert.SampleTailIdeal.main_arg1)
      ∧ m' ((c.tc : Thread Cert.SampleTailRefIdeal.nD Cert.SampleTailRefIdeal.τ).loc Cert.SampleTailRefIdeal.main_arg2) = m ((c.tc : Thread Cert.SampleTailIdeal.nD Cert.SampleTailIdeal.τ).loc Cert.SampleTailIdeal.main_arg2)
      ∧ m' ((c.tc : Thread Cert.SampleTailRefIdeal.nD Cert.SampleTailRefIdeal.τ).loc Cert.SampleTailRefIdeal.main_arg3) = m ((c.tc : Thread Cert.SampleTailIdeal.nD Cert.SampleTailIdeal.τ).loc Cert.SampleTailIdeal.main_arg3)
      ∧ m' ((c.tc : Thread Cert.SampleTailRefIdeal.nD Cert.SampleTailRefIdeal.τ).loc Cert.SampleTailRefIdeal.main_arg4) = m ((c.tc : Thread Cert.SampleTailIdeal.nD Cert.SampleTailIdeal.τ).loc Cert.SampleTailIdeal.main_arg4)
      ∧ m' ((c.tc : Thread Cert.SampleTailRefIdeal.nD Cert.SampleTailRefIdeal.τ).loc Cert.SampleTailRefIdeal.main_arg5) = m ((c.tc : Thread Cert.SampleTailIdeal.nD Cert.SampleTailIdeal.τ).loc Cert.SampleTailIdeal.main_arg5)
      ∧ m' ((c.tc : Thread Cert.SampleTailRefIdeal.nD Cert.SampleTailRefIdeal.τ).loc Cert.SampleTailRefIdeal.main_arg6) = m ((c.tc : Thread Cert.SampleTailIdeal.nD Cert.SampleTailIdeal.τ).loc Cert.SampleTailIdeal.main_arg6)
      ∧ m' ((c.tc : Thread Cert.SampleTailRefIdeal.nD Cert.SampleTailRefIdeal.τ).loc Cert.SampleTailRefIdeal.main_arg7) = m ((c.tc : Thread Cert.SampleTailIdeal.nD Cert.SampleTailIdeal.τ).loc Cert.SampleTailIdeal.main_arg7)
      ∧ m' ((c.tc : Thread Cert.SampleTailRefIdeal.nD Cert.SampleTailRefIdeal.τ).loc Cert.SampleTailRefIdeal.main_arg8) = m ((c.tc : Thread Cert.SampleTailIdeal.nD Cert.SampleTailIdeal.τ).loc Cert.SampleTailIdeal.main_arg8)
      ∧ m' ((c.tc : Thread Cert.SampleTailRefIdeal.nD Cert.SampleTailRefIdeal.τ).loc Cert.SampleTailRefIdeal.main_arg9) = m ((c.tc : Thread Cert.SampleTailIdeal.nD Cert.SampleTailIdeal.τ).loc Cert.SampleTailIdeal.main_arg9)
      ∧ m' ((c.tc : Thread Cert.SampleTailRefIdeal.nD Cert.SampleTailRefIdeal.τ).loc Cert.SampleTailRefIdeal.main_arg10) = m ((c.tc : Thread Cert.SampleTailIdeal.nD Cert.SampleTailIdeal.τ).loc Cert.SampleTailIdeal.main_arg10)) →
    ∃ (v0 : (c : Dev Cert.SampleTailIdeal.nD) → Buf (Elt Ideal) ((c.tc : Thread Cert.SampleTailIdeal.nD Cert.SampleTailIdeal.τ).loc Cert.SampleTailIdeal.main_v8)),
      θ_run (Cert.SampleTailIdeal.defs (F := Ideal)) (onTc (τ := Cert.SampleTailIdeal.τ) (Cert.SampleTailIdeal.main (F := Ideal))) ⟨m, fun _ => 0, g⟩ (fun r => ∀ c : Dev Cert.SampleTailIdeal.nD,
          r.2.mem ((c.tc : Thread Cert.SampleTailIdeal.nD Cert.SampleTailIdeal.τ).loc Cert.SampleTailIdeal.main_v8) = v0 c
          ∧ r.2.mem ((c.tc : Thread Cert.SampleTailIdeal.nD Cert.SampleTailIdeal.τ).loc Cert.SampleTailIdeal.main_arg0) = m ((c.tc : Thread Cert.SampleTailIdeal.nD Cert.SampleTailIdeal.τ).loc Cert.SampleTailIdeal.main_arg0)
          ∧ r.2.mem ((c.tc : Thread Cert.SampleTailIdeal.nD Cert.SampleTailIdeal.τ).loc Cert.SampleTailIdeal.main_arg1) = m ((c.tc : Thread Cert.SampleTailIdeal.nD Cert.SampleTailIdeal.τ).loc Cert.SampleTailIdeal.main_arg1)
          ∧ r.2.mem ((c.tc : Thread Cert.SampleTailIdeal.nD Cert.SampleTailIdeal.τ).loc Cert.SampleTailIdeal.main_arg2) = m ((c.tc : Thread Cert.SampleTailIdeal.nD Cert.SampleTailIdeal.τ).loc Cert.SampleTailIdeal.main_arg2)
          ∧ r.2.mem ((c.tc : Thread Cert.SampleTailIdeal.nD Cert.SampleTailIdeal.τ).loc Cert.SampleTailIdeal.main_arg3) = m ((c.tc : Thread Cert.SampleTailIdeal.nD Cert.SampleTailIdeal.τ).loc Cert.SampleTailIdeal.main_arg3)
          ∧ r.2.mem ((c.tc : Thread Cert.SampleTailIdeal.nD Cert.SampleTailIdeal.τ).loc Cert.SampleTailIdeal.main_arg4) = m ((c.tc : Thread Cert.SampleTailIdeal.nD Cert.SampleTailIdeal.τ).loc Cert.SampleTailIdeal.main_arg4)
          ∧ r.2.mem ((c.tc : Thread Cert.SampleTailIdeal.nD Cert.SampleTailIdeal.τ).loc Cert.SampleTailIdeal.main_arg5) = m ((c.tc : Thread Cert.SampleTailIdeal.nD Cert.SampleTailIdeal.τ).loc Cert.SampleTailIdeal.main_arg5)
          ∧ r.2.mem ((c.tc : Thread Cert.SampleTailIdeal.nD Cert.SampleTailIdeal.τ).loc Cert.SampleTailIdeal.main_arg6) = m ((c.tc : Thread Cert.SampleTailIdeal.nD Cert.SampleTailIdeal.τ).loc Cert.SampleTailIdeal.main_arg6)
          ∧ r.2.mem ((c.tc : Thread Cert.SampleTailIdeal.nD Cert.SampleTailIdeal.τ).loc Cert.SampleTailIdeal.main_arg7) = m ((c.tc : Thread Cert.SampleTailIdeal.nD Cert.SampleTailIdeal.τ).loc Cert.SampleTailIdeal.main_arg7)
          ∧ r.2.mem ((c.tc : Thread Cert.SampleTailIdeal.nD Cert.SampleTailIdeal.τ).loc Cert.SampleTailIdeal.main_arg8) = m ((c.tc : Thread Cert.SampleTailIdeal.nD Cert.SampleTailIdeal.τ).loc Cert.SampleTailIdeal.main_arg8)
          ∧ r.2.mem ((c.tc : Thread Cert.SampleTailIdeal.nD Cert.SampleTailIdeal.τ).loc Cert.SampleTailIdeal.main_arg9) = m ((c.tc : Thread Cert.SampleTailIdeal.nD Cert.SampleTailIdeal.τ).loc Cert.SampleTailIdeal.main_arg9)
          ∧ r.2.mem ((c.tc : Thread Cert.SampleTailIdeal.nD Cert.SampleTailIdeal.τ).loc Cert.SampleTailIdeal.main_arg10) = m ((c.tc : Thread Cert.SampleTailIdeal.nD Cert.SampleTailIdeal.τ).loc Cert.SampleTailIdeal.main_arg10))
      ∧ θ_run (Cert.SampleTailRefIdeal.defs (F := Ideal)) (onTc (τ := Cert.SampleTailRefIdeal.τ) (Cert.SampleTailRefIdeal.main (F := Ideal))) ⟨m', fun _ => 0, g'⟩ (fun r => ∀ c : Dev Cert.SampleTailRefIdeal.nD,
          r.2.mem ((c.tc : Thread Cert.SampleTailRefIdeal.nD Cert.SampleTailRefIdeal.τ).loc Cert.SampleTailRefIdeal.main_v63) = v0 c
          ∧ r.2.mem ((c.tc : Thread Cert.SampleTailRefIdeal.nD Cert.SampleTailRefIdeal.τ).loc Cert.SampleTailRefIdeal.main_arg0) = m' ((c.tc : Thread Cert.SampleTailRefIdeal.nD Cert.SampleTailRefIdeal.τ).loc Cert.SampleTailRefIdeal.main_arg0)
          ∧ r.2.mem ((c.tc : Thread Cert.SampleTailRefIdeal.nD Cert.SampleTailRefIdeal.τ).loc Cert.SampleTailRefIdeal.main_arg1) = m' ((c.tc : Thread Cert.SampleTailRefIdeal.nD Cert.SampleTailRefIdeal.τ).loc Cert.SampleTailRefIdeal.main_arg1)
          ∧ r.2.mem ((c.tc : Thread Cert.SampleTailRefIdeal.nD Cert.SampleTailRefIdeal.τ).loc Cert.SampleTailRefIdeal.main_arg2) = m' ((c.tc : Thread Cert.SampleTailRefIdeal.nD Cert.SampleTailRefIdeal.τ).loc Cert.SampleTailRefIdeal.main_arg2)
          ∧ r.2.mem ((c.tc : Thread Cert.SampleTailRefIdeal.nD Cert.SampleTailRefIdeal.τ).loc Cert.SampleTailRefIdeal.main_arg3) = m' ((c.tc : Thread Cert.SampleTailRefIdeal.nD Cert.SampleTailRefIdeal.τ).loc Cert.SampleTailRefIdeal.main_arg3)
          ∧ r.2.mem ((c.tc : Thread Cert.SampleTailRefIdeal.nD Cert.SampleTailRefIdeal.τ).loc Cert.SampleTailRefIdeal.main_arg4) = m' ((c.tc : Thread Cert.SampleTailRefIdeal.nD Cert.SampleTailRefIdeal.τ).loc Cert.SampleTailRefIdeal.main_arg4)
          ∧ r.2.mem ((c.tc : Thread Cert.SampleTailRefIdeal.nD Cert.SampleTailRefIdeal.τ).loc Cert.SampleTailRefIdeal.main_arg5) = m' ((c.tc : Thread Cert.SampleTailRefIdeal.nD Cert.SampleTailRefIdeal.τ).loc Cert.SampleTailRefIdeal.main_arg5)
          ∧ r.2.mem ((c.tc : Thread Cert.SampleTailRefIdeal.nD Cert.SampleTailRefIdeal.τ).loc Cert.SampleTailRefIdeal.main_arg6) = m' ((c.tc : Thread Cert.SampleTailRefIdeal.nD Cert.SampleTailRefIdeal.τ).loc Cert.SampleTailRefIdeal.main_arg6)
          ∧ r.2.mem ((c.tc : Thread Cert.SampleTailRefIdeal.nD Cert.SampleTailRefIdeal.τ).loc Cert.SampleTailRefIdeal.main_arg7) = m' ((c.tc : Thread Cert.SampleTailRefIdeal.nD Cert.SampleTailRefIdeal.τ).loc Cert.SampleTailRefIdeal.main_arg7)
          ∧ r.2.mem ((c.tc : Thread Cert.SampleTailRefIdeal.nD Cert.SampleTailRefIdeal.τ).loc Cert.SampleTailRefIdeal.main_arg8) = m' ((c.tc : Thread Cert.SampleTailRefIdeal.nD Cert.SampleTailRefIdeal.τ).loc Cert.SampleTailRefIdeal.main_arg8)
          ∧ r.2.mem ((c.tc : Thread Cert.SampleTailRefIdeal.nD Cert.SampleTailRefIdeal.τ).loc Cert.SampleTailRefIdeal.main_arg9) = m' ((c.tc : Thread Cert.SampleTailRefIdeal.nD Cert.SampleTailRefIdeal.τ).loc Cert.SampleTailRefIdeal.main_arg9)
          ∧ r.2.mem ((c.tc : Thread Cert.SampleTailRefIdeal.nD Cert.SampleTailRefIdeal.τ).loc Cert.SampleTailRefIdeal.main_arg10) = m' ((c.tc : Thread Cert.SampleTailRefIdeal.nD Cert.SampleTailRefIdeal.τ).loc Cert.SampleTailRefIdeal.main_arg10))

def preserves_SampleProj_SampleProjIdeal : Prop :=
  True

def algebraic_SampleProjIdeal_SampleProjRefIdeal [hSampleProjIdeal : Cert.SampleProjIdeal.Facts] [hSampleProjRefIdeal : Cert.SampleProjRefIdeal.Facts] : Prop :=
  ∀ (m : (ℓ : Loc Cert.SampleProjIdeal.nD Cert.SampleProjIdeal.τ Cert.SampleProjIdeal.sig) → Buf (Elt Ideal) ℓ) (g : Dev Cert.SampleProjIdeal.nD → PrngReg)
    (m' : (ℓ : Loc Cert.SampleProjRefIdeal.nD Cert.SampleProjRefIdeal.τ Cert.SampleProjRefIdeal.sig) → Buf (Elt Ideal) ℓ) (g' : Dev Cert.SampleProjRefIdeal.nD → PrngReg), Pre_SampleProjIdeal m →
    (∀ c : Dev Cert.SampleProjIdeal.nD,
      m' ((c.tc : Thread Cert.SampleProjRefIdeal.nD Cert.SampleProjRefIdeal.τ).loc Cert.SampleProjRefIdeal.main_arg0) = m ((c.tc : Thread Cert.SampleProjIdeal.nD Cert.SampleProjIdeal.τ).loc Cert.SampleProjIdeal.main_arg0)
      ∧ m' ((c.tc : Thread Cert.SampleProjRefIdeal.nD Cert.SampleProjRefIdeal.τ).loc Cert.SampleProjRefIdeal.main_arg1) = m ((c.tc : Thread Cert.SampleProjIdeal.nD Cert.SampleProjIdeal.τ).loc Cert.SampleProjIdeal.main_arg1)) →
    ∃ (v0 : (c : Dev Cert.SampleProjIdeal.nD) → Buf (Elt Ideal) ((c.tc : Thread Cert.SampleProjIdeal.nD Cert.SampleProjIdeal.τ).loc Cert.SampleProjIdeal.main_v1)),
      θ_run (Cert.SampleProjIdeal.defs (F := Ideal)) (onTc (τ := Cert.SampleProjIdeal.τ) (Cert.SampleProjIdeal.main (F := Ideal))) ⟨m, fun _ => 0, g⟩ (fun r => ∀ c : Dev Cert.SampleProjIdeal.nD,
          r.2.mem ((c.tc : Thread Cert.SampleProjIdeal.nD Cert.SampleProjIdeal.τ).loc Cert.SampleProjIdeal.main_v1) = v0 c
          ∧ r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
          ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1))
      ∧ θ_run (Cert.SampleProjRefIdeal.defs (F := Ideal)) (onTc (τ := Cert.SampleProjRefIdeal.τ) (Cert.SampleProjRefIdeal.main (F := Ideal))) ⟨m', fun _ => 0, g'⟩ (fun r => ∀ c : Dev Cert.SampleProjRefIdeal.nD,
          r.2.mem ((c.tc : Thread Cert.SampleProjRefIdeal.nD Cert.SampleProjRefIdeal.τ).loc Cert.SampleProjRefIdeal.main_v1) = v0 c
          ∧ r.2.mem ((c.tc : Thread Cert.SampleProjRefIdeal.nD Cert.SampleProjRefIdeal.τ).loc Cert.SampleProjRefIdeal.main_arg0) = m' ((c.tc : Thread Cert.SampleProjRefIdeal.nD Cert.SampleProjRefIdeal.τ).loc Cert.SampleProjRefIdeal.main_arg0)
          ∧ r.2.mem ((c.tc : Thread Cert.SampleProjRefIdeal.nD Cert.SampleProjRefIdeal.τ).loc Cert.SampleProjRefIdeal.main_arg1) = m' ((c.tc : Thread Cert.SampleProjRefIdeal.nD Cert.SampleProjRefIdeal.τ).loc Cert.SampleProjRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Moba_MobaIdeal : Prop :=
  True

def algebraic_MobaIdeal_MobaRefIdeal_pre_finite_gates [hMobaIdeal : Cert.MobaIdeal.Facts] [hMobaRefIdeal : Cert.MobaRefIdeal.Facts] [hPre_finite_gates : Cert.Pre_finite_gates.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite_gates m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)) →
    ∃ (v0 : (c : Dev Cert.MobaIdeal.nD) → Buf (Elt Ideal) ((c.tc : Thread Cert.MobaIdeal.nD Cert.MobaIdeal.τ).loc Cert.MobaIdeal.main_v19)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v19) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v86) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2))

def preserves_SampleMemory_SampleMemoryIdeal : Prop :=
  True

def algebraic_SampleMemoryIdeal_SampleMemoryRefIdeal_pre_finite_sample_scores [hSampleMemoryIdeal : Cert.SampleMemoryIdeal.Facts] [hSampleMemoryRefIdeal : Cert.SampleMemoryRefIdeal.Facts] [hPre_finite_sample_scores : Cert.Pre_finite_sample_scores.Facts] : Prop :=
  ∀ (m : (ℓ : Loc Cert.SampleMemoryIdeal.nD Cert.SampleMemoryIdeal.τ Cert.SampleMemoryIdeal.sig) → Buf (Elt Ideal) ℓ) (g : Dev Cert.SampleMemoryIdeal.nD → PrngReg)
    (m' : (ℓ : Loc Cert.SampleMemoryRefIdeal.nD Cert.SampleMemoryRefIdeal.τ Cert.SampleMemoryRefIdeal.sig) → Buf (Elt Ideal) ℓ) (g' : Dev Cert.SampleMemoryRefIdeal.nD → PrngReg), Pre_SampleMemoryIdeal_finite_sample_scores m →
    (∀ c : Dev Cert.SampleMemoryIdeal.nD,
      m' ((c.tc : Thread Cert.SampleMemoryRefIdeal.nD Cert.SampleMemoryRefIdeal.τ).loc Cert.SampleMemoryRefIdeal.main_arg0) = m ((c.tc : Thread Cert.SampleMemoryIdeal.nD Cert.SampleMemoryIdeal.τ).loc Cert.SampleMemoryIdeal.main_arg0)
      ∧ m' ((c.tc : Thread Cert.SampleMemoryRefIdeal.nD Cert.SampleMemoryRefIdeal.τ).loc Cert.SampleMemoryRefIdeal.main_arg1) = m ((c.tc : Thread Cert.SampleMemoryIdeal.nD Cert.SampleMemoryIdeal.τ).loc Cert.SampleMemoryIdeal.main_arg1)
      ∧ m' ((c.tc : Thread Cert.SampleMemoryRefIdeal.nD Cert.SampleMemoryRefIdeal.τ).loc Cert.SampleMemoryRefIdeal.main_arg2) = m ((c.tc : Thread Cert.SampleMemoryIdeal.nD Cert.SampleMemoryIdeal.τ).loc Cert.SampleMemoryIdeal.main_arg2)) →
    ∃ (v0 : (c : Dev Cert.SampleMemoryIdeal.nD) → Buf (Elt Ideal) ((c.tc : Thread Cert.SampleMemoryIdeal.nD Cert.SampleMemoryIdeal.τ).loc Cert.SampleMemoryIdeal.main_v5)),
      θ_run (Cert.SampleMemoryIdeal.defs (F := Ideal)) (onTc (τ := Cert.SampleMemoryIdeal.τ) (Cert.SampleMemoryIdeal.main (F := Ideal))) ⟨m, fun _ => 0, g⟩ (fun r => ∀ c : Dev Cert.SampleMemoryIdeal.nD,
          r.2.mem ((c.tc : Thread Cert.SampleMemoryIdeal.nD Cert.SampleMemoryIdeal.τ).loc Cert.SampleMemoryIdeal.main_v5) = v0 c
          ∧ r.2.mem ((c.tc : Thread Cert.SampleMemoryIdeal.nD Cert.SampleMemoryIdeal.τ).loc Cert.SampleMemoryIdeal.main_arg0) = m ((c.tc : Thread Cert.SampleMemoryIdeal.nD Cert.SampleMemoryIdeal.τ).loc Cert.SampleMemoryIdeal.main_arg0)
          ∧ r.2.mem ((c.tc : Thread Cert.SampleMemoryIdeal.nD Cert.SampleMemoryIdeal.τ).loc Cert.SampleMemoryIdeal.main_arg1) = m ((c.tc : Thread Cert.SampleMemoryIdeal.nD Cert.SampleMemoryIdeal.τ).loc Cert.SampleMemoryIdeal.main_arg1)
          ∧ r.2.mem ((c.tc : Thread Cert.SampleMemoryIdeal.nD Cert.SampleMemoryIdeal.τ).loc Cert.SampleMemoryIdeal.main_arg2) = m ((c.tc : Thread Cert.SampleMemoryIdeal.nD Cert.SampleMemoryIdeal.τ).loc Cert.SampleMemoryIdeal.main_arg2))
      ∧ θ_run (Cert.SampleMemoryRefIdeal.defs (F := Ideal)) (onTc (τ := Cert.SampleMemoryRefIdeal.τ) (Cert.SampleMemoryRefIdeal.main (F := Ideal))) ⟨m', fun _ => 0, g'⟩ (fun r => ∀ c : Dev Cert.SampleMemoryRefIdeal.nD,
          r.2.mem ((c.tc : Thread Cert.SampleMemoryRefIdeal.nD Cert.SampleMemoryRefIdeal.τ).loc Cert.SampleMemoryRefIdeal.main_v16) = v0 c
          ∧ r.2.mem ((c.tc : Thread Cert.SampleMemoryRefIdeal.nD Cert.SampleMemoryRefIdeal.τ).loc Cert.SampleMemoryRefIdeal.main_arg0) = m' ((c.tc : Thread Cert.SampleMemoryRefIdeal.nD Cert.SampleMemoryRefIdeal.τ).loc Cert.SampleMemoryRefIdeal.main_arg0)
          ∧ r.2.mem ((c.tc : Thread Cert.SampleMemoryRefIdeal.nD Cert.SampleMemoryRefIdeal.τ).loc Cert.SampleMemoryRefIdeal.main_arg1) = m' ((c.tc : Thread Cert.SampleMemoryRefIdeal.nD Cert.SampleMemoryRefIdeal.τ).loc Cert.SampleMemoryRefIdeal.main_arg1)
          ∧ r.2.mem ((c.tc : Thread Cert.SampleMemoryRefIdeal.nD Cert.SampleMemoryRefIdeal.τ).loc Cert.SampleMemoryRefIdeal.main_arg2) = m' ((c.tc : Thread Cert.SampleMemoryRefIdeal.nD Cert.SampleMemoryRefIdeal.τ).loc Cert.SampleMemoryRefIdeal.main_arg2))

def Claim : Prop :=
  ∃ (hMemory : Cert.Memory.Facts) (hMemoryIdeal : Cert.MemoryIdeal.Facts) (hMemoryRefIdeal : Cert.MemoryRefIdeal.Facts) (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts) (hSampleTail : Cert.SampleTail.Facts) (hSampleTailIdeal : Cert.SampleTailIdeal.Facts) (hSampleTailRefIdeal : Cert.SampleTailRefIdeal.Facts) (hSampleProj : Cert.SampleProj.Facts) (hSampleProjIdeal : Cert.SampleProjIdeal.Facts) (hSampleProjRefIdeal : Cert.SampleProjRefIdeal.Facts) (hMemKv : Cert.MemKv.Facts) (hMemKvIdeal : Cert.MemKvIdeal.Facts) (hMemKvRefIdeal : Cert.MemKvRefIdeal.Facts) (hMoba : Cert.Moba.Facts) (hMobaIdeal : Cert.MobaIdeal.Facts) (hMobaRefIdeal : Cert.MobaRefIdeal.Facts) (hSampleMemory : Cert.SampleMemory.Facts) (hSampleMemoryIdeal : Cert.SampleMemoryIdeal.Facts) (hSampleMemoryRefIdeal : Cert.SampleMemoryRefIdeal.Facts) (hPre_finite_scores : Cert.Pre_finite_scores.Facts) (hPre_finite_gates : Cert.Pre_finite_gates.Facts) (hPre_finite_sample_scores : Cert.Pre_finite_sample_scores.Facts),
    quiescent_Memory (hMemory := hMemory)
    ∧ quiescent_MemoryIdeal (hMemoryIdeal := hMemoryIdeal)
    ∧ quiescent_MemoryIdeal_pre_finite_scores (hMemoryIdeal := hMemoryIdeal) (hPre_finite_scores := hPre_finite_scores)
    ∧ quiescent_MemoryRefIdeal (hMemoryRefIdeal := hMemoryRefIdeal)
    ∧ quiescent_MemoryRefIdeal_pre_finite_scores (hMemoryRefIdeal := hMemoryRefIdeal) (hPre_finite_scores := hPre_finite_scores)
    ∧ quiescent_Tail (hTail := hTail)
    ∧ quiescent_TailIdeal (hTailIdeal := hTailIdeal)
    ∧ quiescent_TailRefIdeal (hTailRefIdeal := hTailRefIdeal)
    ∧ quiescent_Proj (hProj := hProj)
    ∧ quiescent_ProjIdeal (hProjIdeal := hProjIdeal)
    ∧ quiescent_ProjRefIdeal (hProjRefIdeal := hProjRefIdeal)
    ∧ quiescent_SampleTail (hSampleTail := hSampleTail)
    ∧ quiescent_SampleTailIdeal (hSampleTailIdeal := hSampleTailIdeal)
    ∧ quiescent_SampleTailRefIdeal (hSampleTailRefIdeal := hSampleTailRefIdeal)
    ∧ quiescent_SampleProj (hSampleProj := hSampleProj)
    ∧ quiescent_SampleProjIdeal (hSampleProjIdeal := hSampleProjIdeal)
    ∧ quiescent_SampleProjRefIdeal (hSampleProjRefIdeal := hSampleProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Moba (hMoba := hMoba)
    ∧ quiescent_MobaIdeal (hMobaIdeal := hMobaIdeal)
    ∧ quiescent_MobaIdeal_pre_finite_gates (hMobaIdeal := hMobaIdeal) (hPre_finite_gates := hPre_finite_gates)
    ∧ quiescent_MobaRefIdeal (hMobaRefIdeal := hMobaRefIdeal)
    ∧ quiescent_MobaRefIdeal_pre_finite_gates (hMobaRefIdeal := hMobaRefIdeal) (hPre_finite_gates := hPre_finite_gates)
    ∧ quiescent_SampleMemory (hSampleMemory := hSampleMemory)
    ∧ quiescent_SampleMemoryIdeal (hSampleMemoryIdeal := hSampleMemoryIdeal)
    ∧ quiescent_SampleMemoryIdeal_pre_finite_sample_scores (hSampleMemoryIdeal := hSampleMemoryIdeal) (hPre_finite_sample_scores := hPre_finite_sample_scores)
    ∧ quiescent_SampleMemoryRefIdeal (hSampleMemoryRefIdeal := hSampleMemoryRefIdeal)
    ∧ quiescent_SampleMemoryRefIdeal_pre_finite_sample_scores (hSampleMemoryRefIdeal := hSampleMemoryRefIdeal) (hPre_finite_sample_scores := hPre_finite_sample_scores)
    ∧ preserves_Memory_MemoryIdeal
    ∧ algebraic_MemoryIdeal_MemoryRefIdeal_pre_finite_scores (hMemoryIdeal := hMemoryIdeal) (hMemoryRefIdeal := hMemoryRefIdeal) (hPre_finite_scores := hPre_finite_scores)
    ∧ preserves_Tail_TailIdeal
    ∧ algebraic_TailIdeal_TailRefIdeal (hTailIdeal := hTailIdeal) (hTailRefIdeal := hTailRefIdeal)
    ∧ preserves_Proj_ProjIdeal
    ∧ algebraic_ProjIdeal_ProjRefIdeal (hProjIdeal := hProjIdeal) (hProjRefIdeal := hProjRefIdeal)
    ∧ preserves_SampleTail_SampleTailIdeal
    ∧ algebraic_SampleTailIdeal_SampleTailRefIdeal (hSampleTailIdeal := hSampleTailIdeal) (hSampleTailRefIdeal := hSampleTailRefIdeal)
    ∧ preserves_SampleProj_SampleProjIdeal
    ∧ algebraic_SampleProjIdeal_SampleProjRefIdeal (hSampleProjIdeal := hSampleProjIdeal) (hSampleProjRefIdeal := hSampleProjRefIdeal)
    ∧ preserves_MemKv_MemKvIdeal
    ∧ algebraic_MemKvIdeal_MemKvRefIdeal (hMemKvIdeal := hMemKvIdeal) (hMemKvRefIdeal := hMemKvRefIdeal)
    ∧ preserves_Moba_MobaIdeal
    ∧ algebraic_MobaIdeal_MobaRefIdeal_pre_finite_gates (hMobaIdeal := hMobaIdeal) (hMobaRefIdeal := hMobaRefIdeal) (hPre_finite_gates := hPre_finite_gates)
    ∧ preserves_SampleMemory_SampleMemoryIdeal
    ∧ algebraic_SampleMemoryIdeal_SampleMemoryRefIdeal_pre_finite_sample_scores (hSampleMemoryIdeal := hSampleMemoryIdeal) (hSampleMemoryRefIdeal := hSampleMemoryRefIdeal) (hPre_finite_sample_scores := hPre_finite_sample_scores)
-- ==== Pre_finite_gates.lean ====
abbrev S4x4096x8x64 : Shape := ⟨4, ![4, 4096, 8, 64]⟩
abbrev S_ : Shape := ⟨0, ![]⟩

class Facts : Prop where
  bcast_S_S4x4096x8x64 : S_.BroadcastsInDim S4x4096x8x64 (![] : Fin 0 → Fin S4x4096x8x64.rank)

variable [Facts]

def fn {F : FTy → Type} [FloatOps F] (main_arg0 : FVec F S4x4096x8x64 .f32) (main_arg1 : FVec F S4x4096x8x64 .f32) (main_arg2 : FVec F S4x4096x8x64 .f32) : IVec S4x4096x8x64 1 × IVec S4x4096x8x64 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_v3 : FVec F S4x4096x8x64 .f32 := Host.absf main_arg1
  let main_cst_0 : FVec F S_ .f32 := constant S_ .f32 0x7F800000#32
  let main_v4 : FVec F S4x4096x8x64 .f32 := broadcastInDim S4x4096x8x64 ![] bcast_S_S4x4096x8x64 main_cst_0
  let main_v5 : IVec S4x4096x8x64 1 := cmpf .olt main_v3 main_v4
  (main_v2, main_v5)
-- ==== Pre_finite_sample_scores.lean ====
abbrev S32x8x4x64 : Shape := ⟨4, ![32, 8, 4, 64]⟩
abbrev S32x256x4x64 : Shape := ⟨4, ![32, 256, 4, 64]⟩
abbrev S_ : Shape := ⟨0, ![]⟩

class Facts : Prop where
  bcast_S_S32x8x4x64 : S_.BroadcastsInDim S32x8x4x64 (![] : Fin 0 → Fin S32x8x4x64.rank)
  bcast_S_S32x256x4x64 : S_.BroadcastsInDim S32x256x4x64 (![] : Fin 0 → Fin S32x256x4x64.rank)

variable [Facts]

def fn {F : FTy → Type} [FloatOps F] (main_arg0 : FVec F S32x8x4x64 .f32) (main_arg1 : FVec F S32x256x4x64 .f32) (main_arg2 : FVec F S32x256x4x64 .f32) : IVec S32x8x4x64 1 × IVec S32x256x4x64 1 :=
  let main_v0 : FVec F S32x8x4x64 .f32 := Host.absf main_arg0
  let main_cst : FVec F S_ .f32 := constant S_ .f32 0x7F800000#32
  let main_v1 : FVec F S32x8x4x64 .f32 := broadcastInDim S32x8x4x64 ![] bcast_S_S32x8x4x64 main_cst
  let main_v2 : IVec S32x8x4x64 1 := cmpf .olt main_v0 main_v1
  let main_v3 : FVec F S32x256x4x64 .f32 := Host.absf main_arg1
  let main_cst_0 : FVec F S_ .f32 := constant S_ .f32 0x7F800000#32
  let main_v4 : FVec F S32x256x4x64 .f32 := broadcastInDim S32x256x4x64 ![] bcast_S_S32x256x4x64 main_cst_0
  let main_v5 : IVec S32x256x4x64 1 := cmpf .olt main_v3 main_v4
  (main_v2, main_v5)
-- ==== Pre_finite_scores.lean ====
abbrev S4x4096x4x64 : Shape := ⟨4, ![4, 4096, 4, 64]⟩
abbrev S4x256x4x64 : Shape := ⟨4, ![4, 256, 4, 64]⟩
abbrev S_ : Shape := ⟨0, ![]⟩

class Facts : Prop where
  bcast_S_S4x4096x4x64 : S_.BroadcastsInDim S4x4096x4x64 (![] : Fin 0 → Fin S4x4096x4x64.rank)
  bcast_S_S4x256x4x64 : S_.BroadcastsInDim S4x256x4x64 (![] : Fin 0 → Fin S4x256x4x64.rank)

variable [Facts]

def fn {F : FTy → Type} [FloatOps F] (main_arg0 : FVec F S4x4096x4x64 .f32) (main_arg1 : FVec F S4x256x4x64 .f32) (main_arg2 : FVec F S4x256x4x64 .f32) : IVec S4x4096x4x64 1 × IVec S4x256x4x64 1 :=
  let main_v0 : FVec F S4x4096x4x64 .f32 := Host.absf main_arg0
  let main_cst : FVec F S_ .f32 := constant S_ .f32 0x7F800000#32
  let main_v1 : FVec F S4x4096x4x64 .f32 := broadcastInDim S4x4096x4x64 ![] bcast_S_S4x4096x4x64 main_cst
  let main_v2 : IVec S4x4096x4x64 1 := cmpf .olt main_v0 main_v1
  let main_v3 : FVec F S4x256x4x64 .f32 := Host.absf main_arg1
  let main_cst_0 : FVec F S_ .f32 := constant S_ .f32 0x7F800000#32
  let main_v4 : FVec F S4x256x4x64 .f32 := broadcastInDim S4x256x4x64 ![] bcast_S_S4x256x4x64 main_cst_0
  let main_v5 : IVec S4x256x4x64 1 := cmpf .olt main_v3 main_v4
  (main_v2, main_v5)
-- ==== Memory.lean ====
abbrev S4x4096x4x64 : Shape := ⟨4, ![4, 4096, 4, 64]⟩
abbrev S4x256x4x64 : Shape := ⟨4, ![4, 256, 4, 64]⟩
abbrev S4x4096x256 : Shape := ⟨3, ![4, 4096, 256]⟩
abbrev S4x4x64x256 : Shape := ⟨4, ![4, 4, 64, 256]⟩
abbrev S4x256x256 : Shape := ⟨3, ![4, 256, 256]⟩
abbrev S1x256x256 : Shape := ⟨3, ![1, 256, 256]⟩
abbrev S256x256 : Shape := ⟨2, ![256, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x4x64, .f32⟩
  | .hbm, ⟨1, _⟩ => ⟨S4x256x4x64, .f32⟩
  | .hbm, ⟨2, _⟩ => ⟨S4x256x4x64, .f32⟩
  | .hbm, ⟨3, _⟩ => ⟨S4x4096x256, .f32⟩
  | .hbm, ⟨4, _⟩ => ⟨S4x4096x256, .bf16⟩
  | .hbm, ⟨5, _⟩ => ⟨S4x4x64x256, .f32⟩
  | .hbm, ⟨6, _⟩ => ⟨S4x256x256, .f32⟩
  | .hbm, ⟨7, _⟩ => ⟨S4x4x64x256, .f32⟩
  | .hbm, ⟨8, _⟩ => ⟨S4x256x256, .f32⟩
  | .hbm, ⟨9, _⟩ => ⟨S4x4096x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .bf16⟩
  | .local _ .vmem, ⟨7, _⟩ => ⟨S1x256x256, .bf16⟩
  | _, _ => ⟨S4x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemoryRefIdeal.lean ====
abbrev S4x4096x4x64 : Shape := ⟨4, ![4, 4096, 4, 64]⟩
abbrev S4x256x4x64 : Shape := ⟨4, ![4, 256, 4, 64]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩
abbrev S4x4096x256 : Shape := ⟨3, ![4, 4096, 256]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x4x64, .f32⟩
  | .hbm, ⟨1, _⟩ => ⟨S4x256x4x64, .f32⟩
  | .hbm, ⟨2, _⟩ => ⟨S4x256x4x64, .f32⟩
  | .hbm, ⟨3, _⟩ => ⟨S4x4x4096x256, .f32⟩
  | .hbm, ⟨4, _⟩ => ⟨S_, .f32⟩
  | .hbm, ⟨5, _⟩ => ⟨S4x4x4096x256, .f32⟩
  | .hbm, ⟨6, _⟩ => ⟨S4x4x4096x256, .f32⟩
  | .hbm, ⟨7, _⟩ => ⟨S_, .f32⟩
  | .hbm, ⟨8, _⟩ => ⟨S4x4x4096, .f32⟩
  | .hbm, ⟨9, _⟩ => ⟨S_, .f32⟩
  | .hbm, ⟨10, _⟩ => ⟨S4x4x4096, .f32⟩
  | .hbm, ⟨11, _⟩ => ⟨S4x4x4096, .f32⟩
  | .hbm, ⟨12, _⟩ => ⟨S4x4x4096x1, .f32⟩
  | .hbm, ⟨13, _⟩ => ⟨S4x4x4096x256, .f32⟩
  | .hbm, ⟨14, _⟩ => ⟨S4x4x4096x256, .f32⟩
  | .hbm, ⟨15, _⟩ => ⟨S4x4x4096x256, .f32⟩
  | .hbm, ⟨16, _⟩ => ⟨S_, .f32⟩
  | .hbm, ⟨17, _⟩ => ⟨S4x4x4096, .f32⟩
  | .hbm, ⟨18, _⟩ => ⟨S4x4x4096x1, .f32⟩
  | .hbm, ⟨19, _⟩ => ⟨S4x4x4096x256, .f32⟩
  | .hbm, ⟨20, _⟩ => ⟨S4x4x4096x256, .f32⟩
  | .hbm, ⟨21, _⟩ => ⟨S4x4x64x4096, .f32⟩
  | .hbm, ⟨22, _⟩ => ⟨S4x4096x4x64, .f32⟩
  | .hbm, ⟨23, _⟩ => ⟨S4x4096x256, .f32⟩
  | .hbm, ⟨24, _⟩ => ⟨S4x4096x256, .bf16⟩
  | _, _ => ⟨S4x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Tail.lean ====
abbrev S4x4096x1024 : Shape := ⟨3, ![4, 4096, 1024]⟩
abbrev S4x4096x8x64 : Shape := ⟨4, ![4, 4096, 8, 64]⟩
abbrev S4x4096x4x64 : Shape := ⟨4, ![4, 4096, 4, 64]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S16384x512 : Shape := ⟨2, ![16384, 512]⟩
abbrev S16384x256 : Shape := ⟨2, ![16384, 256]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 26
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x8x64, .f32⟩
  | .hbm, ⟨2, _⟩ => ⟨S4x4096x4x64, .f32⟩
  | .hbm, ⟨3, _⟩ => ⟨S4x4096x4x64, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S16384x1024, .f32⟩
  | .hbm, ⟨12, _⟩ => ⟨S16384x512, .f32⟩
  | .hbm, ⟨13, _⟩ => ⟨S16384x512, .bf16⟩
  | .hbm, ⟨14, _⟩ => ⟨S16384x256, .f32⟩
  | .hbm, ⟨15, _⟩ => ⟨S16384x256, .bf16⟩
  | .hbm, ⟨16, _⟩ => ⟨S16384x256, .f32⟩
  | .hbm, ⟨17, _⟩ => ⟨S16384x256, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1024x4096, .bf16⟩
  | .hbm, ⟨22, _⟩ => ⟨S4096x1024, .bf16⟩
  | .hbm, ⟨23, _⟩ => ⟨S1x1024, .f32⟩
  | .hbm, ⟨24, _⟩ => ⟨S1x1024, .f32⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== TailRefIdeal.lean ====
abbrev S4x4096x1024 : Shape := ⟨3, ![4, 4096, 1024]⟩
abbrev S4x4096x8x64 : Shape := ⟨4, ![4, 4096, 8, 64]⟩
abbrev S4x4096x4x64 : Shape := ⟨4, ![4, 4096, 4, 64]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x4096x512 : Shape := ⟨3, ![4, 4096, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384x1024 : Shape := ⟨2, ![16384, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x8x64, .f32⟩
  | .hbm, ⟨2, _⟩ => ⟨S4x4096x4x64, .f32⟩
  | .hbm, ⟨3, _⟩ => ⟨S4x4096x4x64, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S4x4096x512, .f32⟩
  | .hbm, ⟨12, _⟩ => ⟨S4x4096x256, .f32⟩
  | .hbm, ⟨13, _⟩ => ⟨S4x4096x256, .f32⟩
  | .hbm, ⟨14, _⟩ => ⟨S4x4096x1024, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S4x4096x1, .f32⟩
  | .hbm, ⟨41, _⟩ => ⟨S4x4096x1024, .f32⟩
  | .hbm, ⟨42, _⟩ => ⟨S4x4096x1024, .f32⟩
  | .hbm, ⟨43, _⟩ => ⟨S1x1x1024, .f32⟩
  | .hbm, ⟨44, _⟩ => ⟨S4x4096x1024, .f32⟩
  | .hbm, ⟨45, _⟩ => ⟨S4x4096x1024, .f32⟩
  | .hbm, ⟨46, _⟩ => ⟨S1x1x1024, .f32⟩
  | .hbm, ⟨47, _⟩ => ⟨S4x4096x1024, .f32⟩
  | .hbm, ⟨48, _⟩ => ⟨S4x4096x1024, .f32⟩
  | .hbm, ⟨49, _⟩ => ⟨S4x4096x4096, .f32⟩
  | .hbm, ⟨50, _⟩ => ⟨S_, .f32⟩
  | .hbm, ⟨51, _⟩ => ⟨S4x4096x4096, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1024, .f32⟩
  | .hbm, ⟨75, _⟩ => ⟨S4x4096x1024, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S4x4096x1, .f32⟩
  | .hbm, ⟨80, _⟩ => ⟨S4x4096x1024, .f32⟩
  | .hbm, ⟨81, _⟩ => ⟨S4x4096x1024, .f32⟩
  | .hbm, ⟨82, _⟩ => ⟨S1x1x1024, .f32⟩
  | .hbm, ⟨83, _⟩ => ⟨S4x4096x1024, .f32⟩
  | .hbm, ⟨84, _⟩ => ⟨S4x4096x1024, .f32⟩
  | .hbm, ⟨85, _⟩ => ⟨S1x1x1024, .f32⟩
  | .hbm, ⟨86, _⟩ => ⟨S4x4096x1024, .f32⟩
  | .hbm, ⟨87, _⟩ => ⟨S4x4096x1024, .f32⟩
  | .hbm, ⟨88, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Proj.lean ====
abbrev S4x4096x1024 : Shape := ⟨3, ![4, 4096, 1024]⟩
abbrev S1024x2856 : Shape := ⟨2, ![1024, 2856]⟩
abbrev S1024x512 : Shape := ⟨2, ![1024, 512]⟩
abbrev S1024x256 : Shape := ⟨2, ![1024, 256]⟩
abbrev S1024x32 : Shape := ⟨2, ![1024, 32]⟩
abbrev S_ : Shape := ⟨0, ![]⟩
abbrev S1024x96 : Shape := ⟨2, ![1024, 96]⟩
abbrev S1024x1152 : Shape := ⟨2, ![1024, 1152]⟩
abbrev S1024x8 : Shape := ⟨2, ![1024, 8]⟩
abbrev S1024x2608 : Shape := ⟨2, ![1024, 2608]⟩
abbrev S2608x1024 : Shape := ⟨2, ![2608, 1024]⟩
abbrev S4x4096x512 : Shape := ⟨3, ![4, 4096, 512]⟩
abbrev S4x4096x256 : Shape := ⟨3, ![4, 4096, 256]⟩
abbrev S4x4096x128 : Shape := ⟨3, ![4, 4096, 128]⟩
abbrev S4x512x4096 : Shape := ⟨3, ![4, 512, 4096]⟩
abbrev S4x256x4096 : Shape := ⟨3, ![4, 256, 4096]⟩
abbrev S4x32x4096 : Shape := ⟨3, ![4, 32, 4096]⟩
abbrev S4x16x4096 : Shape := ⟨3, ![4, 16, 4096]⟩
abbrev S1x512x1024 : Shape := ⟨3, ![1, 512, 1024]⟩
abbrev S1x512x512 : Shape := ⟨3, ![1, 512, 512]⟩
abbrev S1x512x256 : Shape := ⟨3, ![1, 512, 256]⟩
abbrev S1x512x128 : Shape := ⟨3, ![1, 512, 128]⟩
abbrev S1x256x512 : Shape := ⟨3, ![1, 256, 512]⟩
abbrev S1x32x512 : Shape := ⟨3, ![1, 32, 512]⟩
abbrev S1x16x512 : Shape := ⟨3, ![1, 16, 512]⟩
abbrev S512x1024 : Shape := ⟨2, ![512, 1024]⟩
abbrev S512x1152 : Shape := ⟨2, ![512, 1152]⟩
abbrev S512x512 : Shape := ⟨2, ![512, 512]⟩
abbrev S512x256 : Shape := ⟨2, ![512, 256]⟩
abbrev S512x128 : Shape := ⟨2, ![512, 128]⟩
abbrev S2608x512 : Shape := ⟨2, ![2608, 512]⟩
abbrev S256x512 : Shape := ⟨2, ![256, 512]⟩
abbrev S32x512 : Shape := ⟨2, ![32, 512]⟩
abbrev S16x512 : Shape := ⟨2, ![16, 512]⟩

abbrev nBuf : Space → Nat
  | .hbm => 37
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S1024x2856, .f32⟩
  | .hbm, ⟨2, _⟩ => ⟨S1024x512, .f32⟩
  | .hbm, ⟨3, _⟩ => ⟨S1024x256, .f32⟩
  | .hbm, ⟨4, _⟩ => ⟨S1024x256, .f32⟩
  | .hbm, ⟨5, _⟩ => ⟨S1024x32, .f32⟩
  | .hbm, ⟨6, _⟩ => ⟨S_, .f32⟩
  | .hbm, ⟨7, _⟩ => ⟨S1024x96, .f32⟩
  | .hbm, ⟨8, _⟩ => ⟨S1024x1152, .f32⟩
  | .hbm, ⟨9, _⟩ => ⟨S1024x512, .f32⟩
  | .hbm, ⟨10, _⟩ => ⟨S1024x512, .f32⟩
  | .hbm, ⟨11, _⟩ => ⟨S1024x256, .f32⟩
  | .hbm, ⟨12, _⟩ => ⟨S1024x256, .f32⟩
  | .hbm, ⟨13, _⟩ => ⟨S1024x32, .f32⟩
  | .hbm, ⟨14, _⟩ => ⟨S1024x512, .f32⟩
  | .hbm, ⟨15, _⟩ => ⟨S1024x256, .f32⟩
  | .hbm, ⟨16, _⟩ => ⟨S1024x256, .f32⟩
  | .hbm, ⟨17, _⟩ => ⟨S1024x8, .f32⟩
  | .hbm, ⟨18, _⟩ => ⟨S_, .f32⟩
  | .hbm, ⟨19, _⟩ => ⟨S1024x8, .f32⟩
  | .hbm, ⟨20, _⟩ => ⟨S1024x2608, .f32⟩
  | .hbm, ⟨21, _⟩ => ⟨S2608x1024, .f32⟩
  | .hbm, ⟨22, _⟩ => ⟨S1024x1152, .bf16⟩
  | .hbm, ⟨23, _⟩ => ⟨S2608x1024, .bf16⟩
  | .hbm, ⟨24, _⟩ => ⟨S4x4096x512, .bf16⟩
  | .hbm, ⟨25, _⟩ => ⟨S4x4096x256, .bf16⟩
  | .hbm, ⟨26, _⟩ => ⟨S4x4096x256, .bf16⟩
  | .hbm, ⟨27, _⟩ => ⟨S4x4096x128, .bf16⟩
  | .hbm, ⟨28, _⟩ => ⟨S4x512x4096, .f32⟩
  | .hbm, ⟨29, _⟩ => ⟨S4x512x4096, .f32⟩
  | .hbm, ⟨30, _⟩ => ⟨S4x256x4096, .f32⟩
  | .hbm, ⟨31, _⟩ => ⟨S4x256x4096, .f32⟩
  | .hbm, ⟨32, _⟩ => ⟨S4x32x4096, .f32⟩
  | .hbm, ⟨33, _⟩ => ⟨S4x512x4096, .bf16⟩
  | .hbm, ⟨34, _⟩ => ⟨S4x256x4096, .bf16⟩
  | .hbm, ⟨35, _⟩ => ⟨S4x256x4096, .bf16⟩
  | .hbm, ⟨36, _⟩ => ⟨S4x16x4096, .f32⟩
  | .local _ .vmem, ⟨0, _⟩ => ⟨S1x512x1024, .f32⟩
  | .local _ .vmem, ⟨1, _⟩ => ⟨S1x512x1024, .f32⟩
  | .local _ .vmem, ⟨2, _⟩ => ⟨S1024x1152, .bf16⟩
  | .local _ .vmem, ⟨3, _⟩ => ⟨S2608x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x32x512, .f32⟩
  | .local _ .vmem, ⟨21, _⟩ => ⟨S1x32x512, .f32⟩
  | .local _ .vmem, ⟨22, _⟩ => ⟨S1x512x512, .bf16⟩
  | .local _ .vmem, ⟨23, _⟩ => ⟨S1x512x512, .bf16⟩
  | .local _ .vmem, ⟨24, _⟩ => ⟨S1x256x512, .bf16⟩
  | .local _ .vmem, ⟨25, _⟩ => ⟨S1x256x512, .bf16⟩
  | .local _ .vmem, ⟨26, _⟩ => ⟨S1x256x512, .bf16⟩
  | .local _ .vmem, ⟨27, _⟩ => ⟨S1x256x512, .bf16⟩
  | .local _ .vmem, ⟨28, _⟩ => ⟨S1x16x512, .f32⟩
  | .local _ .vmem, ⟨29, _⟩ => ⟨S1x16x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20_0 : Ref sig .tc := ⟨.hbm, 24, rfl⟩
abbrev main_v20_1 : Ref sig .tc := ⟨.hbm, 25, rfl⟩
abbrev main_v20_2 : Ref sig .tc := ⟨.hbm, 26, rfl⟩
abbrev main_v20_3 : Ref sig .tc := ⟨.hbm, 27, rfl⟩
abbrev main_v20_4 : Ref sig .tc := ⟨.hbm, 28, rfl⟩
abbrev main_v20_5 : Ref sig .tc := ⟨.hbm, 29, rfl⟩
abbrev main_v20_6 : Ref sig .tc := ⟨.hbm, 30, rfl⟩
abbrev main_v20_7 : Ref sig .tc := ⟨.hbm, 31, rfl⟩
abbrev main_v20_8 : Ref sig .tc := ⟨.hbm, 32, rfl⟩
abbrev main_v20_9 : Ref sig .tc := ⟨.hbm, 33, rfl⟩
abbrev main_v20_10 : Ref sig .tc := ⟨.hbm, 34, rfl⟩
abbrev main_v20_11 : Ref sig .tc := ⟨.hbm, 35, rfl⟩
abbrev main_v20_12 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2608x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ProjRefIdeal.lean ====
abbrev S4x4096x1024 : Shape := ⟨3, ![4, 4096, 1024]⟩
abbrev S1024x2856 : Shape := ⟨2, ![1024, 2856]⟩
abbrev S4x4096x2856 : Shape := ⟨3, ![4, 4096, 2856]⟩
abbrev S4x4096x512 : Shape := ⟨3, ![4, 4096, 512]⟩
abbrev S4x4096x256 : Shape := ⟨3, ![4, 4096, 256]⟩
abbrev S4x4096x32 : Shape := ⟨3, ![4, 4096, 32]⟩
abbrev S4x4096x8 : Shape := ⟨3, ![4, 4096, 8]⟩
abbrev S_ : Shape := ⟨0, ![]⟩
abbrev S4x4096x128 : Shape := ⟨3, ![4, 4096, 128]⟩
abbrev S4x4096x16 : Shape := ⟨3, ![4, 4096, 16]⟩
abbrev S4x512x4096 : Shape := ⟨3, ![4, 512, 4096]⟩
abbrev S4x256x4096 : Shape := ⟨3, ![4, 256, 4096]⟩
abbrev S4x32x4096 : Shape := ⟨3, ![4, 32, 4096]⟩
abbrev S4x16x4096 : Shape := ⟨3, ![4, 16, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x2856, .f32⟩
  | .hbm, ⟨2, _⟩ => ⟨S4x4096x2856, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S4x4096x256, .f32⟩
  | .hbm, ⟨7, _⟩ => ⟨S4x4096x256, .f32⟩
  | .hbm, ⟨8, _⟩ => ⟨S4x4096x256, .f32⟩
  | .hbm, ⟨9, _⟩ => ⟨S4x4096x256, .f32⟩
  | .hbm, ⟨10, _⟩ => ⟨S4x4096x32, .f32⟩
  | .hbm, ⟨11, _⟩ => ⟨S4x4096x8, .f32⟩
  | .hbm, ⟨12, _⟩ => ⟨S4x4096x256, .f32⟩
  | .hbm, ⟨13, _⟩ => ⟨S_, .i32⟩
  | .hbm, ⟨14, _⟩ => ⟨S_, .f32⟩
  | .hbm, ⟨15, _⟩ => ⟨S4x4096x128, .f32⟩
  | .hbm, ⟨16, _⟩ => ⟨S_, .i32⟩
  | .hbm, ⟨17, _⟩ => ⟨S_, .f32⟩
  | .hbm, ⟨18, _⟩ => ⟨S4x4096x16, .f32⟩
  | .hbm, ⟨19, _⟩ => ⟨S4x4096x512, .bf16⟩
  | .hbm, ⟨20, _⟩ => ⟨S4x4096x256, .bf16⟩
  | .hbm, ⟨21, _⟩ => ⟨S4x4096x256, .bf16⟩
  | .hbm, ⟨22, _⟩ => ⟨S4x4096x128, .bf16⟩
  | .hbm, ⟨23, _⟩ => ⟨S4x512x4096, .f32⟩
  | .hbm, ⟨24, _⟩ => ⟨S4x512x4096, .f32⟩
  | .hbm, ⟨25, _⟩ => ⟨S4x256x4096, .f32⟩
  | .hbm, ⟨26, _⟩ => ⟨S4x256x4096, .f32⟩
  | .hbm, ⟨27, _⟩ => ⟨S4x32x4096, .f32⟩
  | .hbm, ⟨28, _⟩ => ⟨S4x512x4096, .f32⟩
  | .hbm, ⟨29, _⟩ => ⟨S4x512x4096, .bf16⟩
  | .hbm, ⟨30, _⟩ => ⟨S4x256x4096, .f32⟩
  | .hbm, ⟨31, _⟩ => ⟨S4x256x4096, .bf16⟩
  | .hbm, ⟨32, _⟩ => ⟨S4x256x4096, .f32⟩
  | .hbm, ⟨33, _⟩ => ⟨S4x256x4096, .bf16⟩
  | .hbm, ⟨34, _⟩ => ⟨S4x16x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== SampleTail.lean ====
abbrev S32x8x1024 : Shape := ⟨3, ![32, 8, 1024]⟩
abbrev S32x8x8x64 : Shape := ⟨4, ![32, 8, 8, 64]⟩
abbrev S32x8x4x64 : Shape := ⟨4, ![32, 8, 4, 64]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S256x512 : Shape := ⟨2, ![256, 512]⟩
abbrev S256x256 : Shape := ⟨2, ![256, 256]⟩
abbrev S1x1024 : Shape := ⟨2, ![1, 1024]⟩
abbrev S512x1024 : Shape := ⟨2, ![512, 1024]⟩
abbrev S256 : Shape := ⟨1, ![256]⟩
abbrev S256x1 : Shape := ⟨2, ![256, 1]⟩

abbrev nBuf : Space → Nat
  | .hbm => 20
  | .vmem => 12
  | .smem => 0
  | _ => 0

abbrev bufTy : (tb : Table) → Fin (tcTables nBuf tb) → BufTy
  | .hbm, ⟨0, _⟩ => ⟨S32x8x1024, .f32⟩
  | .hbm, ⟨1, _⟩ => ⟨S32x8x8x64, .f32⟩
  | .hbm, ⟨2, _⟩ => ⟨S32x8x4x64, .f32⟩
  | .hbm, ⟨3, _⟩ => ⟨S32x8x4x64, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S256x1024, .f32⟩
  | .hbm, ⟨12, _⟩ => ⟨S256x512, .f32⟩
  | .hbm, ⟨13, _⟩ => ⟨S256x256, .f32⟩
  | .hbm, ⟨14, _⟩ => ⟨S256x256, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S256x1024, .f32⟩
  | .local _ .vmem, ⟨0, _⟩ => ⟨S256x1024, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x4096, .f32⟩
  | .local _ .vmem, ⟨8, _⟩ => ⟨S4096x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== SampleTailRefIdeal.lean ====
abbrev S32x8x1024 : Shape := ⟨3, ![32, 8, 1024]⟩
abbrev S32x8x8x64 : Shape := ⟨4, ![32, 8, 8, 64]⟩
abbrev S32x8x4x64 : Shape := ⟨4, ![32, 8, 4, 64]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32x8x512 : Shape := ⟨3, ![32, 8, 512]⟩
abbrev S32x8x256 : Shape := ⟨3, ![32, 8, 256]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x4096 : Shape := ⟨3, ![32, 8, 4096]⟩
abbrev S256x1024 : Shape := ⟨2, ![256, 1024]⟩

abbrev nBuf : Space → Nat
  | .hbm => 89
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x8x64, .f32⟩
  | .hbm, ⟨2, _⟩ => ⟨S32x8x4x64, .f32⟩
  | .hbm, ⟨3, _⟩ => ⟨S32x8x4x64, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S32x8x512, .f32⟩
  | .hbm, ⟨12, _⟩ => ⟨S32x8x256, .f32⟩
  | .hbm, ⟨13, _⟩ => ⟨S32x8x256, .f32⟩
  | .hbm, ⟨14, _⟩ => ⟨S32x8x1024, .f32⟩
  | .hbm, ⟨15, _⟩ => ⟨S_, .f32⟩
  | .hbm, ⟨16, _⟩ => ⟨S32x8x1024, .f32⟩
  | .hbm, ⟨17, _⟩ => ⟨S32x8x1024, .f32⟩
  | .hbm, ⟨18, _⟩ => ⟨S32x8x1024, .f32⟩
  | .hbm, ⟨19, _⟩ => ⟨S32x8x1024, .f32⟩
  | .hbm, ⟨20, _⟩ => ⟨S_, .f32⟩
  | .hbm, ⟨21, _⟩ => ⟨S32x8, .f32⟩
  | .hbm, ⟨22, _⟩ => ⟨S32x8x1, .f32⟩
  | .hbm, ⟨23, _⟩ => ⟨S_, .f32⟩
  | .hbm, ⟨24, _⟩ => ⟨S32x8x1, .f32⟩
  | .hbm, ⟨25, _⟩ => ⟨S32x8x1, .f32⟩
  | .hbm, ⟨26, _⟩ => ⟨S32x8x1024, .f32⟩
  | .hbm, ⟨27, _⟩ => ⟨S32x8x1024, .f32⟩
  | .hbm, ⟨28, _⟩ => ⟨S32x8x1024, .f32⟩
  | .hbm, ⟨29, _⟩ => ⟨S_, .f32⟩
  | .hbm, ⟨30, _⟩ => ⟨S32x8, .f32⟩
  | .hbm, ⟨31, _⟩ => ⟨S32x8x1, .f32⟩
  | .hbm, ⟨32, _⟩ => ⟨S_, .f32⟩
  | .hbm, ⟨33, _⟩ => ⟨S32x8x1, .f32⟩
  | .hbm, ⟨34, _⟩ => ⟨S32x8x1, .f32⟩
  | .hbm, ⟨35, _⟩ => ⟨S32x8x1024, .f32⟩
  | .hbm, ⟨36, _⟩ => ⟨S32x8x1024, .f32⟩
  | .hbm, ⟨37, _⟩ => ⟨S_, .f32⟩
  | .hbm, ⟨38, _⟩ => ⟨S32x8x1, .f32⟩
  | .hbm, ⟨39, _⟩ => ⟨S32x8x1, .f32⟩
  | .hbm, ⟨40, _⟩ => ⟨S32x8x1, .f32⟩
  | .hbm, ⟨41, _⟩ => ⟨S32x8x1024, .f32⟩
  | .hbm, ⟨42, _⟩ => ⟨S32x8x1024, .f32⟩
  | .hbm, ⟨43, _⟩ => ⟨S1x1x1024, .f32⟩
  | .hbm, ⟨44, _⟩ => ⟨S32x8x1024, .f32⟩
  | .hbm, ⟨45, _⟩ => ⟨S32x8x1024, .f32⟩
  | .hbm, ⟨46, _⟩ => ⟨S1x1x1024, .f32⟩
  | .hbm, ⟨47, _⟩ => ⟨S32x8x1024, .f32⟩
  | .hbm, ⟨48, _⟩ => ⟨S32x8x1024, .f32⟩
  | .hbm, ⟨49, _⟩ => ⟨S32x8x4096, .f32⟩
  | .hbm, ⟨50, _⟩ => ⟨S_, .f32⟩
  | .hbm, ⟨51, _⟩ => ⟨S32x8x4096, .f32⟩
  | .hbm, ⟨52, _⟩ => ⟨S32x8x4096, .f32⟩
  | .hbm, ⟨53, _⟩ => ⟨S32x8x4096, .f32⟩
  | .hbm, ⟨54, _⟩ => ⟨S_, .f32⟩
  | .hbm, ⟨55, _⟩ => ⟨S32x8x1024, .f32⟩
  | .hbm, ⟨56, _⟩ => ⟨S32x8x1024, .f32⟩
  | .hbm, ⟨57, _⟩ => ⟨S32x8x1024, .f32⟩
  | .hbm, ⟨58, _⟩ => ⟨S32x8x1024, .f32⟩
  | .hbm, ⟨59, _⟩ => ⟨S_, .f32⟩
  | .hbm, ⟨60, _⟩ => ⟨S32x8, .f32⟩
  | .hbm, ⟨61, _⟩ => ⟨S32x8x1, .f32⟩
  | .hbm, ⟨62, _⟩ => ⟨S_, .f32⟩
  | .hbm, ⟨63, _⟩ => ⟨S32x8x1, .f32⟩
  | .hbm, ⟨64, _⟩ => ⟨S32x8x1, .f32⟩
  | .hbm, ⟨65, _⟩ => ⟨S32x8x1024, .f32⟩
  | .hbm, ⟨66, _⟩ => ⟨S32x8x1024, .f32⟩
  | .hbm, ⟨67, _⟩ => ⟨S32x8x1024, .f32⟩
  | .hbm, ⟨68, _⟩ => ⟨S_, .f32⟩
  | .hbm, ⟨69, _⟩ => ⟨S32x8, .f32⟩
  | .hbm, ⟨70, _⟩ => ⟨S32x8x1, .f32⟩
  | .hbm, ⟨71, _⟩ => ⟨S_, .f32⟩
  | .hbm, ⟨72, _⟩ => ⟨S32x8x1, .f32⟩
  | .hbm, ⟨73, _⟩ => ⟨S32x8x1, .f32⟩
  | .hbm, ⟨74, _⟩ => ⟨S32x8x1024, .f32⟩
  | .hbm, ⟨75, _⟩ => ⟨S32x8x1024, .f32⟩
  | .hbm, ⟨76, _⟩ => ⟨S_, .f32⟩
  | .hbm, ⟨77, _⟩ => ⟨S32x8x1, .f32⟩
  | .hbm, ⟨78, _⟩ => ⟨S32x8x1, .f32⟩
  | .hbm, ⟨79, _⟩ => ⟨S32x8x1, .f32⟩
  | .hbm, ⟨80, _⟩ => ⟨S32x8x1024, .f32⟩
  | .hbm, ⟨81, _⟩ => ⟨S32x8x1024, .f32⟩
  | .hbm, ⟨82, _⟩ => ⟨S1x1x1024, .f32⟩
  | .hbm, ⟨83, _⟩ => ⟨S32x8x1024, .f32⟩
  | .hbm, ⟨84, _⟩ => ⟨S32x8x1024, .f32⟩
  | .hbm, ⟨85, _⟩ => ⟨S1x1x1024, .f32⟩
  | .hbm, ⟨86, _⟩ => ⟨S32x8x1024, .f32⟩
  | .hbm, ⟨87, _⟩ => ⟨S32x8x1024, .f32⟩
  | .hbm, ⟨88, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== SampleProj.lean ====
abbrev S32x8x1024 : Shape := ⟨3, ![32, 8, 1024]⟩
abbrev S1024x2856 : Shape := ⟨2, ![1024, 2856]⟩
abbrev S256x1024 : Shape := ⟨2, ![256, 1024]⟩
abbrev S256x2856 : Shape := ⟨2, ![256, 2856]⟩

abbrev nBuf : Space → Nat
  | .hbm => 4
  | .vmem => 3
  | .smem => 0
  | _ => 0

abbrev bufTy : (tb : Table) → Fin (tcTables nBuf tb) → BufTy
  | .hbm, ⟨0, _⟩ => ⟨S32x8x1024, .f32⟩
  | .hbm, ⟨1, _⟩ => ⟨S1024x2856, .f32⟩
  | .hbm, ⟨2, _⟩ => ⟨S256x1024, .f32⟩
  | .hbm, ⟨3, _⟩ => ⟨S256x2856, .f32⟩
  | .local _ .vmem, ⟨0, _⟩ => ⟨S256x1024, .f32⟩
  | .local _ .vmem, ⟨1, _⟩ => ⟨S1024x2856, .f32⟩
  | .local _ .vmem, ⟨2, _⟩ => ⟨S256x2856, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2856 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2856 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== SampleProjRefIdeal.lean ====
abbrev S32x8x1024 : Shape := ⟨3, ![32, 8, 1024]⟩
abbrev S1024x2856 : Shape := ⟨2, ![1024, 2856]⟩
abbrev S32x8x2856 : Shape := ⟨3, ![32, 8, 2856]⟩
abbrev S256x2856 : Shape := ⟨2, ![256, 2856]⟩

abbrev nBuf : Space → Nat
  | .hbm => 4
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024x2856, .f32⟩
  | .hbm, ⟨2, _⟩ => ⟨S32x8x2856, .f32⟩
  | .hbm, ⟨3, _⟩ => ⟨S256x2856, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemKv.lean ====
abbrev S4x256x1024 : Shape := ⟨3, ![4, 256, 1024]⟩
abbrev S1024x512 : Shape := ⟨2, ![1024, 512]⟩
abbrev S512x1024 : Shape := ⟨2, ![512, 1024]⟩
abbrev S4x512x256 : Shape := ⟨3, ![4, 512, 256]⟩
abbrev S1x256x1024 : Shape := ⟨3, ![1, 256, 1024]⟩
abbrev S1x512x256 : Shape := ⟨3, ![1, 512, 256]⟩
abbrev S256x1024 : Shape := ⟨2, ![256, 1024]⟩
abbrev S512x256 : Shape := ⟨2, ![512, 256]⟩

abbrev nBuf : Space → Nat
  | .hbm => 5
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S1024x512, .f32⟩
  | .hbm, ⟨2, _⟩ => ⟨S512x1024, .f32⟩
  | .hbm, ⟨3, _⟩ => ⟨S512x1024, .bf16⟩
  | .hbm, ⟨4, _⟩ => ⟨S4x512x256, .f32⟩
  | .local _ .vmem, ⟨0, _⟩ => ⟨S512x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x512x256, .f32⟩
  | .local _ .vmem, ⟨4, _⟩ => ⟨S1x512x256, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemKvRefIdeal.lean ====
abbrev S4x256x1024 : Shape := ⟨3, ![4, 256, 1024]⟩
abbrev S1024x512 : Shape := ⟨2, ![1024, 512]⟩
abbrev S4x256x512 : Shape := ⟨3, ![4, 256, 512]⟩
abbrev S4x512x256 : Shape := ⟨3, ![4, 512, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x512, .f32⟩
  | .hbm, ⟨2, _⟩ => ⟨S4x256x512, .f32⟩
  | .hbm, ⟨3, _⟩ => ⟨S4x512x256, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Moba.lean ====
abbrev S4x4096x8x64 : Shape := ⟨4, ![4, 4096, 8, 64]⟩
abbrev S4x4096x512 : Shape := ⟨3, ![4, 4096, 512]⟩
abbrev S4x512x4096 : Shape := ⟨3, ![4, 512, 4096]⟩
abbrev S8 : Shape := ⟨1, ![8]⟩
abbrev S_ : Shape := ⟨0, ![]⟩
abbrev S1x128x256 : Shape := ⟨3, ![1, 128, 256]⟩
abbrev S1x4096x128 : Shape := ⟨3, ![1, 4096, 128]⟩
abbrev S1x128x4096 : Shape := ⟨3, ![1, 128, 4096]⟩
abbrev S1x256x128 : Shape := ⟨3, ![1, 256, 128]⟩
abbrev S16x128x256 : Shape := ⟨3, ![16, 128, 256]⟩
abbrev S128x128 : Shape := ⟨2, ![128, 128]⟩
abbrev S2x256x256 : Shape := ⟨3, ![2, 256, 256]⟩
abbrev S16x512 : Shape := ⟨2, ![16, 512]⟩
abbrev S256x256 : Shape := ⟨2, ![256, 256]⟩
abbrev S128x256 : Shape := ⟨2, ![128, 256]⟩
abbrev S128 : Shape := ⟨1, ![128]⟩
abbrev S128x1 : Shape := ⟨2, ![128, 1]⟩
abbrev S1 : Shape := ⟨1, ![1]⟩
abbrev S1x256x256 : Shape := ⟨3, ![1, 256, 256]⟩
abbrev S128x512 : Shape := ⟨2, ![128, 512]⟩
abbrev S512 : Shape := ⟨1, ![512]⟩
abbrev S1x512 : Shape := ⟨2, ![1, 512]⟩
abbrev S256x128 : Shape := ⟨2, ![256, 128]⟩
abbrev S256x512 : Shape := ⟨2, ![256, 512]⟩
abbrev S1x256 : Shape := ⟨2, ![1, 256]⟩
abbrev S64x256 : Shape := ⟨2, ![64, 256]⟩
abbrev S256 : Shape := ⟨1, ![256]⟩

abbrev nBuf : Space → Nat
  | .hbm => 27
  | .vmem => 14
  | .smem => 1
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x4096x512, .f32⟩
  | .hbm, ⟨4, _⟩ => ⟨S4x512x4096, .f32⟩
  | .hbm, ⟨5, _⟩ => ⟨S4x512x4096, .bf16⟩
  | .hbm, ⟨6, _⟩ => ⟨S4x4096x512, .f32⟩
  | .hbm, ⟨7, _⟩ => ⟨S4x4096x512, .bf16⟩
  | .hbm, ⟨8, _⟩ => ⟨S4x4096x512, .f32⟩
  | .hbm, ⟨9, _⟩ => ⟨S4x512x4096, .f32⟩
  | .hbm, ⟨10, _⟩ => ⟨S4x4096x512, .f32⟩
  | .hbm, ⟨11, _⟩ => ⟨S4x512x4096, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S4x4096x512, .bf16⟩
  | .local _ .vmem, ⟨0, _⟩ => ⟨S1x128x256, .bf16⟩
  | .local _ .vmem, ⟨1, _⟩ => ⟨S1x128x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x128x4096, .f32⟩
  | .local _ .vmem, ⟨5, _⟩ => ⟨S1x128x4096, .f32⟩
  | .local _ .vmem, ⟨6, _⟩ => ⟨S1x128x4096, .f32⟩
  | .local _ .vmem, ⟨7, _⟩ => ⟨S1x128x4096, .f32⟩
  | .local _ .vmem, ⟨8, _⟩ => ⟨S1x256x128, .bf16⟩
  | .local _ .vmem, ⟨9, _⟩ => ⟨S1x256x128, .bf16⟩
  | .local _ .vmem, ⟨10, _⟩ => ⟨S16x128x256, .bf16⟩
  | .local _ .vmem, ⟨11, _⟩ => ⟨S128x128, .bf16⟩
  | .local _ .vmem, ⟨12, _⟩ => ⟨S2x256x256, .f32⟩
  | .local _ .vmem, ⟨13, _⟩ => ⟨S16x512, .f32⟩
  | .local _ .smem, ⟨0, _⟩ => ⟨S8, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 16], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_0 : BitVec 32 := 0#32
  let v5 : BitVec 1 := Scalar.cmpi .ne v4 c0_i32_0
  v5

def k0_off1 (i : grid0.Coords) (c0_i32_234 : BitVec 32) : Fin 1 → Nat :=
  let c2_i32_233 : BitVec 32 := 2#32
  let arg1 : BitVec 32 := BitVec.ofNat 32 (i 1).val
  let v513 : BitVec 32 := Scalar.muli c2_i32_233 arg1
  let v514 : BitVec 32 := Scalar.addi v513 c0_i32_234
  let v515 : Index := Scalar.indexCast v514
  ![v515.toNat]
def k0_mult1 (i : grid0.Coords) : BitVec 32 :=
  let arg2 : BitVec 32 := BitVec.ofNat 32 (i 2).val
  let c256_i32 : BitVec 32 := 256#32
  let v141 : BitVec 32 := Scalar.muli arg2 c256_i32
  v141
def k0_off2 (i : grid0.Coords) : Fin 3 → Nat :=
  let c0_44 : Index := 0#32
  let arg2 : BitVec 32 := BitVec.ofNat 32 (i 2).val
  let c256_i32 : BitVec 32 := 256#32
  let v141 : BitVec 32 := Scalar.muli arg2 c256_i32
  let v142 : BitVec 32 := v141
  let v143 : Index := Scalar.indexCast v142
  let c0_45 : Index := 0#32
  ![0, v143.toNat, 0]
def k0_off3 (i : grid0.Coords) : Fin 3 → Nat :=
  let arg2 : BitVec 32 := BitVec.ofNat 32 (i 2).val
  let v147 : Index := Scalar.indexCast arg2
  let c0_47 : Index := 0#32
  let c0_48 : Index := 0#32
  ![v147.toNat, 0, 0]
@[reducible] def k0_t1_loop (i : grid0.Coords) : Scf.Loop 32 :=
  let c0_i32_74 : BitVec 32 := 0#32
  let arg2 : BitVec 32 := BitVec.ofNat 32 (i 2).val
  let v216 : BitVec 32 := Scalar.subi arg2 c0_i32_74
  let c1_i32_75 : BitVec 32 := 1#32
  let v218 : BitVec 32 := Scalar.divsi v216 c1_i32_75
  let v219 : BitVec 32 := Scalar.muli v218 c1_i32_75
  let v220 : BitVec 32 := Scalar.addi c0_i32_74 v219
  let c1_i32_76 : BitVec 32 := 1#32
  ⟨c0_i32_74, v220, c1_i32_76⟩
def k0_mult2 (i : grid0.Coords) (k0_t1 : Fin (k0_t1_loop i).trips) : BitVec 32 :=
  let c0_i32_74 : BitVec 32 := 0#32
  let c1_i32_76 : BitVec 32 := 1#32
  let arg13 : BitVec 32 := Scf.iv c0_i32_74 c1_i32_76 k0_t1
  let c256_i32_81 : BitVec 32 := 256#32
  let v233 : BitVec 32 := Scalar.muli arg13 c256_i32_81
  v233
def k0_off4 (i : grid0.Coords) (k0_t1 : Fin (k0_t1_loop i).trips) : Fin 3 → Nat :=
  let c0_82 : Index := 0#32
  let c0_i32_74 : BitVec 32 := 0#32
  let c1_i32_76 : BitVec 32 := 1#32
  let arg13 : BitVec 32 := Scf.iv c0_i32_74 c1_i32_76 k0_t1
  let c256_i32_81 : BitVec 32 := 256#32
  let v233 : BitVec 32 := Scalar.muli arg13 c256_i32_81
  let v234 : BitVec 32 := v233
  let v235 : Index := Scalar.indexCast v234
  let c0_83 : Index := 0#32
  ![0, v235.toNat, 0]
def k0_off5 (i : grid0.Coords) (k0_t1 : Fin (k0_t1_loop i).trips) : Fin 3 → Nat :=
  let c0_i32_74 : BitVec 32 := 0#32
  let c1_i32_76 : BitVec 32 := 1#32
  let arg13 : BitVec 32 := Scf.iv c0_i32_74 c1_i32_76 k0_t1
  let v239 : Index := Scalar.indexCast arg13
  let c0_85 : Index := 0#32
  let c0_86 : Index := 0#32
  ![v239.toNat, 0, 0]
def k0_off6 (i : grid0.Coords) (k0_t1 : Fin (k0_t1_loop i).trips) : Fin 2 → Nat :=
  let c0_i32_74 : BitVec 32 := 0#32
  let c1_i32_76 : BitVec 32 := 1#32
  let arg13 : BitVec 32 := Scf.iv c0_i32_74 c1_i32_76 k0_t1
  let v245 : Index := Scalar.indexCast arg13
  let c0_88 : Index := 0#32
  ![v245.toNat, 0]
def k0_off7 (i : grid0.Coords) (c0_i32_94 : BitVec 32) : Fin 1 → Nat :=
  let c2_i32 : BitVec 32 := 2#32
  let arg1 : BitVec 32 := BitVec.ofNat 32 (i 1).val
  let v257 : BitVec 32 := Scalar.muli c2_i32 arg1
  let v258 : BitVec 32 := Scalar.addi v257 c0_i32_94
  let v259 : Index := Scalar.indexCast v258
  ![v259.toNat]
def k0_off8 (i : grid0.Coords) (k0_t1 : Fin (k0_t1_loop i).trips) : Fin 2 → Nat :=
  let c0_i32_74 : BitVec 32 := 0#32
  let c1_i32_76 : BitVec 32 := 1#32
  let arg13 : BitVec 32 := Scf.iv c0_i32_74 c1_i32_76 k0_t1
  let v284 : Index := Scalar.indexCast arg13
  let c256 : Index := 256#32
  ![v284.toNat, 256]
@[reducible] def k0_t2_loop (i : grid0.Coords) : Scf.Loop 32 :=
  let c0_i32_74 : BitVec 32 := 0#32
  let arg2 : BitVec 32 := BitVec.ofNat 32 (i 2).val
  let v216 : BitVec 32 := Scalar.subi arg2 c0_i32_74
  let c1_i32_75 : BitVec 32 := 1#32
  let v218 : BitVec 32 := Scalar.divsi v216 c1_i32_75
  let v219 : BitVec 32 := Scalar.muli v218 c1_i32_75
  let v220 : BitVec 32 := Scalar.addi c0_i32_74 v219
  let v217 : BitVec 32 := Scalar.addi c0_i32_74 v216
  let c1_i32_77 : BitVec 32 := 1#32
  ⟨v220, v217, c1_i32_77⟩
def k0_mult3 (i : grid0.Coords) (k0_t2 : Fin (k0_t2_loop i).trips) : BitVec 32 :=
  let c0_i32_74 : BitVec 32 := 0#32
  let arg2 : BitVec 32 := BitVec.ofNat 32 (i 2).val
  let v216 : BitVec 32 := Scalar.subi arg2 c0_i32_74
  let c1_i32_75 : BitVec 32 := 1#32
  let v218 : BitVec 32 := Scalar.divsi v216 c1_i32_75
  let v219 : BitVec 32 := Scalar.muli v218 c1_i32_75
  let v220 : BitVec 32 := Scalar.addi c0_i32_74 v219
  let c1_i32_77 : BitVec 32 := 1#32
  let arg13 : BitVec 32 := Scf.iv v220 c1_i32_77 k0_t2
  let c256_i32_81 : BitVec 32 := 256#32
  let v233 : BitVec 32 := Scalar.muli arg13 c256_i32_81
  v233
def k0_off9 (i : grid0.Coords) (k0_t2 : Fin (k0_t2_loop i).trips) : Fin 3 → Nat :=
  let c0_82 : Index := 0#32
  let c0_i32_74 : BitVec 32 := 0#32
  let arg2 : BitVec 32 := BitVec.ofNat 32 (i 2).val
  let v216 : BitVec 32 := Scalar.subi arg2 c0_i32_74
  let c1_i32_75 : BitVec 32 := 1#32
  let v218 : BitVec 32 := Scalar.divsi v216 c1_i32_75
  let v219 : BitVec 32 := Scalar.muli v218 c1_i32_75
  let v220 : BitVec 32 := Scalar.addi c0_i32_74 v219
  let c1_i32_77 : BitVec 32 := 1#32
  let arg13 : BitVec 32 := Scf.iv v220 c1_i32_77 k0_t2
  let c256_i32_81 : BitVec 32 := 256#32
  let v233 : BitVec 32 := Scalar.muli arg13 c256_i32_81
  let v234 : BitVec 32 := v233
  let v235 : Index := Scalar.indexCast v234
  let c0_83 : Index := 0#32
  ![0, v235.toNat, 0]
def k0_off10 (i : grid0.Coords) (k0_t2 : Fin (k0_t2_loop i).trips) : Fin 3 → Nat :=
  let c0_i32_74 : BitVec 32 := 0#32
  let arg2 : BitVec 32 := BitVec.ofNat 32 (i 2).val
  let v216 : BitVec 32 := Scalar.subi arg2 c0_i32_74
  let c1_i32_75 : BitVec 32 := 1#32
  let v218 : BitVec 32 := Scalar.divsi v216 c1_i32_75
  let v219 : BitVec 32 := Scalar.muli v218 c1_i32_75
  let v220 : BitVec 32 := Scalar.addi c0_i32_74 v219
  let c1_i32_77 : BitVec 32 := 1#32
  let arg13 : BitVec 32 := Scf.iv v220 c1_i32_77 k0_t2
  let v239 : Index := Scalar.indexCast arg13
  let c0_85 : Index := 0#32
  let c0_86 : Index := 0#32
  ![v239.toNat, 0, 0]
def k0_off11 (i : grid0.Coords) (k0_t2 : Fin (k0_t2_loop i).trips) : Fin 2 → Nat :=
  let c0_i32_74 : BitVec 32 := 0#32
  let arg2 : BitVec 32 := BitVec.ofNat 32 (i 2).val
  let v216 : BitVec 32 := Scalar.subi arg2 c0_i32_74
  let c1_i32_75 : BitVec 32 := 1#32
  let v218 : BitVec 32 := Scalar.divsi v216 c1_i32_75
  let v219 : BitVec 32 := Scalar.muli v218 c1_i32_75
  let v220 : BitVec 32 := Scalar.addi c0_i32_74 v219
  let c1_i32_77 : BitVec 32 := 1#32
  let arg13 : BitVec 32 := Scf.iv v220 c1_i32_77 k0_t2
  let v245 : Index := Scalar.indexCast arg13
  let c0_88 : Index := 0#32
  ![v245.toNat, 0]
def k0_off12 (i : grid0.Coords) (c0_i32_94 : BitVec 32) : Fin 1 → Nat :=
  let c2_i32 : BitVec 32 := 2#32
  let arg1 : BitVec 32 := BitVec.ofNat 32 (i 1).val
  let v257 : BitVec 32 := Scalar.muli c2_i32 arg1
  let v258 : BitVec 32 := Scalar.addi v257 c0_i32_94
  let v259 : Index := Scalar.indexCast v258
  ![v259.toNat]
def k0_off13 (i : grid0.Coords) (k0_t2 : Fin (k0_t2_loop i).trips) : Fin 2 → Nat :=
  let c0_i32_74 : BitVec 32 := 0#32
  let arg2 : BitVec 32 := BitVec.ofNat 32 (i 2).val
  let v216 : BitVec 32 := Scalar.subi arg2 c0_i32_74
  let c1_i32_75 : BitVec 32 := 1#32
  let v218 : BitVec 32 := Scalar.divsi v216 c1_i32_75
  let v219 : BitVec 32 := Scalar.muli v218 c1_i32_75
  let v220 : BitVec 32 := Scalar.addi c0_i32_74 v219
  let c1_i32_77 : BitVec 32 := 1#32
  let arg13 : BitVec 32 := Scf.iv v220 c1_i32_77 k0_t2
  let v284 : Index := Scalar.indexCast arg13
  let c256 : Index := 256#32
  ![v284.toNat, 256]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MobaRefIdeal.lean ====
abbrev S4x4096x8x64 : Shape := ⟨4, ![4, 4096, 8, 64]⟩
abbrev S8 : Shape := ⟨1, ![8]⟩
abbrev S_ : Shape := ⟨0, ![]⟩
abbrev S4096 : Shape := ⟨1, ![4096]⟩
abbrev S4x16x256x8x64 : Shape := ⟨5, ![4, 16, 256, 8, 64]⟩
abbrev S4x16x8x64 : Shape := ⟨4, ![4, 16, 8, 64]⟩
abbrev S4x8x16x4096 : Shape := ⟨4, ![4, 8, 16, 4096]⟩
abbrev S4x4096x8x16 : Shape := ⟨4, ![4, 4096, 8, 16]⟩
abbrev S1x4096x1x1 : Shape := ⟨4, ![1, 4096, 1, 1]⟩
abbrev S16 : Shape := ⟨1, ![16]⟩
abbrev S1x1x1x16 : Shape := ⟨4, ![1, 1, 1, 16]⟩
abbrev S1x4096x1x16 : Shape := ⟨4, ![1, 4096, 1, 16]⟩
abbrev S4x4096x8x3 : Shape := ⟨4, ![4, 4096, 8, 3]⟩
abbrev S4x4096x8x3x1 : Shape := ⟨5, ![4, 4096, 8, 3, 1]⟩
abbrev S1x1x1x1x4096 : Shape := ⟨5, ![1, 1, 1, 1, 4096]⟩
abbrev S4x4096x8x3x4096 : Shape := ⟨5, ![4, 4096, 8, 3, 4096]⟩
abbrev S4x4096x8x4096 : Shape := ⟨4, ![4, 4096, 8, 4096]⟩
abbrev S4096x1 : Shape := ⟨2, ![4096, 1]⟩
abbrev S1x4096 : Shape := ⟨2, ![1, 4096]⟩
abbrev S4096x4096 : Shape := ⟨2, ![4096, 4096]⟩
abbrev S1x4096x1x4096 : Shape := ⟨4, ![1, 4096, 1, 4096]⟩
abbrev S4x8x4096x4096 : Shape := ⟨4, ![4, 8, 4096, 4096]⟩
abbrev S1x1x8x1 : Shape := ⟨4, ![1, 1, 8, 1]⟩
abbrev S1x4096x8x4096 : Shape := ⟨4, ![1, 4096, 8, 4096]⟩
abbrev S4x4096x8 : Shape := ⟨3, ![4, 4096, 8]⟩
abbrev S4x4096x8x1 : Shape := ⟨4, ![4, 4096, 8, 1]⟩
abbrev S4x8x64x4096 : Shape := ⟨4, ![4, 8, 64, 4096]⟩
abbrev S4x4096x512 : Shape := ⟨3, ![4, 4096, 512]⟩

abbrev nBuf : Space → Nat
  | .hbm => 170
  | .vmem => 0
  | .smem => 0
  | _ => 0

abbrev hbmTy0_0 (i : Nat) : BufTy := match i % 128 with
  | 0 => ⟨S4x4096x8x64, .f32⟩
  | 1 => ⟨S4x4096x8x64, .f32⟩
  | 2 => ⟨S4x4096x8x64, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S4096, .i32⟩
  | 18 => ⟨S4x16x256x8x64, .f32⟩
  | 19 => ⟨S_, .f32⟩
  | 20 => ⟨S4x16x8x64, .f32⟩
  | 21 => ⟨S_, .f32⟩
  | 22 => ⟨S4x16x8x64, .f32⟩
  | 23 => ⟨S4x16x8x64, .f32⟩
  | 24 => ⟨S4x8x16x4096, .f32⟩
  | 25 => ⟨S4x4096x8x16, .f32⟩
  | 26 => ⟨S_, .i32⟩
  | 27 => ⟨S_, .i32⟩
  | 28 => ⟨S4096, .i32⟩
  | 29 => ⟨S4096, .i32⟩
  | 30 => ⟨S4096, .i32⟩
  | 31 => ⟨S_, .i32⟩
  | 32 => ⟨S4096, .i32⟩
  | 33 => ⟨S4096, .i1⟩
  | 34 => ⟨S4096, .i32⟩
  | 35 => ⟨S4096, .i32⟩
  | 36 => ⟨S_, .i32⟩
  | 37 => ⟨S4096, .i32⟩
  | 38 => ⟨S4096, .i1⟩
  | 39 => ⟨S4096, .i1⟩
  | 40 => ⟨S_, .i32⟩
  | 41 => ⟨S4096, .i32⟩
  | 42 => ⟨S4096, .i32⟩
  | 43 => ⟨S4096, .i32⟩
  | 44 => ⟨S1x4096x1x1, .i32⟩
  | 45 => ⟨S16, .i32⟩
  | 46 => ⟨S1x1x1x16, .i32⟩
  | 47 => ⟨S1x4096x1x16, .i32⟩
  | 48 => ⟨S1x4096x1x16, .i32⟩
  | 49 => ⟨S1x4096x1x16, .i1⟩
  | 50 => ⟨S_, .f32⟩
  | 51 => ⟨S_, .f32⟩
  | 52 => ⟨S4x4096x8x16, .i1⟩
  | 53 => ⟨S4x4096x8x16, .f32⟩
  | 54 => ⟨S4x4096x8x16, .f32⟩
  | 55 => ⟨S4x4096x8x3, .f32⟩
  | 56 => ⟨S4x4096x8x3, .i32⟩
  | 57 => ⟨S4x4096x8x3, .i32⟩
  | 58 => ⟨S4x4096x8x3, .i1⟩
  | 59 => ⟨S_, .i32⟩
  | 60 => ⟨S_, .i32⟩
  | 61 => ⟨S4x4096x8x3, .i32⟩
  | 62 => ⟨S4x4096x8x3, .i32⟩
  | 63 => ⟨S4096, .i32⟩
  | 64 => ⟨S_, .i32⟩
  | 65 => ⟨S_, .i32⟩
  | 66 => ⟨S4096, .i32⟩
  | 67 => ⟨S4096, .i32⟩
  | 68 => ⟨S4096, .i32⟩
  | 69 => ⟨S_, .i32⟩
  | 70 => ⟨S4096, .i32⟩
  | 71 => ⟨S4096, .i1⟩
  | 72 => ⟨S4096, .i32⟩
  | 73 => ⟨S4096, .i32⟩
  | 74 => ⟨S_, .i32⟩
  | 75 => ⟨S4096, .i32⟩
  | 76 => ⟨S4096, .i1⟩
  | 77 => ⟨S4096, .i1⟩
  | 78 => ⟨S_, .i32⟩
  | 79 => ⟨S4096, .i32⟩
  | 80 => ⟨S4096, .i32⟩
  | 81 => ⟨S4096, .i32⟩
  | 82 => ⟨S4x4096x8x3x1, .i32⟩
  | 83 => ⟨S1x1x1x1x4096, .i32⟩
  | 84 => ⟨S4x4096x8x3x4096, .i32⟩
  | 85 => ⟨S4x4096x8x3x4096, .i32⟩
  | 86 => ⟨S4x4096x8x3x4096, .i1⟩
  | 87 => ⟨S_, .i32⟩
  | 88 => ⟨S_, .i32⟩
  | 89 => ⟨S4x4096x8x3x4096, .i32⟩
  | 90 => ⟨S4x4096x8x3x4096, .i32⟩
  | 91 => ⟨S4x4096x8x3x4096, .i32⟩
  | 92 => ⟨S4x4096x8x3x4096, .i32⟩
  | 93 => ⟨S_, .i32⟩
  | 94 => ⟨S4x4096x8x4096, .i32⟩
  | 95 => ⟨S_, .i32⟩
  | 96 => ⟨S4x4096x8x4096, .i32⟩
  | 97 => ⟨S4x4096x8x4096, .i1⟩
  | 98 => ⟨S4096x1, .i32⟩
  | 99 => ⟨S4096, .i32⟩
  | 100 => ⟨S1x4096, .i32⟩
  | 101 => ⟨S4096x4096, .i32⟩
  | 102 => ⟨S4096x4096, .i32⟩
  | 103 => ⟨S4096x4096, .i32⟩
  | 104 => ⟨S1x4096x1x4096, .i32⟩
  | 105 => ⟨S1x4096, .i32⟩
  | 106 => ⟨S_, .i32⟩
  | 107 => ⟨S_, .i32⟩
  | 108 => ⟨S4096, .i32⟩
  | 109 => ⟨S4096, .i32⟩
  | 110 => ⟨S4096, .i32⟩
  | 111 => ⟨S_, .i32⟩
  | 112 => ⟨S4096, .i32⟩
  | 113 => ⟨S4096, .i1⟩
  | 114 => ⟨S4096, .i32⟩
  | 115 => ⟨S4096, .i32⟩
  | 116 => ⟨S_, .i32⟩
  | 117 => ⟨S4096, .i32⟩
  | 118 => ⟨S4096, .i1⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S4096x4096, .i32⟩
  | 126 => ⟨S4096x4096, .i32⟩
  | 127 => ⟨S4096x4096, .i1⟩
  | _ => ⟨S4x4096x8x64, .f32⟩

abbrev hbmTy0_1 (i : Nat) : BufTy := match i % 128 with
  | 0 => ⟨S1x4096x1x4096, .i1⟩
  | 1 => ⟨S4x8x4096x4096, .f32⟩
  | 2 => ⟨S4x4096x8x4096, .f32⟩
  | 3 => ⟨S_, .f32⟩
  | 4 => ⟨S4x4096x8x4096, .f32⟩
  | 5 => ⟨S4x4096x8x4096, .f32⟩
  | 6 => ⟨S1x1x8x1, .f32⟩
  | 7 => ⟨S1x4096x1x4096, .f32⟩
  | 8 => ⟨S1x4096x8x4096, .f32⟩
  | 9 => ⟨S1x4096x8x4096, .f32⟩
  | 10 => ⟨S1x4096x8x4096, .f32⟩
  | 11 => ⟨S4x4096x8x4096, .f32⟩
  | 12 => ⟨S4x4096x8x4096, .f32⟩
  | 13 => ⟨S4x4096x8x4096, .i1⟩
  | 14 => ⟨S4x4096x8x4096, .i1⟩
  | 15 => ⟨S_, .i32⟩
  | 16 => ⟨S1x4096x1x4096, .i32⟩
  | 17 => ⟨S1x4096x1x4096, .i1⟩
  | 18 => ⟨S4x4096x8x4096, .i1⟩
  | 19 => ⟨S4x4096x8x4096, .i1⟩
  | 20 => ⟨S_, .f32⟩
  | 21 => ⟨S_, .f32⟩
  | 22 => ⟨S4x4096x8x4096, .f32⟩
  | 23 => ⟨S4x4096x8x4096, .f32⟩
  | 24 => ⟨S_, .f32⟩
  | 25 => ⟨S4x4096x8, .f32⟩
  | 26 => ⟨S_, .f32⟩
  | 27 => ⟨S4x4096x8, .f32⟩
  | 28 => ⟨S4x4096x8, .f32⟩
  | 29 => ⟨S4x4096x8x1, .f32⟩
  | 30 => ⟨S4x4096x8x4096, .f32⟩
  | 31 => ⟨S4x4096x8x4096, .f32⟩
  | 32 => ⟨S4x4096x8x4096, .f32⟩
  | 33 => ⟨S_, .f32⟩
  | 34 => ⟨S4x4096x8, .f32⟩
  | 35 => ⟨S4x4096x8x1, .f32⟩
  | 36 => ⟨S4x4096x8x4096, .f32⟩
  | 37 => ⟨S4x4096x8x4096, .f32⟩
  | 38 => ⟨S4x8x64x4096, .f32⟩
  | 39 => ⟨S4x4096x8x64, .f32⟩
  | 40 => ⟨S4x4096x512, .f32⟩
  | 41 => ⟨S4x4096x512, .bf16⟩
  | _ => ⟨S4x4096x8x64, .f32⟩

abbrev hbmTy (i : Nat) : BufTy := match i / 128 with
  | 0 => hbmTy0_0 i
  | 1 => hbmTy0_1 i
  | _ => ⟨S4x4096x8x64, .f32⟩

abbrev bufTy : (tb : Table) → Fin (tcTables nBuf tb) → BufTy
  | .hbm, ⟨i, _⟩ => hbmTy i
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v24 : Ref sig .tc := ⟨.hbm, 54, rfl⟩
abbrev main_values : Ref sig .tc := ⟨.hbm, 55, rfl⟩
abbrev main_indices : Ref sig .tc := ⟨.hbm, 56, rfl⟩
abbrev main_v25 : Ref sig .tc := ⟨.hbm, 57, rfl⟩
abbrev main_v26 : Ref sig .tc := ⟨.hbm, 58, rfl⟩
abbrev main_c_6 : Ref sig .tc := ⟨.hbm, 59, rfl⟩
abbrev main_call2_v0 : Ref sig .tc := ⟨.hbm, 60, rfl⟩
abbrev main_call2_v1 : Ref sig .tc := ⟨.hbm, 61, rfl⟩
abbrev main_v27 : Ref sig .tc := ⟨.hbm, 62, rfl⟩
abbrev main_v28 : Ref sig .tc := ⟨.hbm, 63, rfl⟩
abbrev main_c_7 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_c : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_0 : Ref sig .tc := ⟨.hbm, 78, rfl⟩
abbrev main_call3_v12 : Ref sig .tc := ⟨.hbm, 79, rfl⟩
abbrev main_call3_v13 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_c_8 : Ref sig .tc := ⟨.hbm, 87, rfl⟩
abbrev main_c_9 : Ref sig .tc := ⟨.hbm, 88, rfl⟩
abbrev main_call4_v0 : Ref sig .tc := ⟨.hbm, 89, rfl⟩
abbrev main_call4_v1 : Ref sig .tc := ⟨.hbm, 90, rfl⟩
abbrev main_v35 : Ref sig .tc := ⟨.hbm, 91, rfl⟩
abbrev main_v36 : Ref sig .tc := ⟨.hbm, 92, rfl⟩
abbrev main_c_10 : Ref sig .tc := ⟨.hbm, 93, rfl⟩
abbrev main_v37 : Ref sig .tc := ⟨.hbm, 94, rfl⟩
abbrev main_c_11 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_c_12 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_call5_v5 : Ref sig .tc := ⟨.hbm, 112, rfl⟩
abbrev main_call5_v6 : Ref sig .tc := ⟨.hbm, 113, rfl⟩
abbrev main_call5_v7 : Ref sig .tc := ⟨.hbm, 114, rfl⟩
abbrev main_call5_v8 : Ref sig .tc := ⟨.hbm, 115, rfl⟩
abbrev main_call5_c : Ref sig .tc := ⟨.hbm, 116, rfl⟩
abbrev main_call5_v9 : Ref sig .tc := ⟨.hbm, 117, rfl⟩
abbrev main_call5_v10 : Ref sig .tc := ⟨.hbm, 118, rfl⟩
abbrev main_call5_v11 : Ref sig .tc := ⟨.hbm, 119, rfl⟩
abbrev main_call5_c_0 : Ref sig .tc := ⟨.hbm, 120, rfl⟩
abbrev main_call5_v12 : Ref sig .tc := ⟨.hbm, 121, rfl⟩
abbrev main_call5_v13 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_cst_13 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_c_14 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_cst_15 : Ref sig .tc := ⟨.hbm, 148, rfl⟩
abbrev main_call6_v0 : Ref sig .tc := ⟨.hbm, 149, rfl⟩
abbrev main_call6_v1 : Ref sig .tc := ⟨.hbm, 150, rfl⟩
abbrev main_v71 : Ref sig .tc := ⟨.hbm, 151, rfl⟩
abbrev main_cst_16 : Ref sig .tc := ⟨.hbm, 152, rfl⟩
abbrev main_v72 : Ref sig .tc := ⟨.hbm, 153, rfl⟩
abbrev main_cst_17 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_cst_18 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩

abbrev nD : Nat := 1
abbrev τ : Topo := Topo.v7x

variable {F : FTy → Type} [FloatOps F]
-- ==== SampleMemory.lean ====
abbrev S32x8x4x64 : Shape := ⟨4, ![32, 8, 4, 64]⟩
abbrev S32x256x4x64 : Shape := ⟨4, ![32, 256, 4, 64]⟩
abbrev S32x8x256 : Shape := ⟨3, ![32, 8, 256]⟩
abbrev S32x4x64x256 : Shape := ⟨4, ![32, 4, 64, 256]⟩
abbrev S32x256x256 : Shape := ⟨3, ![32, 256, 256]⟩
abbrev S1x8x256 : Shape := ⟨3, ![1, 8, 256]⟩
abbrev S1x256x256 : Shape := ⟨3, ![1, 256, 256]⟩
abbrev S8x256 : Shape := ⟨2, ![8, 256]⟩
abbrev S32x256 : Shape := ⟨2, ![32, 256]⟩
abbrev S256x256 : Shape := ⟨2, ![256, 256]⟩
abbrev S32 : Shape := ⟨1, ![32]⟩
abbrev S32x1 : Shape := ⟨2, ![32, 1]⟩

abbrev nBuf : Space → Nat
  | .hbm => 9
  | .vmem => 8
  | .smem => 0
  | _ => 0

abbrev bufTy : (tb : Table) → Fin (tcTables nBuf tb) → BufTy
  | .hbm, ⟨0, _⟩ => ⟨S32x8x4x64, .f32⟩
  | .hbm, ⟨1, _⟩ => ⟨S32x256x4x64, .f32⟩
  | .hbm, ⟨2, _⟩ => ⟨S32x256x4x64, .f32⟩
  | .hbm, ⟨3, _⟩ => ⟨S32x8x256, .f32⟩
  | .hbm, ⟨4, _⟩ => ⟨S32x4x64x256, .f32⟩
  | .hbm, ⟨5, _⟩ => ⟨S32x256x256, .f32⟩
  | .hbm, ⟨6, _⟩ => ⟨S32x4x64x256, .f32⟩
  | .hbm, ⟨7, _⟩ => ⟨S32x256x256, .f32⟩
  | .hbm, ⟨8, _⟩ => ⟨S32x8x256, .f32⟩
  | .local _ .vmem, ⟨0, _⟩ => ⟨S1x8x256, .f32⟩
  | .local _ .vmem, ⟨1, _⟩ => ⟨S1x8x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x8x256, .f32⟩
  | .local _ .vmem, ⟨7, _⟩ => ⟨S1x8x256, .f32⟩
  | _, _ => ⟨S32x8x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleMemoryRefIdeal.lean ====
abbrev S32x8x4x64 : Shape := ⟨4, ![32, 8, 4, 64]⟩
abbrev S32x256x4x64 : Shape := ⟨4, ![32, 256, 4, 64]⟩
abbrev S32x4x8x256 : Shape := ⟨4, ![32, 4, 8, 256]⟩
abbrev S_ : Shape := ⟨0, ![]⟩
abbrev S32x4x8 : Shape := ⟨3, ![32, 4, 8]⟩
abbrev S32x4x8x1 : Shape := ⟨4, ![32, 4, 8, 1]⟩
abbrev S32x4x64x8 : Shape := ⟨4, ![32, 4, 64, 8]⟩
abbrev S32x8x256 : Shape := ⟨3, ![32, 8, 256]⟩

abbrev nBuf : Space → Nat
  | .hbm => 24
  | .vmem => 0
  | .smem => 0
  | _ => 0

abbrev bufTy : (tb : Table) → Fin (tcTables nBuf tb) → BufTy
  | .hbm, ⟨0, _⟩ => ⟨S32x8x4x64, .f32⟩
  | .hbm, ⟨1, _⟩ => ⟨S32x256x4x64, .f32⟩
  | .hbm, ⟨2, _⟩ => ⟨S32x256x4x64, .f32⟩
  | .hbm, ⟨3, _⟩ => ⟨S32x4x8x256, .f32⟩
  | .hbm, ⟨4, _⟩ => ⟨S_, .f32⟩
  | .hbm, ⟨5, _⟩ => ⟨S32x4x8x256, .f32⟩
  | .hbm, ⟨6, _⟩ => ⟨S32x4x8x256, .f32⟩
  | .hbm, ⟨7, _⟩ => ⟨S_, .f32⟩
  | .hbm, ⟨8, _⟩ => ⟨S32x4x8, .f32⟩
  | .hbm, ⟨9, _⟩ => ⟨S_, .f32⟩
  | .hbm, ⟨10, _⟩ => ⟨S32x4x8, .f32⟩
  | .hbm, ⟨11, _⟩ => ⟨S32x4x8, .f32⟩
  | .hbm, ⟨12, _⟩ => ⟨S32x4x8x1, .f32⟩
  | .hbm, ⟨13, _⟩ => ⟨S32x4x8x256, .f32⟩
  | .hbm, ⟨14, _⟩ => ⟨S32x4x8x256, .f32⟩
  | .hbm, ⟨15, _⟩ => ⟨S32x4x8x256, .f32⟩
  | .hbm, ⟨16, _⟩ => ⟨S_, .f32⟩
  | .hbm, ⟨17, _⟩ => ⟨S32x4x8, .f32⟩
  | .hbm, ⟨18, _⟩ => ⟨S32x4x8x1, .f32⟩
  | .hbm, ⟨19, _⟩ => ⟨S32x4x8x256, .f32⟩
  | .hbm, ⟨20, _⟩ => ⟨S32x4x8x256, .f32⟩
  | .hbm, ⟨21, _⟩ => ⟨S32x4x64x8, .f32⟩
  | .hbm, ⟨22, _⟩ => ⟨S32x8x4x64, .f32⟩
  | .hbm, ⟨23, _⟩ => ⟨S32x8x256, .f32⟩
  | _, _ => ⟨S32x8x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.MemoryValue.lean ====
/-
  Hand-written, untrusted. The value of the memory attention: after the run the result array is, at every
  index, the softmax-weighted sum the reference computes — the kernel dividing the weighted sum once by the
  sum of the weights, the reference dividing each weight.
-/
module

public import proofs.«01_k».proof.Defs
public import proofs.«01_k».proof.Proof.Gen.MemoryIdeal.Value
public import proofs.«01_k».proof.Proof.Gen.MemoryRefIdeal.Read
public import Idealize.ShloMosaic.Lib.Pipeline.Value
public import Idealize.ShloMosaic.Lib.Pointwise
public import Idealize.ShloMosaic.Lib.StableHlo.ReadAt
public import Idealize.ShloMosaic.PureOps.Ideal.Laws

@[expose] public section

noncomputable section

namespace Cert.Proof.Memory

open Idealize.ShloMosaic Idealize.SL.Sem Idealize.ShloMosaic.TcCoe
open Cert.MemoryIdeal Cert.MemoryIdeal.Gen
open Idealize.ShloMosaic.Pipeline (Dat Cfg Window)

/-! ## Extended-real softmax -/

theorem exp_nonneg (x : EReal) : 0 ≤ Ideal.exp x := by
  induction x with
  | bot => simp
  | top => simp
  | coe r => rw [Ideal.exp_coe]; exact_mod_cast (Real.exp_pos r).le

/-- The greatest of finitely many real numbers is one of them. -/
theorem fold_max_mem {n : Nat} (hn : 0 < n) (s : Fin n → EReal) (hb : ∀ i, s i ≠ ⊥) :
    ∃ i, s i = Finset.univ.fold max ⊥ s := by
  by_contra hne
  have h0 : ⊥ < s ⟨0, hn⟩ := bot_lt_iff_ne_bot.mpr (hb _)
  have hle : ∀ i, s i ≤ Finset.univ.fold max ⊥ s := fun i => (Finset.fold_max_le _).mp le_rfl |>.2 i (Finset.mem_univ i)
  have hlt : ∀ i, s i < Finset.univ.fold max ⊥ s := fun i => lt_of_le_of_ne (hle i) fun h => hne ⟨i, h⟩
  exact lt_irrefl _ ((Finset.fold_max_lt _).mpr ⟨lt_trans h0 (hlt _), fun i _ => hlt i⟩)

/-- With real scores the sum of the exponentials over their maximum is not zero. -/
theorem sum_exp_ne_zero {n : Nat} (hn : 0 < n) (s : Fin n → EReal) (hb : ∀ i, s i ≠ ⊥) (ht : ∀ i, s i ≠ ⊤) :
    (∑ i, Ideal.exp (s i - Finset.univ.fold max ⊥ s)) ≠ 0 := by
  obtain ⟨i, hi⟩ := fold_max_mem hn s hb
  have h1 : Ideal.exp (s i - Finset.univ.fold max ⊥ s) = 1 := by
    rw [← hi, EReal.sub_self (ht i) (hb i), ← EReal.coe_zero, Ideal.exp_coe, Real.exp_zero]; rfl
  have : (1 : EReal) ≤ ∑ i, Ideal.exp (s i - Finset.univ.fold max ⊥ s) :=
    h1 ▸ Finset.single_le_sum (f := fun i => Ideal.exp (s i - Finset.univ.fold max ⊥ s)) (fun i _ => exp_nonneg _) (Finset.mem_univ i)
  exact (lt_of_lt_of_le zero_lt_one this).ne'

/-- A nonnegative finite factor enters a finite sum. -/
theorem sum_mul_of_nonneg {ι : Type} (t : Finset ι) (f : ι → EReal) (c : EReal) (h0 : 0 ≤ c) (ht : c ≠ ⊤) :
    (∑ i ∈ t, f i) * c = ∑ i ∈ t, f i * c := by
  classical
  induction t using Finset.induction_on with
  | empty => simp
  | insert a t ha ih => rw [Finset.sum_insert ha, Finset.sum_insert ha, EReal.right_distrib_of_nonneg_of_ne_top h0 ht, ih]

/-- Dividing the weighted sum once, or each weight. -/
theorem div_sum {n : Nat} (p v : Fin n → EReal) (hp : ∀ i, 0 ≤ p i) (hl : (∑ i, p i) ≠ 0) :
    Ideal.div (∑ i, p i * v i) (∑ i, p i) = ∑ i, v i * Ideal.div (p i) (∑ j, p j) := by
  have h0 : 0 ≤ ∑ i, p i := Finset.sum_nonneg fun i _ => hp i
  have hi0 : 0 ≤ (∑ i, p i)⁻¹ := EReal.inv_nonneg_of_nonneg h0
  have hit : (∑ i, p i)⁻¹ ≠ ⊤ := by
    generalize (∑ i, p i) = l at *
    induction l with
    | bot => simp
    | top => simp
    | coe r => rw [← EReal.coe_inv]; exact EReal.coe_ne_top _
  unfold Ideal.div
  simp only [if_neg hl]
  rw [sum_mul_of_nonneg _ _ _ hi0 hit]
  exact Finset.sum_congr rfl fun i _ => by rw [mul_comm (p i) (v i), mul_assoc]

/-- A finite sum of real numbers is real. -/
theorem sum_real {ι : Type} (t : Finset ι) (f : ι → EReal) (h : ∀ i, f i ≠ ⊥ ∧ f i ≠ ⊤) : (∑ i ∈ t, f i) ≠ ⊥ ∧ (∑ i ∈ t, f i) ≠ ⊤ := by
  have e : ∀ i, f i = ((f i).toReal : EReal) := fun i => (EReal.coe_toReal (h i).2 (h i).1).symm
  classical
  induction t using Finset.induction_on with
  | empty => simp
  | insert a t ha ih =>
    rw [Finset.sum_insert ha, ← EReal.coe_toReal ih.2 ih.1, e a, ← EReal.coe_add]
    exact ⟨EReal.coe_ne_bot _, EReal.coe_ne_top _⟩

theorem mul_real {x y : EReal} (hx : x ≠ ⊥ ∧ x ≠ ⊤) (hy : y ≠ ⊥ ∧ y ≠ ⊤) : x * y ≠ ⊥ ∧ x * y ≠ ⊤ := by
  rw [← EReal.coe_toReal hx.2 hx.1, ← EReal.coe_toReal hy.2 hy.1, ← EReal.coe_mul]
  exact ⟨EReal.coe_ne_bot _, EReal.coe_ne_top _⟩

/-- The scale 1/8, as both programs print it. -/
abbrev scale : EReal := Ideal.ofBits .f32 0x3E000000#32

theorem scale_real : scale ≠ ⊥ ∧ scale ≠ ⊤ := by
  simp [scale, Ideal.ofBits, Ideal.ieee]
  exact ⟨EReal.coe_ne_bot _, EReal.coe_ne_top _⟩

theorem neg_inf : Ideal.ofBits .f32 0xFF800000#32 = ⊥ := by simp [Ideal.ofBits, Ideal.ieee]

/-! ## The function -/

/-- The score of token `t` against slot `n` in head `h` of batch `b`. -/
def score (q : FVec Ideal S4x4096x4x64 .f32) (k : FVec Ideal S4x256x4x64 .f32) (b h : Fin 4) (t : Fin 4096) (n : Fin 256) : EReal :=
  (∑ d : Fin 64, q (ix4 b t h d) * k (ix4 b n h d)) * scale

/-- The weight of slot `n`: the exponential of its score over the row's greatest. -/
def weight (q : FVec Ideal S4x4096x4x64 .f32) (k : FVec Ideal S4x256x4x64 .f32) (b h : Fin 4) (t : Fin 4096) (n : Fin 256) : EReal :=
  Ideal.exp (score q k b h t n - Finset.univ.fold max ⊥ (score q k b h t))

abbrev hd (j : Fin 256) : Fin 4 := ⟨j.val / 64, by omega⟩
abbrev ln (j : Fin 256) : Fin 64 := ⟨j.val % 64, by omega⟩

/-! ## The kernel's payloads at an index -/

theorem sum_lanes (f : Fin 256 → EReal) : ∑ x, f x = ∑ a : Fin 4, ∑ d : Fin 64, f ⟨64 * a.val + d.val, by omega⟩ := by
  rw [← Finset.sum_product', Finset.univ_product_univ]
  refine (Fintype.sum_equiv (finProdFinEquiv (m := 4) (n := 64)) _ _ fun p => ?_).symm
  refine congrArg f (Fin.ext ?_)
  show 64 * p.1.val + p.2.val = p.2.val + 64 * p.1.val
  omega

/-- A sum over the lanes that is zero off head `h` is the sum over that head's lanes. -/
theorem sum_head (h : Fin 4) (f : Fin 256 → EReal) :
    (∑ x : Fin 256, if x.val / 64 = h.val then f x else 0) = ∑ d : Fin 64, f ⟨64 * h.val + d.val, by omega⟩ := by
  rw [sum_lanes, Finset.sum_eq_single h]
  · refine Finset.sum_congr rfl fun d _ => if_pos ?_
    show (64 * h.val + d.val) / 64 = h.val
    omega
  · intro a _ ha
    refine Finset.sum_eq_zero fun d _ => if_neg ?_
    show ¬ (64 * a.val + d.val) / 64 = h.val
    have := fun e => ha (Fin.ext e)
    omega
  · intro hn; exact absurd (Finset.mem_univ h) hn

/-- The lane masks of the four heads, decided over the 256 lanes. -/
theorem mask_eq : ∀ x : Fin 256,
    (IntOp.andi (IntOp.cmpi .sge (BitVec.ofNat 32 x.val) 0#32) (IntOp.cmpi .slt (BitVec.ofNat 32 x.val) 64#32) = if x.val / 64 = 0 then 1#1 else 0#1)
    ∧ (IntOp.andi (IntOp.cmpi .sge (BitVec.ofNat 32 x.val) 64#32) (IntOp.cmpi .slt (BitVec.ofNat 32 x.val) 128#32) = if x.val / 64 = 1 then 1#1 else 0#1)
    ∧ (IntOp.andi (IntOp.cmpi .sge (BitVec.ofNat 32 x.val) 128#32) (IntOp.cmpi .slt (BitVec.ofNat 32 x.val) 192#32) = if x.val / 64 = 2 then 1#1 else 0#1)
    ∧ (IntOp.andi (IntOp.cmpi .sge (BitVec.ofNat 32 x.val) 192#32) (IntOp.cmpi .slt (BitVec.ofNat 32 x.val) 256#32) = if x.val / 64 = 3 then 1#1 else 0#1) := by
  decide +kernel

theorem ge_eq : ∀ x : Fin 256,
    (IntOp.cmpi .sge (BitVec.ofNat 32 x.val) 64#32 = if 1 ≤ x.val / 64 then 1#1 else 0#1)
    ∧ (IntOp.cmpi .sge (BitVec.ofNat 32 x.val) 128#32 = if 2 ≤ x.val / 64 then 1#1 else 0#1)
    ∧ (IntOp.cmpi .sge (BitVec.ofNat 32 x.val) 192#32 = if 3 ≤ x.val / 64 then 1#1 else 0#1) := by
  decide +kernel

theorem select_if (P : Prop) [Decidable P] (a b : EReal) : Scalar.select (if P then 1#1 else 0#1) a b = if P then a else b := by
  by_cases h : P <;> simp [h, Scalar.select]

/-- Scores of the stacked rows: row `256·h + i` holds token `i`'s scores in head `h`. -/
theorem pay2_apply (x0 : Vec Ideal S1x256x256 .bf16) (x1 : Vec Ideal S1x256x256 .f32) (r : Fin 1024) (h : Fin 4) (i n : Fin 256)
    (hr : r.val = 256 * h.val + i.val) :
    k0_pay2 (F := Ideal) x0 x1 (ix2 r n)
      = (∑ d : Fin 64, x0 (ix3 0 i ⟨64 * h.val + d.val, by omega⟩) * x1 (ix3 0 ⟨64 * h.val + d.val, by omega⟩ n)) * scale := by
  pointwise [k0_pay2]
  refine congrArg (fun a : EReal => a * scale) ?_
  rw [← sum_head h fun x => x0 (ix3 0 i x) * x1 (ix3 0 x n)]
  refine Finset.sum_congr rfl fun x _ => ?_
  obtain ⟨m0, m1, m2, m3⟩ := mask_eq x
  rw [m0, m1, m2, m3]
  simp only [select_if]
  match h, hr with
  | ⟨0, _⟩, hr =>
    have hr : r.val = i.val := by simpa using hr
    have this : r.val < 256 := by omega
    have e : (⟨r.val, this⟩ : Fin 256) = i := Fin.ext hr
    rw [dif_pos this]
    simp only [e, ite_mul, zero_mul]
  | ⟨1, _⟩, hr =>
    have e : (⟨r.val - 256, by simp at hr; omega⟩ : Fin 256) = i := Fin.ext (by simp at hr ⊢; omega)
    rw [dif_neg (by simp at hr; omega), dif_pos (by simp at hr; omega)]
    simp only [e, ite_mul, zero_mul]
  | ⟨2, _⟩, hr =>
    have e : (⟨r.val - 256 - 256, by simp at hr; omega⟩ : Fin 256) = i := Fin.ext (by simp at hr ⊢; omega)
    rw [dif_neg (by simp at hr; omega), dif_neg (by simp at hr; omega), dif_pos (by simp at hr; omega)]
    simp only [e, ite_mul, zero_mul]
  | ⟨3, _⟩, hr =>
    have e : (⟨r.val - 256 - 256 - 256, by simp at hr; omega⟩ : Fin 256) = i := Fin.ext (by simp at hr ⊢; omega)
    rw [dif_neg (by simp at hr; omega), dif_neg (by simp at hr; omega), dif_neg (by simp at hr; omega)]
    simp only [e, ite_mul, zero_mul]

theorem pay3_apply (x0 : Vec Ideal S1x256x256 .bf16) (x1 : Vec Ideal S1x256x256 .f32) (r : Fin 1024) (n : Fin 256) :
    k0_pay3 (F := Ideal) x0 x1 (ix2 r n) = Finset.univ.fold max ⊥ fun x : Fin 256 => k0_pay2 (F := Ideal) x0 x1 (ix2 r x) := by
  pointwise [k0_pay3]
  rw [neg_inf]

/-- The stored block: lane `j` takes the stacked row of its own head. -/
theorem pay1_apply (s mx : FVec Ideal S1024x256 .f32) (x1 : Vec Ideal S1x256x256 .f32) (u : Fin 1) (i j : Fin 256) (r : Fin 1024)
    (hr : r.val = 256 * (j.val / 64) + i.val) :
    k0_pay1 (F := Ideal) s mx x1 (ix3 u i j)
      = Ideal.div (∑ n : Fin 256, Ideal.exp (s (ix2 r n) - mx (ix2 r n)) * x1 (ix3 0 j n)) (∑ n : Fin 256, Ideal.exp (s (ix2 r n) - mx (ix2 r n))) := by
  pointwise [k0_pay1]
  obtain ⟨m1, m2, m3⟩ := ge_eq j
  rw [m1, m2, m3]
  simp only [select_if]
  by_cases h3 : 3 ≤ j.val / 64
  · have e : (⟨768 + i.val, by omega⟩ : Fin 1024) = r := Fin.ext (by simp; omega)
    rw [if_pos h3]; simp only [e]
  by_cases h2 : 2 ≤ j.val / 64
  · have e : (⟨512 + i.val, by omega⟩ : Fin 1024) = r := Fin.ext (by simp; omega)
    rw [if_neg h3, if_pos h2]; simp only [e]
  by_cases h1 : 1 ≤ j.val / 64
  · have e : (⟨256 + i.val, by omega⟩ : Fin 1024) = r := Fin.ext (by simp; omega)
    rw [if_neg h3, if_neg h2, if_pos h1]; simp only [e]
  · have e : (⟨i.val, by omega⟩ : Fin 1024) = r := Fin.ext (by simp; omega)
    rw [if_neg h3, if_neg h2, if_neg h1]; simp only [e]

/-! ## The reference, stage by stage -/

section Ref
open Cert.MemoryRefIdeal.Read
variable (q : FVec Ideal S4x4096x4x64 .f32) (k v : FVec Ideal S4x256x4x64 .f32)

theorem ref_v2 (b h : Fin 4) (t : Fin 4096) (n : Fin 256) : val_main_v2 (F := Ideal) q k (ix4 b h t n) = score q k b h t n := by
  pointwise [val_main_v2, val_main_v1, val_main_v0, val_main_cst, score, scale]

/-- The host's row maximum as a fold over the slots. -/
theorem row_max (y : FVec Ideal Cert.MemoryRefIdeal.S4x4x4096x256 .f32) (z : FVec Ideal Cert.MemoryRefIdeal.S_ .f32) (b h : Fin 4) (t : Fin 4096) :
    Host.reduce FloatOps.maximumf y z Cert.MemoryRefIdeal.Gen.reducesTo_S4x4x4096x256_S4x4x4096_d3 Cert.MemoryRefIdeal.Gen.h_S_ (ix3 b h t)
      = Finset.univ.fold max (z (Shape.Idx.first Cert.MemoryRefIdeal.Gen.h_S_)) fun n : Fin 256 => y (ix4 b h t n) :=
  (Host.reduce_eq_fold _ _ _ _ _ _).trans
    (Shape.ReducesTo.fold_fiber_r4_a3 Cert.MemoryRefIdeal.Gen.reducesTo_S4x4x4096x256_S4x4x4096_d3 (ix3 b h t) max _ y)

theorem ref_v5 (b h : Fin 4) (t : Fin 4096) :
    val_main_v5 (F := Ideal) q k (ix3 b h t) = Finset.univ.fold max ⊥ fun n : Fin 256 => val_main_v2 (F := Ideal) q k (ix4 b h t n) := by
  have e : val_main_v3 (F := Ideal) q k (ix3 b h t) = Finset.univ.fold max ⊥ fun n : Fin 256 => val_main_v2 (F := Ideal) q k (ix4 b h t n) := by
    unfold val_main_v3
    refine (row_max (val_main_v2 (F := Ideal) q k) _ b h t).trans ?_
    rw [val_main_cst_0_apply, ← neg_inf]
    rfl
  rw [val_main_v5_apply, e, val_main_v4_apply, val_main_cst_1_apply]
  generalize (Finset.univ.fold max ⊥ fun n : Fin 256 => val_main_v2 (F := Ideal) q k (ix4 b h t n)) = y
  show max (Ideal.ofBits .f32 0xFF800000#32) y = y
  rw [neg_inf]
  exact max_eq_right bot_le

theorem ref_v9 (b h : Fin 4) (t : Fin 4096) (n : Fin 256) : val_main_v9 (F := Ideal) q k (ix4 b h t n) = weight q k b h t n := by
  have e : val_main_v9 (F := Ideal) q k (ix4 b h t n) = Ideal.exp (val_main_v2 (F := Ideal) q k (ix4 b h t n) - val_main_v5 (F := Ideal) q k (ix3 b h t)) := by
    pointwise [val_main_v9, val_main_v8, val_main_v7, val_main_v6]
  rw [e, ref_v5]
  simp only [ref_v2]
  rfl

theorem ref_v13 (b h : Fin 4) (t : Fin 4096) (n : Fin 256) :
    val_main_v13 (F := Ideal) q k (ix4 b h t n) = Ideal.div (weight q k b h t n) (∑ x : Fin 256, weight q k b h t x) := by
  have e : val_main_v13 (F := Ideal) q k (ix4 b h t n)
      = Ideal.div (val_main_v9 (F := Ideal) q k (ix4 b h t n)) (∑ x : Fin 256, val_main_v9 (F := Ideal) q k (ix4 b h t x)) := by
    pointwise [val_main_v13, val_main_v12, val_main_v11, val_main_v10, val_main_cst_2]
  rw [e]
  simp only [ref_v9]

theorem ref_v17 (b : Fin 4) (t : Fin 4096) (j : Fin 256) :
    val_main_v17 (F := Ideal) q k v (ix3 b t j)
      = ∑ n : Fin 256, v (ix4 b n (hd j) (ln j)) * Ideal.div (weight q k b (hd j) t n) (∑ x : Fin 256, weight q k b (hd j) t x) := by
  have e : val_main_v17 (F := Ideal) q k v (ix3 b t j)
      = ∑ n : Fin 256, v (ix4 b n (hd j) (ln j)) * val_main_v13 (F := Ideal) q k (ix4 b (hd j) t n) := by
    pointwise [val_main_v17, val_main_v16, val_main_v15, val_main_v14]
  rw [e]
  simp only [ref_v13]

end Ref

/-! ## The run -/

variable (m : (ℓ : Loc nD τ sig) → Buf (Elt Ideal) ℓ) (ρ : Dev nD → PrngReg)

/-- One store through the whole buffer leaves its payload, and whole-buffer loads read the buffers. -/
theorem out_eq {F : FTy → Type} [FloatOps F] (x0 : Vec F S1x256x256 .bf16) (x1 x2 : Vec F S1x256x256 .f32) :
    out0_3 (F := F) x0 x1 x2 = k0_pay1 (k0_pay2 x0 x1) (k0_pay3 x0 x1) x2 := by
  have hz : (![0, 0, 0] : Fin S1x256x256.rank → Nat) = fun _ => 0 := funext fun a => by fin_cases a <;> rfl
  unfold out0_3
  rw [View.canon_unit_zero hz, View.ld_unit_zero hz, View.ld_unit_zero hz, View.ld_unit_zero hz]

theorem V_v1 (c : Dev nD) (b : Fin 4) (t : Fin 4096) (x : Fin 256) :
    V m c main_v1 (ix3 b t x) = m ((c : Thread nD τ).loc main_arg0) (ix4 b t (hd x) (ln x)) := by
  unfold V
  after_reads_at

theorem V_v3 (c : Dev nD) (b : Fin 4) (x n : Fin 256) :
    V m c main_v3 (ix3 b x n) = m ((c : Thread nD τ).loc main_arg1) (ix4 b n (hd x) (ln x)) := by
  unfold V
  after_reads_at

theorem V_v5 (c : Dev nD) (b : Fin 4) (x n : Fin 256) :
    V m c main_v5 (ix3 b x n) = m ((c : Thread nD τ).loc main_arg2) (ix4 b n (hd x) (ln x)) := by
  unfold V
  after_reads_at

/-- The windows' blocks at point `t = 16·b + i`: tile `i` of batch `b` of the queries and of the result, batch `b` of keys and values. -/
theorem idx0 : ∀ t : Fin cfg0.N, (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0) := by decide +kernel

theorem blk0 (c : Dev nD) (p : Fin cfg0.N) (b : Fin 4) (t : Fin 4096) (i x : Fin 256) (hb : p.val / 16 = b.val) (ht : t.val = 256 * (p.val % 16) + i.val) :
    iblk m c 0 p (ix3 0 i x) = m ((c : Thread nD τ).loc main_arg0) (ix4 b t (hd x) (ln x)) := by
  refine Eq.trans ?_ (V_v1 m c b t x)
  show V m c main_v1 ((win0_0.rect p).emb (ix3 0 i x)) = _
  refine congrArg _ (funext fun a => Fin.ext ?_)
  rw [win0_0.rect_emb_val p (ix3 0 i x) a]
  obtain ⟨⟨h0, h1, h2⟩, -⟩ := idx0 p
  match a with
  | ⟨0, _⟩ => show win0_0.index p 0 * 1 + 0 = b.val; omega
  | ⟨1, _⟩ => show win0_0.index p 1 * 256 + i.val = t.val; omega
  | ⟨2, _⟩ => show win0_0.index p 2 * 256 + x.val = x.val; omega

theorem blk1 (c : Dev nD) (p : Fin cfg0.N) (b : Fin 4) (x n : Fin 256) (hb : p.val / 16 = b.val) :
    iblk m c 1 p (ix3 0 x n) = m ((c : Thread nD τ).loc main_arg1) (ix4 b n (hd x) (ln x)) := by
  refine Eq.trans ?_ (V_v3 m c b x n)
  show V m c main_v3 ((win0_1.rect p).emb (ix3 0 x n)) = _
  refine congrArg _ (funext fun a => Fin.ext ?_)
  rw [win0_1.rect_emb_val p (ix3 0 x n) a]
  obtain ⟨-, ⟨h0, h1, h2⟩, -⟩ := idx0 p
  match a with
  | ⟨0, _⟩ => show win0_1.index p 0 * 1 + 0 = b.val; omega
  | ⟨1, _⟩ => show win0_1.index p 1 * 256 + x.val = x.val; omega
  | ⟨2, _⟩ => show win0_1.index p 2 * 256 + n.val = n.val; omega

theorem blk2 (c : Dev nD) (p : Fin cfg0.N) (b : Fin 4) (x n : Fin 256) (hb : p.val / 16 = b.val) :
    iblk m c 2 p (ix3 0 x n) = m ((c : Thread nD τ).loc main_arg2) (ix4 b n (hd x) (ln x)) := by
  refine Eq.trans ?_ (V_v5 m c b x n)
  show V m c main_v5 ((win0_2.rect p).emb (ix3 0 x n)) = _
  refine congrArg _ (funext fun a => Fin.ext ?_)
  rw [win0_2.rect_emb_val p (ix3 0 x n) a]
  obtain ⟨-, -, ⟨h0, h1, h2⟩, -⟩ := idx0 p
  match a with
  | ⟨0, _⟩ => show win0_2.index p 0 * 1 + 0 = b.val; omega
  | ⟨1, _⟩ => show win0_2.index p 1 * 256 + x.val = x.val; omega
  | ⟨2, _⟩ => show win0_2.index p 2 * 256 + n.val = n.val; omega

/-- A head's lane, split back. -/
theorem lane_split (h : Fin 4) (d : Fin 64) :
    hd ⟨64 * h.val + d.val, by omega⟩ = h ∧ ln ⟨64 * h.val + d.val, by omega⟩ = d :=
  ⟨Fin.ext (by show (64 * h.val + d.val) / 64 = h.val; omega), Fin.ext (by show (64 * h.val + d.val) % 64 = d.val; omega)⟩

/-- The stacked scores of a grid point are the scores of its tokens. -/
theorem scores (c : Dev nD) (p : Fin cfg0.N) (b h : Fin 4) (t : Fin 4096) (i n : Fin 256) (r : Fin 1024)
    (hb : p.val / 16 = b.val) (ht : t.val = 256 * (p.val % 16) + i.val) (hr : r.val = 256 * h.val + i.val) :
    k0_pay2 (F := Ideal) (iblk m c 0 p) (iblk m c 1 p) (ix2 r n)
      = score (m ((c : Thread nD τ).loc main_arg0)) (m ((c : Thread nD τ).loc main_arg1)) b h t n := by
  refine (pay2_apply _ _ r h i n hr).trans (congrArg (fun a : EReal => a * scale) (Finset.sum_congr rfl fun d _ => ?_))
  have e0 := blk0 m c p b t i ⟨64 * h.val + d.val, by omega⟩ hb ht
  have e1 := blk1 m c p b ⟨64 * h.val + d.val, by omega⟩ n hb
  rw [(lane_split h d).1, (lane_split h d).2] at e0 e1
  exact congrArg₂ (fun a b : EReal => a * b) e0 e1

/-- The result array after the run, element by element. -/
theorem final (c : Dev nD) (b : Fin 4) (t : Fin 4096) (j : Fin 256) :
    (dats m 0 c).arrAt 3 cfg0.N (ix3 b t j)
      = Ideal.div (∑ n : Fin 256, weight (m ((c : Thread nD τ).loc main_arg0)) (m ((c : Thread nD τ).loc main_arg1)) b (hd j) t n
            * (m ((c : Thread nD τ).loc main_arg2) : FVec Ideal S4x256x4x64 .f32) (ix4 b n (hd j) (ln j)))
          (∑ n : Fin 256, weight (m ((c : Thread nD τ).loc main_arg0)) (m ((c : Thread nD τ).loc main_arg1)) b (hd j) t n) := by
  obtain ⟨p, hp⟩ : ∃ p : Fin cfg0.N, p.val = 16 * b.val + t.val / 256 :=
    ⟨⟨16 * b.val + t.val / 256, by show _ < 64; omega⟩, rfl⟩
  obtain ⟨i, hi⟩ : ∃ i : Fin 256, i.val = t.val % 256 := ⟨⟨t.val % 256, by omega⟩, rfl⟩
  obtain ⟨r, hr⟩ : ∃ r : Fin 1024, r.val = 256 * (j.val / 64) + i.val := ⟨⟨256 * (j.val / 64) + i.val, by omega⟩, rfl⟩
  have hb : p.val / 16 = b.val := by omega
  have ht : t.val = 256 * (p.val % 16) + i.val := by omega
  have e : ((cfg0.win 3).blk p).view.emb (ix3 (0 : Fin 1) i j) = ix3 b t j := by
    show (win0_3.rect p).emb (ix3 (0 : Fin 1) i j) = _
    refine funext fun a => Fin.ext ?_
    rw [win0_3.rect_emb_val p (ix3 0 i j) a]
    obtain ⟨-, -, -, h0, h1, h2⟩ := idx0 p
    match a with
    | ⟨0, _⟩ => show win0_3.index p 0 * 1 + 0 = b.val; omega
    | ⟨1, _⟩ => show win0_3.index p 1 * 256 + i.val = t.val; omega
    | ⟨2, _⟩ => show win0_3.index p 2 * 256 + j.val = j.val; omega
  have h := (dats m 0 c).arrAt_emb_eq_flushed 3 Value.disjoint3 p (flush0_3 p) (ix3 (0 : Fin 1) i j)
  rw [e] at h
  refine h.trans ((congrFun (Value.flushed3 m c p) (ix3 (0 : Fin 1) i j)).trans ?_)
  rw [out_eq]
  refine (pay1_apply (k0_pay2 (F := Ideal) (iblk m c 0 p) (iblk m c 1 p)) (k0_pay3 (F := Ideal) (iblk m c 0 p) (iblk m c 1 p)) (iblk m c 2 p) 0 i j r hr).trans ?_
  have es : ∀ n, k0_pay2 (F := Ideal) (iblk m c 0 p) (iblk m c 1 p) (ix2 r n)
      = score (m ((c : Thread nD τ).loc main_arg0)) (m ((c : Thread nD τ).loc main_arg1)) b (hd j) t n :=
    fun n => scores m c p b (hd j) t i n r hb ht hr
  have ew : ∀ n, Ideal.exp (k0_pay2 (F := Ideal) (iblk m c 0 p) (iblk m c 1 p) (ix2 r n) - k0_pay3 (F := Ideal) (iblk m c 0 p) (iblk m c 1 p) (ix2 r n))
      = weight (m ((c : Thread nD τ).loc main_arg0)) (m ((c : Thread nD τ).loc main_arg1)) b (hd j) t n := by
    intro n
    rw [pay3_apply, es]
    unfold weight
    exact congrArg (fun f => Ideal.exp (_ - Finset.univ.fold max ⊥ f)) (funext es)
  refine congrArg₂ Ideal.div (Finset.sum_congr rfl fun n _ => ?_) (Finset.sum_congr rfl fun n _ => ew n)
  exact congrArg₂ (fun a b : EReal => a * b) (ew n) (blk2 m c p b j n hb)

/-! ## The precondition -/

/-- `|x| < ⊤` says that `x` is real. -/
theorem real_of_abs_lt (x : EReal) (h : FloatOps.cmpf (F := Ideal) (φ := .f32) .olt (FloatOps.hostAbsf (F := Ideal) (φ := .f32) x) (Ideal.ofBits .f32 0x7F800000#32) = 1#1) :
    x ≠ ⊥ ∧ x ≠ ⊤ := by
  have h' : Ideal.cmp .olt (max x (-x)) ⊤ = 1#1 := by
    have e : Ideal.ofBits .f32 0x7F800000#32 = ⊤ := by simp [Ideal.ofBits, Ideal.ieee]
    rw [← e]; exact h
  constructor <;> rintro rfl <;> simp [Ideal.cmp] at h'

/-- Under the precondition every score is real. -/
theorem score_real [Cert.Pre_finite_scores.Facts] (q : FVec Ideal S4x4096x4x64 .f32) (k v : FVec Ideal S4x256x4x64 .f32)
    (hq : (Cert.Pre_finite_scores.fn (F := Ideal) q k v).1 = fun _ => 1#1) (hk : (Cert.Pre_finite_scores.fn (F := Ideal) q k v).2 = fun _ => 1#1)
    (b h : Fin 4) (t : Fin 4096) (n : Fin 256) : score q k b h t n ≠ ⊥ ∧ score q k b h t n ≠ ⊤ :=
  mul_real (sum_real _ _ fun d => mul_real (real_of_abs_lt _ (congrFun hq _)) (real_of_abs_lt _ (congrFun hk _))) scale_real

/-- The value claim. -/
theorem algebraic [Cert.Pre_finite_scores.Facts] : Cert.algebraic_MemoryIdeal_MemoryRefIdeal_pre_finite_scores := by
  intro m g m' g' hpre hagree
  refine ⟨fun c => (dats m 0 c).arrAt 3 cfg0.N, Value.run_blocks m g, ?_⟩
  refine (θ_run Cert.MemoryRefIdeal.defs _ _).mono (fun r h c => ?_) (Cert.MemoryRefIdeal.Value.run m' g')
  obtain ⟨h1, h2⟩ := h c
  refine ⟨?_, h2⟩
  rw [h1, (hagree c).1, (hagree c).2.1, (hagree c).2.2, Cert.MemoryRefIdeal.Read.val_main_v17_eq]
  refine funext fun (i : S4x4096x256.Idx) => ?_
  obtain ⟨b, t, j, rfl⟩ : ∃ (b : Fin 4) (t : Fin 4096) (j : Fin 256), i = ix3 b t j := ⟨i 0, i 1, i 2, eq_ix3 i⟩
  refine (ref_v17 _ _ _ b t j).trans (Eq.trans ?_ (final m c b t j).symm)
  have hs : ∀ n, score (m ((c : Thread nD τ).loc main_arg0)) (m ((c : Thread nD τ).loc main_arg1)) b (hd j) t n ≠ ⊥
      ∧ score (m ((c : Thread nD τ).loc main_arg0)) (m ((c : Thread nD τ).loc main_arg1)) b (hd j) t n ≠ ⊤ :=
    fun n => score_real _ _ _ (hpre c).1 (hpre c).2 b (hd j) t n
  exact (div_sum _ (fun n => (m ((c : Thread nD τ).loc main_arg2) : FVec Ideal S4x256x4x64 .f32) (ix4 b n (hd j) (ln j)))
    (fun n => exp_nonneg _) (sum_exp_ne_zero (by decide) _ (fun n => (hs n).1) fun n => (hs n).2)).symm

end Cert.Proof.Memory

end
-- ==== Proof.TailSpec.lean ====
/-
  Hand-written, untrusted. One row of the layer's tail as a function of that row and the weights, over the
  extended reals: output projection, residual, layer norm, squared-relu feed-forward, residual, layer norm.
-/
module

public import Idealize.ShloMosaic.PureOps.Ideal.Laws

@[expose] public section

noncomputable section

namespace Cert.Proof.TailSpec

open Idealize.ShloMosaic

/-- The residual's factor √2, the width 1024 and the layer norm's 1e-5, as both programs print them. -/
abbrev alpha : EReal := Ideal.ofBits .f32 0x3FB504F3#32
abbrev width : EReal := Ideal.ofBits .f32 0x44800000#32
abbrev eps : EReal := Ideal.ofBits .f32 0x3727C5AC#32

def mean (z : Fin 1024 → EReal) : EReal := Ideal.div (∑ k, z k) width

/-- Layer norm of a row. -/
def norm (z g b : Fin 1024 → EReal) (j : Fin 1024) : EReal :=
  (z j - mean z) * Ideal.rsqrt (Ideal.div (∑ k, (z k - mean z) * (z k - mean z)) width + eps) * g j + b j

/-- The first residual: the three attention outputs through their rows of the output projection. -/
def res1 (x : Fin 1024 → EReal) (oa : Fin 512 → EReal) (ob om : Fin 256 → EReal) (wo : Fin 1024 → Fin 1024 → EReal) (j : Fin 1024) : EReal :=
  alpha * x j + ((∑ k : Fin 512, oa k * wo ⟨k.val, by omega⟩ j) + (∑ k : Fin 256, ob k * wo ⟨512 + k.val, by omega⟩ j)
    + ∑ k : Fin 256, om k * wo ⟨768 + k.val, by omega⟩ j)

/-- A hidden unit: relu squared. -/
def hid (y : Fin 1024 → EReal) (w1 : Fin 1024 → Fin 4096 → EReal) (f : Fin 4096) : EReal :=
  max (∑ k, y k * w1 k f) 0 * max (∑ k, y k * w1 k f) 0

/-- The second residual. -/
def res2 (y : Fin 1024 → EReal) (w1 : Fin 1024 → Fin 4096 → EReal) (w2 : Fin 4096 → Fin 1024 → EReal) (j : Fin 1024) : EReal :=
  alpha * y j + ∑ f, hid y w1 f * w2 f j

/-- The row after the first layer norm, and the tail's whole row. -/
def mid (x : Fin 1024 → EReal) (oa : Fin 512 → EReal) (ob om : Fin 256 → EReal) (wo : Fin 1024 → Fin 1024 → EReal) (g1 b1 : Fin 1024 → EReal) :
    Fin 1024 → EReal := norm (res1 x oa ob om wo) g1 b1

def row (x : Fin 1024 → EReal) (oa : Fin 512 → EReal) (ob om : Fin 256 → EReal) (wo : Fin 1024 → Fin 1024 → EReal) (g1 b1 : Fin 1024 → EReal)
    (w1 : Fin 1024 → Fin 4096 → EReal) (w2 : Fin 4096 → Fin 1024 → EReal) (g2 b2 : Fin 1024 → EReal) : Fin 1024 → EReal :=
  norm (res2 (mid x oa ob om wo g1 b1) w1 w2) g2 b2

/-- A sum over 4096 in four runs of 1024, added in order from zero. -/
theorem sum_runs (f : Fin 4096 → EReal) :
    0 + (∑ k : Fin 1024, f ⟨k.val, by omega⟩) + (∑ k : Fin 1024, f ⟨1024 + k.val, by omega⟩) + (∑ k : Fin 1024, f ⟨2048 + k.val, by omega⟩)
      + (∑ k : Fin 1024, f ⟨3072 + k.val, by omega⟩) = ∑ k, f k := by
  rw [zero_add]
  have h := Fin.sum_univ_add (a := 3072) (b := 1024) f
  have h2 := Fin.sum_univ_add (a := 2048) (b := 1024) fun k : Fin 3072 => f (Fin.castAdd 1024 k)
  have h3 := Fin.sum_univ_add (a := 1024) (b := 1024) fun k : Fin 2048 => f (Fin.castAdd 1024 (Fin.castAdd 1024 k))
  exact (h.trans (congrArg (· + _) (h2.trans (congrArg (· + _) h3)))).symm

/-- A sum over 1024 in runs of 512, 256 and 256. -/
theorem sum_parts (f : Fin 1024 → EReal) :
    ∑ k, f k = (∑ k : Fin 512, f ⟨k.val, by omega⟩) + (∑ k : Fin 256, f ⟨512 + k.val, by omega⟩) + ∑ k : Fin 256, f ⟨768 + k.val, by omega⟩ := by
  have h := Fin.sum_univ_add (a := 768) (b := 256) f
  have h2 := Fin.sum_univ_add (a := 512) (b := 256) fun k : Fin 768 => f (Fin.castAdd 256 k)
  exact h.trans (congrArg (· + _) h2)

end Cert.Proof.TailSpec

end
-- ==== Proof.TailValue.lean ====
/-
  Hand-written, untrusted. The value of the layer's tail: after the run every row of the result array is the
  tail of that row (`TailSpec.row`) — the function the reference computes.
-/
module

public import proofs.«01_k».proof.Defs
public import proofs.«01_k».proof.Proof.TailSpec
public import proofs.«01_k».proof.Proof.Gen.TailIdeal.Value
public import proofs.«01_k».proof.Proof.Gen.TailRefIdeal.Read
public import Idealize.ShloMosaic.Lib.Pipeline.Value
public import Idealize.ShloMosaic.Lib.Pointwise
public import Idealize.ShloMosaic.Lib.StableHlo.ReadAt
public import Idealize.ShloMosaic.PureOps.Ideal.Laws

@[expose] public section

noncomputable section

namespace Cert.Proof.Tail

open Idealize.ShloMosaic Idealize.SL.Sem Idealize.ShloMosaic.TcCoe
open Cert.TailIdeal Cert.TailIdeal.Gen Cert.Proof.TailSpec
open Idealize.ShloMosaic.Pipeline (Dat Cfg Window)

/-! ## The kernel's payloads at an index -/

/-- The first residual at a row of the blocks. -/
abbrev z1 (v0 : Vec Ideal S512x512 .bf16) (v2 : Vec Ideal S512x1024 .bf16) (v5 : Vec Ideal S512x256 .bf16) (v7 : Vec Ideal S256x1024 .bf16)
    (v11 : Vec Ideal S512x256 .bf16) (v13 : Vec Ideal S256x1024 .bf16) (v17 : Vec Ideal S512x1024 .f32) (r : Fin 512) (j : Fin 1024) : EReal :=
  alpha * v17 (ix2 r j) + ((∑ k : Fin 512, v0 (ix2 r k) * v2 (ix2 k j)) + (∑ k : Fin 256, v5 (ix2 r k) * v7 (ix2 k j)) + ∑ k : Fin 256, v11 (ix2 r k) * v13 (ix2 k j))

theorem pay4_apply (v0 : Vec Ideal S512x512 .bf16) (v2 : Vec Ideal S512x1024 .bf16) (v5 : Vec Ideal S512x256 .bf16) (v7 : Vec Ideal S256x1024 .bf16)
    (v11 : Vec Ideal S512x256 .bf16) (v13 : Vec Ideal S256x1024 .bf16) (v17 : Vec Ideal S512x1024 .f32) (r : Fin 512) (j : Fin 1024) :
    k0_pay4 (F := Ideal) v0 v2 v5 v7 v11 v13 v17 (ix2 r j) = z1 v0 v2 v5 v7 v11 v13 v17 r j - mean (z1 v0 v2 v5 v7 v11 v13 v17 r) := by
  pointwise [k0_pay4, mean, z1]

theorem pay5_apply (v0 : Vec Ideal S512x512 .bf16) (v2 : Vec Ideal S512x1024 .bf16) (v5 : Vec Ideal S512x256 .bf16) (v7 : Vec Ideal S256x1024 .bf16)
    (v11 : Vec Ideal S512x256 .bf16) (v13 : Vec Ideal S256x1024 .bf16) (v17 : Vec Ideal S512x1024 .f32) (r : Fin 512) :
    k0_pay5 (F := Ideal) v0 v2 v5 v7 v11 v13 v17 (ix1 r)
      = ∑ k : Fin 1024, k0_pay4 (F := Ideal) v0 v2 v5 v7 v11 v13 v17 (ix2 r k) * k0_pay4 (F := Ideal) v0 v2 v5 v7 v11 v13 v17 (ix2 r k) := by
  pointwise [k0_pay5]

theorem pay6_apply (v23 v25 : FVec Ideal S1x1024 .f32) (v31 : FVec Ideal S512x1024 .f32) (v33 : FVec Ideal S512 .f32) (r : Fin 512) (j : Fin 1024) :
    k0_pay6 (F := Ideal) v23 v25 v31 v33 (ix2 r j)
      = v31 (ix2 r j) * Ideal.rsqrt (Ideal.div (v33 (ix1 r)) width + eps) * v23 (ix2 0 j) + v25 (ix2 0 j) := by
  pointwise [k0_pay6, width, eps]

theorem pay7_apply (v23 v25 : FVec Ideal S1x1024 .f32) (v31 : FVec Ideal S512x1024 .f32) (v33 : FVec Ideal S512 .f32) (r : Fin 512) (j : Fin 1024) :
    k0_pay7 (F := Ideal) v23 v25 v31 v33 (ix2 r j) = k0_pay6 (F := Ideal) v23 v25 v31 v33 (ix2 r j) := by
  pointwise [k0_pay7]

/-- One run of 1024 hidden units of a row. -/
abbrev run (y : Fin 1024 → EReal) (w1 w2 : Vec Ideal S1024x1024 .bf16) (j : Fin 1024) : EReal :=
  ∑ f : Fin 1024, max (∑ k : Fin 1024, y k * w1 (ix2 k f)) 0 * max (∑ k : Fin 1024, y k * w1 (ix2 k f)) 0 * w2 (ix2 f j)

theorem pay8_apply (v23 v25 : FVec Ideal S1x1024 .f32) (v31 : FVec Ideal S512x1024 .f32) (v33 : FVec Ideal S512 .f32)
    (v48 v54 v59 v65 : Vec Ideal S1024x1024 .bf16) (r : Fin 512) (j : Fin 1024) :
    k0_pay8 (F := Ideal) v23 v25 v31 v33 v48 v54 v59 v65 (ix2 r j)
      = 0 + run (fun k => k0_pay7 (F := Ideal) v23 v25 v31 v33 (ix2 r k)) v48 v54 j + run (fun k => k0_pay7 (F := Ideal) v23 v25 v31 v33 (ix2 r k)) v59 v65 j := by
  pointwise [k0_pay8, run]

theorem pay9_apply (v23 v25 : FVec Ideal S1x1024 .f32) (v31 : FVec Ideal S512x1024 .f32) (v33 : FVec Ideal S512 .f32)
    (v70 : Vec Ideal S1024x1024 .bf16) (r : Fin 512) (j : Fin 1024) :
    k0_pay9 (F := Ideal) v23 v25 v31 v33 v70 (ix2 r j) = ∑ k : Fin 1024, k0_pay7 (F := Ideal) v23 v25 v31 v33 (ix2 r k) * v70 (ix2 k j) := by
  pointwise [k0_pay9]

/-- The second residual at a row, from the first two runs' sum and the third run's hidden units. -/
abbrev z2 (v45 : FVec Ideal S512x1024 .f32) (v46 : FVec Ideal S512x1024 .bf16) (v69 v72 : FVec Ideal S512x1024 .f32)
    (v76 v81 v87 : Vec Ideal S1024x1024 .bf16) (r : Fin 512) (j : Fin 1024) : EReal :=
  alpha * v45 (ix2 r j) + (v69 (ix2 r j) + (∑ f : Fin 1024, max (v72 (ix2 r f)) 0 * max (v72 (ix2 r f)) 0 * v76 (ix2 f j))
    + run (fun k => v46 (ix2 r k)) v81 v87 j)

theorem pay12_apply (v45 : FVec Ideal S512x1024 .f32) (v46 : FVec Ideal S512x1024 .bf16) (v69 v72 : FVec Ideal S512x1024 .f32)
    (v76 v81 v87 : Vec Ideal S1024x1024 .bf16) (r : Fin 512) (j : Fin 1024) :
    k0_pay12 (F := Ideal) v45 v46 v69 v72 (Scalar.ofBits .f32 0x00000000#32) v76 v81 v87 (ix2 r j)
      = z2 v45 v46 v69 v72 v76 v81 v87 r j - mean (z2 v45 v46 v69 v72 v76 v81 v87 r) := by
  pointwise [k0_pay12, mean, z2, run]

theorem pay13_apply (v45 : FVec Ideal S512x1024 .f32) (v46 : FVec Ideal S512x1024 .bf16) (v69 v72 : FVec Ideal S512x1024 .f32) (c : Ideal .f32)
    (v76 v81 v87 : Vec Ideal S1024x1024 .bf16) (r : Fin 512) :
    k0_pay13 (F := Ideal) v45 v46 v69 v72 c v76 v81 v87 (ix2 r 0)
      = Ideal.rsqrt (Ideal.div (∑ k : Fin 1024, k0_pay12 (F := Ideal) v45 v46 v69 v72 c v76 v81 v87 (ix2 r k) * k0_pay12 (F := Ideal) v45 v46 v69 v72 c v76 v81 v87 (ix2 r k)) width + eps) := by
  pointwise [k0_pay13, width, eps]

theorem pay1_apply (v96 v98 : FVec Ideal S1x1024 .f32) (v104 : FVec Ideal S512x1024 .f32) (v112 : FVec Ideal S512x1 .f32) (r : Fin 512) (j : Fin 1024) :
    k0_pay1 (F := Ideal) v96 v98 v104 v112 (ix2 r j) = v104 (ix2 r j) * v112 (ix2 r 0) * v96 (ix2 0 j) + v98 (ix2 0 j) := by
  pointwise [k0_pay1]

theorem pay_gain (v : Vec Ideal S1x1024 .f32) (j : Fin 1024) : k0_pay2 (F := Ideal) v (ix2 0 j) = v (ix2 0 j) ∧ k0_pay3 (F := Ideal) v (ix2 0 j) = v (ix2 0 j)
    ∧ k0_pay10 (F := Ideal) v (ix2 0 j) = v (ix2 0 j) ∧ k0_pay11 (F := Ideal) v (ix2 0 j) = v (ix2 0 j) := by
  refine ⟨?_, ?_, ?_, ?_⟩
  · pointwise [k0_pay2]
  · pointwise [k0_pay3]
  · pointwise [k0_pay10]
  · pointwise [k0_pay11]

section Out
variable (x0 : Vec Ideal S512x1024 .f32) (x1 : Vec Ideal S512x512 .bf16) (x2 x3 : Vec Ideal S512x256 .bf16) (x4 : Vec Ideal S1024x1024 .bf16)
  (x5 x6 : Vec Ideal S1x1024 .f32) (x7 : Vec Ideal S1024x4096 .bf16) (x8 : Vec Ideal S4096x1024 .bf16) (x9 x10 : Vec Ideal S1x1024 .f32)

/-- The blocks' row `r` after the first layer norm. -/
abbrev blkMid (r : Fin 512) : Fin 1024 → EReal :=
  mid (fun k => x0 (ix2 r k)) (fun k => x1 (ix2 r k)) (fun k => x2 (ix2 r k)) (fun k => x3 (ix2 r k)) (fun k j => x4 (ix2 k j))
    (fun k => x5 (ix2 0 k)) (fun k => x6 (ix2 0 k))

theorem z1_eq (r : Fin 512) (j : Fin 1024) :
    z1 (View.ld x1 r0_0) (View.ld x4 r0_1) (View.ld x2 r0_2) (View.ld x4 r0_3) (View.ld x3 r0_2) (View.ld x4 r0_4) (View.ld x0 r0_5) r j
      = res1 (fun k => x0 (ix2 r k)) (fun k => x1 (ix2 r k)) (fun k => x2 (ix2 r k)) (fun k => x3 (ix2 r k)) (fun k j => x4 (ix2 k j)) j := by
  pointwise [z1, res1]

theorem gain_read (v : Vec Ideal S1x1024 .f32) (j : Fin 1024) : (View.ld v r0_6 : Vec Ideal S1x1024 .f32) (ix2 0 j) = v (ix2 0 j) := by
  pointwise

theorem pay18_apply (r : Fin 512) (j : Fin 1024) : k0_pay18 (F := Ideal) x0 x1 x2 x3 x4 x5 x6 x7 x8 x9 x10 (ix2 r j) = blkMid x0 x1 x2 x3 x4 x5 x6 r j := by
  unfold k0_pay18 k0_pay14 k0_pay15 k0_pay16 k0_pay17
  rw [pay6_apply, pay5_apply]
  have hz := funext (z1_eq x0 x1 x2 x3 x4 r)
  simp only [pay4_apply, (pay_gain _ _).1, (pay_gain _ _).2.1]
  rw [hz, gain_read, gain_read]
  rfl

theorem pay19_apply (r : Fin 512) (j : Fin 1024) : k0_pay19 (F := Ideal) x0 x1 x2 x3 x4 x5 x6 x7 x8 x9 x10 (ix2 r j) = blkMid x0 x1 x2 x3 x4 x5 x6 r j :=
  (pay7_apply _ _ _ _ r j).trans (pay18_apply x0 x1 x2 x3 x4 x5 x6 x7 x8 x9 x10 r j)

/-- The four runs of hidden units, each from its columns of the first weight and its rows of the second. -/
theorem runs (y : Fin 1024 → EReal) (j : Fin 1024) :
    (run y (View.ld x7 r0_7) (View.ld x8 r0_8) j = ∑ f : Fin 1024, hid y (fun k f => x7 (ix2 k f)) ⟨f.val, by omega⟩ * x8 (ix2 ⟨f.val, by omega⟩ j))
    ∧ (run y (View.ld x7 r0_9) (View.ld x8 r0_10) j = ∑ f : Fin 1024, hid y (fun k f => x7 (ix2 k f)) ⟨1024 + f.val, by omega⟩ * x8 (ix2 ⟨1024 + f.val, by omega⟩ j))
    ∧ (run y (View.ld x7 r0_11) (View.ld x8 r0_12) j = ∑ f : Fin 1024, hid y (fun k f => x7 (ix2 k f)) ⟨2048 + f.val, by omega⟩ * x8 (ix2 ⟨2048 + f.val, by omega⟩ j))
    ∧ (run y (View.ld x7 r0_13) (View.ld x8 r0_14) j = ∑ f : Fin 1024, hid y (fun k f => x7 (ix2 k f)) ⟨3072 + f.val, by omega⟩ * x8 (ix2 ⟨3072 + f.val, by omega⟩ j)) := by
  refine ⟨?_, ?_, ?_, ?_⟩
  · pointwise [run, hid]
  · pointwise [run, hid]
  · pointwise [run, hid]
  · pointwise [run, hid]

/-- The second residual of the blocks' row. -/
abbrev z2out (r : Fin 512) : Fin 1024 → EReal :=
  z2 (k0_pay18 (F := Ideal) x0 x1 x2 x3 x4 x5 x6 x7 x8 x9 x10) (k0_pay19 (F := Ideal) x0 x1 x2 x3 x4 x5 x6 x7 x8 x9 x10)
    (k0_pay20 (F := Ideal) x0 x1 x2 x3 x4 x5 x6 x7 x8 x9 x10) (k0_pay21 (F := Ideal) x0 x1 x2 x3 x4 x5 x6 x7 x8 x9 x10)
    (View.ld x8 r0_12) (View.ld x7 r0_13) (View.ld x8 r0_14) r

theorem z2_eq (r : Fin 512) (j : Fin 1024) :
    z2out x0 x1 x2 x3 x4 x5 x6 x7 x8 x9 x10 r j
      = res2 (blkMid x0 x1 x2 x3 x4 x5 x6 r) (fun k f => x7 (ix2 k f)) (fun f j => x8 (ix2 f j)) j := by
  have e19 := funext fun k => pay19_apply x0 x1 x2 x3 x4 x5 x6 x7 x8 x9 x10 r k
  have e20 : k0_pay20 (F := Ideal) x0 x1 x2 x3 x4 x5 x6 x7 x8 x9 x10 (ix2 r j)
      = 0 + run (blkMid x0 x1 x2 x3 x4 x5 x6 r) (View.ld x7 r0_7) (View.ld x8 r0_8) j + run (blkMid x0 x1 x2 x3 x4 x5 x6 r) (View.ld x7 r0_9) (View.ld x8 r0_10) j := by
    rw [← e19]
    exact pay8_apply _ _ _ _ _ _ _ _ r j
  have e21 : ∀ f, k0_pay21 (F := Ideal) x0 x1 x2 x3 x4 x5 x6 x7 x8 x9 x10 (ix2 r f)
      = ∑ k : Fin 1024, blkMid x0 x1 x2 x3 x4 x5 x6 r k * (View.ld x7 r0_11 : Vec Ideal S1024x1024 .bf16) (ix2 k f) := by
    intro f
    rw [← e19]
    exact pay9_apply _ _ _ _ _ r f
  obtain ⟨h0, h1, h2, h3⟩ := runs x7 x8 (blkMid x0 x1 x2 x3 x4 x5 x6 r) j
  show alpha * _ + (_ + _ + _) = alpha * _ + _
  refine congrArg₂ (· + ·) (congrArg (alpha * ·) (pay18_apply x0 x1 x2 x3 x4 x5 x6 x7 x8 x9 x10 r j)) ?_
  rw [e20, h0, h1, e19, h3]
  simp only [e21]
  refine Eq.trans ?_ (sum_runs fun f => hid (blkMid x0 x1 x2 x3 x4 x5 x6 r) (fun k f => x7 (ix2 k f)) f * x8 (ix2 f j))
  exact congrArg (_ + · + _) h2

theorem out_row (r : Fin 512) (j : Fin 1024) : out0_11 (F := Ideal) x0 x1 x2 x3 x4 x5 x6 x7 x8 x9 x10 (ix2 r j)
    = row (fun k => x0 (ix2 r k)) (fun k => x1 (ix2 r k)) (fun k => x2 (ix2 r k)) (fun k => x3 (ix2 r k)) (fun k j => x4 (ix2 k j))
        (fun k => x5 (ix2 0 k)) (fun k => x6 (ix2 0 k)) (fun k f => x7 (ix2 k f)) (fun f j => x8 (ix2 f j)) (fun k => x9 (ix2 0 k)) (fun k => x10 (ix2 0 k)) j := by
  have hz : (![0, 0] : Fin S512x1024.rank → Nat) = fun _ => 0 := funext fun a => by fin_cases a <;> rfl
  unfold out0_11
  rw [View.canon_unit_zero hz, pay1_apply, pay13_apply, (pay_gain _ _).2.2.1, (pay_gain _ _).2.2.2, gain_read, gain_read]
  have h2 := funext (z2_eq x0 x1 x2 x3 x4 x5 x6 x7 x8 x9 x10 r)
  simp only [pay12_apply]
  unfold z2out at h2
  rw [h2]
  rfl

end Out

section Ref
open Cert.TailRefIdeal.Read
variable (x0 : FVec Ideal Cert.TailRefIdeal.S4x4096x1024 .f32) (x1 : FVec Ideal Cert.TailRefIdeal.S4x4096x8x64 .f32) (x2 x3 : FVec Ideal Cert.TailRefIdeal.S4x4096x4x64 .f32)
  (x4 : FVec Ideal Cert.TailRefIdeal.S1024x1024 .f32) (x5 x6 : FVec Ideal Cert.TailRefIdeal.S1024 .f32) (x7 : FVec Ideal Cert.TailRefIdeal.S1024x4096 .f32)
  (x8 : FVec Ideal Cert.TailRefIdeal.S4096x1024 .f32) (x9 x10 : FVec Ideal Cert.TailRefIdeal.S1024 .f32)

theorem ref_cat (b : Fin 4) (t : Fin 4096) :
    (∀ k : Fin 512, val_main_v3 (F := Ideal) x1 x2 x3 (ix3 b t ⟨k.val, by omega⟩) = x1 (ix4 b t ⟨k.val / 64, by omega⟩ ⟨k.val % 64, by omega⟩))
    ∧ (∀ k : Fin 256, val_main_v3 (F := Ideal) x1 x2 x3 (ix3 b t ⟨512 + k.val, by omega⟩) = x2 (ix4 b t ⟨k.val / 64, by omega⟩ ⟨k.val % 64, by omega⟩))
    ∧ (∀ k : Fin 256, val_main_v3 (F := Ideal) x1 x2 x3 (ix3 b t ⟨768 + k.val, by omega⟩) = x3 (ix4 b t ⟨k.val / 64, by omega⟩ ⟨k.val % 64, by omega⟩)) := by
  refine ⟨fun k => ?_, fun k => ?_, fun k => ?_⟩
  · pointwise [val_main_v3, val_main_v0, val_main_v1, val_main_v2]
  · pointwise [val_main_v3, val_main_v0, val_main_v1, val_main_v2]
  · pointwise [val_main_v3, val_main_v0, val_main_v1, val_main_v2]
    have e : 768 + k.val - 512 - 256 = k.val := by omega
    rw [dif_neg (by omega), dif_neg (by omega)]
    simp only [e]

theorem ref_v7 (b : Fin 4) (t : Fin 4096) (j : Fin 1024) : val_main_v7 (F := Ideal) x0 x1 x2 x3 x4 (ix3 b t j)
    = alpha * x0 (ix3 b t j) + ∑ k : Fin 1024, val_main_v3 (F := Ideal) x1 x2 x3 (ix3 b t k) * x4 (ix2 k j) := by
  pointwise [val_main_v7, val_main_v6, val_main_v5, val_main_v4, val_main_cst]

theorem ref_v13 (b : Fin 4) (t : Fin 4096) (j : Fin 1024) : val_main_v13 (F := Ideal) x0 x1 x2 x3 x4 (ix3 b t j)
    = val_main_v7 (F := Ideal) x0 x1 x2 x3 x4 (ix3 b t j) - mean (fun k => val_main_v7 (F := Ideal) x0 x1 x2 x3 x4 (ix3 b t k)) := by
  pointwise [val_main_v13, val_main_v12, val_main_v11, val_main_v10, val_main_v9, val_main_v8, val_main_cst_1, val_main_cst_0, mean]

theorem ref_v31 (b : Fin 4) (t : Fin 4096) (j : Fin 1024) : val_main_v31 (F := Ideal) x0 x1 x2 x3 x4 x5 x6 (ix3 b t j)
    = norm (fun k => val_main_v7 (F := Ideal) x0 x1 x2 x3 x4 (ix3 b t k)) (fun k => x5 (ix1 k)) (fun k => x6 (ix1 k)) j := by
  have h20 : val_main_v20 (F := Ideal) x0 x1 x2 x3 x4 = val_main_v13 (F := Ideal) x0 x1 x2 x3 x4 := rfl
  have h18 : val_main_v18 (F := Ideal) x0 x1 x2 x3 x4 (ix3 b t 0)
      = Ideal.div (∑ k : Fin 1024, val_main_v13 (F := Ideal) x0 x1 x2 x3 x4 (ix3 b t k) * val_main_v13 (F := Ideal) x0 x1 x2 x3 x4 (ix3 b t k)) width := by
    pointwise [val_main_v18, val_main_v17, val_main_v16, val_main_v15, val_main_v14, val_main_cst_3, val_main_cst_2, width]
  have h : val_main_v31 (F := Ideal) x0 x1 x2 x3 x4 x5 x6 (ix3 b t j)
      = val_main_v20 (F := Ideal) x0 x1 x2 x3 x4 (ix3 b t j) * Ideal.rsqrt (val_main_v18 (F := Ideal) x0 x1 x2 x3 x4 (ix3 b t 0) + eps) * x5 (ix1 j) + x6 (ix1 j) := by
    pointwise [val_main_v31, val_main_v30, val_main_v29, val_main_v28, val_main_v27, val_main_v26, val_main_v25, val_main_v24, val_main_v23, val_main_v22, val_main_v21, val_main_cst_4, eps]
  rw [h, h20, h18]
  simp only [ref_v13]
  rfl

theorem ref_v38 (b : Fin 4) (t : Fin 4096) (j : Fin 1024) : val_main_v38 (F := Ideal) x0 x1 x2 x3 x4 x5 x6 x7 x8 (ix3 b t j)
    = res2 (fun k => val_main_v31 (F := Ideal) x0 x1 x2 x3 x4 x5 x6 (ix3 b t k)) (fun k f => x7 (ix2 k f)) (fun f j => x8 (ix2 f j)) j := by
  have h34 (f : Fin 4096) : val_main_v34 (F := Ideal) x0 x1 x2 x3 x4 x5 x6 x7 (ix3 b t f)
      = hid (fun k => val_main_v31 (F := Ideal) x0 x1 x2 x3 x4 x5 x6 (ix3 b t k)) (fun k f => x7 (ix2 k f)) f := by
    pointwise [val_main_v34, val_main_v33, val_main_call0_v0, val_main_call0_cst, val_main_v32, hid]
  have h : val_main_v38 (F := Ideal) x0 x1 x2 x3 x4 x5 x6 x7 x8 (ix3 b t j)
      = alpha * val_main_v31 (F := Ideal) x0 x1 x2 x3 x4 x5 x6 (ix3 b t j) + ∑ f : Fin 4096, val_main_v34 (F := Ideal) x0 x1 x2 x3 x4 x5 x6 x7 (ix3 b t f) * x8 (ix2 f j) := by
    pointwise [val_main_v38, val_main_v37, val_main_v36, val_main_v35, val_main_cst_5, alpha]
  rw [h]
  simp only [h34]
  rfl

theorem ref_v44 (b : Fin 4) (t : Fin 4096) (j : Fin 1024) : val_main_v44 (F := Ideal) x0 x1 x2 x3 x4 x5 x6 x7 x8 (ix3 b t j)
    = val_main_v38 (F := Ideal) x0 x1 x2 x3 x4 x5 x6 x7 x8 (ix3 b t j) - mean (fun k => val_main_v38 (F := Ideal) x0 x1 x2 x3 x4 x5 x6 x7 x8 (ix3 b t k)) := by
  pointwise [val_main_v44, val_main_v43, val_main_v42, val_main_v41, val_main_v40, val_main_v39, val_main_cst_7, val_main_cst_6, mean]

theorem ref_v62 (b : Fin 4) (t : Fin 4096) (j : Fin 1024) : val_main_v62 (F := Ideal) x0 x1 x2 x3 x4 x5 x6 x7 x8 x9 x10 (ix3 b t j)
    = norm (fun k => val_main_v38 (F := Ideal) x0 x1 x2 x3 x4 x5 x6 x7 x8 (ix3 b t k)) (fun k => x9 (ix1 k)) (fun k => x10 (ix1 k)) j := by
  have h51 : val_main_v51 (F := Ideal) x0 x1 x2 x3 x4 x5 x6 x7 x8 = val_main_v44 (F := Ideal) x0 x1 x2 x3 x4 x5 x6 x7 x8 := rfl
  have h49 : val_main_v49 (F := Ideal) x0 x1 x2 x3 x4 x5 x6 x7 x8 (ix3 b t 0)
      = Ideal.div (∑ k : Fin 1024, val_main_v44 (F := Ideal) x0 x1 x2 x3 x4 x5 x6 x7 x8 (ix3 b t k) * val_main_v44 (F := Ideal) x0 x1 x2 x3 x4 x5 x6 x7 x8 (ix3 b t k)) width := by
    pointwise [val_main_v49, val_main_v48, val_main_v47, val_main_v46, val_main_v45, val_main_cst_9, val_main_cst_8, width]
  have h : val_main_v62 (F := Ideal) x0 x1 x2 x3 x4 x5 x6 x7 x8 x9 x10 (ix3 b t j)
      = val_main_v51 (F := Ideal) x0 x1 x2 x3 x4 x5 x6 x7 x8 (ix3 b t j)
          * Ideal.rsqrt (val_main_v49 (F := Ideal) x0 x1 x2 x3 x4 x5 x6 x7 x8 (ix3 b t 0) + eps) * x9 (ix1 j) + x10 (ix1 j) := by
    pointwise [val_main_v62, val_main_v61, val_main_v60, val_main_v59, val_main_v58, val_main_v57, val_main_v56, val_main_v55, val_main_v54, val_main_v53, val_main_v52, val_main_cst_10, eps]
  rw [h, h51, h49]
  simp only [ref_v44]
  rfl

/-- The tail of one token, from the arguments. -/
def spec (b : Fin 4) (t : Fin 4096) : Fin 1024 → EReal :=
  row (fun k => x0 (ix3 b t k)) (fun k => x1 (ix4 b t ⟨k.val / 64, by omega⟩ ⟨k.val % 64, by omega⟩))
    (fun k => x2 (ix4 b t ⟨k.val / 64, by omega⟩ ⟨k.val % 64, by omega⟩)) (fun k => x3 (ix4 b t ⟨k.val / 64, by omega⟩ ⟨k.val % 64, by omega⟩))
    (fun k j => x4 (ix2 k j)) (fun k => x5 (ix1 k)) (fun k => x6 (ix1 k)) (fun k f => x7 (ix2 k f)) (fun f j => x8 (ix2 f j))
    (fun k => x9 (ix1 k)) (fun k => x10 (ix1 k))

theorem ref_eq (i : Fin 16384) (j : Fin 1024) : val_main_v63 (F := Ideal) x0 x1 x2 x3 x4 x5 x6 x7 x8 x9 x10 (ix2 i j)
    = spec x0 x1 x2 x3 x4 x5 x6 x7 x8 x9 x10 ⟨i.val / 4096, by omega⟩ ⟨i.val % 4096, by omega⟩ j := by
  have h63 : val_main_v63 (F := Ideal) x0 x1 x2 x3 x4 x5 x6 x7 x8 x9 x10 (ix2 i j)
      = val_main_v62 (F := Ideal) x0 x1 x2 x3 x4 x5 x6 x7 x8 x9 x10 (ix3 ⟨i.val / 4096, by omega⟩ ⟨i.val % 4096, by omega⟩ j) := by
    pointwise [val_main_v63]
  have h7 (b : Fin 4) (t : Fin 4096) : (fun k => val_main_v7 (F := Ideal) x0 x1 x2 x3 x4 (ix3 b t k))
      = res1 (fun k => x0 (ix3 b t k)) (fun k => x1 (ix4 b t ⟨k.val / 64, by omega⟩ ⟨k.val % 64, by omega⟩))
        (fun k => x2 (ix4 b t ⟨k.val / 64, by omega⟩ ⟨k.val % 64, by omega⟩)) (fun k => x3 (ix4 b t ⟨k.val / 64, by omega⟩ ⟨k.val % 64, by omega⟩))
        (fun k j => x4 (ix2 k j)) := by
    funext j
    rw [ref_v7, sum_parts]
    simp only [(ref_cat x1 x2 x3 b t).1, (ref_cat x1 x2 x3 b t).2.1, (ref_cat x1 x2 x3 b t).2.2]
    rfl
  rw [h63, ref_v62]
  simp only [ref_v38, ref_v31, h7]
  rfl

end Ref

variable (m : (ℓ : Loc nD τ sig) → Buf (Elt Ideal) ℓ)

/-! ## The blocks the launch reads -/

theorem V_v0 (c : Dev nD) (r : Fin 16384) (j : Fin 1024) :
    V m c main_v0 (ix2 r j) = m ((c : Thread nD τ).loc main_arg0) (ix3 ⟨r.val / 4096, by omega⟩ ⟨r.val % 4096, by omega⟩ j) := by
  unfold V
  after_reads_at

theorem V_v2 (c : Dev nD) (r : Fin 16384) (j : Fin 512) :
    V m c main_v2 (ix2 r j) = m ((c : Thread nD τ).loc main_arg1)
      (ix4 ⟨r.val / 4096, by omega⟩ ⟨r.val % 4096, by omega⟩ ⟨j.val / 64, by omega⟩ ⟨j.val % 64, by omega⟩) := by
  unfold V
  after_reads_at

theorem V_v4 (c : Dev nD) (r : Fin 16384) (j : Fin 256) :
    V m c main_v4 (ix2 r j) = m ((c : Thread nD τ).loc main_arg2)
      (ix4 ⟨r.val / 4096, by omega⟩ ⟨r.val % 4096, by omega⟩ ⟨j.val / 64, by omega⟩ ⟨j.val % 64, by omega⟩) := by
  unfold V
  after_reads_at

theorem V_v6 (c : Dev nD) (r : Fin 16384) (j : Fin 256) :
    V m c main_v6 (ix2 r j) = m ((c : Thread nD τ).loc main_arg3)
      (ix4 ⟨r.val / 4096, by omega⟩ ⟨r.val % 4096, by omega⟩ ⟨j.val / 64, by omega⟩ ⟨j.val % 64, by omega⟩) := by
  unfold V
  after_reads_at

theorem V_v7 (c : Dev nD) (k j : Fin 1024) : V m c main_v7 (ix2 k j) = m ((c : Thread nD τ).loc main_arg4) (ix2 k j) := by
  unfold V
  after_reads_at

theorem V_v8 (c : Dev nD) (j : Fin 1024) : V m c main_v8 (ix2 0 j) = m ((c : Thread nD τ).loc main_arg5) (ix1 j) := by
  unfold V
  after_reads_at

theorem V_v9 (c : Dev nD) (j : Fin 1024) : V m c main_v9 (ix2 0 j) = m ((c : Thread nD τ).loc main_arg6) (ix1 j) := by
  unfold V
  after_reads_at

theorem V_v10 (c : Dev nD) (k : Fin 1024) (f : Fin 4096) : V m c main_v10 (ix2 k f) = m ((c : Thread nD τ).loc main_arg7) (ix2 k f) := by
  unfold V
  after_reads_at

theorem V_v11 (c : Dev nD) (f : Fin 4096) (j : Fin 1024) : V m c main_v11 (ix2 f j) = m ((c : Thread nD τ).loc main_arg8) (ix2 f j) := by
  unfold V
  after_reads_at

theorem V_v12 (c : Dev nD) (j : Fin 1024) : V m c main_v12 (ix2 0 j) = m ((c : Thread nD τ).loc main_arg9) (ix1 j) := by
  unfold V
  after_reads_at

theorem V_v13 (c : Dev nD) (j : Fin 1024) : V m c main_v13 (ix2 0 j) = m ((c : Thread nD τ).loc main_arg10) (ix1 j) := by
  unfold V
  after_reads_at

/-- Row tile `t` of the tokens' windows; the weights' windows stay. -/
theorem idx0 : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = t.val ∧ win0_11.index t 1 = 0) := by decide +kernel

theorem blk0 (c : Dev nD) (p : Fin cfg0.N) (q : Fin 16384) (r : Fin 512) (j : Fin 1024) (hq : q.val = 512 * p.val + r.val) :
    iblk m c 0 p (ix2 r j) = V m c main_v0 (ix2 q j) := by
  show V m c main_v0 ((win0_0.rect p).emb (ix2 r j)) = _
  refine congrArg _ (funext fun a => Fin.ext ?_)
  rw [win0_0.rect_emb_val p (ix2 r j) a]
  obtain ⟨h0, h1⟩ := (idx0 p).1
  match a with
  | ⟨0, _⟩ => show win0_0.index p 0 * 512 + r.val = q.val; omega
  | ⟨1, _⟩ => show win0_0.index p 1 * 1024 + j.val = j.val; omega

theorem blk1 (c : Dev nD) (p : Fin cfg0.N) (q : Fin 16384) (r : Fin 512) (j : Fin 512) (hq : q.val = 512 * p.val + r.val) :
    iblk m c 1 p (ix2 r j) = V m c main_v2 (ix2 q j) := by
  show V m c main_v2 ((win0_1.rect p).emb (ix2 r j)) = _
  refine congrArg _ (funext fun a => Fin.ext ?_)
  rw [win0_1.rect_emb_val p (ix2 r j) a]
  obtain ⟨h0, h1⟩ := (idx0 p).2.1
  match a with
  | ⟨0, _⟩ => show win0_1.index p 0 * 512 + r.val = q.val; omega
  | ⟨1, _⟩ => show win0_1.index p 1 * 512 + j.val = j.val; omega

theorem blk2 (c : Dev nD) (p : Fin cfg0.N) (q : Fin 16384) (r : Fin 512) (j : Fin 256) (hq : q.val = 512 * p.val + r.val) :
    iblk m c 2 p (ix2 r j) = V m c main_v4 (ix2 q j) := by
  show V m c main_v4 ((win0_2.rect p).emb (ix2 r j)) = _
  refine congrArg _ (funext fun a => Fin.ext ?_)
  rw [win0_2.rect_emb_val p (ix2 r j) a]
  obtain ⟨h0, h1⟩ := (idx0 p).2.2.1
  match a with
  | ⟨0, _⟩ => show win0_2.index p 0 * 512 + r.val = q.val; omega
  | ⟨1, _⟩ => show win0_2.index p 1 * 256 + j.val = j.val; omega

theorem blk3 (c : Dev nD) (p : Fin cfg0.N) (q : Fin 16384) (r : Fin 512) (j : Fin 256) (hq : q.val = 512 * p.val + r.val) :
    iblk m c 3 p (ix2 r j) = V m c main_v6 (ix2 q j) := by
  show V m c main_v6 ((win0_3.rect p).emb (ix2 r j)) = _
  refine congrArg _ (funext fun a => Fin.ext ?_)
  rw [win0_3.rect_emb_val p (ix2 r j) a]
  obtain ⟨h0, h1⟩ := (idx0 p).2.2.2.1
  match a with
  | ⟨0, _⟩ => show win0_3.index p 0 * 512 + r.val = q.val; omega
  | ⟨1, _⟩ => show win0_3.index p 1 * 256 + j.val = j.val; omega

theorem blk4 (c : Dev nD) (p : Fin cfg0.N) (k : Fin 1024) (j : Fin 1024) : iblk m c 4 p (ix2 k j) = V m c main_v7 (ix2 k j) := by
  show V m c main_v7 ((win0_4.rect p).emb (ix2 k j)) = _
  refine congrArg _ (funext fun a => Fin.ext ?_)
  rw [win0_4.rect_emb_val p (ix2 k j) a]
  obtain ⟨h0, h1⟩ := (idx0 p).2.2.2.2.1
  match a with
  | ⟨0, _⟩ => show win0_4.index p 0 * 1024 + k.val = k.val; omega
  | ⟨1, _⟩ => show win0_4.index p 1 * 1024 + j.val = j.val; omega

theorem blk7 (c : Dev nD) (p : Fin cfg0.N) (k : Fin 1024) (j : Fin 4096) : iblk m c 7 p (ix2 k j) = V m c main_v10 (ix2 k j) := by
  show V m c main_v10 ((win0_7.rect p).emb (ix2 k j)) = _
  refine congrArg _ (funext fun a => Fin.ext ?_)
  rw [win0_7.rect_emb_val p (ix2 k j) a]
  obtain ⟨h0, h1⟩ := (idx0 p).2.2.2.2.2.2.2.1
  match a with
  | ⟨0, _⟩ => show win0_7.index p 0 * 1024 + k.val = k.val; omega
  | ⟨1, _⟩ => show win0_7.index p 1 * 4096 + j.val = j.val; omega

theorem blk8 (c : Dev nD) (p : Fin cfg0.N) (k : Fin 4096) (j : Fin 1024) : iblk m c 8 p (ix2 k j) = V m c main_v11 (ix2 k j) := by
  show V m c main_v11 ((win0_8.rect p).emb (ix2 k j)) = _
  refine congrArg _ (funext fun a => Fin.ext ?_)
  rw [win0_8.rect_emb_val p (ix2 k j) a]
  obtain ⟨h0, h1⟩ := (idx0 p).2.2.2.2.2.2.2.2.1
  match a with
  | ⟨0, _⟩ => show win0_8.index p 0 * 4096 + k.val = k.val; omega
  | ⟨1, _⟩ => show win0_8.index p 1 * 1024 + j.val = j.val; omega

theorem blk5 (c : Dev nD) (p : Fin cfg0.N) (j : Fin 1024) : iblk m c 5 p (ix2 0 j) = V m c main_v8 (ix2 0 j) := by
  show V m c main_v8 ((win0_5.rect p).emb (ix2 0 j)) = _
  refine congrArg _ (funext fun a => Fin.ext ?_)
  rw [win0_5.rect_emb_val p (ix2 0 j) a]
  obtain ⟨h0, h1⟩ := (idx0 p).2.2.2.2.2.1
  match a with
  | ⟨0, _⟩ => show win0_5.index p 0 * 1 + 0 = 0; omega
  | ⟨1, _⟩ => show win0_5.index p 1 * 1024 + j.val = j.val; omega

theorem blk6 (c : Dev nD) (p : Fin cfg0.N) (j : Fin 1024) : iblk m c 6 p (ix2 0 j) = V m c main_v9 (ix2 0 j) := by
  show V m c main_v9 ((win0_6.rect p).emb (ix2 0 j)) = _
  refine congrArg _ (funext fun a => Fin.ext ?_)
  rw [win0_6.rect_emb_val p (ix2 0 j) a]
  obtain ⟨h0, h1⟩ := (idx0 p).2.2.2.2.2.2.1
  match a with
  | ⟨0, _⟩ => show win0_6.index p 0 * 1 + 0 = 0; omega
  | ⟨1, _⟩ => show win0_6.index p 1 * 1024 + j.val = j.val; omega

theorem blk9 (c : Dev nD) (p : Fin cfg0.N) (j : Fin 1024) : iblk m c 9 p (ix2 0 j) = V m c main_v12 (ix2 0 j) := by
  show V m c main_v12 ((win0_9.rect p).emb (ix2 0 j)) = _
  refine congrArg _ (funext fun a => Fin.ext ?_)
  rw [win0_9.rect_emb_val p (ix2 0 j) a]
  obtain ⟨h0, h1⟩ := (idx0 p).2.2.2.2.2.2.2.2.2.1
  match a with
  | ⟨0, _⟩ => show win0_9.index p 0 * 1 + 0 = 0; omega
  | ⟨1, _⟩ => show win0_9.index p 1 * 1024 + j.val = j.val; omega

theorem blk10 (c : Dev nD) (p : Fin cfg0.N) (j : Fin 1024) : iblk m c 10 p (ix2 0 j) = V m c main_v13 (ix2 0 j) := by
  show V m c main_v13 ((win0_10.rect p).emb (ix2 0 j)) = _
  refine congrArg _ (funext fun a => Fin.ext ?_)
  rw [win0_10.rect_emb_val p (ix2 0 j) a]
  obtain ⟨h0, h1⟩ := (idx0 p).2.2.2.2.2.2.2.2.2.2.1
  match a with
  | ⟨0, _⟩ => show win0_10.index p 0 * 1 + 0 = 0; omega
  | ⟨1, _⟩ => show win0_10.index p 1 * 1024 + j.val = j.val; omega

/-- The arguments' token `q`, flattened. -/
abbrev tok (c : Dev nD) (q : Fin 16384) : Fin 1024 → EReal :=
  spec (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    ⟨q.val / 4096, by omega⟩ ⟨q.val % 4096, by omega⟩

/-- Rows from equal pieces are equal. -/
theorem row_congr {x x' : Fin 1024 → EReal} {oa oa' : Fin 512 → EReal} {ob ob' om om' : Fin 256 → EReal} {wo wo' : Fin 1024 → Fin 1024 → EReal}
    {g1 g1' b1 b1' : Fin 1024 → EReal} {w1 w1' : Fin 1024 → Fin 4096 → EReal} {w2 w2' : Fin 4096 → Fin 1024 → EReal} {g2 g2' b2 b2' : Fin 1024 → EReal}
    (hx : ∀ k, x k = x' k) (ha : ∀ k, oa k = oa' k) (hb : ∀ k, ob k = ob' k) (hm : ∀ k, om k = om' k) (hwo : ∀ k j, wo k j = wo' k j)
    (hg1 : ∀ k, g1 k = g1' k) (hb1 : ∀ k, b1 k = b1' k) (hw1 : ∀ k f, w1 k f = w1' k f) (hw2 : ∀ f j, w2 f j = w2' f j)
    (hg2 : ∀ k, g2 k = g2' k) (hb2 : ∀ k, b2 k = b2' k) (j : Fin 1024) :
    row x oa ob om wo g1 b1 w1 w2 g2 b2 j = row x' oa' ob' om' wo' g1' b1' w1' w2' g2' b2' j := by
  rw [funext hx, funext ha, funext hb, funext hm, funext fun k => funext (hwo k), funext hg1, funext hb1,
    funext fun k => funext (hw1 k), funext fun k => funext (hw2 k), funext hg2, funext hb2]

/-- The result array after the run, row by row. -/
theorem final (c : Dev nD) (q : Fin 16384) (j : Fin 1024) : (dats m 0 c).arrAt 11 cfg0.N (ix2 q j) = tok m c q j := by
  obtain ⟨p, hp⟩ : ∃ p : Fin cfg0.N, p.val = q.val / 512 := ⟨⟨q.val / 512, by show _ < 32; omega⟩, rfl⟩
  obtain ⟨r, hr⟩ : ∃ r : Fin 512, r.val = q.val % 512 := ⟨⟨q.val % 512, by omega⟩, rfl⟩
  have hq : q.val = 512 * p.val + r.val := by omega
  have e : ((cfg0.win 11).blk p).view.emb (ix2 r j) = ix2 q j := by
    show (win0_11.rect p).emb (ix2 r j) = _
    refine funext fun a => Fin.ext ?_
    rw [win0_11.rect_emb_val p (ix2 r j) a]
    obtain ⟨h0, h1⟩ := (idx0 p).2.2.2.2.2.2.2.2.2.2.2
    match a with
    | ⟨0, _⟩ => show win0_11.index p 0 * 512 + r.val = q.val; omega
    | ⟨1, _⟩ => show win0_11.index p 1 * 1024 + j.val = j.val; omega
  have h := (dats m 0 c).arrAt_emb_eq_flushed 11 Value.disjoint11 p (flush0_11 p) (ix2 r j)
  rw [e] at h
  refine h.trans ((congrFun (Value.flushed11 m c p) (ix2 r j)).trans ?_)
  refine (out_row (iblk m c 0 p) (iblk m c 1 p) (iblk m c 2 p) (iblk m c 3 p) (iblk m c 4 p) (iblk m c 5 p) (iblk m c 6 p) (iblk m c 7 p)
    (iblk m c 8 p) (iblk m c 9 p) (iblk m c 10 p) r j).trans ?_
  exact row_congr (fun k => (blk0 m c p q r k hq).trans (V_v0 m c q k)) (fun k => (blk1 m c p q r k hq).trans (V_v2 m c q k))
    (fun k => (blk2 m c p q r k hq).trans (V_v4 m c q k)) (fun k => (blk3 m c p q r k hq).trans (V_v6 m c q k))
    (fun k j => (blk4 m c p k j).trans (V_v7 m c k j)) (fun k => (blk5 m c p k).trans (V_v8 m c k)) (fun k => (blk6 m c p k).trans (V_v9 m c k))
    (fun k f => (blk7 m c p k f).trans (V_v10 m c k f)) (fun f j => (blk8 m c p f j).trans (V_v11 m c f j))
    (fun k => (blk9 m c p k).trans (V_v12 m c k)) (fun k => (blk10 m c p k).trans (V_v13 m c k)) j

theorem algebraic : Cert.algebraic_TailIdeal_TailRefIdeal := by
  intro m g m' g' _ hagree
  refine ⟨fun c => (dats m 0 c).arrAt 11 cfg0.N, Value.run_blocks m g, ?_⟩
  refine (θ_run Cert.TailRefIdeal.defs _ _).mono (fun r h c => ?_) (Cert.TailRefIdeal.Value.run m' g')
  obtain ⟨h1, h2⟩ := h c
  refine ⟨?_, h2⟩
  obtain ⟨a0, a1, a2, a3, a4, a5, a6, a7, a8, a9, a10⟩ := hagree c
  refine h1.trans ((Cert.TailRefIdeal.Read.val_main_v63_eq _).trans ?_)
  show Cert.TailRefIdeal.Read.val_main_v63 (F := Ideal) (m' ((c.tc : Thread Cert.TailRefIdeal.nD Cert.TailRefIdeal.τ).loc Cert.TailRefIdeal.main_arg0)) (m' ((c.tc : Thread Cert.TailRefIdeal.nD Cert.TailRefIdeal.τ).loc Cert.TailRefIdeal.main_arg1)) (m' ((c.tc : Thread Cert.TailRefIdeal.nD Cert.TailRefIdeal.τ).loc Cert.TailRefIdeal.main_arg2)) (m' ((c.tc : Thread Cert.TailRefIdeal.nD Cert.TailRefIdeal.τ).loc Cert.TailRefIdeal.main_arg3)) (m' ((c.tc : Thread Cert.TailRefIdeal.nD Cert.TailRefIdeal.τ).loc Cert.TailRefIdeal.main_arg4)) (m' ((c.tc : Thread Cert.TailRefIdeal.nD Cert.TailRefIdeal.τ).loc Cert.TailRefIdeal.main_arg5)) (m' ((c.tc : Thread Cert.TailRefIdeal.nD Cert.TailRefIdeal.τ).loc Cert.TailRefIdeal.main_arg6)) (m' ((c.tc : Thread Cert.TailRefIdeal.nD Cert.TailRefIdeal.τ).loc Cert.TailRefIdeal.main_arg7)) (m' ((c.tc : Thread Cert.TailRefIdeal.nD Cert.TailRefIdeal.τ).loc Cert.TailRefIdeal.main_arg8)) (m' ((c.tc : Thread Cert.TailRefIdeal.nD Cert.TailRefIdeal.τ).loc Cert.TailRefIdeal.main_arg9)) (m' ((c.tc : Thread Cert.TailRefIdeal.nD Cert.TailRefIdeal.τ).loc Cert.TailRefIdeal.main_arg10)) = _
  rw [a0, a1, a2, a3, a4, a5, a6, a7, a8, a9, a10]
  refine funext fun (i : S16384x1024.Idx) => ?_
  obtain ⟨q, j, rfl⟩ : ∃ (q : Fin 16384) (j : Fin 1024), i = ix2 q j := ⟨i 0, i 1, eq_ix2 i⟩
  exact (ref_eq _ _ _ _ _ _ _ _ _ _ _ q j).trans (final m c q j).symm

end Cert.Proof.Tail

end
-- ==== Proof.ProjValue.lean ====
/-
  Hand-written, untrusted. The value of the prompt's projection: after the run every result array holds its
  columns of the product of the input with the projection weight, the padding columns zero — the function the
  reference computes.
-/
module

public import proofs.«01_k».proof.Defs
public import proofs.«01_k».proof.Proof.Gen.ProjIdeal.Value
public import proofs.«01_k».proof.Proof.Gen.ProjRefIdeal.Read
public import Idealize.ShloMosaic.Lib.Pipeline.Value
public import Idealize.ShloMosaic.Lib.Pointwise
public import Idealize.ShloMosaic.Lib.StableHlo.ReadAt
public import Idealize.ShloMosaic.PureOps.Ideal.Laws

@[expose] public section

noncomputable section

namespace Cert.Proof.Proj

open Idealize.ShloMosaic Idealize.SL.Sem Idealize.ShloMosaic.TcCoe
open Cert.ProjIdeal Cert.ProjIdeal.Gen
open Idealize.ShloMosaic.Pipeline (Dat Cfg Window)

/-- Column `n` of the projection of token `t` of batch `b`. -/
def prj (x : FVec Ideal S4x4096x1024 .f32) (w : FVec Ideal S1024x2856 .f32) (b : Fin 4) (t : Fin 4096) (n : Fin 2856) : EReal :=
  ∑ k : Fin 1024, x (ix3 b t k) * w (ix2 k n)

variable (m : (ℓ : Loc nD τ sig) → Buf (Elt Ideal) ℓ)

/-! ## The two weight arrays the launch reads, run by run of their columns -/

theorem wn0 (c : Dev nD) (k : Fin 1024) (n : Fin 512) : V m c main_v18 (ix2 k ⟨n.val, by omega⟩) = m ((c : Thread nD τ).loc main_arg1) (ix2 k ⟨512 + n.val, by omega⟩) := by
  unfold V
  after_reads_at
  after_reads_at

theorem wn1 (c : Dev nD) (k : Fin 1024) (n : Fin 256) : V m c main_v18 (ix2 k ⟨512 + n.val, by omega⟩) = m ((c : Thread nD τ).loc main_arg1) (ix2 k ⟨1792 + n.val, by omega⟩) := by
  unfold V
  after_reads_at
  after_reads_at

theorem wn2 (c : Dev nD) (k : Fin 1024) (n : Fin 256) : V m c main_v18 (ix2 k ⟨768 + n.val, by omega⟩) = m ((c : Thread nD τ).loc main_arg1) (ix2 k ⟨2600 + n.val, by omega⟩) := by
  unfold V
  after_reads_at
  have e : 768 + n.val - 512 - 256 = n.val := by omega
  rw [dif_neg (by omega), dif_neg (by omega), dif_pos (by omega)]
  simp only [e]
  after_reads_at

theorem wn3 (c : Dev nD) (k : Fin 1024) (n : Fin 32) : V m c main_v18 (ix2 k ⟨1024 + n.val, by omega⟩) = m ((c : Thread nD τ).loc main_arg1) (ix2 k ⟨2560 + n.val, by omega⟩) := by
  unfold V
  after_reads_at
  have e : 1024 + n.val - 512 - 256 - 256 = n.val := by omega
  rw [dif_neg (by omega), dif_neg (by omega), dif_neg (by omega), dif_pos (by omega)]
  simp only [e]
  after_reads_at

theorem wn4 (c : Dev nD) (k : Fin 1024) (n : Fin 96) : V m c main_v18 (ix2 k ⟨1056 + n.val, by omega⟩) = (0 : EReal) := by
  unfold V
  after_reads_at
  have e : 1056 + n.val - 512 - 256 - 256 - 32 = n.val := by omega
  rw [dif_neg (by omega), dif_neg (by omega), dif_neg (by omega), dif_neg (by omega)]
  simp only [e]
  after_reads_at

theorem wt0 (c : Dev nD) (k : Fin 1024) (n : Fin 512) : V m c main_v19 (ix2 ⟨n.val, by omega⟩ k) = m ((c : Thread nD τ).loc main_arg1) (ix2 k ⟨512 + n.val, by omega⟩) := by
  unfold V
  after_reads_at
  after_reads_at

theorem wt1 (c : Dev nD) (k : Fin 1024) (n : Fin 512) : V m c main_v19 (ix2 ⟨512 + n.val, by omega⟩ k) = m ((c : Thread nD τ).loc main_arg1) (ix2 k ⟨1024 + n.val, by omega⟩) := by
  unfold V
  after_reads_at
  after_reads_at

theorem wt2 (c : Dev nD) (k : Fin 1024) (n : Fin 256) : V m c main_v19 (ix2 ⟨1024 + n.val, by omega⟩ k) = m ((c : Thread nD τ).loc main_arg1) (ix2 k ⟨1792 + n.val, by omega⟩) := by
  unfold V
  after_reads_at
  have e : 1024 + n.val - 512 - 512 = n.val := by omega
  rw [dif_neg (by omega), dif_neg (by omega), dif_pos (by omega)]
  simp only [e]
  after_reads_at

theorem wt3 (c : Dev nD) (k : Fin 1024) (n : Fin 256) : V m c main_v19 (ix2 ⟨1280 + n.val, by omega⟩ k) = m ((c : Thread nD τ).loc main_arg1) (ix2 k ⟨2048 + n.val, by omega⟩) := by
  unfold V
  after_reads_at
  have e : 1280 + n.val - 512 - 512 - 256 = n.val := by omega
  rw [dif_neg (by omega), dif_neg (by omega), dif_neg (by omega), dif_pos (by omega)]
  simp only [e]
  after_reads_at

theorem wt4 (c : Dev nD) (k : Fin 1024) (n : Fin 32) : V m c main_v19 (ix2 ⟨1536 + n.val, by omega⟩ k) = m ((c : Thread nD τ).loc main_arg1) (ix2 k ⟨2560 + n.val, by omega⟩) := by
  unfold V
  after_reads_at
  have e : 1536 + n.val - 512 - 512 - 256 - 256 = n.val := by omega
  rw [dif_neg (by omega), dif_neg (by omega), dif_neg (by omega), dif_neg (by omega), dif_pos (by omega)]
  simp only [e]
  after_reads_at

theorem wt5 (c : Dev nD) (k : Fin 1024) (n : Fin 512) : V m c main_v19 (ix2 ⟨1568 + n.val, by omega⟩ k) = m ((c : Thread nD τ).loc main_arg1) (ix2 k ⟨n.val, by omega⟩) := by
  unfold V
  after_reads_at
  have e : 1568 + n.val - 512 - 512 - 256 - 256 - 32 = n.val := by omega
  rw [dif_neg (by omega), dif_neg (by omega), dif_neg (by omega), dif_neg (by omega), dif_neg (by omega), dif_pos (by omega)]
  simp only [e]
  after_reads_at

theorem wt6 (c : Dev nD) (k : Fin 1024) (n : Fin 256) : V m c main_v19 (ix2 ⟨2080 + n.val, by omega⟩ k) = m ((c : Thread nD τ).loc main_arg1) (ix2 k ⟨1536 + n.val, by omega⟩) := by
  unfold V
  after_reads_at
  have e : 2080 + n.val - 512 - 512 - 256 - 256 - 32 - 512 = n.val := by omega
  rw [dif_neg (by omega), dif_neg (by omega), dif_neg (by omega), dif_neg (by omega), dif_neg (by omega), dif_neg (by omega), dif_pos (by omega)]
  simp only [e]
  after_reads_at

theorem wt7 (c : Dev nD) (k : Fin 1024) (n : Fin 256) : V m c main_v19 (ix2 ⟨2336 + n.val, by omega⟩ k) = m ((c : Thread nD τ).loc main_arg1) (ix2 k ⟨2304 + n.val, by omega⟩) := by
  unfold V
  after_reads_at
  have e : 2336 + n.val - 512 - 512 - 256 - 256 - 32 - 512 - 256 = n.val := by omega
  rw [dif_neg (by omega), dif_neg (by omega), dif_neg (by omega), dif_neg (by omega), dif_neg (by omega), dif_neg (by omega), dif_neg (by omega), dif_pos (by omega)]
  simp only [e]
  after_reads_at

theorem wt8 (c : Dev nD) (k : Fin 1024) (n : Fin 8) : V m c main_v19 (ix2 ⟨2592 + n.val, by omega⟩ k) = m ((c : Thread nD τ).loc main_arg1) (ix2 k ⟨2592 + n.val, by omega⟩) := by
  unfold V
  after_reads_at
  have e : 2592 + n.val - 512 - 512 - 256 - 256 - 32 - 512 - 256 - 256 = n.val := by omega
  rw [dif_neg (by omega), dif_neg (by omega), dif_neg (by omega), dif_neg (by omega), dif_neg (by omega), dif_neg (by omega), dif_neg (by omega), dif_neg (by omega), dif_pos (by omega)]
  simp only [e]
  after_reads_at

theorem wt9 (c : Dev nD) (k : Fin 1024) (n : Fin 8) : V m c main_v19 (ix2 ⟨2600 + n.val, by omega⟩ k) = (0 : EReal) := by
  unfold V
  after_reads_at
  have e : 2600 + n.val - 512 - 512 - 256 - 256 - 32 - 512 - 256 - 256 - 8 = n.val := by omega
  rw [dif_neg (by omega), dif_neg (by omega), dif_neg (by omega), dif_neg (by omega), dif_neg (by omega), dif_neg (by omega), dif_neg (by omega), dif_neg (by omega), dif_neg (by omega)]
  simp only [e]
  after_reads_at

/-! ## What the body leaves in each result's block -/

theorem hz : (![0, 0, 0] : Fin 3 → Nat) = fun _ => 0 := funext fun a => by fin_cases a <;> rfl

section Out
variable (x0 : Vec Ideal S1x512x1024 .f32) (x1 : Vec Ideal S1024x1152 .bf16) (x2 : Vec Ideal S2608x1024 .bf16)

/-- A column of the row-major product, and a row of the transposed one. -/
abbrev nat (i : Fin 512) (n : Fin 1152) : EReal := ∑ k : Fin 1024, x0 (ix3 0 i k) * x1 (ix2 k n)
abbrev tr (n : Fin 2608) (i : Fin 512) : EReal := ∑ k : Fin 1024, x2 (ix2 n k) * x0 (ix3 0 i k)

theorem out3 (i : Fin 512) (n : Fin 512) : out0_3 (F := Ideal) x0 x1 x2 (ix3 0 i n) = nat x0 x1 i ⟨n.val, by omega⟩ := by
  unfold out0_3
  refine (congrFun (View.canon_unit_zero (S := S1x512x512) hz _ _) (ix3 0 i n)).trans ?_
  pointwise [k0_pay5, k0_pay4, k0_pay3, nat]

theorem out4 (i : Fin 512) (n : Fin 256) : out0_4 (F := Ideal) x0 x1 x2 (ix3 0 i n) = nat x0 x1 i ⟨512 + n.val, by omega⟩ := by
  unfold out0_4
  refine (congrFun (View.canon_unit_zero (S := S1x512x256) hz _ _) (ix3 0 i n)).trans ?_
  pointwise [k0_pay6, k0_pay4, k0_pay3, nat]

theorem out5 (i : Fin 512) (n : Fin 256) : out0_5 (F := Ideal) x0 x1 x2 (ix3 0 i n) = nat x0 x1 i ⟨768 + n.val, by omega⟩ := by
  unfold out0_5
  refine (congrFun (View.canon_unit_zero (S := S1x512x256) hz _ _) (ix3 0 i n)).trans ?_
  pointwise [k0_pay7, k0_pay4, k0_pay3, nat]

theorem out6 (i : Fin 512) (n : Fin 128) : out0_6 (F := Ideal) x0 x1 x2 (ix3 0 i n) = nat x0 x1 i ⟨1024 + n.val, by omega⟩ := by
  unfold out0_6
  refine (congrFun (View.canon_unit_zero (S := S1x512x128) hz _ _) (ix3 0 i n)).trans ?_
  pointwise [k0_pay8, k0_pay4, k0_pay3, nat]

theorem out7 (n : Fin 512) (i : Fin 512) : out0_7 (F := Ideal) x0 x1 x2 (ix3 0 n i) = tr x0 x2 ⟨n.val, by omega⟩ i := by
  unfold out0_7
  refine (congrFun (View.canon_unit_zero (S := S1x512x512) hz _ _) (ix3 0 n i)).trans ?_
  pointwise [k0_pay11, k0_pay10, k0_pay9, k0_pay3, tr]

theorem out8 (n : Fin 512) (i : Fin 512) : out0_8 (F := Ideal) x0 x1 x2 (ix3 0 n i) = tr x0 x2 ⟨512 + n.val, by omega⟩ i := by
  unfold out0_8
  refine (congrFun (View.canon_unit_zero (S := S1x512x512) hz _ _) (ix3 0 n i)).trans ?_
  pointwise [k0_pay12, k0_pay19, k0_pay9, k0_pay3, tr]

theorem out9 (n : Fin 256) (i : Fin 512) : out0_9 (F := Ideal) x0 x1 x2 (ix3 0 n i) = tr x0 x2 ⟨1024 + n.val, by omega⟩ i := by
  unfold out0_9
  refine (congrFun (View.canon_unit_zero (S := S1x256x512) hz _ _) (ix3 0 n i)).trans ?_
  pointwise [k0_pay13, k0_pay19, k0_pay9, k0_pay3, tr]

theorem out10 (n : Fin 256) (i : Fin 512) : out0_10 (F := Ideal) x0 x1 x2 (ix3 0 n i) = tr x0 x2 ⟨1280 + n.val, by omega⟩ i := by
  unfold out0_10
  refine (congrFun (View.canon_unit_zero (S := S1x256x512) hz _ _) (ix3 0 n i)).trans ?_
  pointwise [k0_pay14, k0_pay19, k0_pay9, k0_pay3, tr]

theorem out11 (n : Fin 32) (i : Fin 512) : out0_11 (F := Ideal) x0 x1 x2 (ix3 0 n i) = tr x0 x2 ⟨1536 + n.val, by omega⟩ i := by
  unfold out0_11
  refine (congrFun (View.canon_unit_zero (S := S1x32x512) hz _ _) (ix3 0 n i)).trans ?_
  pointwise [k0_pay15, k0_pay19, k0_pay9, k0_pay3, tr]

theorem out12 (n : Fin 512) (i : Fin 512) : out0_12 (F := Ideal) x0 x1 x2 (ix3 0 n i) = tr x0 x2 ⟨1568 + n.val, by omega⟩ i := by
  unfold out0_12
  refine (congrFun (View.canon_unit_zero (S := S1x512x512) hz _ _) (ix3 0 n i)).trans ?_
  pointwise [k0_pay16, k0_pay19, k0_pay9, k0_pay3, tr]

theorem out13 (n : Fin 256) (i : Fin 512) : out0_13 (F := Ideal) x0 x1 x2 (ix3 0 n i) = tr x0 x2 ⟨2080 + n.val, by omega⟩ i := by
  unfold out0_13
  refine (congrFun (View.canon_unit_zero (S := S1x256x512) hz _ _) (ix3 0 n i)).trans ?_
  pointwise [k0_pay17, k0_pay19, k0_pay9, k0_pay3, tr]

theorem out14 (n : Fin 256) (i : Fin 512) : out0_14 (F := Ideal) x0 x1 x2 (ix3 0 n i) = tr x0 x2 ⟨2336 + n.val, by omega⟩ i := by
  unfold out0_14
  refine (congrFun (View.canon_unit_zero (S := S1x256x512) hz _ _) (ix3 0 n i)).trans ?_
  pointwise [k0_pay1, k0_pay18, k0_pay19, k0_pay9, k0_pay3, tr]

theorem out15 (n : Fin 16) (i : Fin 512) : out0_15 (F := Ideal) x0 x1 x2 (ix3 0 n i) = tr x0 x2 ⟨2592 + n.val, by omega⟩ i := by
  unfold out0_15
  refine (congrFun (View.canon_unit_zero (S := S1x16x512) hz _ _) (ix3 0 n i)).trans ?_
  pointwise [k0_pay2, k0_pay19, k0_pay9, k0_pay3, tr]

end Out

/-! ## Blocks and points -/

/-- The grid point of row `t` of batch `b`, and the row inside its tile. -/
def pt (b : Fin 4) (t : Fin 4096) : Fin cfg0.N := ⟨8 * b.val + t.val / 512, by show _ < 32; omega⟩
def row (t : Fin 4096) : Fin 512 := ⟨t.val % 512, by omega⟩

theorem idxX : ∀ p : Fin cfg0.N, win0_0.index p 0 = p.val / 8 ∧ win0_0.index p 1 = p.val % 8 ∧ win0_0.index p 2 = 0
    ∧ win0_1.index p 0 = 0 ∧ win0_1.index p 1 = 0 ∧ win0_2.index p 0 = 0 ∧ win0_2.index p 1 = 0 := by decide +kernel

theorem idxN : ∀ p : Fin cfg0.N, (win0_3.index p 0 = p.val / 8 ∧ win0_3.index p 1 = p.val % 8 ∧ win0_3.index p 2 = 0)
    ∧ (win0_4.index p 0 = p.val / 8 ∧ win0_4.index p 1 = p.val % 8 ∧ win0_4.index p 2 = 0)
    ∧ (win0_5.index p 0 = p.val / 8 ∧ win0_5.index p 1 = p.val % 8 ∧ win0_5.index p 2 = 0)
    ∧ (win0_6.index p 0 = p.val / 8 ∧ win0_6.index p 1 = p.val % 8 ∧ win0_6.index p 2 = 0) := by decide +kernel

theorem idxT : ∀ p : Fin cfg0.N, (win0_7.index p 0 = p.val / 8 ∧ win0_7.index p 1 = 0 ∧ win0_7.index p 2 = p.val % 8)
    ∧ (win0_8.index p 0 = p.val / 8 ∧ win0_8.index p 1 = 0 ∧ win0_8.index p 2 = p.val % 8)
    ∧ (win0_9.index p 0 = p.val / 8 ∧ win0_9.index p 1 = 0 ∧ win0_9.index p 2 = p.val % 8)
    ∧ (win0_10.index p 0 = p.val / 8 ∧ win0_10.index p 1 = 0 ∧ win0_10.index p 2 = p.val % 8)
    ∧ (win0_11.index p 0 = p.val / 8 ∧ win0_11.index p 1 = 0 ∧ win0_11.index p 2 = p.val % 8)
    ∧ (win0_12.index p 0 = p.val / 8 ∧ win0_12.index p 1 = 0 ∧ win0_12.index p 2 = p.val % 8)
    ∧ (win0_13.index p 0 = p.val / 8 ∧ win0_13.index p 1 = 0 ∧ win0_13.index p 2 = p.val % 8)
    ∧ (win0_14.index p 0 = p.val / 8 ∧ win0_14.index p 1 = 0 ∧ win0_14.index p 2 = p.val % 8)
    ∧ (win0_15.index p 0 = p.val / 8 ∧ win0_15.index p 1 = 0 ∧ win0_15.index p 2 = p.val % 8) := by decide +kernel

theorem blk0 (c : Dev nD) (b : Fin 4) (t : Fin 4096) (k : Fin 1024) :
    iblk m c 0 (pt b t) (ix3 0 (row t) k) = m ((c : Thread nD τ).loc main_arg0) (ix3 b t k) := by
  show V m c main_arg0 ((win0_0.rect (pt b t)).emb (ix3 0 (row t) k)) = _
  rw [V_main_arg0]
  refine congrArg _ (funext fun a => Fin.ext ?_)
  rw [win0_0.rect_emb_val (pt b t) (ix3 0 (row t) k) a]
  obtain ⟨h0, h1, h2, -⟩ := idxX (pt b t)
  have hp : (pt b t).val = 8 * b.val + t.val / 512 := rfl
  match a with
  | ⟨0, _⟩ => show win0_0.index (pt b t) 0 * 1 + 0 = b.val; omega
  | ⟨1, _⟩ => show win0_0.index (pt b t) 1 * 512 + t.val % 512 = t.val; omega
  | ⟨2, _⟩ => show win0_0.index (pt b t) 2 * 1024 + k.val = k.val; omega

theorem blk1 (c : Dev nD) (p : Fin cfg0.N) (k : Fin 1024) (n : Fin 1152) : iblk m c 1 p (ix2 k n) = V m c main_v18 (ix2 k n) := by
  show V m c main_v18 ((win0_1.rect p).emb (ix2 k n)) = _
  refine congrArg _ (funext fun a => Fin.ext ?_)
  rw [win0_1.rect_emb_val p (ix2 k n) a]
  obtain ⟨-, -, -, h0, h1, -⟩ := idxX p
  match a with
  | ⟨0, _⟩ => show win0_1.index p 0 * 1024 + k.val = k.val; omega
  | ⟨1, _⟩ => show win0_1.index p 1 * 1152 + n.val = n.val; omega

theorem blk2 (c : Dev nD) (p : Fin cfg0.N) (n : Fin 2608) (k : Fin 1024) : iblk m c 2 p (ix2 n k) = V m c main_v19 (ix2 n k) := by
  show V m c main_v19 ((win0_2.rect p).emb (ix2 n k)) = _
  refine congrArg _ (funext fun a => Fin.ext ?_)
  rw [win0_2.rect_emb_val p (ix2 n k) a]
  obtain ⟨-, -, -, -, -, h0, h1⟩ := idxX p
  match a with
  | ⟨0, _⟩ => show win0_2.index p 0 * 2608 + n.val = n.val; omega
  | ⟨1, _⟩ => show win0_2.index p 1 * 1024 + k.val = k.val; omega

theorem mul_of_right {a b : EReal} (h : b = 0) : a * b = 0 := by rw [h, mul_zero]

/-- A column of the row-major product is the projection onto the weight's column it was packed from, or zero. -/
theorem nat_prj (c : Dev nD) (b : Fin 4) (t : Fin 4096) (n : Fin 1152) (s : Fin 2856)
    (h : ∀ k, V m c main_v18 (ix2 k n) = m ((c : Thread nD τ).loc main_arg1) (ix2 k s)) :
    nat (iblk m c 0 (pt b t)) (iblk m c 1 (pt b t)) (row t) n
      = prj (m ((c : Thread nD τ).loc main_arg0)) (m ((c : Thread nD τ).loc main_arg1)) b t s :=
  Finset.sum_congr rfl fun k _ => congrArg₂ (fun a b : EReal => a * b) (blk0 m c b t k) ((blk1 m c _ k n).trans (h k))

theorem nat_zero (c : Dev nD) (b : Fin 4) (t : Fin 4096) (n : Fin 1152) (h : ∀ k, V m c main_v18 (ix2 k n) = (0 : EReal)) :
    nat (iblk m c 0 (pt b t)) (iblk m c 1 (pt b t)) (row t) n = 0 :=
  Finset.sum_eq_zero fun k _ =>
    mul_of_right ((blk1 m c _ k n).trans (h k))

theorem tr_prj (c : Dev nD) (b : Fin 4) (t : Fin 4096) (n : Fin 2608) (s : Fin 2856)
    (h : ∀ k, V m c main_v19 (ix2 n k) = m ((c : Thread nD τ).loc main_arg1) (ix2 k s)) :
    tr (iblk m c 0 (pt b t)) (iblk m c 2 (pt b t)) n (row t)
      = prj (m ((c : Thread nD τ).loc main_arg0)) (m ((c : Thread nD τ).loc main_arg1)) b t s :=
  Finset.sum_congr rfl fun k _ =>
    (congrArg₂ (fun a b : EReal => a * b) ((blk2 m c _ n k).trans (h k)) (blk0 m c b t k)).trans (mul_comm _ _)

theorem tr_zero (c : Dev nD) (b : Fin 4) (t : Fin 4096) (n : Fin 2608) (h : ∀ k, V m c main_v19 (ix2 n k) = (0 : EReal)) :
    tr (iblk m c 0 (pt b t)) (iblk m c 2 (pt b t)) n (row t) = 0 :=
  Finset.sum_eq_zero fun k _ =>
    (mul_comm _ _).trans (mul_of_right ((blk2 m c _ n k).trans (h k)))

/-! ## The thirteen results after the run, element by element -/

theorem final3 (c : Dev nD) (b : Fin 4) (t : Fin 4096) (n : Fin 512) :
    (dats m 0 c).arrAt 3 cfg0.N (ix3 b t n) = nat (iblk m c 0 (pt b t)) (iblk m c 1 (pt b t)) (row t) ⟨n.val, by omega⟩ := by
  have e : ((cfg0.win 3).blk (pt b t)).view.emb (ix3 0 (row t) n) = ix3 b t n := by
    show (win0_3.rect (pt b t)).emb (ix3 0 (row t) n) = _
    refine funext fun a => Fin.ext ?_
    rw [win0_3.rect_emb_val (pt b t) (ix3 0 (row t) n) a]
    obtain ⟨h0, h1, h2⟩ := (idxN (pt b t)).1
    have hp : (pt b t).val = 8 * b.val + t.val / 512 := rfl
    match a with
    | ⟨0, _⟩ => show win0_3.index (pt b t) 0 * 1 + 0 = b.val; omega
    | ⟨1, _⟩ => show win0_3.index (pt b t) 1 * 512 + t.val % 512 = t.val; omega
    | ⟨2, _⟩ => show win0_3.index (pt b t) 2 * 512 + n.val = n.val; omega
  have h := (dats m 0 c).arrAt_emb_eq_flushed 3 Value.disjoint3 (pt b t) (flush0_3 _) (ix3 0 (row t) n)
  rw [e] at h
  refine h.trans ((congrFun (Value.flushed3 m c (pt b t)) (ix3 0 (row t) n)).trans ?_)
  exact out3 _ _ _ (row t) n

theorem final4 (c : Dev nD) (b : Fin 4) (t : Fin 4096) (n : Fin 256) :
    (dats m 0 c).arrAt 4 cfg0.N (ix3 b t n) = nat (iblk m c 0 (pt b t)) (iblk m c 1 (pt b t)) (row t) ⟨512 + n.val, by omega⟩ := by
  have e : ((cfg0.win 4).blk (pt b t)).view.emb (ix3 0 (row t) n) = ix3 b t n := by
    show (win0_4.rect (pt b t)).emb (ix3 0 (row t) n) = _
    refine funext fun a => Fin.ext ?_
    rw [win0_4.rect_emb_val (pt b t) (ix3 0 (row t) n) a]
    obtain ⟨h0, h1, h2⟩ := (idxN (pt b t)).2.1
    have hp : (pt b t).val = 8 * b.val + t.val / 512 := rfl
    match a with
    | ⟨0, _⟩ => show win0_4.index (pt b t) 0 * 1 + 0 = b.val; omega
    | ⟨1, _⟩ => show win0_4.index (pt b t) 1 * 512 + t.val % 512 = t.val; omega
    | ⟨2, _⟩ => show win0_4.index (pt b t) 2 * 256 + n.val = n.val; omega
  have h := (dats m 0 c).arrAt_emb_eq_flushed 4 Value.disjoint4 (pt b t) (flush0_4 _) (ix3 0 (row t) n)
  rw [e] at h
  refine h.trans ((congrFun (Value.flushed4 m c (pt b t)) (ix3 0 (row t) n)).trans ?_)
  exact out4 _ _ _ (row t) n

theorem final5 (c : Dev nD) (b : Fin 4) (t : Fin 4096) (n : Fin 256) :
    (dats m 0 c).arrAt 5 cfg0.N (ix3 b t n) = nat (iblk m c 0 (pt b t)) (iblk m c 1 (pt b t)) (row t) ⟨768 + n.val, by omega⟩ := by
  have e : ((cfg0.win 5).blk (pt b t)).view.emb (ix3 0 (row t) n) = ix3 b t n := by
    show (win0_5.rect (pt b t)).emb (ix3 0 (row t) n) = _
    refine funext fun a => Fin.ext ?_
    rw [win0_5.rect_emb_val (pt b t) (ix3 0 (row t) n) a]
    obtain ⟨h0, h1, h2⟩ := (idxN (pt b t)).2.2.1
    have hp : (pt b t).val = 8 * b.val + t.val / 512 := rfl
    match a with
    | ⟨0, _⟩ => show win0_5.index (pt b t) 0 * 1 + 0 = b.val; omega
    | ⟨1, _⟩ => show win0_5.index (pt b t) 1 * 512 + t.val % 512 = t.val; omega
    | ⟨2, _⟩ => show win0_5.index (pt b t) 2 * 256 + n.val = n.val; omega
  have h := (dats m 0 c).arrAt_emb_eq_flushed 5 Value.disjoint5 (pt b t) (flush0_5 _) (ix3 0 (row t) n)
  rw [e] at h
  refine h.trans ((congrFun (Value.flushed5 m c (pt b t)) (ix3 0 (row t) n)).trans ?_)
  exact out5 _ _ _ (row t) n

theorem final6 (c : Dev nD) (b : Fin 4) (t : Fin 4096) (n : Fin 128) :
    (dats m 0 c).arrAt 6 cfg0.N (ix3 b t n) = nat (iblk m c 0 (pt b t)) (iblk m c 1 (pt b t)) (row t) ⟨1024 + n.val, by omega⟩ := by
  have e : ((cfg0.win 6).blk (pt b t)).view.emb (ix3 0 (row t) n) = ix3 b t n := by
    show (win0_6.rect (pt b t)).emb (ix3 0 (row t) n) = _
    refine funext fun a => Fin.ext ?_
    rw [win0_6.rect_emb_val (pt b t) (ix3 0 (row t) n) a]
    obtain ⟨h0, h1, h2⟩ := (idxN (pt b t)).2.2.2
    have hp : (pt b t).val = 8 * b.val + t.val / 512 := rfl
    match a with
    | ⟨0, _⟩ => show win0_6.index (pt b t) 0 * 1 + 0 = b.val; omega
    | ⟨1, _⟩ => show win0_6.index (pt b t) 1 * 512 + t.val % 512 = t.val; omega
    | ⟨2, _⟩ => show win0_6.index (pt b t) 2 * 128 + n.val = n.val; omega
  have h := (dats m 0 c).arrAt_emb_eq_flushed 6 Value.disjoint6 (pt b t) (flush0_6 _) (ix3 0 (row t) n)
  rw [e] at h
  refine h.trans ((congrFun (Value.flushed6 m c (pt b t)) (ix3 0 (row t) n)).trans ?_)
  exact out6 _ _ _ (row t) n

theorem final7 (c : Dev nD) (b : Fin 4) (t : Fin 4096) (n : Fin 512) :
    (dats m 0 c).arrAt 7 cfg0.N (ix3 b n t) = tr (iblk m c 0 (pt b t)) (iblk m c 2 (pt b t)) ⟨n.val, by omega⟩ (row t) := by
  have e : ((cfg0.win 7).blk (pt b t)).view.emb (ix3 0 n (row t)) = ix3 b n t := by
    show (win0_7.rect (pt b t)).emb (ix3 0 n (row t)) = _
    refine funext fun a => Fin.ext ?_
    rw [win0_7.rect_emb_val (pt b t) (ix3 0 n (row t)) a]
    obtain ⟨h0, h1, h2⟩ := (idxT (pt b t)).1
    have hp : (pt b t).val = 8 * b.val + t.val / 512 := rfl
    match a with
    | ⟨0, _⟩ => show win0_7.index (pt b t) 0 * 1 + 0 = b.val; omega
    | ⟨1, _⟩ => show win0_7.index (pt b t) 1 * 512 + n.val = n.val; omega
    | ⟨2, _⟩ => show win0_7.index (pt b t) 2 * 512 + t.val % 512 = t.val; omega
  have h := (dats m 0 c).arrAt_emb_eq_flushed 7 Value.disjoint7 (pt b t) (flush0_7 _) (ix3 0 n (row t))
  rw [e] at h
  refine h.trans ((congrFun (Value.flushed7 m c (pt b t)) (ix3 0 n (row t))).trans ?_)
  exact out7 _ _ _ n (row t)

theorem final8 (c : Dev nD) (b : Fin 4) (t : Fin 4096) (n : Fin 512) :
    (dats m 0 c).arrAt 8 cfg0.N (ix3 b n t) = tr (iblk m c 0 (pt b t)) (iblk m c 2 (pt b t)) ⟨512 + n.val, by omega⟩ (row t) := by
  have e : ((cfg0.win 8).blk (pt b t)).view.emb (ix3 0 n (row t)) = ix3 b n t := by
    show (win0_8.rect (pt b t)).emb (ix3 0 n (row t)) = _
    refine funext fun a => Fin.ext ?_
    rw [win0_8.rect_emb_val (pt b t) (ix3 0 n (row t)) a]
    obtain ⟨h0, h1, h2⟩ := (idxT (pt b t)).2.1
    have hp : (pt b t).val = 8 * b.val + t.val / 512 := rfl
    match a with
    | ⟨0, _⟩ => show win0_8.index (pt b t) 0 * 1 + 0 = b.val; omega
    | ⟨1, _⟩ => show win0_8.index (pt b t) 1 * 512 + n.val = n.val; omega
    | ⟨2, _⟩ => show win0_8.index (pt b t) 2 * 512 + t.val % 512 = t.val; omega
  have h := (dats m 0 c).arrAt_emb_eq_flushed 8 Value.disjoint8 (pt b t) (flush0_8 _) (ix3 0 n (row t))
  rw [e] at h
  refine h.trans ((congrFun (Value.flushed8 m c (pt b t)) (ix3 0 n (row t))).trans ?_)
  exact out8 _ _ _ n (row t)

theorem final9 (c : Dev nD) (b : Fin 4) (t : Fin 4096) (n : Fin 256) :
    (dats m 0 c).arrAt 9 cfg0.N (ix3 b n t) = tr (iblk m c 0 (pt b t)) (iblk m c 2 (pt b t)) ⟨1024 + n.val, by omega⟩ (row t) := by
  have e : ((cfg0.win 9).blk (pt b t)).view.emb (ix3 0 n (row t)) = ix3 b n t := by
    show (win0_9.rect (pt b t)).emb (ix3 0 n (row t)) = _
    refine funext fun a => Fin.ext ?_
    rw [win0_9.rect_emb_val (pt b t) (ix3 0 n (row t)) a]
    obtain ⟨h0, h1, h2⟩ := (idxT (pt b t)).2.2.1
    have hp : (pt b t).val = 8 * b.val + t.val / 512 := rfl
    match a with
    | ⟨0, _⟩ => show win0_9.index (pt b t) 0 * 1 + 0 = b.val; omega
    | ⟨1, _⟩ => show win0_9.index (pt b t) 1 * 256 + n.val = n.val; omega
    | ⟨2, _⟩ => show win0_9.index (pt b t) 2 * 512 + t.val % 512 = t.val; omega
  have h := (dats m 0 c).arrAt_emb_eq_flushed 9 Value.disjoint9 (pt b t) (flush0_9 _) (ix3 0 n (row t))
  rw [e] at h
  refine h.trans ((congrFun (Value.flushed9 m c (pt b t)) (ix3 0 n (row t))).trans ?_)
  exact out9 _ _ _ n (row t)

theorem final10 (c : Dev nD) (b : Fin 4) (t : Fin 4096) (n : Fin 256) :
    (dats m 0 c).arrAt 10 cfg0.N (ix3 b n t) = tr (iblk m c 0 (pt b t)) (iblk m c 2 (pt b t)) ⟨1280 + n.val, by omega⟩ (row t) := by
  have e : ((cfg0.win 10).blk (pt b t)).view.emb (ix3 0 n (row t)) = ix3 b n t := by
    show (win0_10.rect (pt b t)).emb (ix3 0 n (row t)) = _
    refine funext fun a => Fin.ext ?_
    rw [win0_10.rect_emb_val (pt b t) (ix3 0 n (row t)) a]
    obtain ⟨h0, h1, h2⟩ := (idxT (pt b t)).2.2.2.1
    have hp : (pt b t).val = 8 * b.val + t.val / 512 := rfl
    match a with
    | ⟨0, _⟩ => show win0_10.index (pt b t) 0 * 1 + 0 = b.val; omega
    | ⟨1, _⟩ => show win0_10.index (pt b t) 1 * 256 + n.val = n.val; omega
    | ⟨2, _⟩ => show win0_10.index (pt b t) 2 * 512 + t.val % 512 = t.val; omega
  have h := (dats m 0 c).arrAt_emb_eq_flushed 10 Value.disjoint10 (pt b t) (flush0_10 _) (ix3 0 n (row t))
  rw [e] at h
  refine h.trans ((congrFun (Value.flushed10 m c (pt b t)) (ix3 0 n (row t))).trans ?_)
  exact out10 _ _ _ n (row t)

theorem final11 (c : Dev nD) (b : Fin 4) (t : Fin 4096) (n : Fin 32) :
    (dats m 0 c).arrAt 11 cfg0.N (ix3 b n t) = tr (iblk m c 0 (pt b t)) (iblk m c 2 (pt b t)) ⟨1536 + n.val, by omega⟩ (row t) := by
  have e : ((cfg0.win 11).blk (pt b t)).view.emb (ix3 0 n (row t)) = ix3 b n t := by
    show (win0_11.rect (pt b t)).emb (ix3 0 n (row t)) = _
    refine funext fun a => Fin.ext ?_
    rw [win0_11.rect_emb_val (pt b t) (ix3 0 n (row t)) a]
    obtain ⟨h0, h1, h2⟩ := (idxT (pt b t)).2.2.2.2.1
    have hp : (pt b t).val = 8 * b.val + t.val / 512 := rfl
    match a with
    | ⟨0, _⟩ => show win0_11.index (pt b t) 0 * 1 + 0 = b.val; omega
    | ⟨1, _⟩ => show win0_11.index (pt b t) 1 * 32 + n.val = n.val; omega
    | ⟨2, _⟩ => show win0_11.index (pt b t) 2 * 512 + t.val % 512 = t.val; omega
  have h := (dats m 0 c).arrAt_emb_eq_flushed 11 Value.disjoint11 (pt b t) (flush0_11 _) (ix3 0 n (row t))
  rw [e] at h
  refine h.trans ((congrFun (Value.flushed11 m c (pt b t)) (ix3 0 n (row t))).trans ?_)
  exact out11 _ _ _ n (row t)

theorem final12 (c : Dev nD) (b : Fin 4) (t : Fin 4096) (n : Fin 512) :
    (dats m 0 c).arrAt 12 cfg0.N (ix3 b n t) = tr (iblk m c 0 (pt b t)) (iblk m c 2 (pt b t)) ⟨1568 + n.val, by omega⟩ (row t) := by
  have e : ((cfg0.win 12).blk (pt b t)).view.emb (ix3 0 n (row t)) = ix3 b n t := by
    show (win0_12.rect (pt b t)).emb (ix3 0 n (row t)) = _
    refine funext fun a => Fin.ext ?_
    rw [win0_12.rect_emb_val (pt b t) (ix3 0 n (row t)) a]
    obtain ⟨h0, h1, h2⟩ := (idxT (pt b t)).2.2.2.2.2.1
    have hp : (pt b t).val = 8 * b.val + t.val / 512 := rfl
    match a with
    | ⟨0, _⟩ => show win0_12.index (pt b t) 0 * 1 + 0 = b.val; omega
    | ⟨1, _⟩ => show win0_12.index (pt b t) 1 * 512 + n.val = n.val; omega
    | ⟨2, _⟩ => show win0_12.index (pt b t) 2 * 512 + t.val % 512 = t.val; omega
  have h := (dats m 0 c).arrAt_emb_eq_flushed 12 Value.disjoint12 (pt b t) (flush0_12 _) (ix3 0 n (row t))
  rw [e] at h
  refine h.trans ((congrFun (Value.flushed12 m c (pt b t)) (ix3 0 n (row t))).trans ?_)
  exact out12 _ _ _ n (row t)

theorem final13 (c : Dev nD) (b : Fin 4) (t : Fin 4096) (n : Fin 256) :
    (dats m 0 c).arrAt 13 cfg0.N (ix3 b n t) = tr (iblk m c 0 (pt b t)) (iblk m c 2 (pt b t)) ⟨2080 + n.val, by omega⟩ (row t) := by
  have e : ((cfg0.win 13).blk (pt b t)).view.emb (ix3 0 n (row t)) = ix3 b n t := by
    show (win0_13.rect (pt b t)).emb (ix3 0 n (row t)) = _
    refine funext fun a => Fin.ext ?_
    rw [win0_13.rect_emb_val (pt b t) (ix3 0 n (row t)) a]
    obtain ⟨h0, h1, h2⟩ := (idxT (pt b t)).2.2.2.2.2.2.1
    have hp : (pt b t).val = 8 * b.val + t.val / 512 := rfl
    match a with
    | ⟨0, _⟩ => show win0_13.index (pt b t) 0 * 1 + 0 = b.val; omega
    | ⟨1, _⟩ => show win0_13.index (pt b t) 1 * 256 + n.val = n.val; omega
    | ⟨2, _⟩ => show win0_13.index (pt b t) 2 * 512 + t.val % 512 = t.val; omega
  have h := (dats m 0 c).arrAt_emb_eq_flushed 13 Value.disjoint13 (pt b t) (flush0_13 _) (ix3 0 n (row t))
  rw [e] at h
  refine h.trans ((congrFun (Value.flushed13 m c (pt b t)) (ix3 0 n (row t))).trans ?_)
  exact out13 _ _ _ n (row t)

theorem final14 (c : Dev nD) (b : Fin 4) (t : Fin 4096) (n : Fin 256) :
    (dats m 0 c).arrAt 14 cfg0.N (ix3 b n t) = tr (iblk m c 0 (pt b t)) (iblk m c 2 (pt b t)) ⟨2336 + n.val, by omega⟩ (row t) := by
  have e : ((cfg0.win 14).blk (pt b t)).view.emb (ix3 0 n (row t)) = ix3 b n t := by
    show (win0_14.rect (pt b t)).emb (ix3 0 n (row t)) = _
    refine funext fun a => Fin.ext ?_
    rw [win0_14.rect_emb_val (pt b t) (ix3 0 n (row t)) a]
    obtain ⟨h0, h1, h2⟩ := (idxT (pt b t)).2.2.2.2.2.2.2.1
    have hp : (pt b t).val = 8 * b.val + t.val / 512 := rfl
    match a with
    | ⟨0, _⟩ => show win0_14.index (pt b t) 0 * 1 + 0 = b.val; omega
    | ⟨1, _⟩ => show win0_14.index (pt b t) 1 * 256 + n.val = n.val; omega
    | ⟨2, _⟩ => show win0_14.index (pt b t) 2 * 512 + t.val % 512 = t.val; omega
  have h := (dats m 0 c).arrAt_emb_eq_flushed 14 Value.disjoint14 (pt b t) (flush0_14 _) (ix3 0 n (row t))
  rw [e] at h
  refine h.trans ((congrFun (Value.flushed14 m c (pt b t)) (ix3 0 n (row t))).trans ?_)
  exact out14 _ _ _ n (row t)

theorem final15 (c : Dev nD) (b : Fin 4) (t : Fin 4096) (n : Fin 16) :
    (dats m 0 c).arrAt 15 cfg0.N (ix3 b n t) = tr (iblk m c 0 (pt b t)) (iblk m c 2 (pt b t)) ⟨2592 + n.val, by omega⟩ (row t) := by
  have e : ((cfg0.win 15).blk (pt b t)).view.emb (ix3 0 n (row t)) = ix3 b n t := by
    show (win0_15.rect (pt b t)).emb (ix3 0 n (row t)) = _
    refine funext fun a => Fin.ext ?_
    rw [win0_15.rect_emb_val (pt b t) (ix3 0 n (row t)) a]
    obtain ⟨h0, h1, h2⟩ := (idxT (pt b t)).2.2.2.2.2.2.2.2
    have hp : (pt b t).val = 8 * b.val + t.val / 512 := rfl
    match a with
    | ⟨0, _⟩ => show win0_15.index (pt b t) 0 * 1 + 0 = b.val; omega
    | ⟨1, _⟩ => show win0_15.index (pt b t) 1 * 16 + n.val = n.val; omega
    | ⟨2, _⟩ => show win0_15.index (pt b t) 2 * 512 + t.val % 512 = t.val; omega
  have h := (dats m 0 c).arrAt_emb_eq_flushed 15 Value.disjoint15 (pt b t) (flush0_15 _) (ix3 0 n (row t))
  rw [e] at h
  refine h.trans ((congrFun (Value.flushed15 m c (pt b t)) (ix3 0 n (row t))).trans ?_)
  exact out15 _ _ _ n (row t)

/-- The two padded results: past the layer's own columns they hold zero. -/
theorem res6 (c : Dev nD) (b : Fin 4) (t : Fin 4096) (n : Fin 128) :
    (dats m 0 c).arrAt 6 cfg0.N (ix3 b t n) = if h : n.val < 32 then
      prj (m ((c : Thread nD τ).loc main_arg0)) (m ((c : Thread nD τ).loc main_arg1)) b t ⟨2560 + n.val, by omega⟩ else (0 : EReal) := by
  refine (final6 m c b t n).trans ?_
  split
  · rename_i hn
    exact (nat_prj m c b t _ _ fun k => wn3 m c k ⟨n.val, hn⟩)
  · have e : (⟨1024 + n.val, by omega⟩ : Fin 1152) = ⟨1056 + (n.val - 32), by omega⟩ := Fin.ext (by show 1024 + n.val = 1056 + (n.val - 32); omega)
    rw [e]
    exact (nat_zero m c b t _ fun k => wn4 m c k ⟨n.val - 32, by omega⟩)

theorem res15 (c : Dev nD) (b : Fin 4) (t : Fin 4096) (n : Fin 16) :
    (dats m 0 c).arrAt 15 cfg0.N (ix3 b n t) = if h : n.val < 8 then
      prj (m ((c : Thread nD τ).loc main_arg0)) (m ((c : Thread nD τ).loc main_arg1)) b t ⟨2592 + n.val, by omega⟩ else (0 : EReal) := by
  refine (final15 m c b t n).trans ?_
  split
  · rename_i hn
    exact (tr_prj m c b t _ _ fun k => wt8 m c k ⟨n.val, hn⟩)
  · have e : (⟨2592 + n.val, by omega⟩ : Fin 2608) = ⟨2600 + (n.val - 8), by omega⟩ := Fin.ext (by show 2592 + n.val = 2600 + (n.val - 8); omega)
    rw [e]
    exact (tr_zero m c b t _ fun k => wt9 m c k ⟨n.val - 8, by omega⟩)

/-! ## The reference's results, element by element -/

theorem sitofp_z : FloatOps.sitofp (F := Ideal) .f32 (0#32) = (0 : EReal) := by
  show (((0#32 : BitVec 32).toInt : ℝ) : EReal) = 0
  simp

section Ref
open Cert.ProjRefIdeal.Read
variable (x : FVec Ideal S4x4096x1024 .f32) (w : FVec Ideal S1024x2856 .f32)

theorem ref3 (b : Fin 4) (t : Fin 4096) (n : Fin 512) : val_main_v13 (F := Ideal) x w (ix3 b t n) = prj x w b t ⟨512 + n.val, by omega⟩ := by
  pointwise [val_main_v13, val_main_v2, val_main_v0, prj]

theorem ref4 (b : Fin 4) (t : Fin 4096) (n : Fin 256) : val_main_v14 (F := Ideal) x w (ix3 b t n) = prj x w b t ⟨1792 + n.val, by omega⟩ := by
  pointwise [val_main_v14, val_main_v5, val_main_v0, prj]

theorem ref5 (b : Fin 4) (t : Fin 4096) (n : Fin 256) : val_main_v15 (F := Ideal) x w (ix3 b t n) = prj x w b t ⟨2600 + n.val, by omega⟩ := by
  pointwise [val_main_v15, val_main_v10, val_main_v0, prj]

theorem ref6 (b : Fin 4) (t : Fin 4096) (n : Fin 128) : val_main_v16 (F := Ideal) x w (ix3 b t n) = if h : n.val < 32 then prj x w b t ⟨2560 + n.val, by omega⟩ else 0 := by
  pointwise [val_main_v16, val_main_v11, val_main_call0_v0, val_main_c, val_main_v8, val_main_v0, prj]
  simp only [show FloatOps.sitofp (F := Ideal) .f32 (0#32) = (0 : EReal) from sitofp_z]

theorem ref7 (b : Fin 4) (t : Fin 4096) (n : Fin 512) : val_main_v17 (F := Ideal) x w (ix3 b n t) = prj x w b t ⟨512 + n.val, by omega⟩ := by
  pointwise [val_main_v17, val_main_v2, val_main_v0, prj]

theorem ref8 (b : Fin 4) (t : Fin 4096) (n : Fin 512) : val_main_v18 (F := Ideal) x w (ix3 b n t) = prj x w b t ⟨1024 + n.val, by omega⟩ := by
  pointwise [val_main_v18, val_main_v3, val_main_v0, prj]

theorem ref9 (b : Fin 4) (t : Fin 4096) (n : Fin 256) : val_main_v19 (F := Ideal) x w (ix3 b n t) = prj x w b t ⟨1792 + n.val, by omega⟩ := by
  pointwise [val_main_v19, val_main_v5, val_main_v0, prj]

theorem ref10 (b : Fin 4) (t : Fin 4096) (n : Fin 256) : val_main_v20 (F := Ideal) x w (ix3 b n t) = prj x w b t ⟨2048 + n.val, by omega⟩ := by
  pointwise [val_main_v20, val_main_v6, val_main_v0, prj]

theorem ref11 (b : Fin 4) (t : Fin 4096) (n : Fin 32) : val_main_v21 (F := Ideal) x w (ix3 b n t) = prj x w b t ⟨2560 + n.val, by omega⟩ := by
  pointwise [val_main_v21, val_main_v8, val_main_v0, prj]

theorem ref12 (b : Fin 4) (t : Fin 4096) (n : Fin 512) : val_main_v23 (F := Ideal) x w (ix3 b n t) = prj x w b t ⟨n.val, by omega⟩ := by
  pointwise [val_main_v23, val_main_v22, val_main_v1, val_main_v0, prj]

theorem ref13 (b : Fin 4) (t : Fin 4096) (n : Fin 256) : val_main_v25 (F := Ideal) x w (ix3 b n t) = prj x w b t ⟨1536 + n.val, by omega⟩ := by
  pointwise [val_main_v25, val_main_v24, val_main_v4, val_main_v0, prj]

theorem ref14 (b : Fin 4) (t : Fin 4096) (n : Fin 256) : val_main_v27 (F := Ideal) x w (ix3 b n t) = prj x w b t ⟨2304 + n.val, by omega⟩ := by
  pointwise [val_main_v27, val_main_v26, val_main_v7, val_main_v0, prj]

theorem ref15 (b : Fin 4) (t : Fin 4096) (n : Fin 16) : val_main_v28 (F := Ideal) x w (ix3 b n t) = if h : n.val < 8 then prj x w b t ⟨2592 + n.val, by omega⟩ else 0 := by
  pointwise [val_main_v28, val_main_v12, val_main_call1_v0, val_main_c_0, val_main_v9, val_main_v0, prj]
  simp only [show FloatOps.sitofp (F := Ideal) .f32 (0#32) = (0 : EReal) from sitofp_z]

end Ref

/-! ## Result by result -/

theorem eq3 (c : Dev nD) : Cert.ProjRefIdeal.Read.val_main_v13 (F := Ideal) (m ((c : Thread nD τ).loc main_arg0)) (m ((c : Thread nD τ).loc main_arg1))
    = (dats m 0 c).arrAt 3 cfg0.N := by
  refine funext fun (i : S4x4096x512.Idx) => ?_
  obtain ⟨b, t, n, rfl⟩ : ∃ (b : Fin 4) (t : Fin 4096) (n : Fin 512), i = ix3 b t n := ⟨i 0, i 1, i 2, eq_ix3 i⟩
  exact (ref3 _ _ b t n).trans ((final3 m c b t n).trans (nat_prj m c b t _ _ fun k => wn0 m c k n)).symm

theorem eq4 (c : Dev nD) : Cert.ProjRefIdeal.Read.val_main_v14 (F := Ideal) (m ((c : Thread nD τ).loc main_arg0)) (m ((c : Thread nD τ).loc main_arg1))
    = (dats m 0 c).arrAt 4 cfg0.N := by
  refine funext fun (i : S4x4096x256.Idx) => ?_
  obtain ⟨b, t, n, rfl⟩ : ∃ (b : Fin 4) (t : Fin 4096) (n : Fin 256), i = ix3 b t n := ⟨i 0, i 1, i 2, eq_ix3 i⟩
  exact (ref4 _ _ b t n).trans ((final4 m c b t n).trans (nat_prj m c b t _ _ fun k => wn1 m c k n)).symm

theorem eq5 (c : Dev nD) : Cert.ProjRefIdeal.Read.val_main_v15 (F := Ideal) (m ((c : Thread nD τ).loc main_arg0)) (m ((c : Thread nD τ).loc main_arg1))
    = (dats m 0 c).arrAt 5 cfg0.N := by
  refine funext fun (i : S4x4096x256.Idx) => ?_
  obtain ⟨b, t, n, rfl⟩ : ∃ (b : Fin 4) (t : Fin 4096) (n : Fin 256), i = ix3 b t n := ⟨i 0, i 1, i 2, eq_ix3 i⟩
  exact (ref5 _ _ b t n).trans ((final5 m c b t n).trans (nat_prj m c b t _ _ fun k => wn2 m c k n)).symm

theorem eq6 (c : Dev nD) : Cert.ProjRefIdeal.Read.val_main_v16 (F := Ideal) (m ((c : Thread nD τ).loc main_arg0)) (m ((c : Thread nD τ).loc main_arg1))
    = (dats m 0 c).arrAt 6 cfg0.N := by
  refine funext fun (i : S4x4096x128.Idx) => ?_
  obtain ⟨b, t, n, rfl⟩ : ∃ (b : Fin 4) (t : Fin 4096) (n : Fin 128), i = ix3 b t n := ⟨i 0, i 1, i 2, eq_ix3 i⟩
  exact (ref6 _ _ b t n).trans (res6 m c b t n).symm

theorem eq7 (c : Dev nD) : Cert.ProjRefIdeal.Read.val_main_v17 (F := Ideal) (m ((c : Thread nD τ).loc main_arg0)) (m ((c : Thread nD τ).loc main_arg1))
    = (dats m 0 c).arrAt 7 cfg0.N := by
  refine funext fun (i : S4x512x4096.Idx) => ?_
  obtain ⟨b, n, t, rfl⟩ : ∃ (b : Fin 4) (n : Fin 512) (t : Fin 4096), i = ix3 b n t := ⟨i 0, i 1, i 2, eq_ix3 i⟩
  exact (ref7 _ _ b t n).trans ((final7 m c b t n).trans (tr_prj m c b t _ _ fun k => wt0 m c k n)).symm

theorem eq8 (c : Dev nD) : Cert.ProjRefIdeal.Read.val_main_v18 (F := Ideal) (m ((c : Thread nD τ).loc main_arg0)) (m ((c : Thread nD τ).loc main_arg1))
    = (dats m 0 c).arrAt 8 cfg0.N := by
  refine funext fun (i : S4x512x4096.Idx) => ?_
  obtain ⟨b, n, t, rfl⟩ : ∃ (b : Fin 4) (n : Fin 512) (t : Fin 4096), i = ix3 b n t := ⟨i 0, i 1, i 2, eq_ix3 i⟩
  exact (ref8 _ _ b t n).trans ((final8 m c b t n).trans (tr_prj m c b t _ _ fun k => wt1 m c k n)).symm

theorem eq9 (c : Dev nD) : Cert.ProjRefIdeal.Read.val_main_v19 (F := Ideal) (m ((c : Thread nD τ).loc main_arg0)) (m ((c : Thread nD τ).loc main_arg1))
    = (dats m 0 c).arrAt 9 cfg0.N := by
  refine funext fun (i : S4x256x4096.Idx) => ?_
  obtain ⟨b, n, t, rfl⟩ : ∃ (b : Fin 4) (n : Fin 256) (t : Fin 4096), i = ix3 b n t := ⟨i 0, i 1, i 2, eq_ix3 i⟩
  exact (ref9 _ _ b t n).trans ((final9 m c b t n).trans (tr_prj m c b t _ _ fun k => wt2 m c k n)).symm

theorem eq10 (c : Dev nD) : Cert.ProjRefIdeal.Read.val_main_v20 (F := Ideal) (m ((c : Thread nD τ).loc main_arg0)) (m ((c : Thread nD τ).loc main_arg1))
    = (dats m 0 c).arrAt 10 cfg0.N := by
  refine funext fun (i : S4x256x4096.Idx) => ?_
  obtain ⟨b, n, t, rfl⟩ : ∃ (b : Fin 4) (n : Fin 256) (t : Fin 4096), i = ix3 b n t := ⟨i 0, i 1, i 2, eq_ix3 i⟩
  exact (ref10 _ _ b t n).trans ((final10 m c b t n).trans (tr_prj m c b t _ _ fun k => wt3 m c k n)).symm

theorem eq11 (c : Dev nD) : Cert.ProjRefIdeal.Read.val_main_v21 (F := Ideal) (m ((c : Thread nD τ).loc main_arg0)) (m ((c : Thread nD τ).loc main_arg1))
    = (dats m 0 c).arrAt 11 cfg0.N := by
  refine funext fun (i : S4x32x4096.Idx) => ?_
  obtain ⟨b, n, t, rfl⟩ : ∃ (b : Fin 4) (n : Fin 32) (t : Fin 4096), i = ix3 b n t := ⟨i 0, i 1, i 2, eq_ix3 i⟩
  exact (ref11 _ _ b t n).trans ((final11 m c b t n).trans (tr_prj m c b t _ _ fun k => wt4 m c k n)).symm

theorem eq12 (c : Dev nD) : Cert.ProjRefIdeal.Read.val_main_v23 (F := Ideal) (m ((c : Thread nD τ).loc main_arg0)) (m ((c : Thread nD τ).loc main_arg1))
    = (dats m 0 c).arrAt 12 cfg0.N := by
  refine funext fun (i : S4x512x4096.Idx) => ?_
  obtain ⟨b, n, t, rfl⟩ : ∃ (b : Fin 4) (n : Fin 512) (t : Fin 4096), i = ix3 b n t := ⟨i 0, i 1, i 2, eq_ix3 i⟩
  exact (ref12 _ _ b t n).trans ((final12 m c b t n).trans (tr_prj m c b t _ _ fun k => wt5 m c k n)).symm

theorem eq13 (c : Dev nD) : Cert.ProjRefIdeal.Read.val_main_v25 (F := Ideal) (m ((c : Thread nD τ).loc main_arg0)) (m ((c : Thread nD τ).loc main_arg1))
    = (dats m 0 c).arrAt 13 cfg0.N := by
  refine funext fun (i : S4x256x4096.Idx) => ?_
  obtain ⟨b, n, t, rfl⟩ : ∃ (b : Fin 4) (n : Fin 256) (t : Fin 4096), i = ix3 b n t := ⟨i 0, i 1, i 2, eq_ix3 i⟩
  exact (ref13 _ _ b t n).trans ((final13 m c b t n).trans (tr_prj m c b t _ _ fun k => wt6 m c k n)).symm

theorem eq14 (c : Dev nD) : Cert.ProjRefIdeal.Read.val_main_v27 (F := Ideal) (m ((c : Thread nD τ).loc main_arg0)) (m ((c : Thread nD τ).loc main_arg1))
    = (dats m 0 c).arrAt 14 cfg0.N := by
  refine funext fun (i : S4x256x4096.Idx) => ?_
  obtain ⟨b, n, t, rfl⟩ : ∃ (b : Fin 4) (n : Fin 256) (t : Fin 4096), i = ix3 b n t := ⟨i 0, i 1, i 2, eq_ix3 i⟩
  exact (ref14 _ _ b t n).trans ((final14 m c b t n).trans (tr_prj m c b t _ _ fun k => wt7 m c k n)).symm

theorem eq15 (c : Dev nD) : Cert.ProjRefIdeal.Read.val_main_v28 (F := Ideal) (m ((c : Thread nD τ).loc main_arg0)) (m ((c : Thread nD τ).loc main_arg1))
    = (dats m 0 c).arrAt 15 cfg0.N := by
  refine funext fun (i : S4x16x4096.Idx) => ?_
  obtain ⟨b, n, t, rfl⟩ : ∃ (b : Fin 4) (n : Fin 16) (t : Fin 4096), i = ix3 b n t := ⟨i 0, i 1, i 2, eq_ix3 i⟩
  exact (ref15 _ _ b t n).trans (res15 m c b t n).symm

set_option maxHeartbeats 2000000 in
/-- The value claim. -/
theorem algebraic : Cert.algebraic_ProjIdeal_ProjRefIdeal := by
  intro m g m' g' _ hagree
  refine ⟨fun c => (dats m 0 c).arrAt 3 cfg0.N, fun c => (dats m 0 c).arrAt 4 cfg0.N, fun c => (dats m 0 c).arrAt 5 cfg0.N, fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, fun c => (dats m 0 c).arrAt 14 cfg0.N, fun c => (dats m 0 c).arrAt 15 cfg0.N, Value.run_blocks m g, ?_⟩
  refine (θ_run Cert.ProjRefIdeal.defs _ _).mono (fun r h c => ?_) (Cert.ProjRefIdeal.Value.run m' g')
  obtain ⟨h3, h4, h5, h6, h7, h8, h9, h10, h11, h12, h13, h14, h15, hm⟩ := h c
  obtain ⟨a0, a1⟩ := hagree c
  rw [a0, a1] at h3 h4 h5 h6 h7 h8 h9 h10 h11 h12 h13 h14 h15
  refine ⟨h3.trans ((Cert.ProjRefIdeal.Read.val_main_v13_eq _ _).trans (eq3 m c)), h4.trans ((Cert.ProjRefIdeal.Read.val_main_v14_eq _ _).trans (eq4 m c)), h5.trans ((Cert.ProjRefIdeal.Read.val_main_v15_eq _ _).trans (eq5 m c)), h6.trans ((Cert.ProjRefIdeal.Read.val_main_v16_eq _ _).trans (eq6 m c)), h7.trans ((Cert.ProjRefIdeal.Read.val_main_v17_eq _ _).trans (eq7 m c)), h8.trans ((Cert.ProjRefIdeal.Read.val_main_v18_eq _ _).trans (eq8 m c)), h9.trans ((Cert.ProjRefIdeal.Read.val_main_v19_eq _ _).trans (eq9 m c)), h10.trans ((Cert.ProjRefIdeal.Read.val_main_v20_eq _ _).trans (eq10 m c)), h11.trans ((Cert.ProjRefIdeal.Read.val_main_v21_eq _ _).trans (eq11 m c)), h12.trans ((Cert.ProjRefIdeal.Read.val_main_v23_eq _ _).trans (eq12 m c)), h13.trans ((Cert.ProjRefIdeal.Read.val_main_v25_eq _ _).trans (eq13 m c)), h14.trans ((Cert.ProjRefIdeal.Read.val_main_v27_eq _ _).trans (eq14 m c)), h15.trans ((Cert.ProjRefIdeal.Read.val_main_v28_eq _ _).trans (eq15 m c)), hm⟩

end Cert.Proof.Proj

end
-- ==== Proof.SampleTailValue.lean ====
/-
  Hand-written, untrusted. The value of the decoded tokens' tail: one tile of all 256 tokens, every weight in
  float32; each row of the result is the tail of that token (`TailSpec.row`) — the function the reference computes.
-/
module

public import proofs.«01_k».proof.Defs
public import proofs.«01_k».proof.Proof.TailSpec
public import proofs.«01_k».proof.Proof.TailValue
public import proofs.«01_k».proof.Proof.Gen.SampleTailIdeal.Value
public import proofs.«01_k».proof.Proof.Gen.SampleTailRefIdeal.Read
public import Idealize.ShloMosaic.Lib.Pipeline.Value
public import Idealize.ShloMosaic.Lib.Pointwise
public import Idealize.ShloMosaic.Lib.StableHlo.ReadAt
public import Idealize.ShloMosaic.PureOps.Ideal.Laws

@[expose] public section

noncomputable section

namespace Cert.Proof.SampleTail

open Idealize.ShloMosaic Idealize.SL.Sem Idealize.ShloMosaic.TcCoe
open Cert.SampleTailIdeal Cert.SampleTailIdeal.Gen Cert.Proof.TailSpec
open Idealize.ShloMosaic.Pipeline (Dat Cfg Window)

/-! ## The kernel's payloads at an index -/

/-- The first residual at a row of the blocks. -/
abbrev z1 (v0 : Vec Ideal S256x512 .f32) (v2 : Vec Ideal S512x1024 .f32) (v4 : Vec Ideal S256x256 .f32) (v6 : Vec Ideal S256x1024 .f32)
    (v9 : Vec Ideal S256x256 .f32) (v11 : Vec Ideal S256x1024 .f32) (v14 : Vec Ideal S256x1024 .f32) (r : Fin 256) (j : Fin 1024) : EReal :=
  alpha * v14 (ix2 r j) + ((∑ k : Fin 512, v0 (ix2 r k) * v2 (ix2 k j)) + (∑ k : Fin 256, v4 (ix2 r k) * v6 (ix2 k j)) + ∑ k : Fin 256, v9 (ix2 r k) * v11 (ix2 k j))

section Pay1
variable (v0 : Vec Ideal S256x512 .f32) (v2 : Vec Ideal S512x1024 .f32) (v4 : Vec Ideal S256x256 .f32) (v6 : Vec Ideal S256x1024 .f32)
    (v9 : Vec Ideal S256x256 .f32) (v11 : Vec Ideal S256x1024 .f32) (v14 : Vec Ideal S256x1024 .f32)

theorem pay4_apply (r : Fin 256) (j : Fin 1024) :
    k0_pay4 (F := Ideal) v0 v2 v4 v6 v9 v11 v14 (ix2 r j) = z1 v0 v2 v4 v6 v9 v11 v14 r j - mean (z1 v0 v2 v4 v6 v9 v11 v14 r) := by
  pointwise [k0_pay4, mean, z1]

theorem pay5_apply (r : Fin 256) : k0_pay5 (F := Ideal) v0 v2 v4 v6 v9 v11 v14 (ix2 r 0)
      = ∑ k : Fin 1024, k0_pay4 (F := Ideal) v0 v2 v4 v6 v9 v11 v14 (ix2 r k) * k0_pay4 (F := Ideal) v0 v2 v4 v6 v9 v11 v14 (ix2 r k) := by
  pointwise [k0_pay5]

end Pay1

section Pay2
variable (v20 v22 : FVec Ideal S1x1024 .f32) (v28 : FVec Ideal S256x1024 .f32) (v31 v32 : FVec Ideal S256x1 .f32)

theorem pay7_apply (r : Fin 256) (j : Fin 1024) : k0_pay7 (F := Ideal) v20 v22 v28 v31 v32 (ix2 r j)
      = v28 (ix2 r j) * Ideal.rsqrt (Ideal.div (v31 (ix2 r 0)) (v32 (ix2 r 0)) + eps) * v20 (ix2 0 j) + v22 (ix2 0 j) := by
  pointwise [k0_pay7, eps]

theorem pay8_apply (v44 v49 v52 v57 v60 v65 : Vec Ideal S1024x1024 .f32) (r : Fin 256) (j : Fin 1024) :
    k0_pay8 (F := Ideal) v20 v22 v28 v31 v32 v44 v49 v52 v57 v60 v65 (ix2 r j)
      = 0 + Tail.run (fun k => k0_pay7 (F := Ideal) v20 v22 v28 v31 v32 (ix2 r k)) v44 v49 j
        + Tail.run (fun k => k0_pay7 (F := Ideal) v20 v22 v28 v31 v32 (ix2 r k)) v52 v57 j
        + Tail.run (fun k => k0_pay7 (F := Ideal) v20 v22 v28 v31 v32 (ix2 r k)) v60 v65 j := by
  pointwise [k0_pay8, Tail.run]

end Pay2

/-- The second residual at a row, from the first three runs' sum. -/
abbrev z2 (v42 v67 : FVec Ideal S256x1024 .f32) (v68 v73 : Vec Ideal S1024x1024 .f32) (r : Fin 256) (j : Fin 1024) : EReal :=
  alpha * v42 (ix2 r j) + (v67 (ix2 r j) + Tail.run (fun k => v42 (ix2 r k)) v68 v73 j)

theorem pay1_apply (v42 v67 : FVec Ideal S256x1024 .f32) (v68 v73 : Vec Ideal S1024x1024 .f32) (v79 v81 : Vec Ideal S1x1024 .f32) (r : Fin 256) (j : Fin 1024) :
    k0_pay1 (F := Ideal) v42 v67 v68 v73 v79 v81 (ix2 r j)
      = norm (z2 v42 v67 v68 v73 r) (fun k => v79 (ix2 0 k)) (fun k => v81 (ix2 0 k)) j := by
  pointwise [k0_pay1, TailSpec.norm, mean, z2, Tail.run, width, eps, alpha]

section Out
variable (x0 : Vec Ideal S256x1024 .f32) (x1 : Vec Ideal S256x512 .f32) (x2 x3 : Vec Ideal S256x256 .f32) (x4 : Vec Ideal S1024x1024 .f32)
  (x5 x6 : Vec Ideal S1x1024 .f32) (x7 : Vec Ideal S1024x4096 .f32) (x8 : Vec Ideal S4096x1024 .f32) (x9 x10 : Vec Ideal S1x1024 .f32)

/-- The blocks' row `r` after the first layer norm. -/
abbrev blkMid (r : Fin 256) : Fin 1024 → EReal :=
  mid (fun k => x0 (ix2 r k)) (fun k => x1 (ix2 r k)) (fun k => x2 (ix2 r k)) (fun k => x3 (ix2 r k)) (fun k j => x4 (ix2 k j))
    (fun k => x5 (ix2 0 k)) (fun k => x6 (ix2 0 k))

theorem z1_eq (r : Fin 256) (j : Fin 1024) :
    z1 (View.ld x1 r0_0) (View.ld x4 r0_1) (View.ld x2 r0_2) (View.ld x4 r0_3) (View.ld x3 r0_2) (View.ld x4 r0_4) (View.ld x0 r0_5) r j
      = res1 (fun k => x0 (ix2 r k)) (fun k => x1 (ix2 r k)) (fun k => x2 (ix2 r k)) (fun k => x3 (ix2 r k)) (fun k j => x4 (ix2 k j)) j := by
  pointwise [z1, res1]

theorem gain_read (v : Vec Ideal S1x1024 .f32) (j : Fin 1024) : k0_pay2 (F := Ideal) (View.ld v r0_6) (ix2 0 j) = v (ix2 0 j)
    ∧ k0_pay3 (F := Ideal) (View.ld v r0_6) (ix2 0 j) = v (ix2 0 j) ∧ (View.ld v r0_6 : Vec Ideal S1x1024 .f32) (ix2 0 j) = v (ix2 0 j) := by
  refine ⟨?_, ?_, ?_⟩
  · pointwise [k0_pay2]
  · pointwise [k0_pay3]
  · pointwise

theorem width_read (r : Fin 256) : k0_pay6 (F := Ideal) (ix2 r 0) = width := rfl

/-- The blocks' rows after the first layer norm, as the body computes them. -/
abbrev blkPay : FVec Ideal S256x1024 .f32 :=
  k0_pay7 (F := Ideal) (k0_pay9 x0 x1 x2 x3 x4 x5 x6 x7 x8 x9 x10) (k0_pay10 x0 x1 x2 x3 x4 x5 x6 x7 x8 x9 x10)
    (k0_pay11 x0 x1 x2 x3 x4 x5 x6 x7 x8 x9 x10) (k0_pay12 x0 x1 x2 x3 x4 x5 x6 x7 x8 x9 x10) (k0_pay13 x0 x1 x2 x3 x4 x5 x6 x7 x8 x9 x10)

theorem blkPay_apply (r : Fin 256) (j : Fin 1024) : blkPay x0 x1 x2 x3 x4 x5 x6 x7 x8 x9 x10 (ix2 r j) = blkMid x0 x1 x2 x3 x4 x5 x6 r j := by
  unfold blkPay k0_pay9 k0_pay10 k0_pay11 k0_pay12 k0_pay13
  rw [pay7_apply, pay5_apply, width_read, (gain_read x5 j).1, (gain_read x6 j).2.1]
  have hz := funext (z1_eq x0 x1 x2 x3 x4 r)
  simp only [pay4_apply]
  rw [hz]
  rfl

theorem out_row (r : Fin 256) (j : Fin 1024) : out0_11 (F := Ideal) x0 x1 x2 x3 x4 x5 x6 x7 x8 x9 x10 (ix2 r j)
    = row (fun k => x0 (ix2 r k)) (fun k => x1 (ix2 r k)) (fun k => x2 (ix2 r k)) (fun k => x3 (ix2 r k)) (fun k j => x4 (ix2 k j))
        (fun k => x5 (ix2 0 k)) (fun k => x6 (ix2 0 k)) (fun k f => x7 (ix2 k f)) (fun f j => x8 (ix2 f j)) (fun k => x9 (ix2 0 k)) (fun k => x10 (ix2 0 k)) j := by
  have hz : (![0, 0] : Fin S256x1024.rank → Nat) = fun _ => 0 := funext fun a => by fin_cases a <;> rfl
  unfold out0_11
  rw [View.canon_unit_zero hz, pay1_apply]
  have hm := funext (blkPay_apply x0 x1 x2 x3 x4 x5 x6 x7 x8 x9 x10 r)
  have h2 : z2 (blkPay x0 x1 x2 x3 x4 x5 x6 x7 x8 x9 x10) (k0_pay8 (k0_pay9 x0 x1 x2 x3 x4 x5 x6 x7 x8 x9 x10) (k0_pay10 x0 x1 x2 x3 x4 x5 x6 x7 x8 x9 x10)
      (k0_pay11 x0 x1 x2 x3 x4 x5 x6 x7 x8 x9 x10) (k0_pay12 x0 x1 x2 x3 x4 x5 x6 x7 x8 x9 x10) (k0_pay13 x0 x1 x2 x3 x4 x5 x6 x7 x8 x9 x10)
      (View.ld x7 r0_7) (View.ld x8 r0_8) (View.ld x7 r0_9) (View.ld x8 r0_10) (View.ld x7 r0_11) (View.ld x8 r0_12)) (View.ld x7 r0_13) (View.ld x8 r0_14) r
      = res2 (blkMid x0 x1 x2 x3 x4 x5 x6 r) (fun k f => x7 (ix2 k f)) (fun f j => x8 (ix2 f j)) := by
    funext j
    obtain ⟨h0, h1, h2, h3⟩ := Tail.runs x7 x8 (blkMid x0 x1 x2 x3 x4 x5 x6 r) j
    have e8 := pay8_apply (k0_pay9 x0 x1 x2 x3 x4 x5 x6 x7 x8 x9 x10) (k0_pay10 x0 x1 x2 x3 x4 x5 x6 x7 x8 x9 x10)
      (k0_pay11 x0 x1 x2 x3 x4 x5 x6 x7 x8 x9 x10) (k0_pay12 x0 x1 x2 x3 x4 x5 x6 x7 x8 x9 x10) (k0_pay13 x0 x1 x2 x3 x4 x5 x6 x7 x8 x9 x10)
      (View.ld x7 r0_7) (View.ld x8 r0_8) (View.ld x7 r0_9) (View.ld x8 r0_10) (View.ld x7 r0_11) (View.ld x8 r0_12) r j
    rw [hm] at e8
    unfold z2
    rw [e8, hm, blkPay_apply]
    refine congrArg₂ (· + ·) rfl (Eq.trans ?_ (sum_runs fun f => hid (blkMid x0 x1 x2 x3 x4 x5 x6 r) (fun k f => x7 (ix2 k f)) f * x8 (ix2 f j)))
    exact congrArg₂ (· + ·) (congrArg₂ (· + ·) (congrArg₂ (· + ·) (congrArg (0 + ·) h0) h1) h2) h3
  refine (congrArg (fun z => norm z _ _ j) h2).trans ?_
  exact congrArg₂ (fun g b => TailSpec.norm _ g b j) (funext fun k => (gain_read x9 k).2.2) (funext fun k => (gain_read x10 k).2.2)

end Out

section Ref
open Cert.SampleTailRefIdeal.Read
variable (x0 : FVec Ideal Cert.SampleTailRefIdeal.S32x8x1024 .f32) (x1 : FVec Ideal Cert.SampleTailRefIdeal.S32x8x8x64 .f32) (x2 x3 : FVec Ideal Cert.SampleTailRefIdeal.S32x8x4x64 .f32)
  (x4 : FVec Ideal Cert.SampleTailRefIdeal.S1024x1024 .f32) (x5 x6 : FVec Ideal Cert.SampleTailRefIdeal.S1024 .f32) (x7 : FVec Ideal Cert.SampleTailRefIdeal.S1024x4096 .f32)
  (x8 : FVec Ideal Cert.SampleTailRefIdeal.S4096x1024 .f32) (x9 x10 : FVec Ideal Cert.SampleTailRefIdeal.S1024 .f32)

theorem ref_cat (b : Fin 32) (t : Fin 8) :
    (∀ k : Fin 512, val_main_v3 (F := Ideal) x1 x2 x3 (ix3 b t ⟨k.val, by omega⟩) = x1 (ix4 b t ⟨k.val / 64, by omega⟩ ⟨k.val % 64, by omega⟩))
    ∧ (∀ k : Fin 256, val_main_v3 (F := Ideal) x1 x2 x3 (ix3 b t ⟨512 + k.val, by omega⟩) = x2 (ix4 b t ⟨k.val / 64, by omega⟩ ⟨k.val % 64, by omega⟩))
    ∧ (∀ k : Fin 256, val_main_v3 (F := Ideal) x1 x2 x3 (ix3 b t ⟨768 + k.val, by omega⟩) = x3 (ix4 b t ⟨k.val / 64, by omega⟩ ⟨k.val % 64, by omega⟩)) := by
  refine ⟨fun k => ?_, fun k => ?_, fun k => ?_⟩
  · pointwise [val_main_v3, val_main_v0, val_main_v1, val_main_v2]
  · pointwise [val_main_v3, val_main_v0, val_main_v1, val_main_v2]
  · pointwise [val_main_v3, val_main_v0, val_main_v1, val_main_v2]
    have e : 768 + k.val - 512 - 256 = k.val := by omega
    rw [dif_neg (by omega), dif_neg (by omega)]
    simp only [e]

theorem ref_v7 (b : Fin 32) (t : Fin 8) (j : Fin 1024) : val_main_v7 (F := Ideal) x0 x1 x2 x3 x4 (ix3 b t j)
    = alpha * x0 (ix3 b t j) + ∑ k : Fin 1024, val_main_v3 (F := Ideal) x1 x2 x3 (ix3 b t k) * x4 (ix2 k j) := by
  pointwise [val_main_v7, val_main_v6, val_main_v5, val_main_v4, val_main_cst]

theorem ref_v13 (b : Fin 32) (t : Fin 8) (j : Fin 1024) : val_main_v13 (F := Ideal) x0 x1 x2 x3 x4 (ix3 b t j)
    = val_main_v7 (F := Ideal) x0 x1 x2 x3 x4 (ix3 b t j) - mean (fun k => val_main_v7 (F := Ideal) x0 x1 x2 x3 x4 (ix3 b t k)) := by
  pointwise [val_main_v13, val_main_v12, val_main_v11, val_main_v10, val_main_v9, val_main_v8, val_main_cst_1, val_main_cst_0, mean]

theorem ref_v31 (b : Fin 32) (t : Fin 8) (j : Fin 1024) : val_main_v31 (F := Ideal) x0 x1 x2 x3 x4 x5 x6 (ix3 b t j)
    = norm (fun k => val_main_v7 (F := Ideal) x0 x1 x2 x3 x4 (ix3 b t k)) (fun k => x5 (ix1 k)) (fun k => x6 (ix1 k)) j := by
  have h20 : val_main_v20 (F := Ideal) x0 x1 x2 x3 x4 = val_main_v13 (F := Ideal) x0 x1 x2 x3 x4 := rfl
  have h18 : val_main_v18 (F := Ideal) x0 x1 x2 x3 x4 (ix3 b t 0)
      = Ideal.div (∑ k : Fin 1024, val_main_v13 (F := Ideal) x0 x1 x2 x3 x4 (ix3 b t k) * val_main_v13 (F := Ideal) x0 x1 x2 x3 x4 (ix3 b t k)) width := by
    pointwise [val_main_v18, val_main_v17, val_main_v16, val_main_v15, val_main_v14, val_main_cst_3, val_main_cst_2, width]
  have h : val_main_v31 (F := Ideal) x0 x1 x2 x3 x4 x5 x6 (ix3 b t j)
      = val_main_v20 (F := Ideal) x0 x1 x2 x3 x4 (ix3 b t j) * Ideal.rsqrt (val_main_v18 (F := Ideal) x0 x1 x2 x3 x4 (ix3 b t 0) + eps) * x5 (ix1 j) + x6 (ix1 j) := by
    pointwise [val_main_v31, val_main_v30, val_main_v29, val_main_v28, val_main_v27, val_main_v26, val_main_v25, val_main_v24, val_main_v23, val_main_v22, val_main_v21, val_main_cst_4, eps]
  rw [h, h20, h18]
  simp only [ref_v13]
  rfl

theorem ref_v38 (b : Fin 32) (t : Fin 8) (j : Fin 1024) : val_main_v38 (F := Ideal) x0 x1 x2 x3 x4 x5 x6 x7 x8 (ix3 b t j)
    = res2 (fun k => val_main_v31 (F := Ideal) x0 x1 x2 x3 x4 x5 x6 (ix3 b t k)) (fun k f => x7 (ix2 k f)) (fun f j => x8 (ix2 f j)) j := by
  have h34 (f : Fin 4096) : val_main_v34 (F := Ideal) x0 x1 x2 x3 x4 x5 x6 x7 (ix3 b t f)
      = hid (fun k => val_main_v31 (F := Ideal) x0 x1 x2 x3 x4 x5 x6 (ix3 b t k)) (fun k f => x7 (ix2 k f)) f := by
    pointwise [val_main_v34, val_main_v33, val_main_call0_v0, val_main_call0_cst, val_main_v32, hid]
  have h : val_main_v38 (F := Ideal) x0 x1 x2 x3 x4 x5 x6 x7 x8 (ix3 b t j)
      = alpha * val_main_v31 (F := Ideal) x0 x1 x2 x3 x4 x5 x6 (ix3 b t j) + ∑ f : Fin 4096, val_main_v34 (F := Ideal) x0 x1 x2 x3 x4 x5 x6 x7 (ix3 b t f) * x8 (ix2 f j) := by
    pointwise [val_main_v38, val_main_v37, val_main_v36, val_main_v35, val_main_cst_5, alpha]
  rw [h]
  simp only [h34]
  rfl

theorem ref_v44 (b : Fin 32) (t : Fin 8) (j : Fin 1024) : val_main_v44 (F := Ideal) x0 x1 x2 x3 x4 x5 x6 x7 x8 (ix3 b t j)
    = val_main_v38 (F := Ideal) x0 x1 x2 x3 x4 x5 x6 x7 x8 (ix3 b t j) - mean (fun k => val_main_v38 (F := Ideal) x0 x1 x2 x3 x4 x5 x6 x7 x8 (ix3 b t k)) := by
  pointwise [val_main_v44, val_main_v43, val_main_v42, val_main_v41, val_main_v40, val_main_v39, val_main_cst_7, val_main_cst_6, mean]

theorem ref_v62 (b : Fin 32) (t : Fin 8) (j : Fin 1024) : val_main_v62 (F := Ideal) x0 x1 x2 x3 x4 x5 x6 x7 x8 x9 x10 (ix3 b t j)
    = norm (fun k => val_main_v38 (F := Ideal) x0 x1 x2 x3 x4 x5 x6 x7 x8 (ix3 b t k)) (fun k => x9 (ix1 k)) (fun k => x10 (ix1 k)) j := by
  have h51 : val_main_v51 (F := Ideal) x0 x1 x2 x3 x4 x5 x6 x7 x8 = val_main_v44 (F := Ideal) x0 x1 x2 x3 x4 x5 x6 x7 x8 := rfl
  have h49 : val_main_v49 (F := Ideal) x0 x1 x2 x3 x4 x5 x6 x7 x8 (ix3 b t 0)
      = Ideal.div (∑ k : Fin 1024, val_main_v44 (F := Ideal) x0 x1 x2 x3 x4 x5 x6 x7 x8 (ix3 b t k) * val_main_v44 (F := Ideal) x0 x1 x2 x3 x4 x5 x6 x7 x8 (ix3 b t k)) width := by
    pointwise [val_main_v49, val_main_v48, val_main_v47, val_main_v46, val_main_v45, val_main_cst_9, val_main_cst_8, width]
  have h : val_main_v62 (F := Ideal) x0 x1 x2 x3 x4 x5 x6 x7 x8 x9 x10 (ix3 b t j)
      = val_main_v51 (F := Ideal) x0 x1 x2 x3 x4 x5 x6 x7 x8 (ix3 b t j)
          * Ideal.rsqrt (val_main_v49 (F := Ideal) x0 x1 x2 x3 x4 x5 x6 x7 x8 (ix3 b t 0) + eps) * x9 (ix1 j) + x10 (ix1 j) := by
    pointwise [val_main_v62, val_main_v61, val_main_v60, val_main_v59, val_main_v58, val_main_v57, val_main_v56, val_main_v55, val_main_v54, val_main_v53, val_main_v52, val_main_cst_10, eps]
  rw [h, h51, h49]
  simp only [ref_v44]
  rfl

/-- The tail of one token, from the arguments. -/
def spec (b : Fin 32) (t : Fin 8) : Fin 1024 → EReal :=
  row (fun k => x0 (ix3 b t k)) (fun k => x1 (ix4 b t ⟨k.val / 64, by omega⟩ ⟨k.val % 64, by omega⟩))
    (fun k => x2 (ix4 b t ⟨k.val / 64, by omega⟩ ⟨k.val % 64, by omega⟩)) (fun k => x3 (ix4 b t ⟨k.val / 64, by omega⟩ ⟨k.val % 64, by omega⟩))
    (fun k j => x4 (ix2 k j)) (fun k => x5 (ix1 k)) (fun k => x6 (ix1 k)) (fun k f => x7 (ix2 k f)) (fun f j => x8 (ix2 f j))
    (fun k => x9 (ix1 k)) (fun k => x10 (ix1 k))

theorem ref_eq (i : Fin 256) (j : Fin 1024) : val_main_v63 (F := Ideal) x0 x1 x2 x3 x4 x5 x6 x7 x8 x9 x10 (ix2 i j)
    = spec x0 x1 x2 x3 x4 x5 x6 x7 x8 x9 x10 ⟨i.val / 8, by omega⟩ ⟨i.val % 8, by omega⟩ j := by
  have h63 : val_main_v63 (F := Ideal) x0 x1 x2 x3 x4 x5 x6 x7 x8 x9 x10 (ix2 i j)
      = val_main_v62 (F := Ideal) x0 x1 x2 x3 x4 x5 x6 x7 x8 x9 x10 (ix3 ⟨i.val / 8, by omega⟩ ⟨i.val % 8, by omega⟩ j) := by
    pointwise [val_main_v63]
  have h7 (b : Fin 32) (t : Fin 8) : (fun k => val_main_v7 (F := Ideal) x0 x1 x2 x3 x4 (ix3 b t k))
      = res1 (fun k => x0 (ix3 b t k)) (fun k => x1 (ix4 b t ⟨k.val / 64, by omega⟩ ⟨k.val % 64, by omega⟩))
        (fun k => x2 (ix4 b t ⟨k.val / 64, by omega⟩ ⟨k.val % 64, by omega⟩)) (fun k => x3 (ix4 b t ⟨k.val / 64, by omega⟩ ⟨k.val % 64, by omega⟩))
        (fun k j => x4 (ix2 k j)) := by
    funext j
    rw [ref_v7, sum_parts]
    simp only [(ref_cat x1 x2 x3 b t).1, (ref_cat x1 x2 x3 b t).2.1, (ref_cat x1 x2 x3 b t).2.2]
    rfl
  rw [h63, ref_v62]
  simp only [ref_v38, ref_v31, h7]
  rfl

end Ref

variable (m : (ℓ : Loc nD τ sig) → Buf (Elt Ideal) ℓ)

/-! ## The blocks the launch reads -/

theorem V_v0 (c : Dev nD) (r : Fin 256) (j : Fin 1024) :
    V m c main_v0 (ix2 r j) = m ((c : Thread nD τ).loc main_arg0) (ix3 ⟨r.val / 8, by omega⟩ ⟨r.val % 8, by omega⟩ j) := by
  unfold V
  after_reads_at

theorem V_v1 (c : Dev nD) (r : Fin 256) (j : Fin 512) :
    V m c main_v1 (ix2 r j) = m ((c : Thread nD τ).loc main_arg1)
      (ix4 ⟨r.val / 8, by omega⟩ ⟨r.val % 8, by omega⟩ ⟨j.val / 64, by omega⟩ ⟨j.val % 64, by omega⟩) := by
  unfold V
  after_reads_at

theorem V_v2 (c : Dev nD) (r : Fin 256) (j : Fin 256) :
    V m c main_v2 (ix2 r j) = m ((c : Thread nD τ).loc main_arg2)
      (ix4 ⟨r.val / 8, by omega⟩ ⟨r.val % 8, by omega⟩ ⟨j.val / 64, by omega⟩ ⟨j.val % 64, by omega⟩) := by
  unfold V
  after_reads_at

theorem V_v3 (c : Dev nD) (r : Fin 256) (j : Fin 256) :
    V m c main_v3 (ix2 r j) = m ((c : Thread nD τ).loc main_arg3)
      (ix4 ⟨r.val / 8, by omega⟩ ⟨r.val % 8, by omega⟩ ⟨j.val / 64, by omega⟩ ⟨j.val % 64, by omega⟩) := by
  unfold V
  after_reads_at

theorem V_v4 (c : Dev nD) (j : Fin 1024) : V m c main_v4 (ix2 0 j) = m ((c : Thread nD τ).loc main_arg5) (ix1 j) := by
  unfold V
  after_reads_at

theorem V_v5 (c : Dev nD) (j : Fin 1024) : V m c main_v5 (ix2 0 j) = m ((c : Thread nD τ).loc main_arg6) (ix1 j) := by
  unfold V
  after_reads_at

theorem V_v6 (c : Dev nD) (j : Fin 1024) : V m c main_v6 (ix2 0 j) = m ((c : Thread nD τ).loc main_arg9) (ix1 j) := by
  unfold V
  after_reads_at

theorem V_v7 (c : Dev nD) (j : Fin 1024) : V m c main_v7 (ix2 0 j) = m ((c : Thread nD τ).loc main_arg10) (ix1 j) := by
  unfold V
  after_reads_at

/-- Row tile `t` of the tokens' windows; the weights' windows stay. -/
theorem idx0 : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = t.val ∧ win0_11.index t 1 = 0) := by decide +kernel

theorem blk0 (c : Dev nD) (p : Fin cfg0.N) (q : Fin 256) (r : Fin 256) (j : Fin 1024) (hq : q.val = 256 * p.val + r.val) :
    iblk m c 0 p (ix2 r j) = V m c main_v0 (ix2 q j) := by
  show V m c main_v0 ((win0_0.rect p).emb (ix2 r j)) = _
  refine congrArg _ (funext fun a => Fin.ext ?_)
  rw [win0_0.rect_emb_val p (ix2 r j) a]
  obtain ⟨h0, h1⟩ := (idx0 p).1
  match a with
  | ⟨0, _⟩ => show win0_0.index p 0 * 256 + r.val = q.val; omega
  | ⟨1, _⟩ => show win0_0.index p 1 * 1024 + j.val = j.val; omega

theorem blk1 (c : Dev nD) (p : Fin cfg0.N) (q : Fin 256) (r : Fin 256) (j : Fin 512) (hq : q.val = 256 * p.val + r.val) :
    iblk m c 1 p (ix2 r j) = V m c main_v1 (ix2 q j) := by
  show V m c main_v1 ((win0_1.rect p).emb (ix2 r j)) = _
  refine congrArg _ (funext fun a => Fin.ext ?_)
  rw [win0_1.rect_emb_val p (ix2 r j) a]
  obtain ⟨h0, h1⟩ := (idx0 p).2.1
  match a with
  | ⟨0, _⟩ => show win0_1.index p 0 * 256 + r.val = q.val; omega
  | ⟨1, _⟩ => show win0_1.index p 1 * 512 + j.val = j.val; omega

theorem blk2 (c : Dev nD) (p : Fin cfg0.N) (q : Fin 256) (r : Fin 256) (j : Fin 256) (hq : q.val = 256 * p.val + r.val) :
    iblk m c 2 p (ix2 r j) = V m c main_v2 (ix2 q j) := by
  show V m c main_v2 ((win0_2.rect p).emb (ix2 r j)) = _
  refine congrArg _ (funext fun a => Fin.ext ?_)
  rw [win0_2.rect_emb_val p (ix2 r j) a]
  obtain ⟨h0, h1⟩ := (idx0 p).2.2.1
  match a with
  | ⟨0, _⟩ => show win0_2.index p 0 * 256 + r.val = q.val; omega
  | ⟨1, _⟩ => show win0_2.index p 1 * 256 + j.val = j.val; omega

theorem blk3 (c : Dev nD) (p : Fin cfg0.N) (q : Fin 256) (r : Fin 256) (j : Fin 256) (hq : q.val = 256 * p.val + r.val) :
    iblk m c 3 p (ix2 r j) = V m c main_v3 (ix2 q j) := by
  show V m c main_v3 ((win0_3.rect p).emb (ix2 r j)) = _
  refine congrArg _ (funext fun a => Fin.ext ?_)
  rw [win0_3.rect_emb_val p (ix2 r j) a]
  obtain ⟨h0, h1⟩ := (idx0 p).2.2.2.1
  match a with
  | ⟨0, _⟩ => show win0_3.index p 0 * 256 + r.val = q.val; omega
  | ⟨1, _⟩ => show win0_3.index p 1 * 256 + j.val = j.val; omega

theorem blk4 (c : Dev nD) (p : Fin cfg0.N) (k : Fin 1024) (j : Fin 1024) : iblk m c 4 p (ix2 k j) = V m c main_arg4 (ix2 k j) := by
  show V m c main_arg4 ((win0_4.rect p).emb (ix2 k j)) = _
  refine congrArg _ (funext fun a => Fin.ext ?_)
  rw [win0_4.rect_emb_val p (ix2 k j) a]
  obtain ⟨h0, h1⟩ := (idx0 p).2.2.2.2.1
  match a with
  | ⟨0, _⟩ => show win0_4.index p 0 * 1024 + k.val = k.val; omega
  | ⟨1, _⟩ => show win0_4.index p 1 * 1024 + j.val = j.val; omega

theorem blk7 (c : Dev nD) (p : Fin cfg0.N) (k : Fin 1024) (j : Fin 4096) : iblk m c 7 p (ix2 k j) = V m c main_arg7 (ix2 k j) := by
  show V m c main_arg7 ((win0_7.rect p).emb (ix2 k j)) = _
  refine congrArg _ (funext fun a => Fin.ext ?_)
  rw [win0_7.rect_emb_val p (ix2 k j) a]
  obtain ⟨h0, h1⟩ := (idx0 p).2.2.2.2.2.2.2.1
  match a with
  | ⟨0, _⟩ => show win0_7.index p 0 * 1024 + k.val = k.val; omega
  | ⟨1, _⟩ => show win0_7.index p 1 * 4096 + j.val = j.val; omega

theorem blk8 (c : Dev nD) (p : Fin cfg0.N) (k : Fin 4096) (j : Fin 1024) : iblk m c 8 p (ix2 k j) = V m c main_arg8 (ix2 k j) := by
  show V m c main_arg8 ((win0_8.rect p).emb (ix2 k j)) = _
  refine congrArg _ (funext fun a => Fin.ext ?_)
  rw [win0_8.rect_emb_val p (ix2 k j) a]
  obtain ⟨h0, h1⟩ := (idx0 p).2.2.2.2.2.2.2.2.1
  match a with
  | ⟨0, _⟩ => show win0_8.index p 0 * 4096 + k.val = k.val; omega
  | ⟨1, _⟩ => show win0_8.index p 1 * 1024 + j.val = j.val; omega

theorem blk5 (c : Dev nD) (p : Fin cfg0.N) (j : Fin 1024) : iblk m c 5 p (ix2 0 j) = V m c main_v4 (ix2 0 j) := by
  show V m c main_v4 ((win0_5.rect p).emb (ix2 0 j)) = _
  refine congrArg _ (funext fun a => Fin.ext ?_)
  rw [win0_5.rect_emb_val p (ix2 0 j) a]
  obtain ⟨h0, h1⟩ := (idx0 p).2.2.2.2.2.1
  match a with
  | ⟨0, _⟩ => show win0_5.index p 0 * 1 + 0 = 0; omega
  | ⟨1, _⟩ => show win0_5.index p 1 * 1024 + j.val = j.val; omega

theorem blk6 (c : Dev nD) (p : Fin cfg0.N) (j : Fin 1024) : iblk m c 6 p (ix2 0 j) = V m c main_v5 (ix2 0 j) := by
  show V m c main_v5 ((win0_6.rect p).emb (ix2 0 j)) = _
  refine congrArg _ (funext fun a => Fin.ext ?_)
  rw [win0_6.rect_emb_val p (ix2 0 j) a]
  obtain ⟨h0, h1⟩ := (idx0 p).2.2.2.2.2.2.1
  match a with
  | ⟨0, _⟩ => show win0_6.index p 0 * 1 + 0 = 0; omega
  | ⟨1, _⟩ => show win0_6.index p 1 * 1024 + j.val = j.val; omega

theorem blk9 (c : Dev nD) (p : Fin cfg0.N) (j : Fin 1024) : iblk m c 9 p (ix2 0 j) = V m c main_v6 (ix2 0 j) := by
  show V m c main_v6 ((win0_9.rect p).emb (ix2 0 j)) = _
  refine congrArg _ (funext fun a => Fin.ext ?_)
  rw [win0_9.rect_emb_val p (ix2 0 j) a]
  obtain ⟨h0, h1⟩ := (idx0 p).2.2.2.2.2.2.2.2.2.1
  match a with
  | ⟨0, _⟩ => show win0_9.index p 0 * 1 + 0 = 0; omega
  | ⟨1, _⟩ => show win0_9.index p 1 * 1024 + j.val = j.val; omega

theorem blk10 (c : Dev nD) (p : Fin cfg0.N) (j : Fin 1024) : iblk m c 10 p (ix2 0 j) = V m c main_v7 (ix2 0 j) := by
  show V m c main_v7 ((win0_10.rect p).emb (ix2 0 j)) = _
  refine congrArg _ (funext fun a => Fin.ext ?_)
  rw [win0_10.rect_emb_val p (ix2 0 j) a]
  obtain ⟨h0, h1⟩ := (idx0 p).2.2.2.2.2.2.2.2.2.2.1
  match a with
  | ⟨0, _⟩ => show win0_10.index p 0 * 1 + 0 = 0; omega
  | ⟨1, _⟩ => show win0_10.index p 1 * 1024 + j.val = j.val; omega

/-- The arguments' token `q`, flattened. -/
abbrev tok (c : Dev nD) (q : Fin 256) : Fin 1024 → EReal :=
  spec (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    ⟨q.val / 8, by omega⟩ ⟨q.val % 8, by omega⟩

/-- The result array after the run, row by row. -/
theorem final (c : Dev nD) (q : Fin 256) (j : Fin 1024) : (dats m 0 c).arrAt 11 cfg0.N (ix2 q j) = tok m c q j := by
  obtain ⟨p, hp⟩ : ∃ p : Fin cfg0.N, p.val = q.val / 256 := ⟨⟨q.val / 256, by show _ < 1; omega⟩, rfl⟩
  obtain ⟨r, hr⟩ : ∃ r : Fin 256, r.val = q.val % 256 := ⟨⟨q.val % 256, by omega⟩, rfl⟩
  have hq : q.val = 256 * p.val + r.val := by omega
  have e : ((cfg0.win 11).blk p).view.emb (ix2 r j) = ix2 q j := by
    show (win0_11.rect p).emb (ix2 r j) = _
    refine funext fun a => Fin.ext ?_
    rw [win0_11.rect_emb_val p (ix2 r j) a]
    obtain ⟨h0, h1⟩ := (idx0 p).2.2.2.2.2.2.2.2.2.2.2
    match a with
    | ⟨0, _⟩ => show win0_11.index p 0 * 256 + r.val = q.val; omega
    | ⟨1, _⟩ => show win0_11.index p 1 * 1024 + j.val = j.val; omega
  have h := (dats m 0 c).arrAt_emb_eq_flushed 11 Value.disjoint11 p (flush0_11 p) (ix2 r j)
  rw [e] at h
  refine h.trans ((congrFun (Value.flushed11 m c p) (ix2 r j)).trans ?_)
  refine (out_row (iblk m c 0 p) (iblk m c 1 p) (iblk m c 2 p) (iblk m c 3 p) (iblk m c 4 p) (iblk m c 5 p) (iblk m c 6 p) (iblk m c 7 p)
    (iblk m c 8 p) (iblk m c 9 p) (iblk m c 10 p) r j).trans ?_
  exact Tail.row_congr (fun k => (blk0 m c p q r k hq).trans (V_v0 m c q k)) (fun k => (blk1 m c p q r k hq).trans (V_v1 m c q k))
    (fun k => (blk2 m c p q r k hq).trans (V_v2 m c q k)) (fun k => (blk3 m c p q r k hq).trans (V_v3 m c q k))
    (fun k j => (blk4 m c p k j).trans (congrFun (V_main_arg4 m c) (ix2 k j))) (fun k => (blk5 m c p k).trans (V_v4 m c k)) (fun k => (blk6 m c p k).trans (V_v5 m c k))
    (fun k f => (blk7 m c p k f).trans (congrFun (V_main_arg7 m c) (ix2 k f))) (fun f j => (blk8 m c p f j).trans (congrFun (V_main_arg8 m c) (ix2 f j)))
    (fun k => (blk9 m c p k).trans (V_v6 m c k)) (fun k => (blk10 m c p k).trans (V_v7 m c k)) j

theorem algebraic : Cert.algebraic_SampleTailIdeal_SampleTailRefIdeal := by
  intro m g m' g' _ hagree
  refine ⟨fun c => (dats m 0 c).arrAt 11 cfg0.N, Value.run_blocks m g, ?_⟩
  refine (θ_run Cert.SampleTailRefIdeal.defs _ _).mono (fun r h c => ?_) (Cert.SampleTailRefIdeal.Value.run m' g')
  obtain ⟨h1, h2⟩ := h c
  refine ⟨?_, h2⟩
  obtain ⟨a0, a1, a2, a3, a4, a5, a6, a7, a8, a9, a10⟩ := hagree c
  refine h1.trans ((Cert.SampleTailRefIdeal.Read.val_main_v63_eq _).trans ?_)
  show Cert.SampleTailRefIdeal.Read.val_main_v63 (F := Ideal) (m' ((c.tc : Thread Cert.SampleTailRefIdeal.nD Cert.SampleTailRefIdeal.τ).loc Cert.SampleTailRefIdeal.main_arg0)) (m' ((c.tc : Thread Cert.SampleTailRefIdeal.nD Cert.SampleTailRefIdeal.τ).loc Cert.SampleTailRefIdeal.main_arg1)) (m' ((c.tc : Thread Cert.SampleTailRefIdeal.nD Cert.SampleTailRefIdeal.τ).loc Cert.SampleTailRefIdeal.main_arg2)) (m' ((c.tc : Thread Cert.SampleTailRefIdeal.nD Cert.SampleTailRefIdeal.τ).loc Cert.SampleTailRefIdeal.main_arg3)) (m' ((c.tc : Thread Cert.SampleTailRefIdeal.nD Cert.SampleTailRefIdeal.τ).loc Cert.SampleTailRefIdeal.main_arg4)) (m' ((c.tc : Thread Cert.SampleTailRefIdeal.nD Cert.SampleTailRefIdeal.τ).loc Cert.SampleTailRefIdeal.main_arg5)) (m' ((c.tc : Thread Cert.SampleTailRefIdeal.nD Cert.SampleTailRefIdeal.τ).loc Cert.SampleTailRefIdeal.main_arg6)) (m' ((c.tc : Thread Cert.SampleTailRefIdeal.nD Cert.SampleTailRefIdeal.τ).loc Cert.SampleTailRefIdeal.main_arg7)) (m' ((c.tc : Thread Cert.SampleTailRefIdeal.nD Cert.SampleTailRefIdeal.τ).loc Cert.SampleTailRefIdeal.main_arg8)) (m' ((c.tc : Thread Cert.SampleTailRefIdeal.nD Cert.SampleTailRefIdeal.τ).loc Cert.SampleTailRefIdeal.main_arg9)) (m' ((c.tc : Thread Cert.SampleTailRefIdeal.nD Cert.SampleTailRefIdeal.τ).loc Cert.SampleTailRefIdeal.main_arg10)) = _
  rw [a0, a1, a2, a3, a4, a5, a6, a7, a8, a9, a10]
  refine funext fun (i : S256x1024.Idx) => ?_
  obtain ⟨q, j, rfl⟩ : ∃ (q : Fin 256) (j : Fin 1024), i = ix2 q j := ⟨i 0, i 1, eq_ix2 i⟩
  exact (ref_eq _ _ _ _ _ _ _ _ _ _ _ q j).trans (final m c q j).symm

end Cert.Proof.SampleTail

end
-- ==== Proof.SampleProjValue.lean ====
/-
  Hand-written, untrusted. The value of the decoded tokens' projection: one product of all the tokens with the
  projection weight — the function the reference computes.
-/
module

public import proofs.«01_k».proof.Defs
public import proofs.«01_k».proof.Proof.Gen.SampleProjIdeal.Value
public import proofs.«01_k».proof.Proof.Gen.SampleProjRefIdeal.Read
public import Idealize.ShloMosaic.Lib.Pipeline.Value
public import Idealize.ShloMosaic.Lib.Pointwise
public import Idealize.ShloMosaic.Lib.StableHlo.ReadAt
public import Idealize.ShloMosaic.PureOps.Ideal.Laws

@[expose] public section

noncomputable section

namespace Cert.Proof.SampleProj

open Idealize.ShloMosaic Idealize.SL.Sem Idealize.ShloMosaic.TcCoe
open Cert.SampleProjIdeal Cert.SampleProjIdeal.Gen
open Idealize.ShloMosaic.Pipeline (Dat Cfg Window)

/-- The one store leaves the product of the two blocks. -/
theorem out_apply (x0 : Vec Ideal S256x1024 .f32) (x1 : Vec Ideal S1024x2856 .f32) (r : Fin 256) (n : Fin 2856) :
    out0_2 (F := Ideal) x0 x1 (ix2 r n) = ∑ k : Fin 1024, x0 (ix2 r k) * x1 (ix2 k n) := by
  have hz : (![0, 0] : Fin 2 → Nat) = fun _ => 0 := funext fun a => by fin_cases a <;> rfl
  refine (congrFun (View.canon_unit_zero (S := S256x2856) hz _ _) (ix2 r n)).trans ?_
  pointwise [k0_pay1]

variable (m : (ℓ : Loc nD τ sig) → Buf (Elt Ideal) ℓ)

/-- The tokens as rows. -/
theorem V_v0 (c : Dev nD) (r : Fin 256) (k : Fin 1024) :
    V m c main_v0 (ix2 r k) = m ((c : Thread nD τ).loc main_arg0) (ix3 ⟨r.val / 8, by omega⟩ ⟨r.val % 8, by omega⟩ k) := by
  unfold V
  after_reads_at

/-- Every window is the whole of its array. -/
theorem idx0 : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) := by decide +kernel

theorem blk0 (c : Dev nD) (t : Fin cfg0.N) (r : Fin 256) (k : Fin 1024) : iblk m c 0 t (ix2 r k) = V m c main_v0 (ix2 r k) := by
  show V m c main_v0 ((win0_0.rect t).emb (ix2 r k)) = _
  refine congrArg _ (funext fun a => Fin.ext ?_)
  rw [win0_0.rect_emb_val t (ix2 r k) a]
  obtain ⟨h0, h1⟩ := (idx0 t).1
  match a with
  | ⟨0, _⟩ => show win0_0.index t 0 * 256 + r.val = r.val; omega
  | ⟨1, _⟩ => show win0_0.index t 1 * 1024 + k.val = k.val; omega

theorem blk1 (c : Dev nD) (t : Fin cfg0.N) (k : Fin 1024) (n : Fin 2856) :
    iblk m c 1 t (ix2 k n) = m ((c : Thread nD τ).loc main_arg1) (ix2 k n) := by
  show V m c main_arg1 ((win0_1.rect t).emb (ix2 k n)) = _
  rw [V_main_arg1]
  refine congrArg _ (funext fun a => Fin.ext ?_)
  rw [win0_1.rect_emb_val t (ix2 k n) a]
  obtain ⟨h0, h1⟩ := (idx0 t).2.1
  match a with
  | ⟨0, _⟩ => show win0_1.index t 0 * 1024 + k.val = k.val; omega
  | ⟨1, _⟩ => show win0_1.index t 1 * 2856 + n.val = n.val; omega

/-- Column `n` of the projection of token `r`. -/
def prj (x : FVec Ideal S32x8x1024 .f32) (w : FVec Ideal S1024x2856 .f32) (r : Fin 256) (n : Fin 2856) : EReal :=
  ∑ k : Fin 1024, x (ix3 ⟨r.val / 8, by omega⟩ ⟨r.val % 8, by omega⟩ k) * w (ix2 k n)

/-- The result array after the run, element by element. -/
theorem final (c : Dev nD) (r : Fin 256) (n : Fin 2856) :
    (dats m 0 c).arrAt 2 cfg0.N (ix2 r n)
      = prj (m ((c : Thread nD τ).loc main_arg0)) (m ((c : Thread nD τ).loc main_arg1)) r n := by
  let t : Fin cfg0.N := ⟨0, by decide +kernel⟩
  have e : ((cfg0.win 2).blk t).view.emb (ix2 r n) = ix2 r n := by
    show (win0_2.rect t).emb (ix2 r n) = _
    refine funext fun a => Fin.ext ?_
    rw [win0_2.rect_emb_val t (ix2 r n) a]
    obtain ⟨h0, h1⟩ := (idx0 t).2.2
    match a with
    | ⟨0, _⟩ => show win0_2.index t 0 * 256 + r.val = r.val; omega
    | ⟨1, _⟩ => show win0_2.index t 1 * 2856 + n.val = n.val; omega
  have h := (dats m 0 c).arrAt_emb_eq_flushed 2 Value.disjoint2 t (flush0_2 t) (ix2 r n)
  rw [e] at h
  refine h.trans ((congrFun (Value.flushed2 m c t) (ix2 r n)).trans ?_)
  show out0_2 (F := Ideal) (iblk m c 0 t) (iblk m c 1 t) (ix2 r n) = _
  rw [out_apply]
  unfold prj
  exact Finset.sum_congr rfl fun k _ =>
    congrArg₂ (fun a b : EReal => a * b) ((blk0 m c t r k).trans (V_v0 m c r k)) (blk1 m c t k n)

/-- The reference's last stage is the same function. -/
theorem ref_eq (x0 : FVec Ideal S32x8x1024 .f32) (x1 : FVec Ideal S1024x2856 .f32) (r : Fin 256) (n : Fin 2856) :
    Cert.SampleProjRefIdeal.Read.val_main_v1 (F := Ideal) x0 x1 (ix2 r n) = prj x0 x1 r n := by
  pointwise [Cert.SampleProjRefIdeal.Read.val_main_v1, Cert.SampleProjRefIdeal.Read.val_main_v0, prj]

/-- The value claim. -/
theorem algebraic : Cert.algebraic_SampleProjIdeal_SampleProjRefIdeal := by
  intro m g m' g' _ hagree
  refine ⟨fun c => (dats m 0 c).arrAt 2 cfg0.N, Value.run_blocks m g, ?_⟩
  refine (θ_run Cert.SampleProjRefIdeal.defs _ _).mono (fun r h c => ?_) (Cert.SampleProjRefIdeal.Value.run m' g')
  obtain ⟨h1, h2⟩ := h c
  refine ⟨?_, h2⟩
  rw [h1, (hagree c).1, (hagree c).2, Cert.SampleProjRefIdeal.Read.val_main_v1_eq]
  refine funext fun (i : S256x2856.Idx) => ?_
  obtain ⟨r, n, rfl⟩ : ∃ (r : Fin 256) (n : Fin 2856), i = ix2 r n := ⟨i 0, i 1, eq_ix2 i⟩
  exact (ref_eq _ _ r n).trans (final m c r n).symm

end Cert.Proof.SampleProj

end
-- ==== Proof.MemKvValue.lean ====
/-
  Hand-written, untrusted. The value of the memory projection: after the run the result array is, at every
  index, the sum over the model width of memory times weight — the function the reference computes.
-/
module

public import proofs.«01_k».proof.Defs
public import proofs.«01_k».proof.Proof.Gen.MemKvIdeal.Value
public import proofs.«01_k».proof.Proof.Gen.MemKvRefIdeal.Read
public import Idealize.ShloMosaic.Lib.Pipeline.Value
public import Idealize.ShloMosaic.Lib.Pointwise
public import Idealize.ShloMosaic.Lib.StableHlo.ReadAt
public import Idealize.ShloMosaic.PureOps.Ideal.Laws

@[expose] public section

noncomputable section

namespace Cert.Proof.MemKv

open Idealize.ShloMosaic Idealize.SL.Sem Idealize.ShloMosaic.TcCoe
open Cert.MemKvIdeal Cert.MemKvIdeal.Gen
open Idealize.ShloMosaic.Pipeline (Dat Cfg Window)

/-- One store through the whole buffer leaves its payload, and whole-buffer loads read the buffers. -/
theorem out_eq {F : FTy → Type} [FloatOps F] (x0 : Vec F S512x1024 .bf16) (x1 : Vec F S1x256x1024 .f32) :
    out0_2 (F := F) x0 x1 = k0_pay1 x0 x1 := by
  have hz2 : (![0, 0, 0] : Fin S1x512x256.rank → Nat) = fun _ => 0 := funext fun a => by fin_cases a <;> rfl
  have hz0 : (![0, 0] : Fin S512x1024.rank → Nat) = fun _ => 0 := funext fun a => by fin_cases a <;> rfl
  have hz1 : (![0, 0, 0] : Fin S1x256x1024.rank → Nat) = fun _ => 0 := funext fun a => by fin_cases a <;> rfl
  unfold out0_2
  rw [View.canon_unit_zero hz2, View.ld_unit_zero hz0, View.ld_unit_zero hz1]

/-- The payload at an index: row `j` of the weight times row `n` of the memory block. -/
theorem pay_apply (x0 : Vec Ideal S512x1024 .bf16) (x1 : Vec Ideal S1x256x1024 .f32) (u : Fin 1) (j : Fin 512) (n : Fin 256) :
    k0_pay1 (F := Ideal) x0 x1 (ix3 u j n) = ∑ k : Fin 1024, x0 (ix2 j k) * x1 (ix3 0 n k) := by
  pointwise [k0_pay1]

variable (m : (ℓ : Loc nD τ sig) → Buf (Elt Ideal) ℓ) (ρ : Dev nD → PrngReg)

/-- The host prepares the weight: transposed, then narrowed (the identity here). -/
theorem V_v1 (c : Dev nD) (j : Fin 512) (k : Fin 1024) : V m c main_v1 (ix2 j k) = m ((c : Thread nD τ).loc main_arg1) (ix2 k j) := by
  unfold V
  after_reads_at

/-- The three windows' blocks at point `t`: the whole weight, batch `t` of the memory, batch `t` of the result. -/
theorem idx0 : ∀ t : Fin cfg0.N, win0_0.index t 0 = 0 ∧ win0_0.index t 1 = 0
    ∧ win0_1.index t 0 = t.val ∧ win0_1.index t 1 = 0 ∧ win0_1.index t 2 = 0
    ∧ win0_2.index t 0 = t.val ∧ win0_2.index t 1 = 0 ∧ win0_2.index t 2 = 0 := by decide +kernel

theorem blk0 (c : Dev nD) (t : Fin cfg0.N) (j : Fin 512) (k : Fin 1024) :
    iblk m c 0 t (ix2 j k) = V m c main_v1 (ix2 j k) := by
  show V m c main_v1 ((win0_0.rect t).emb (ix2 j k)) = _
  refine congrArg _ (funext fun a => Fin.ext ?_)
  rw [win0_0.rect_emb_val t (ix2 j k) a]
  obtain ⟨h0, h1, -⟩ := idx0 t
  match a with
  | ⟨0, _⟩ => show win0_0.index t 0 * _ + _ = _; rw [h0]; simp
  | ⟨1, _⟩ => show win0_0.index t 1 * _ + _ = _; rw [h1]; simp

theorem blk1 (c : Dev nD) (t : Fin cfg0.N) (n : Fin 256) (k : Fin 1024) :
    iblk m c 1 t (ix3 0 n k) = m ((c : Thread nD τ).loc main_arg0) (ix3 t n k) := by
  show V m c main_arg0 ((win0_1.rect t).emb (ix3 0 n k)) = _
  rw [V_main_arg0]
  refine congrArg _ (funext fun a => Fin.ext ?_)
  rw [win0_1.rect_emb_val t (ix3 0 n k) a]
  obtain ⟨-, -, h0, h1, h2, -⟩ := idx0 t
  match a with
  | ⟨0, _⟩ => show win0_1.index t 0 * 1 + 0 = t.val; omega
  | ⟨1, _⟩ => show win0_1.index t 1 * 256 + n.val = n.val; omega
  | ⟨2, _⟩ => show win0_1.index t 2 * 1024 + k.val = k.val; omega

/-- The projected memory at batch `b`, channel `j`, slot `n`: the sum over the model width. -/
def kv (mem : FVec Ideal S4x256x1024 .f32) (w : FVec Ideal S1024x512 .f32) (b : Fin 4) (j : Fin 512) (n : Fin 256) : EReal :=
  ∑ k : Fin 1024, w (ix2 k j) * mem (ix3 b n k)

/-- The result array after the run, element by element. -/
theorem final (c : Dev nD) (b : Fin 4) (j : Fin 512) (n : Fin 256) :
    (dats m 0 c).arrAt 2 cfg0.N (ix3 b j n)
      = kv (m ((c : Thread nD τ).loc main_arg0)) (m ((c : Thread nD τ).loc main_arg1)) b j n := by
  have e : ((cfg0.win 2).blk b).view.emb (ix3 (0 : Fin 1) j n) = ix3 b j n := by
    show (win0_2.rect b).emb (ix3 (0 : Fin 1) j n) = _
    refine funext fun a => Fin.ext ?_
    rw [win0_2.rect_emb_val b (ix3 0 j n) a]
    obtain ⟨-, -, -, -, -, h0, h1, h2⟩ := idx0 b
    match a with
    | ⟨0, _⟩ => show win0_2.index b 0 * 1 + 0 = b.val; omega
    | ⟨1, _⟩ => show win0_2.index b 1 * 512 + j.val = j.val; omega
    | ⟨2, _⟩ => show win0_2.index b 2 * 256 + n.val = n.val; omega
  have h := (dats m 0 c).arrAt_emb_eq_flushed 2 Value.disjoint2 b (flush0_2 b) (ix3 (0 : Fin 1) j n)
  rw [e] at h
  refine h.trans ((congrFun (Value.flushed2 m c b) (ix3 (0 : Fin 1) j n)).trans ?_)
  rw [out_eq]
  show k0_pay1 (F := Ideal) (iblk m c 0 b) (iblk m c 1 b) (ix3 0 j n) = _
  rw [pay_apply]
  unfold kv
  exact Finset.sum_congr rfl fun k _ =>
    congrArg₂ (fun a b : EReal => a * b) ((blk0 m c b j k).trans (V_v1 m c j k)) (blk1 m c b n k)

/-- The reference's last stage is the same function. -/
theorem ref_eq (x0 : FVec Ideal S4x256x1024 .f32) (x1 : FVec Ideal S1024x512 .f32) (b : Fin 4) (j : Fin 512) (n : Fin 256) :
    Cert.MemKvRefIdeal.Read.val_main_v1 (F := Ideal) x0 x1 (ix3 b j n) = kv x0 x1 b j n := by
  pointwise [Cert.MemKvRefIdeal.Read.val_main_v1, Cert.MemKvRefIdeal.Read.val_main_v0, kv]
  refine Finset.sum_congr rfl fun k _ => mul_comm _ _

/-- The value claim. -/
theorem algebraic : Cert.algebraic_MemKvIdeal_MemKvRefIdeal := by
  intro m g m' g' _ hagree
  refine ⟨fun c => (dats m 0 c).arrAt 2 cfg0.N, Value.run_blocks m g, ?_⟩
  refine (θ_run Cert.MemKvRefIdeal.defs _ _).mono (fun r h c => ?_) (Cert.MemKvRefIdeal.Value.run m' g')
  obtain ⟨h1, h2⟩ := h c
  refine ⟨?_, h2⟩
  rw [h1, (hagree c).1, (hagree c).2, Cert.MemKvRefIdeal.Read.val_main_v1_eq]
  refine funext fun (i : S4x512x256.Idx) => ?_
  obtain ⟨b, j, n, rfl⟩ : ∃ (b : Fin 4) (j : Fin 512) (n : Fin 256), i = ix3 b j n := ⟨i 0, i 1, i 2, eq_ix3 i⟩
  exact (ref_eq _ _ b j n).trans (final m c b j n).symm

end Cert.Proof.MemKv

end
-- ==== Proof.MobaSpec.lean ====
/-
  Hand-written, untrusted. The mathematics of the block attention, over the extended reals and apart from any program:
  taking the largest of sixteen numbers again and again selects the ones of small rank, a stable sort's first places
  hold the same ones, and a softmax accumulated block by block over a moving maximum is the softmax of the whole row.
-/
module

public import proofs.«01_k».proof.Proof.MemoryValue
public import Idealize.ShloMosaic.Lib.SortFacts

@[expose] public section

noncomputable section

namespace Cert.Proof.MobaSpec

open Idealize.ShloMosaic
open scoped Classical

/-! ## Ranks -/

/-- `a` comes before `b`: it is greater, or equal and at the lower index. -/
def beats {n : Nat} (g : Fin n → EReal) (a b : Fin n) : Prop := g b < g a ∨ (g a = g b ∧ a < b)

theorem beats_trans {n : Nat} {g : Fin n → EReal} {a b c : Fin n} (h1 : beats g a b) (h2 : beats g b c) : beats g a c := by
  rcases h1 with h1 | ⟨h1, h1'⟩ <;> rcases h2 with h2 | ⟨h2, h2'⟩
  · exact Or.inl (lt_trans h2 h1)
  · exact Or.inl (h2 ▸ h1)
  · exact Or.inl (h1 ▸ h2)
  · exact Or.inr ⟨h1.trans h2, lt_trans h1' h2'⟩

theorem beats_irrefl {n : Nat} (g : Fin n → EReal) (a : Fin n) : ¬ beats g a a := by
  rintro (h | ⟨-, h⟩)
  · exact lt_irrefl _ h
  · exact lt_irrefl _ h

theorem beats_total {n : Nat} (g : Fin n → EReal) {a b : Fin n} (h : a ≠ b) : beats g a b ∨ beats g b a := by
  rcases lt_trichotomy (g a) (g b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- How many come before `b`. -/
def rank {n : Nat} (g : Fin n → EReal) (b : Fin n) : Nat := (Finset.univ.filter fun a => beats g a b).card

theorem rank_lt {n : Nat} {g : Fin n → EReal} {a b : Fin n} (h : beats g a b) : rank g a < rank g b := by
  refine Finset.card_lt_card ⟨fun c hc => ?_, fun hs => ?_⟩
  · simp only [Finset.mem_filter, Finset.mem_univ, true_and] at hc ⊢
    exact beats_trans hc h
  · have : a ∈ Finset.univ.filter fun c => beats g c a := hs (by simpa using h)
    exact beats_irrefl g a (by simpa using this)

theorem rank_injective {n : Nat} (g : Fin n → EReal) : Function.Injective (rank g) := by
  intro a b h
  by_contra hne
  rcases beats_total g hne with h1 | h1
  · exact absurd h (rank_lt h1).ne
  · exact absurd h (rank_lt h1).ne'

/-! ## Rounds of taking the largest -/

/-- The one a round takes: the first of the largest, when that is above `−∞`. -/
def Pick {n : Nat} (g : Fin n → EReal) (j : Fin n) : Prop := ⊥ < g j ∧ ∀ a, g a ≤ g j ∧ (g a = g j → j ≤ a)

/-- The numbers after a round: the one taken becomes `−∞`. -/
def drop {n : Nat} (g : Fin n → EReal) (j : Fin n) : EReal := if Pick g j then ⊥ else g j

theorem pick_iff {n : Nat} (g gk : Fin n → EReal) (k : Nat) (hk : ∀ j, gk j = if ⊥ < g j ∧ rank g j < k then ⊥ else g j) (j : Fin n) :
    Pick gk j ↔ ⊥ < g j ∧ rank g j = k := by
  constructor
  · rintro ⟨hb, hmax⟩
    have hn : ¬ (⊥ < g j ∧ rank g j < k) := fun h => by rw [hk j, if_pos h] at hb; exact lt_irrefl _ hb
    have hj : gk j = g j := by rw [hk j, if_neg hn]
    rw [hj] at hb
    refine ⟨hb, le_antisymm ?_ (not_lt.mp fun h => hn ⟨hb, h⟩)⟩
    have hsub : ∀ a ∈ Finset.univ.filter fun a => beats g a j, rank g a ∈ Finset.range k := by
      intro a ha
      simp only [Finset.mem_filter, Finset.mem_univ, true_and] at ha
      rw [Finset.mem_range]
      by_contra hge
      have ha' : gk a = g a := by rw [hk a, if_neg fun h => hge h.2]
      obtain ⟨h1, h2⟩ := hmax a
      rw [ha', hj] at h1 h2
      rcases ha with h | ⟨h, h'⟩
      · exact absurd h (not_lt.mpr h1)
      · exact absurd h' (not_lt.mpr (h2 h))
    calc rank g j ≤ (Finset.range k).card := Finset.card_le_card_of_injOn (rank g) hsub ((rank_injective g).injOn)
      _ = k := Finset.card_range k
  · rintro ⟨hb, hr⟩
    have hj : gk j = g j := by rw [hk j, if_neg fun h => absurd hr h.2.ne]
    refine ⟨hj ▸ hb, fun a => ?_⟩
    rw [hj, hk a]
    by_cases ha : ⊥ < g a ∧ rank g a < k
    · rw [if_pos ha]
      exact ⟨bot_le, fun h => absurd h hb.ne⟩
    · rw [if_neg ha]
      refine ⟨not_lt.mp fun h => ha ⟨lt_trans hb h, hr ▸ rank_lt (Or.inl h)⟩, fun h => not_lt.mp fun h' => ha ⟨h ▸ hb, hr ▸ rank_lt (Or.inr ⟨h, h'⟩)⟩⟩

theorem drop_iff {n : Nat} (g gk : Fin n → EReal) (k : Nat) (hk : ∀ j, gk j = if ⊥ < g j ∧ rank g j < k then ⊥ else g j) (j : Fin n) :
    drop gk j = if ⊥ < g j ∧ rank g j < k + 1 then ⊥ else g j := by
  unfold drop
  by_cases hp : Pick gk j
  · rw [if_pos hp]
    have := (pick_iff g gk k hk j).mp hp
    rw [if_pos ⟨this.1, by omega⟩]
  · rw [if_neg hp, hk j]
    have hn : ¬ (⊥ < g j ∧ rank g j = k) := fun h => hp ((pick_iff g gk k hk j).mpr h)
    refine if_congr ⟨fun h => ⟨h.1, by omega⟩, fun h => ⟨h.1, ?_⟩⟩ rfl rfl
    have : rank g j ≠ k := fun e => hn ⟨h.1, e⟩
    omega

/-- Three rounds take the ones of rank below three that are above `−∞`. -/
theorem rounds {n : Nat} (g : Fin n → EReal) (j : Fin n) :
    (Pick (drop (drop g)) j ∨ Pick (drop g) j ∨ Pick g j) ↔ ⊥ < g j ∧ rank g j < 3 := by
  have h0 : ∀ j, g j = if ⊥ < g j ∧ rank g j < 0 then ⊥ else g j := fun j => by simp
  have h1 := drop_iff g g 0 h0
  have h2 := drop_iff g (drop g) 1 h1
  rw [pick_iff g g 0 h0, pick_iff g _ 1 h1, pick_iff g _ 2 h2]
  constructor
  · rintro (⟨h, e⟩ | ⟨h, e⟩ | ⟨h, e⟩) <;> exact ⟨h, by omega⟩
  · rintro ⟨h, e⟩
    have : rank g j = 2 ∨ rank g j = 1 ∨ rank g j = 0 := by omega
    rcases this with e | e | e
    · exact Or.inl ⟨h, e⟩
    · exact Or.inr (Or.inl ⟨h, e⟩)
    · exact Or.inr (Or.inr ⟨h, e⟩)

/-! ## A stable sort's places -/

/-- A bijection that lists the numbers best first puts at place `p` the one of rank `p`. -/
theorem rank_of_sorted {n : Nat} (g : Fin n → EReal) (f : Fin n → Fin n) (hf : Function.Bijective f)
    (hs : ∀ a b, a < b → beats g (f a) (f b)) (p : Fin n) : rank g (f p) = p.val := by
  have e : (Finset.univ.filter fun a => beats g a (f p)) = (Finset.univ.filter fun q : Fin n => q < p).map ⟨f, hf.1⟩ := by
    ext a
    simp only [Finset.mem_filter, Finset.mem_univ, true_and, Finset.mem_map, Function.Embedding.coeFn_mk]
    obtain ⟨q, rfl⟩ := hf.2 a
    constructor
    · intro h
      refine ⟨q, ?_, rfl⟩
      by_contra hq
      rcases eq_or_lt_of_le (not_lt.mp hq) with h1 | h1
      · exact beats_irrefl g _ (h1 ▸ h)
      · exact beats_irrefl g _ (beats_trans h (hs _ _ h1))
    · rintro ⟨q', hq', e⟩
      exact e ▸ hs _ _ hq'
  unfold rank
  rw [e, Finset.card_map, show (Finset.univ.filter fun q : Fin n => q < p) = Finset.Iio p from by ext; simp, Fin.card_Iio]

theorem insertBefore_beats {n : Nat} (g : Fin n → EReal) (a : Fin n) (l : List (Fin n)) (ha : ∀ b ∈ l, a < b)
    (hl : l.Pairwise (beats g)) : (insertBefore (fun x y => decide (g y < g x)) a l).Pairwise (beats g) := by
  induction l with
  | nil => exact List.pairwise_singleton _ _
  | cons b l ih =>
    rw [List.pairwise_cons] at hl
    unfold insertBefore
    split
    · rename_i h
      have h : g a < g b := by simpa using h
      refine List.pairwise_cons.mpr ⟨fun x hx => ?_, ih (fun c hc => ha c (List.mem_cons_of_mem b hc)) hl.2⟩
      rcases List.mem_cons.mp ((perm_insertBefore _ a l).mem_iff.mp hx) with rfl | hx
      · exact Or.inl h
      · exact hl.1 x hx
    · rename_i h
      have h : g b ≤ g a := by simpa using h
      have hab : beats g a b := by
        rcases lt_or_eq_of_le h with h1 | h1
        · exact Or.inl h1
        · exact Or.inr ⟨h1.symm, ha b List.mem_cons_self⟩
      refine List.pairwise_cons.mpr ⟨fun x hx => ?_, List.pairwise_cons.mpr hl⟩
      rcases List.mem_cons.mp hx with rfl | hx
      · exact hab
      · exact beats_trans hab (hl.1 x hx)

theorem stableSort_beats {n : Nat} (g : Fin n → EReal) (l : List (Fin n)) (hl : l.Pairwise (· < ·)) :
    (stableSort (fun x y => decide (g y < g x)) l).Pairwise (beats g) := by
  induction l with
  | nil => simp [stableSort]
  | cons a l ih =>
    obtain ⟨ha, hl'⟩ := List.pairwise_cons.mp hl
    unfold stableSort
    exact insertBefore_beats g a _ (fun b hb => ha b ((perm_stableSort _ l).mem_iff.mp hb)) (ih hl')

/-- Place `p` of the stable sort, greatest first, holds the number of rank `p`. -/
theorem rank_sortedFrom {n : Nat} (g : Fin n → EReal) (before : Fin n → Fin n → Bool) (hb : before = fun x y => decide (g y < g x)) (p : Fin n) :
    rank g (sortedFrom before p) = p.val := by
  refine rank_of_sorted g (sortedFrom before) ⟨sortedFrom_injective _, sortedFrom_surjective _⟩ (fun a b hab => ?_) p
  have h := List.pairwise_iff_get.mp (stableSort_beats g (List.finRange n) (List.pairwise_lt_finRange n))
  unfold sortedFrom
  subst hb
  exact h _ _ (show a.val < b.val from hab)

/-! ## A softmax accumulated block by block -/

/-- The weight of key `r` of block `j` over the shift `μ`: zero when it is not attended. -/
def wt (x : Fin 16 → Fin 256 → ℝ) (p : Fin 16 → Fin 256 → Prop) (μ : ℝ) (j : Fin 16) (r : Fin 256) : ℝ :=
  if p j r then Real.exp (x j r - μ) else 0

theorem wt_nonneg (x : Fin 16 → Fin 256 → ℝ) (p : Fin 16 → Fin 256 → Prop) (μ : ℝ) (j : Fin 16) (r : Fin 256) : 0 ≤ wt x p μ j r := by
  unfold wt
  split
  · exact (Real.exp_pos _).le
  · exact le_rfl

theorem wt_shift (x : Fin 16 → Fin 256 → ℝ) (p : Fin 16 → Fin 256 → Prop) (μ μ' : ℝ) (j : Fin 16) (r : Fin 256) :
    wt x p μ' j r = Real.exp (μ - μ') * wt x p μ j r := by
  unfold wt
  split
  · rw [← Real.exp_add]; congr 1; ring
  · ring

theorem coe_sum {ι : Type} (t : Finset ι) (f : ι → ℝ) : ((∑ i ∈ t, f i : ℝ) : EReal) = ∑ i ∈ t, (f i : EReal) := by
  induction t using Finset.induction_on with
  | empty => simp
  | insert a t ha ih => rw [Finset.sum_insert ha, Finset.sum_insert ha, EReal.coe_add, ih]

/-- The running maximum, sum and weighted sum after the blocks `B`. -/
structure Inv (x : Fin 16 → Fin 256 → ℝ) (p : Fin 16 → Fin 256 → Prop) (v : Fin 16 → Fin 256 → EReal) (B : Finset (Fin 16)) (m l a : EReal) : Prop where
  ex : ∃ μ : ℝ, m = (μ : EReal) ∧ l = ((∑ j ∈ B, ∑ r, wt x p μ j r : ℝ) : EReal) ∧ a = ∑ j ∈ B, ∑ r, v j r * (wt x p μ j r : EReal)

theorem inv_empty (x : Fin 16 → Fin 256 → ℝ) (p : Fin 16 → Fin 256 → Prop) (v : Fin 16 → Fin 256 → EReal) (μ : ℝ) : Inv x p v ∅ (μ : EReal) 0 0 :=
  ⟨μ, rfl, by simp, by simp⟩

theorem fold_max_ne_top {n : Nat} (s : Fin n → EReal) (h : ∀ i, s i ≠ ⊤) : Finset.univ.fold max ⊥ s ≠ ⊤ :=
  ((Finset.fold_max_lt _).mpr ⟨bot_lt_top, fun i _ => lt_top_iff_ne_top.mpr (h i)⟩).ne

/-- One block: the scores `s` (`−∞` where not attended), shifted down by `c` against the true scores `x`. -/
theorem inv_step {x : Fin 16 → Fin 256 → ℝ} {p : Fin 16 → Fin 256 → Prop} {v : Fin 16 → Fin 256 → EReal} {B : Finset (Fin 16)} {m l a : EReal}
    (h : Inv x p v B m l a) (j : Fin 16) (hj : j ∉ B) (c : ℝ) (s : Fin 256 → EReal) (hs : ∀ r, s r = if p j r then ((x j r + c : ℝ) : EReal) else ⊥)
    (m' : EReal) (hm : m' = max m (Finset.univ.fold max ⊥ s - (c : EReal))) :
    Inv x p v (insert j B) m' (Ideal.exp (m - m') * l + ∑ r, Ideal.exp (s r - (m' + (c : EReal))))
      (Ideal.exp (m - m') * a + ∑ r, v j r * Ideal.exp (s r - (m' + (c : EReal)))) := by
  obtain ⟨μ, rfl, rfl, rfl⟩ := h.ex
  have hst : ∀ r, s r ≠ ⊤ := fun r => by
    rw [hs r]; split
    · exact EReal.coe_ne_top _
    · exact bot_ne_top
  have ht : Finset.univ.fold max ⊥ s - (c : EReal) ≠ ⊤ := by
    have := fold_max_ne_top s hst
    generalize Finset.univ.fold max ⊥ s = y at *
    induction y with
    | bot => simp
    | top => exact absurd rfl this
    | coe y => rw [← EReal.coe_sub]; exact EReal.coe_ne_top _
  have hr : ∃ μ' : ℝ, m' = (μ' : EReal) := by
    refine ⟨m'.toReal, (EReal.coe_toReal ?_ ?_).symm⟩
    · rw [hm]; exact (max_lt (lt_top_iff_ne_top.mpr (EReal.coe_ne_top _)) (lt_top_iff_ne_top.mpr ht)).ne
    · rw [hm]; exact (lt_of_lt_of_le (EReal.bot_lt_coe μ) (le_max_left _ _)).ne'
  obtain ⟨μ', rfl⟩ := hr
  have he : Ideal.exp ((μ : EReal) - (μ' : EReal)) = ((Real.exp (μ - μ') : ℝ) : EReal) := by rw [← EReal.coe_sub, Ideal.exp_coe]
  have hw : ∀ r, Ideal.exp (s r - ((μ' : EReal) + (c : EReal))) = ((wt x p μ' j r : ℝ) : EReal) := fun r => by
    rw [hs r, ← EReal.coe_add]
    unfold wt
    split
    · rw [← EReal.coe_sub, Ideal.exp_coe]; congr 2; ring
    · simp
  simp only [he, hw]
  refine ⟨μ', rfl, ?_, ?_⟩
  · rw [Finset.sum_insert hj, EReal.coe_add, add_comm, ← EReal.coe_mul, Finset.mul_sum]
    refine congrArg₂ (· + ·) (coe_sum _ _).symm (congrArg _ (Finset.sum_congr rfl fun i _ => ?_))
    rw [Finset.mul_sum]
    exact Finset.sum_congr rfl fun r _ => (wt_shift x p μ μ' i r).symm
  · rw [Finset.sum_insert hj, add_comm]
    refine congrArg₂ (· + ·) rfl ?_
    have h0 : (0 : EReal) ≤ ((Real.exp (μ - μ') : ℝ) : EReal) := by exact_mod_cast (Real.exp_pos _).le
    rw [mul_comm, Memory.sum_mul_of_nonneg _ _ _ h0 (EReal.coe_ne_top _)]
    refine Finset.sum_congr rfl fun i _ => ?_
    rw [Memory.sum_mul_of_nonneg _ _ _ h0 (EReal.coe_ne_top _)]
    refine Finset.sum_congr rfl fun r _ => ?_
    rw [wt_shift x p μ μ' i r, EReal.coe_mul, mul_assoc, mul_comm ((wt x p μ i r : ℝ) : EReal)]

/-- The accumulated quotient is the softmax-weighted sum over all keys, whatever real number the exponentials are taken over. -/
theorem inv_div {x : Fin 16 → Fin 256 → ℝ} {p : Fin 16 → Fin 256 → Prop} {v : Fin 16 → Fin 256 → EReal} {B : Finset (Fin 16)} {m l a : EReal}
    (h : Inv x p v B m l a) (hB : ∀ j, j ∉ B → ∀ r, ¬ p j r) (j₀ : Fin 16) (r₀ : Fin 256) (h0 : p j₀ r₀)
    (s : Fin 16 → Fin 256 → EReal) (hs : ∀ j r, s j r = if p j r then ((x j r : ℝ) : EReal) else ⊥) (M : ℝ) :
    Ideal.div a l = ∑ j, ∑ r, v j r * Ideal.div (Ideal.exp (s j r - (M : EReal))) (∑ j, ∑ r, Ideal.exp (s j r - (M : EReal))) := by
  obtain ⟨μ, -, rfl, rfl⟩ := h.ex
  have hz : ∀ j, j ∉ B → ∀ r, wt x p μ j r = 0 := fun j hj r => if_neg (hB j hj r)
  have e1 : (∑ j ∈ B, ∑ r, wt x p μ j r) = ∑ j, ∑ r, wt x p μ j r :=
    Finset.sum_subset (Finset.subset_univ B) fun j _ hj => Finset.sum_eq_zero fun r _ => hz j hj r
  have e2 : (∑ j ∈ B, ∑ r, v j r * ((wt x p μ j r : ℝ) : EReal)) = ∑ j, ∑ r, v j r * ((wt x p μ j r : ℝ) : EReal) :=
    Finset.sum_subset (Finset.subset_univ B) fun j _ hj => Finset.sum_eq_zero fun r _ => by rw [hz j hj r, EReal.coe_zero, mul_zero]
  have hw : ∀ j r, Ideal.exp (s j r - (M : EReal)) = ((wt x p M j r : ℝ) : EReal) := fun j r => by
    rw [hs j r]
    unfold wt
    split
    · rw [← EReal.coe_sub, Ideal.exp_coe]
    · simp
  simp only [hw, e1, e2]
  simp only [← coe_sum]
  have hpos : ∀ μ : ℝ, 0 < ∑ j, ∑ r, wt x p μ j r := fun μ =>
    Finset.sum_pos' (fun j _ => Finset.sum_nonneg fun r _ => wt_nonneg x p μ j r)
      ⟨j₀, Finset.mem_univ _, Finset.sum_pos' (fun r _ => wt_nonneg x p μ j₀ r) ⟨r₀, Finset.mem_univ _, by unfold wt; rw [if_pos h0]; exact Real.exp_pos _⟩⟩
  have hd : ∀ (y : EReal) (L : ℝ), 0 < L → Ideal.div y (L : EReal) = y * ((L⁻¹ : ℝ) : EReal) := fun y L hL => by
    unfold Ideal.div
    rw [if_neg (by exact_mod_cast hL.ne'), EReal.coe_inv]
  rw [hd _ _ (hpos μ), Memory.sum_mul_of_nonneg _ _ _ (by exact_mod_cast (inv_pos.mpr (hpos μ)).le) (EReal.coe_ne_top _)]
  refine Finset.sum_congr rfl fun j _ => ?_
  rw [Memory.sum_mul_of_nonneg _ _ _ (by exact_mod_cast (inv_pos.mpr (hpos μ)).le) (EReal.coe_ne_top _)]
  refine Finset.sum_congr rfl fun r _ => ?_
  rw [hd _ _ (hpos M), mul_assoc, ← EReal.coe_mul, ← EReal.coe_mul]
  refine congrArg _ (congrArg _ ?_)
  have e : (∑ j, ∑ r, wt x p M j r) = Real.exp (μ - M) * ∑ j, ∑ r, wt x p μ j r := by
    rw [Finset.mul_sum]
    refine Finset.sum_congr rfl fun j _ => ?_
    rw [Finset.mul_sum]
    exact Finset.sum_congr rfl fun r _ => wt_shift x p μ M j r
  rw [e, wt_shift x p μ M j r, mul_inv]
  have : Real.exp (μ - M) ≠ 0 := (Real.exp_pos _).ne'
  field_simp

end Cert.Proof.MobaSpec

end
-- ==== Proof.MobaRef.lean ====
/-
  Hand-written, untrusted. The reference's block attention, read at one element: the masked gates of a query, the blocks
  its three best places hold, the scores of the keys it may attend to and their softmax.
-/
module

public import proofs.«01_k».proof.Proof.MobaSpec
public import proofs.«01_k».proof.Proof.Gen.MobaRefIdeal.Read
public import Idealize.ShloMosaic.Lib.Pointwise
public import Idealize.ShloMosaic.PureOps.Ideal.Laws

@[expose] public section

noncomputable section

namespace Cert.Proof.MobaRef

open Cert.MobaRefIdeal Cert.MobaRefIdeal.Gen Cert.MobaRefIdeal.Read Idealize.ShloMosaic Idealize.ShloMosaic.StableHlo Idealize.SL.Sem
open Cert.Proof.Memory (scale select_if)
open Cert.Proof.MobaSpec
open scoped Classical

abbrev T4 := FVec Ideal S4x4096x8x64 .f32

/-- Key `r` of block `j`. -/
abbrev key (j : Fin 16) (r : Fin 256) : Fin 4096 := ⟨256 * j.val + r.val, by omega⟩

/-- The block a token lies in. -/
abbrev blk (t : Fin 4096) : Fin 16 := ⟨t.val / 256, by omega⟩

/-- Head `h`'s slope. -/
def slope (h : Fin 8) : EReal :=
  Ideal.exp (Ideal.ofBits .f32 0x3F317218#32 * Ideal.div (Ideal.ofBits .f32 0xC1000000#32
    * (Ideal.ofBits .f32 0x3F800000#32 + FloatOps.sitofp (F := Ideal) .f32 (BitVec.ofNat 32 h.val))) (Ideal.ofBits .f32 0x41000000#32))

/-- The mean key of a block. -/
def mean (k : T4) (b : Fin 4) (h : Fin 8) (j : Fin 16) (d : Fin 64) : EReal :=
  Ideal.div (∑ r : Fin 256, k (ix4 b (key j r) h d)) (Ideal.ofBits .f32 0x43800000#32)

/-- A query's gate at a block. -/
def gate (q k : T4) (b : Fin 4) (t : Fin 4096) (h : Fin 8) (j : Fin 16) : EReal :=
  ∑ d : Fin 64, mean k b h j d * q (ix4 b t h d)

/-- The gates of the earlier blocks, the others at `−∞`. -/
def gmask (q k : T4) (b : Fin 4) (t : Fin 4096) (h : Fin 8) (j : Fin 16) : EReal :=
  if j.val < t.val / 256 then gate q k b t h j else ⊥

theorem ref_v9 (h : Fin 8) : val_main_v9 (F := Ideal) (ix1 h) = slope h := by
  pointwise [val_main_v9, val_main_v8, val_main_v7, val_main_v6, val_main_v5, val_main_v4, val_main_v3, val_main_v2, val_main_v1, val_main_v0,
    val_main_cst, val_main_cst_0, val_main_cst_1, val_main_cst_2, slope]

theorem ref_v14 (k : T4) (b : Fin 4) (h : Fin 8) (j : Fin 16) (d : Fin 64) :
    val_main_v14 (F := Ideal) k (ix4 b j h d) = mean k b h j d := by
  rw [val_main_v14_apply, val_main_v12_apply, val_main_v13_apply, val_main_cst_3_apply, val_main_cst_4_apply]
  unfold mean
  have z : Ideal.ofBits .f32 0x00000000#32 = 0 := by simp [Ideal.ofBits, Ideal.ieee]
  refine congrArg (fun x : EReal => Ideal.div x _) (Eq.trans (congrArg₂ (· + ·) z (Finset.sum_congr rfl fun r _ => ?_)) (zero_add _))
  rw [val_main_v11_apply]
  refine congrArg k (funext fun a => Fin.ext ?_)
  match a with
  | ⟨0, _⟩ => show ((((b.val * 16 + j.val) * 256 + r.val) * 8 + h.val) * 64 + d.val) / 2097152 = b.val; omega
  | ⟨1, _⟩ => show ((((b.val * 16 + j.val) * 256 + r.val) * 8 + h.val) * 64 + d.val) / 512 % 4096 = 256 * j.val + r.val; omega
  | ⟨2, _⟩ => show ((((b.val * 16 + j.val) * 256 + r.val) * 8 + h.val) * 64 + d.val) / 64 % 8 = h.val; omega
  | ⟨3, _⟩ => show ((((b.val * 16 + j.val) * 256 + r.val) * 8 + h.val) * 64 + d.val) % 64 = d.val; omega

theorem ref_v16 (q k : T4) (b : Fin 4) (t : Fin 4096) (h : Fin 8) (j : Fin 16) :
    val_main_v16 (F := Ideal) q k (ix4 b t h j) = gate q k b t h j := by
  rw [val_main_v16_apply, val_main_v15_apply]
  unfold gate
  refine Finset.sum_congr rfl fun d _ => congrArg₂ (fun a b : EReal => a * b) ?_ (congrArg q (funext fun a => Fin.ext ?_))
  · refine Eq.trans (congrArg _ (funext fun a => Fin.ext ?_)) (ref_v14 k b h j d)
    match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-! ## Words -/

/-- The sign of a word, as a word. -/
abbrev signWord (x : BitVec 32) : BitVec 32 := if x = 0#32 then 0#32 else if x.msb then -1#32 else 1#32

/-- A token's block, by the host's floor division. -/
theorem floor_div : ∀ t : Fin 4096,
    Scalar.select (IntOp.andi (IntOp.cmpi .ne (signWord (BitVec.ofNat 32 t.val)) (signWord (256#32)))
        (IntOp.cmpi .ne (IntOp.remsi .host (BitVec.ofNat 32 t.val) 256#32) 0#32))
      (IntOp.subi (IntOp.divsi .host (BitVec.ofNat 32 t.val) 256#32) 1#32) (IntOp.divsi .host (BitVec.ofNat 32 t.val) 256#32)
      = BitVec.ofNat 32 (t.val / 256) := by decide +kernel

theorem slt16 : ∀ a b : Fin 17, IntOp.cmpi .slt (BitVec.ofNat 32 a.val) (BitVec.ofNat 32 b.val) = if a.val < b.val then 1#1 else 0#1 := by decide +kernel

theorem eq16 : ∀ a b : Fin 17, IntOp.cmpi .eq (BitVec.ofNat 32 a.val) (BitVec.ofNat 32 b.val) = if a.val = b.val then 1#1 else 0#1 := by decide +kernel

theorem ref_v17 (t : Fin 4096) : val_main_v17 (F := Ideal) (ix1 t) = BitVec.ofNat 32 (t.val / 256) := floor_div t
theorem ref_v29 (t : Fin 4096) : val_main_v29 (F := Ideal) (ix1 t) = BitVec.ofNat 32 (t.val / 256) := floor_div t

theorem ref_v24 (q k : T4) (b : Fin 4) (t : Fin 4096) (h : Fin 8) (j : Fin 16) :
    val_main_v24 (F := Ideal) q k (ix4 b t h j) = gmask q k b t h j := by
  have e : val_main_v24 (F := Ideal) q k (ix4 b t h j)
      = Scalar.select (IntOp.cmpi .slt (BitVec.ofNat 32 j.val) (val_main_v17 (F := Ideal) (ix1 t))) (val_main_v16 (F := Ideal) q k (ix4 b t h j))
          (Ideal.ofBits .f32 0xFF800000#32) := by
    pointwise [val_main_v24, val_main_call1_v2, val_main_call1_v1, val_main_call1_v0, val_main_cst_5, val_main_v23, val_main_v22, val_main_v21, val_main_v20,
      val_main_v19, val_main_v18]
    rfl
  rw [e, ref_v17, ref_v16, Memory.neg_inf]
  refine (congrArg (fun x => Scalar.select x _ _) (slt16 ⟨j.val, by omega⟩ ⟨t.val / 256, by omega⟩)).trans ?_
  exact select_if _ _ _

/-! ## The three best places -/

/-- The second result of a `top_k`: a stable sort's places. -/
theorem topK_snd {s t : Shape} {α : Type} (d : Nat) (hd : d < s.rank) (gt : α → α → BitVec 1) (x : s.Idx → α) (h : s.Slices (fun _ => 0) t) (J : t.Idx) (I : s.Idx)
    (hI : ∀ a, (I a).val = (J (a.cast h.1.symm)).val) :
    (Host.topK t d gt x h).2 J = BitVec.ofNat 32 (sortedFrom (fun k k' => gt (x (I.along ⟨d, hd⟩ k)) (x (I.along ⟨d, hd⟩ k')) == 1#1) (I ⟨d, hd⟩)).val := by
  unfold Host.topK Host.sort2
  simp only [dif_pos hd]
  rw [Pointwise.extractStridedSlice_apply]
  have e : (Shape.Idx.norm fun a => ⟨0 + (J (a.cast h.1.symm)).val, Nat.lt_of_lt_of_le (Nat.add_lt_add_left (J _).isLt _) (h.2 a)⟩ : s.Idx) = I :=
    funext fun a => Fin.ext ((Nat.zero_add _).trans (hI a).symm)
  rw [e]
  simp only [iotaInDim, Shape.Idx.along, Function.update_self]

theorem ref_indices (q k : T4) (b : Fin 4) (t : Fin 4096) (h : Fin 8) (p : Fin 3) :
    ∃ j : Fin 16, val_main_indices (F := Ideal) q k (ix4 b t h p) = BitVec.ofNat 32 j.val ∧ rank (gmask q k b t h) j = p.val := by
  refine ⟨sortedFrom (fun x y => FloatOps.cmpfTotal (F := Ideal) (φ := .f32) .gt (gmask q k b t h x) (gmask q k b t h y) == 1#1) ⟨p.val, by omega⟩, ?_, ?_⟩
  · have e : ∀ x : Fin 16, val_main_v24 (F := Ideal) q k ((ix4 b t h ⟨p.val, by omega⟩ : S4x4096x8x16.Idx).along 3 x) = gmask q k b t h x := fun x => by
      rw [← ref_v24]
      refine congrArg _ (funext fun a => ?_)
      match a with
      | ⟨0, _⟩ => rfl
      | ⟨1, _⟩ => rfl
      | ⟨2, _⟩ => rfl
      | ⟨3, _⟩ => rfl
    have key := topK_snd 3 (by decide) (FloatOps.cmpfTotal (F := Ideal) (φ := .f32) .gt) (val_main_v24 (F := Ideal) q k) sliceFits_S4x4096x8x16_S4x4096x8x3
      (ix4 b t h p) (ix4 b t h ⟨p.val, by omega⟩) (fun a => by
        match a with
        | ⟨0, _⟩ => rfl
        | ⟨1, _⟩ => rfl
        | ⟨2, _⟩ => rfl
        | ⟨3, _⟩ => rfl)
    refine key.trans ?_
    refine congrArg (fun f : Fin 16 → Fin 16 → Bool => BitVec.ofNat 32 (sortedFrom f ⟨p.val, by omega⟩).val) (funext fun x => funext fun y => ?_)
    exact congrArg₂ (fun u v : EReal => FloatOps.cmpfTotal (F := Ideal) (φ := .f32) .gt u v == 1#1) (e x) (e y)
  · exact rank_sortedFrom _ _ (funext fun x => funext fun y => by
      show (Ideal.cmp (CmpDirection.ordered .gt) (gmask q k b t h x) (gmask q k b t h y) == 1#1) = decide (gmask q k b t h y < gmask q k b t h x)
      by_cases hxy : gmask q k b t h y < gmask q k b t h x <;> simp [Ideal.cmp, CmpDirection.ordered, hxy]) _

/-- A fold of `0` and `1` words is positive when a `1` is among them. -/
theorem fold3 (P : Fin 3 → Prop) [DecidablePred P] [Decidable (∃ p, P p)] :
    IntOp.cmpi .sgt (Finset.univ.fold IntOp.maxsi 2147483648#32 fun p => if P p then 1#32 else 0#32) 0#32 = if ∃ p, P p then 1#1 else 0#1 := by
  have e : (Finset.univ : Finset (Fin 3)) = {0, 1, 2} := rfl
  rw [e, Finset.fold_insert (by decide), Finset.fold_insert (by decide), Finset.fold_singleton]
  have ex : (∃ p, P p) ↔ P 0 ∨ P 1 ∨ P 2 := ⟨fun ⟨p, hp⟩ => by fin_cases p <;> simp_all, fun h => by rcases h with h | h | h <;> exact ⟨_, h⟩⟩
  rw [if_congr ex rfl rfl]
  by_cases h0 : P 0 <;> by_cases h1 : P 1 <;> by_cases h2 : P 2 <;> simp [h0, h1, h2] <;> decide

/-- The host's largest word over the three places. -/
theorem places_max (y : IVec S4x4096x8x3x4096 32) (z : IVec S_ 32) (b : Fin 4) (t : Fin 4096) (h : Fin 8) (s : Fin 4096) :
    Host.reduce IntOp.maxsi y z reducesTo_S4x4096x8x3x4096_S4x4096x8x4096_d3 h_S_ (ix4 b t h s)
      = Finset.univ.fold IntOp.maxsi (z (Shape.Idx.first h_S_)) fun p : Fin 3 => y (ix5 b t h p s) :=
  (Host.reduce_eq_fold _ _ _ _ _ _).trans
    (Shape.ReducesTo.fold_fiber_r5_a3 reducesTo_S4x4096x8x3x4096_S4x4096x8x4096_d3 (ix4 b t h s) IntOp.maxsi _ y)

theorem select_word (P : Prop) [Decidable P] (a b : BitVec 32) : Scalar.select (if P then 1#1 else 0#1) a b = if P then a else b := by
  by_cases h : P <;> simp [h, Scalar.select]

theorem ref_v36 (q k : T4) (b : Fin 4) (t : Fin 4096) (h : Fin 8) (s : Fin 4096) (p : Fin 3) :
    val_main_v36 (F := Ideal) q k (ix5 b t h p s)
        = Scalar.select (IntOp.cmpi .eq (Scalar.select (IntOp.cmpi .slt (val_main_indices (F := Ideal) q k (ix4 b t h p)) (val_main_v17 (F := Ideal) (ix1 t)))
            (val_main_indices (F := Ideal) q k (ix4 b t h p)) 16#32) (val_main_v29 (F := Ideal) (ix1 s))) 1#32 0#32 := by
  unfold val_main_v36 val_main_v35 val_main_v34 val_main_v32 val_main_v30 val_main_v27 val_main_v26
  generalize val_main_indices (F := Ideal) q k = y
  unfold val_main_call4_v0 val_main_call4_v1 val_main_v33 val_main_v31 val_main_call2_v1 val_main_v25 val_main_v18 val_main_call2_v0 val_main_c_6 val_main_c_8 val_main_c_9
  simp only [id_eq]
  generalize val_main_v17 (F := Ideal) = y1
  generalize val_main_v29 (F := Ideal) = y2
  pointwise []

/-- The blocks a query selected: the earlier ones among its three best. -/
theorem ref_v39 (q k : T4) (b : Fin 4) (t : Fin 4096) (h : Fin 8) (s : Fin 4096) :
    val_main_v39 (F := Ideal) q k (ix4 b t h s)
      = if (blk s).val < t.val / 256 ∧ rank (gmask q k b t h) (blk s) < 3 then 1#1 else 0#1 := by
  obtain ⟨j, hj⟩ : ∃ j : Fin 3 → Fin 16, ∀ p, val_main_indices (F := Ideal) q k (ix4 b t h p) = BitVec.ofNat 32 (j p).val ∧ rank (gmask q k b t h) (j p) = p.val :=
    ⟨fun p => (ref_indices q k b t h p).choose, fun p => (ref_indices q k b t h p).choose_spec⟩
  have e : ∀ p : Fin 3, val_main_v36 (F := Ideal) q k (ix5 b t h p s) = if (if (j p).val < t.val / 256 then (j p).val else 16) = s.val / 256 then 1#32 else 0#32 := by
    intro p
    have e1 := ref_v36 q k b t h s p
    rw [e1, (hj p).1, ref_v17, ref_v29]
    have e2 := slt16 ⟨(j p).val, by omega⟩ ⟨t.val / 256, by omega⟩
    simp only at e2
    rw [e2, select_word]
    have e3 := eq16 ⟨if (j p).val < t.val / 256 then (j p).val else 16, by split <;> omega⟩ ⟨s.val / 256, by omega⟩
    simp only at e3
    have e4 : (if (j p).val < t.val / 256 then BitVec.ofNat 32 (j p).val else 16#32) = BitVec.ofNat 32 (if (j p).val < t.val / 256 then (j p).val else 16) := by
      split <;> rfl
    rw [e4, e3, select_word]
  rw [val_main_v39_apply]
  have e5 : val_main_v37 (F := Ideal) q k (ix4 b t h s)
      = Finset.univ.fold IntOp.maxsi 2147483648#32 fun p : Fin 3 => if (if (j p).val < t.val / 256 then (j p).val else 16) = s.val / 256 then 1#32 else 0#32 := by
    unfold val_main_v37
    refine (places_max (val_main_v36 (F := Ideal) q k) _ b t h s).trans ?_
    rw [funext e]
    rfl
  rw [e5]
  refine (fold3 fun p => (if (j p).val < t.val / 256 then (j p).val else 16) = s.val / 256).trans (if_congr ⟨?_, ?_⟩ rfl rfl)
  · rintro ⟨p, hp⟩
    by_cases hlt : (j p).val < t.val / 256
    · rw [if_pos hlt] at hp
      have : j p = blk s := Fin.ext hp
      rw [← this]
      exact ⟨hlt, by rw [(hj p).2]; exact p.isLt⟩
    · rw [if_neg hlt] at hp
      omega
  · rintro ⟨h1, h2⟩
    have : j ⟨_, h2⟩ = blk s := rank_injective (gmask q k b t h) (hj ⟨_, h2⟩).2
    refine ⟨⟨_, h2⟩, ?_⟩
    rw [this, if_pos h1]

/-! ## Scores and their softmax -/

/-- A key's score for a query: the scaled product less the slope times the distance. -/
def sc (q k : T4) (b : Fin 4) (t : Fin 4096) (h : Fin 8) (s : Fin 4096) : EReal :=
  (∑ d : Fin 64, k (ix4 b s h d) * q (ix4 b t h d)) * scale - slope h * (((t.val : ℝ) - (s.val : ℝ) : ℝ) : EReal)

/-- The keys a query attends to: those of its own block and of the selected ones, up to itself. -/
def att (q k : T4) (b : Fin 4) (t : Fin 4096) (h : Fin 8) (s : Fin 4096) : Prop :=
  (((blk s).val < t.val / 256 ∧ rank (gmask q k b t h) (blk s) < 3) ∨ s.val / 256 = t.val / 256) ∧ s.val ≤ t.val

/-- The score, `−∞` at the keys not attended to. -/
def msc (q k : T4) (b : Fin 4) (t : Fin 4096) (h : Fin 8) (s : Fin 4096) : EReal := if att q k b t h s then sc q k b t h s else ⊥

theorem sub_toInt (a b : Nat) (ha : a < 4096) (hb : b < 4096) : (IntOp.subi (BitVec.ofNat 32 a) (BitVec.ofNat 32 b)).toInt = (a : Int) - b := by
  show (BitVec.ofNat 32 a - BitVec.ofNat 32 b).toInt = _
  have e : ∀ n : Nat, n < 4096 → (n : Int).bmod (2 ^ 32) = n := fun n hn => Int.bmod_eq_of_le (by norm_num; try omega) (by norm_num; try omega)
  rw [BitVec.toInt_sub, BitVec.toInt_ofNat', BitVec.toInt_ofNat', e a ha, e b hb]
  exact Int.bmod_eq_of_le (by norm_num; try omega) (by norm_num; try omega)

theorem sge_sub (a b : Nat) (ha : a < 4096) (hb : b < 4096) :
    IntOp.cmpi .sge (IntOp.subi (BitVec.ofNat 32 a) (BitVec.ofNat 32 b)) 0#32 = if b ≤ a then 1#1 else 0#1 := by
  have h := sub_toInt a b ha hb
  by_cases hab : b ≤ a
  · rw [if_pos hab]
    simp [IntOp.cmpi, BitVec.sle_eq_decide, h, hab]
  · rw [if_neg hab]
    simp [IntOp.cmpi, BitVec.sle_eq_decide, h, hab]

theorem ref_v48 (t : Fin 4096) : val_main_v48 (F := Ideal) (ix1 t) = BitVec.ofNat 32 (t.val / 256) := floor_div t

theorem ref_v55 (q k : T4) (b : Fin 4) (t : Fin 4096) (h : Fin 8) (s : Fin 4096) :
    val_main_v55 (F := Ideal) q k (ix4 b t h s) = ∑ d : Fin 64, k (ix4 b s h d) * q (ix4 b t h d) := by
  rw [val_main_v55_apply, val_main_v54_apply]
  refine Finset.sum_congr rfl fun d _ => congrArg₂ (fun a b : EReal => a * b) (congrArg k (funext fun a => Fin.ext ?_)) (congrArg q (funext fun a => Fin.ext ?_))
  all_goals
    match a with
    | ⟨0, _⟩ => rfl
    | ⟨1, _⟩ => rfl
    | ⟨2, _⟩ => rfl
    | ⟨3, _⟩ => rfl

theorem ref_v64 (q k : T4) (b : Fin 4) (t : Fin 4096) (h : Fin 8) (s : Fin 4096) :
    val_main_v64 (F := Ideal) q k (ix4 b t h s) = sc q k b t h s := by
  have e : val_main_v64 (F := Ideal) q k (ix4 b t h s)
      = val_main_v55 (F := Ideal) q k (ix4 b t h s) * Ideal.ofBits .f32 0x3E000000#32
        - val_main_v9 (F := Ideal) (ix1 h) * FloatOps.sitofp (F := Ideal) .f32 (IntOp.subi (BitVec.ofNat 32 t.val) (BitVec.ofNat 32 s.val)) := by
    unfold val_main_v64 val_main_v57
    generalize val_main_v55 (F := Ideal) q k = y
    unfold val_main_v56 val_main_cst_13 val_main_v63 val_main_v62 val_main_v61 val_main_v60 val_main_v59 val_main_v58
    generalize val_main_v9 (F := Ideal) = y9
    unfold val_main_v46 val_main_v45 val_main_v44 val_main_v43 val_main_v42 val_main_v41 val_main_v40 val_main_v10
    pointwise []
  rw [e, ref_v55, ref_v9]
  unfold sc scale
  refine congrArg (fun x : EReal => (∑ d : Fin 64, k (ix4 b s h d) * q (ix4 b t h d)) * Ideal.ofBits .f32 0x3E000000#32 - slope h * x) ?_
  show (((IntOp.subi (BitVec.ofNat 32 t.val) (BitVec.ofNat 32 s.val)).toInt : ℝ) : EReal) = _
  rw [sub_toInt _ _ t.isLt s.isLt]
  push_cast
  rfl

theorem select_three (P Q R : Prop) [Decidable P] [Decidable Q] [Decidable R] [Decidable ((P ∨ Q) ∧ R)] (x y : EReal) :
    Scalar.select (IntOp.andi (IntOp.ori (if P then 1#1 else 0#1) (if Q then 1#1 else 0#1)) (if R then 1#1 else 0#1)) x y = if (P ∨ Q) ∧ R then x else y := by
  by_cases h1 : P <;> by_cases h2 : Q <;> by_cases h3 : R <;> simp [h1, h2, h3, IntOp.andi, IntOp.ori, Scalar.select]

theorem ref_v71 (q k : T4) (b : Fin 4) (t : Fin 4096) (h : Fin 8) (s : Fin 4096) :
    val_main_v71 (F := Ideal) q k (ix4 b t h s) = msc q k b t h s := by
  have e : val_main_v71 (F := Ideal) q k (ix4 b t h s)
      = Scalar.select (IntOp.andi (IntOp.ori (val_main_v39 (F := Ideal) q k (ix4 b t h s))
            (IntOp.cmpi .eq (val_main_v29 (F := Ideal) (ix1 s)) (val_main_v48 (F := Ideal) (ix1 t))))
          (IntOp.cmpi .sge (IntOp.subi (BitVec.ofNat 32 t.val) (BitVec.ofNat 32 s.val)) 0#32)) (val_main_v64 (F := Ideal) q k (ix4 b t h s))
          (Ideal.ofBits .f32 0xFF800000#32) := by
    unfold val_main_v71 val_main_v70 val_main_v66
    generalize val_main_v64 (F := Ideal) q k = y
    generalize val_main_v39 (F := Ideal) q k = y1
    unfold val_main_call6_v1 val_main_call6_v0 val_main_cst_15 val_main_v69 val_main_v68 val_main_v67 val_main_c_14 val_main_v65 val_main_v53 val_main_v52 val_main_v51
      val_main_v50 val_main_v49 val_main_v47
    generalize val_main_v29 (F := Ideal) = y2
    generalize val_main_v48 (F := Ideal) = y3
    unfold val_main_v46 val_main_v45 val_main_v44 val_main_v43 val_main_v42 val_main_v41 val_main_v40 val_main_v10
    simp only [id_eq]
    pointwise []
  rw [e, ref_v39, ref_v29, ref_v48, ref_v64, sge_sub _ _ t.isLt s.isLt, Memory.neg_inf]
  have e3 := eq16 ⟨s.val / 256, by omega⟩ ⟨t.val / 256, by omega⟩
  simp only at e3
  rw [e3]
  unfold msc att
  refine (select_three _ _ _ _ _).trans ?_
  congr

/-- The host's row maximum as a fold over the keys. -/
theorem row_max (y : FVec Ideal S4x4096x8x4096 .f32) (z : FVec Ideal S_ .f32) (b : Fin 4) (t : Fin 4096) (h : Fin 8) :
    Host.reduce FloatOps.maximumf y z reducesTo_S4x4096x8x4096_S4x4096x8_d3 h_S_ (ix3 b t h)
      = Finset.univ.fold max (z (Shape.Idx.first h_S_)) fun s : Fin 4096 => y (ix4 b t h s) :=
  (Host.reduce_eq_fold _ _ _ _ _ _).trans
    (Shape.ReducesTo.fold_fiber_r4_a3 reducesTo_S4x4096x8x4096_S4x4096x8_d3 (ix3 b t h) max _ y)

/-- The largest score of a query. -/
def top (q k : T4) (b : Fin 4) (t : Fin 4096) (h : Fin 8) : EReal := Finset.univ.fold max ⊥ (msc q k b t h)

theorem ref_v74 (q k : T4) (b : Fin 4) (t : Fin 4096) (h : Fin 8) : val_main_v74 (F := Ideal) q k (ix3 b t h) = top q k b t h := by
  have e : val_main_v72 (F := Ideal) q k (ix3 b t h) = top q k b t h := by
    unfold val_main_v72 top
    refine (row_max (val_main_v71 (F := Ideal) q k) _ b t h).trans ?_
    rw [val_main_cst_16_apply, funext (ref_v71 q k b t h)]
    exact congrArg (fun x => Finset.univ.fold max x _) Memory.neg_inf
  rw [val_main_v74_apply, e, val_main_v73_apply, val_main_cst_17_apply]
  generalize top q k b t h = y
  show max (Ideal.ofBits .f32 0xFF800000#32) y = y
  rw [Memory.neg_inf]
  exact max_eq_right bot_le

end Cert.Proof.MobaRef
-- ==== Proof.MobaPay.lean ====
/-
  Hand-written, untrusted. The kernel's vector expressions read at one element.
-/
module

public import proofs.«01_k».proof.Proof.MobaRef
public import proofs.«01_k».proof.Proof.MemoryValue
public import proofs.«01_k».proof.Proof.Gen.MobaIdeal.Value

@[expose] public section

noncomputable section

namespace Cert.Proof.MobaPay

open Cert.MobaIdeal Cert.MobaIdeal.Gen Idealize.ShloMosaic Idealize.SL.Sem
open Cert.Proof.MobaSpec
open scoped Classical

theorem pay43_at (v : FVec Ideal S128x512 .bf16) (K : Vec Ideal S1x256x128 .bf16) (r : Fin 256) (l : Fin 512) :
    k0_pay43 (F := Ideal) v K (ix2 r l) = ∑ x : Fin 128, K (ix3 (0 : Fin 1) r x) * v (ix2 x l) := by
  unfold k0_pay43
  pointwise []

theorem pay46_at (v : FVec Ideal S128x512 .bf16) (K : Vec Ideal S1x256x128 .bf16) (sel : Vec Ideal S1x256 .f32) (pen : Vec Ideal S1x256x256 .f32)
    (r l : Fin 256) :
    k0_pay46 (F := Ideal) v K sel pen (ix2 r l)
      = if Ideal.ofBits .f32 0x3F000000#32 < sel (ix2 (0 : Fin 1) l)
        then k0_pay43 (F := Ideal) v K (ix2 r (⟨l.val, by omega⟩ : Fin 512)) - pen (ix3 (0 : Fin 1) r l) else ⊥ := by
  unfold k0_pay46
  generalize k0_pay43 (F := Ideal) v K = S
  pointwise []
  rw [Memory.neg_inf]

theorem pay55_at (S : FVec Ideal S256x512 .f32) (sel : Vec Ideal S1x256 .f32) (pen : Vec Ideal S1x256x256 .f32)
    (r l : Fin 256) :
    k0_pay55 (F := Ideal) S sel pen (ix2 r l)
      = if Ideal.ofBits .f32 0x3F000000#32 < sel (ix2 (0 : Fin 1) l)
        then S (ix2 r (⟨256 + l.val, by omega⟩ : Fin 512)) - pen (ix3 (0 : Fin 1) r l) else ⊥ := by
  unfold k0_pay55
  pointwise []
  rw [Memory.neg_inf]

theorem pay57_at (m : FVec Ideal S1x256 .f32) (S : FVec Ideal S256x512 .f32) (o : Ideal .f32) (sel : Vec Ideal S1x256 .f32) (pen : Vec Ideal S1x256x256 .f32)
    (w : Elt Ideal .f32) (l : Fin 256) :
    k0_pay57 (F := Ideal) m S o sel pen w (ix2 (0 : Fin 1) l)
      = max (m (ix2 (0 : Fin 1) l)) (Finset.univ.fold max ⊥ (fun r : Fin 256 => k0_pay55 (F := Ideal) S sel pen (ix2 r l)) - w * o) := by
  unfold k0_pay57
  generalize k0_pay55 (F := Ideal) S sel pen = s
  unfold k0_pay56
  pointwise []
  rw [Memory.neg_inf]

theorem pay60_at (m a : FVec Ideal S1x256 .f32) (S : FVec Ideal S256x512 .f32) (o : Ideal .f32) (sel : Vec Ideal S1x256 .f32) (pen : Vec Ideal S1x256x256 .f32)
    (w : Elt Ideal .f32) (l : Fin 256) :
    k0_pay60 (F := Ideal) m a S o sel pen w (ix2 (0 : Fin 1) l)
      = Ideal.exp (m (ix2 (0 : Fin 1) l) - k0_pay57 (F := Ideal) m S o sel pen w (ix2 (0 : Fin 1) l)) * a (ix2 (0 : Fin 1) l)
        + ∑ r : Fin 256, Ideal.exp (k0_pay55 (F := Ideal) S sel pen (ix2 r l) - (k0_pay57 (F := Ideal) m S o sel pen w (ix2 (0 : Fin 1) l) + w * o)) := by
  unfold k0_pay60 k0_pay59 k0_pay58
  generalize k0_pay57 (F := Ideal) m S o sel pen w = m'
  generalize k0_pay55 (F := Ideal) S sel pen = s
  unfold k0_pay56
  pointwise []

theorem pay61_at (m : FVec Ideal S1x256 .f32) (acc : FVec Ideal S64x256 .f32) (S : FVec Ideal S256x512 .f32) (V : FVec Ideal S128x256 .bf16) (o : Ideal .f32) (sel : Vec Ideal S1x256 .f32) (pen : Vec Ideal S1x256x256 .f32)
    (w : Elt Ideal .f32) (e : Fin 64) (l : Fin 256) :
    k0_pay61 (F := Ideal) m acc S V o sel pen w (ix2 e l)
      = Ideal.exp (m (ix2 (0 : Fin 1) l) - k0_pay57 (F := Ideal) m S o sel pen w (ix2 (0 : Fin 1) l)) * acc (ix2 e l)
        + ∑ r : Fin 256, V (ix2 (⟨64 + e.val, by omega⟩ : Fin 128) r) * Ideal.exp (k0_pay55 (F := Ideal) S sel pen (ix2 r l) - (k0_pay57 (F := Ideal) m S o sel pen w (ix2 (0 : Fin 1) l) + w * o)) := by
  unfold k0_pay61 k0_pay59 k0_pay58
  generalize k0_pay57 (F := Ideal) m S o sel pen w = m'
  generalize k0_pay55 (F := Ideal) S sel pen = s
  unfold k0_pay56
  pointwise []

section Loop

variable (i : grid0.Coords) (a2 : BitVec 32) (v : FVec Ideal S128x512 .bf16) (c0 c1 : BitVec 32) (k : Fin (k0_t1_loop i).trips)
  (m : FVec Ideal S1x256 .f32) (K : Vec Ideal S1x256x128 .bf16) (sel : Vec Ideal S1x256 .f32) (pen : Vec Ideal S1x256x256 .f32) (w : Elt Ideal .f32)

theorem pay49_at (l : Fin 256) :
    k0_pay49 (F := Ideal) i a2 v c0 c1 k m K sel pen w (ix2 (0 : Fin 1) l)
      = max (m (ix2 (0 : Fin 1) l)) (Finset.univ.fold max ⊥ (fun r : Fin 256 => k0_pay46 (F := Ideal) v K sel pen (ix2 r l)) - w * k0_pay45 (F := Ideal) i a2 c0 c1 k) := by
  unfold k0_pay49
  generalize k0_pay46 (F := Ideal) v K sel pen = s
  unfold k0_pay47
  generalize k0_pay45 (F := Ideal) i a2 c0 c1 k = o
  pointwise []
  rw [Memory.neg_inf]

theorem pay53_at (l : Fin 256) (a : FVec Ideal S1x256 .f32) :
    k0_pay53 (F := Ideal) (k0_pay51 (F := Ideal) i a2 v c0 c1 k m K sel pen w) (k0_pay52 (F := Ideal) i a2 v c0 c1 k m a K sel pen w) (ix2 (0 : Fin 1) l)
      = Ideal.exp (m (ix2 (0 : Fin 1) l) - k0_pay49 (F := Ideal) i a2 v c0 c1 k m K sel pen w (ix2 (0 : Fin 1) l)) * a (ix2 (0 : Fin 1) l)
        + ∑ r : Fin 256, Ideal.exp (k0_pay46 (F := Ideal) v K sel pen (ix2 r l) - (k0_pay49 (F := Ideal) i a2 v c0 c1 k m K sel pen w (ix2 (0 : Fin 1) l) + w * k0_pay45 (F := Ideal) i a2 c0 c1 k)) := by
  unfold k0_pay53 k0_pay51 k0_pay52 k0_pay50
  generalize k0_pay49 (F := Ideal) i a2 v c0 c1 k m K sel pen w = m'
  generalize k0_pay46 (F := Ideal) v K sel pen = s
  unfold k0_pay47
  generalize k0_pay45 (F := Ideal) i a2 c0 c1 k = o
  pointwise []

theorem pay54_at (e : Fin 64) (l : Fin 256) (acc : FVec Ideal S64x256 .f32) (V : Vec Ideal S1x128x256 .bf16) :
    k0_pay54 (F := Ideal) acc (k0_pay48 (F := Ideal) V) (k0_pay50 (F := Ideal) i a2 v c0 c1 k m K sel pen w) (k0_pay51 (F := Ideal) i a2 v c0 c1 k m K sel pen w) (ix2 e l)
      = Ideal.exp (m (ix2 (0 : Fin 1) l) - k0_pay49 (F := Ideal) i a2 v c0 c1 k m K sel pen w (ix2 (0 : Fin 1) l)) * acc (ix2 e l)
        + ∑ r : Fin 256, V (ix3 (0 : Fin 1) (⟨e.val, by omega⟩ : Fin 128) r) * Ideal.exp (k0_pay46 (F := Ideal) v K sel pen (ix2 r l) - (k0_pay49 (F := Ideal) i a2 v c0 c1 k m K sel pen w (ix2 (0 : Fin 1) l) + w * k0_pay45 (F := Ideal) i a2 c0 c1 k)) := by
  unfold k0_pay54 k0_pay51 k0_pay50 k0_pay48 k0_pay44
  generalize k0_pay49 (F := Ideal) i a2 v c0 c1 k m K sel pen w = m'
  generalize k0_pay46 (F := Ideal) v K sel pen = s
  unfold k0_pay47
  generalize k0_pay45 (F := Ideal) i a2 c0 c1 k = o
  pointwise []

theorem pay44_at (V : Vec Ideal S1x128x256 .bf16) (x : Fin 128) (r : Fin 256) :
    k0_pay44 (F := Ideal) V (ix2 x r) = V (ix3 (0 : Fin 1) x r) := by
  unfold k0_pay44
  pointwise []

end Loop

/-! ## The query's own block -/

section Own

variable (D : IVec S256x256 32) (q : FVec Ideal S128x256 .bf16) (d : IVec S128x256 32) (u w : IVec S128x256 1) (K : Vec Ideal S1x256x128 .bf16)
  (pen : Vec Ideal S1x256x256 .f32) (S : FVec Ideal S256x512 .f32)

theorem pay102_at (r : Fin 256) (l : Fin 512) :
    k0_pay102 (F := Ideal) q d u w K (ix2 r l) = ∑ x : Fin 128, K (ix3 (0 : Fin 1) r x) * k0_pay101 (F := Ideal) q d u w (ix2 x l) := by
  unfold k0_pay102
  generalize k0_pay101 (F := Ideal) q d u w = y
  pointwise []

theorem sge_if (r l : Fin 256) (a b : EReal) :
    Scalar.select (IntOp.cmpi .sge (BitVec.ofNat 32 l.val - BitVec.ofNat 32 r.val) 0#32) a b = if r.val ≤ l.val then a else b :=
  (congrArg (fun z => Scalar.select z a b) (MobaRef.sge_sub l.val r.val (by omega) (by omega))).trans (Memory.select_if _ _ _)

theorem pay81_at (r l : Fin 256) : k0_pay81 (ix2 r l) = BitVec.ofNat 32 l.val - BitVec.ofNat 32 r.val := by
  unfold k0_pay81
  pointwise []
  rfl

theorem pay104_at (r l : Fin 256) :
    k0_pay104 (F := Ideal) k0_pay81 q d u w K pen (ix2 r l)
      = if r.val ≤ l.val then k0_pay102 (F := Ideal) q d u w K (ix2 r (⟨l.val, by omega⟩ : Fin 512)) - pen (ix3 (0 : Fin 1) r l) else ⊥ := by
  unfold k0_pay104
  generalize k0_pay102 (F := Ideal) q d u w K = S
  have hD := pay81_at r l
  generalize k0_pay81 = D at *
  pointwise []
  rw [hD, Memory.neg_inf]
  exact sge_if _ _ _ _

theorem pay109_at (l : Fin 256) :
    k0_pay109 (F := Ideal) D q d u w K pen (ix2 (0 : Fin 1) l)
      = max (Ideal.ofBits .f32 0xF149F2CA#32) (Finset.univ.fold max ⊥ (fun r : Fin 256 => k0_pay104 (F := Ideal) D q d u w K pen (ix2 r l)) - Ideal.ofBits .f32 0x00000000#32) := by
  unfold k0_pay109
  generalize k0_pay104 (F := Ideal) D q d u w K pen = s
  unfold k0_pay105
  pointwise []
  rw [Memory.neg_inf]

theorem pay112_at (l : Fin 256) :
    k0_pay112 (F := Ideal) (k0_pay104 (F := Ideal) D q d u w K pen) (k0_pay106 (F := Ideal)) (k0_pay109 (F := Ideal) D q d u w K pen) (k0_pay110 (F := Ideal) D q d u w K pen) (ix2 (0 : Fin 1) l)
      = Ideal.exp (Ideal.ofBits .f32 0xF149F2CA#32 - k0_pay109 (F := Ideal) D q d u w K pen (ix2 (0 : Fin 1) l)) * Ideal.ofBits .f32 0x00000000#32
        + ∑ r : Fin 256, Ideal.exp (k0_pay104 (F := Ideal) D q d u w K pen (ix2 r l) - (k0_pay109 (F := Ideal) D q d u w K pen (ix2 (0 : Fin 1) l) + Ideal.ofBits .f32 0x00000000#32)) := by
  unfold k0_pay112 k0_pay111 k0_pay110
  generalize k0_pay109 (F := Ideal) D q d u w K pen = m'
  generalize k0_pay104 (F := Ideal) D q d u w K pen = s
  unfold k0_pay105 k0_pay106
  pointwise []

theorem pay113_at (e : Fin 64) (l : Fin 256) (V : Vec Ideal S1x128x256 .bf16) :
    k0_pay113 (F := Ideal) (k0_pay104 (F := Ideal) D q d u w K pen) (k0_pay107 (F := Ideal)) (k0_pay108 (F := Ideal) V) (k0_pay109 (F := Ideal) D q d u w K pen) (k0_pay110 (F := Ideal) D q d u w K pen) (ix2 e l)
      = Ideal.exp (Ideal.ofBits .f32 0xF149F2CA#32 - k0_pay109 (F := Ideal) D q d u w K pen (ix2 (0 : Fin 1) l)) * Ideal.ofBits .f32 0x00000000#32
        + ∑ r : Fin 256, V (ix3 (0 : Fin 1) (⟨e.val, by omega⟩ : Fin 128) r) * Ideal.exp (k0_pay104 (F := Ideal) D q d u w K pen (ix2 r l) - (k0_pay109 (F := Ideal) D q d u w K pen (ix2 (0 : Fin 1) l) + Ideal.ofBits .f32 0x00000000#32)) := by
  unfold k0_pay113 k0_pay111 k0_pay110 k0_pay108 k0_pay103
  generalize k0_pay109 (F := Ideal) D q d u w K pen = m'
  generalize k0_pay104 (F := Ideal) D q d u w K pen = s
  unfold k0_pay105 k0_pay107
  pointwise []

theorem pay114_at (r l : Fin 256) :
    k0_pay114 (F := Ideal) k0_pay81 S pen (ix2 r l)
      = if r.val ≤ l.val then S (ix2 r (⟨256 + l.val, by omega⟩ : Fin 512)) - pen (ix3 (0 : Fin 1) r l) else ⊥ := by
  unfold k0_pay114
  have hD := pay81_at r l
  generalize k0_pay81 = D at *
  pointwise []
  rw [hD, Memory.neg_inf]
  exact sge_if _ _ _ _

theorem pay117_at (l : Fin 256) :
    k0_pay117 (F := Ideal) D S pen (ix2 (0 : Fin 1) l)
      = max (Ideal.ofBits .f32 0xF149F2CA#32) (Finset.univ.fold max ⊥ (fun r : Fin 256 => k0_pay114 (F := Ideal) D S pen (ix2 r l)) - Ideal.ofBits .f32 0x00000000#32) := by
  unfold k0_pay117
  generalize k0_pay114 (F := Ideal) D S pen = s
  unfold k0_pay115
  pointwise []
  rw [Memory.neg_inf]

theorem pay120_at (l : Fin 256) :
    k0_pay120 (F := Ideal) D S pen (ix2 (0 : Fin 1) l)
      = Ideal.exp (Ideal.ofBits .f32 0xF149F2CA#32 - k0_pay117 (F := Ideal) D S pen (ix2 (0 : Fin 1) l)) * Ideal.ofBits .f32 0x00000000#32
        + ∑ r : Fin 256, Ideal.exp (k0_pay114 (F := Ideal) D S pen (ix2 r l) - (k0_pay117 (F := Ideal) D S pen (ix2 (0 : Fin 1) l) + Ideal.ofBits .f32 0x00000000#32)) := by
  unfold k0_pay120 k0_pay119 k0_pay118
  generalize k0_pay117 (F := Ideal) D S pen = m'
  generalize k0_pay114 (F := Ideal) D S pen = s
  unfold k0_pay115
  pointwise []

theorem pay1_at (e : Fin 64) (l : Fin 256) (V : Vec Ideal S1x128x256 .bf16) :
    k0_pay1 (F := Ideal) (k0_pay116 (F := Ideal) (k0_pay103 (F := Ideal) V)) (k0_pay121 (F := Ideal) D S pen) (k0_pay122 (F := Ideal) D S pen) (ix2 e l)
      = Ideal.exp (Ideal.ofBits .f32 0xF149F2CA#32 - k0_pay117 (F := Ideal) D S pen (ix2 (0 : Fin 1) l)) * Ideal.ofBits .f32 0x00000000#32
        + ∑ r : Fin 256, V (ix3 (0 : Fin 1) (⟨64 + e.val, by omega⟩ : Fin 128) r) * Ideal.exp (k0_pay114 (F := Ideal) D S pen (ix2 r l) - (k0_pay117 (F := Ideal) D S pen (ix2 (0 : Fin 1) l) + Ideal.ofBits .f32 0x00000000#32)) := by
  unfold k0_pay1 k0_pay121 k0_pay122 k0_pay119 k0_pay118 k0_pay116 k0_pay103
  generalize k0_pay117 (F := Ideal) D S pen = m'
  generalize k0_pay114 (F := Ideal) D S pen = s
  unfold k0_pay115
  pointwise []

end Own

theorem pay2_at0 (l0 l1 : FVec Ideal S1x256 .f32) (a0 a1 : FVec Ideal S64x256 .f32) (l : Fin 256) (e : Fin 64) :
    k0_pay2 (F := Ideal) l0 a0 l1 a1 (ix3 (0 : Fin 1) l (⟨e.val, by omega⟩ : Fin 128)) = Ideal.div (a0 (ix2 e l)) (l0 (ix2 (0 : Fin 1) l)) := by
  unfold k0_pay2
  pointwise []

theorem pay2_at1 (l0 l1 : FVec Ideal S1x256 .f32) (a0 a1 : FVec Ideal S64x256 .f32) (l : Fin 256) (e : Fin 64) :
    k0_pay2 (F := Ideal) l0 a0 l1 a1 (ix3 (0 : Fin 1) l (⟨64 + e.val, by omega⟩ : Fin 128)) = Ideal.div (a1 (ix2 e l)) (l1 (ix2 (0 : Fin 1) l)) := by
  unfold k0_pay2
  pointwise []

/-- Which of the two heads a row of the transposed queries belongs to, as the kernel computes it. -/
def headWord (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem head_eq0 : ∀ x : Fin 128, IntOp.cmpi .eq (headWord (BitVec.ofNat 32 x.val)) 0#32 = if x.val / 64 = 0 then 1#1 else 0#1 := by decide +kernel
theorem head_eq1 : ∀ x : Fin 128, IntOp.cmpi .eq (headWord (BitVec.ofNat 32 x.val)) 1#32 = if x.val / 64 = 1 then 1#1 else 0#1 := by decide +kernel

theorem two_heads (x : Fin 128) (l : Fin 512) (y : Fin 256 → EReal) :
    (if h : l.val < 256 then Scalar.select (IntOp.cmpi .eq (headWord (BitVec.ofNat 32 x.val)) 0#32) (y ⟨l.val, h⟩) 0
      else Scalar.select (IntOp.cmpi .eq (headWord (BitVec.ofNat 32 x.val)) 1#32) (y ⟨l.val - 256, by omega⟩) 0)
      = if x.val / 64 = l.val / 256 then y (⟨l.val % 256, by omega⟩ : Fin 256) else 0 := by
  rw [head_eq0, head_eq1]
  by_cases h : l.val < 256
  · rw [dif_pos h, Memory.select_if]
    refine if_congr ⟨fun e => by omega, fun e => by omega⟩ (congrArg y (Fin.ext ?_)) rfl
    show l.val = l.val % 256
    omega
  · rw [dif_neg h, Memory.select_if]
    refine if_congr ⟨fun e => by omega, fun e => by omega⟩ (congrArg y (Fin.ext ?_)) rfl
    show l.val - 256 = l.val % 256
    omega

theorem pay101_at (q : Vec Ideal S1x128x256 .bf16) (x : Fin 128) (l : Fin 512) :
    k0_pay101 (F := Ideal) (k0_pay97 (F := Ideal) (k0_pay86 (F := Ideal) q)) k0_pay98 k0_pay99 k0_pay100 (ix2 x l)
      = if x.val / 64 = l.val / 256 then q (ix3 (0 : Fin 1) x (⟨l.val % 256, by omega⟩ : Fin 256)) * Ideal.ofBits .bf16 0x3E00#16 else 0 := by
  unfold k0_pay101 k0_pay97 k0_pay98 k0_pay99 k0_pay100 k0_pay86
  pointwise []
  exact two_heads x l fun n => q (ix3 (0 : Fin 1) x n) * Ideal.ofBits .bf16 0x3E00#16

/-! ## Choosing the blocks -/

theorem minsi_toInt (x y : BitVec 32) : (IntOp.minsi x y).toInt = min x.toInt y.toInt := by
  unfold IntOp.minsi
  rw [BitVec.slt_eq_decide]
  by_cases h : x.toInt < y.toInt
  · simp [h, min_eq_left h.le]
  · simp [h, min_eq_right (not_lt.mp h)]

theorem toInt_small (n : Nat) (hn : n < 4096) : (BitVec.ofNat 32 n).toInt = n := by
  rw [BitVec.toInt_ofNat']
  exact Int.bmod_eq_of_le (by norm_num; try omega) (by norm_num; try omega)

/-- The least of the positions holding a property, as the kernel's smallest word over the positions. -/
theorem least_word (P : Fin 16 → Prop) [DecidablePred P] (j : Fin 16) :
    (BitVec.ofNat 32 j.val = Finset.univ.fold IntOp.minsi 2147483647#32 fun x : Fin 16 => if P x then BitVec.ofNat 32 x.val else 1073741824#32)
      ↔ P j ∧ ∀ x, P x → j ≤ x := by
  have hf : ∀ x : Fin 16, (if P x then BitVec.ofNat 32 x.val else 1073741824#32).toInt = if P x then (x.val : Int) else 1073741824 := fun x => by
    by_cases h : P x
    · rw [if_pos h, if_pos h, toInt_small _ (by omega)]
    · rw [if_neg h, if_neg h]; rfl
  have hfold := Finset.fold_hom (s := (Finset.univ : Finset (Fin 16))) (f := fun x : Fin 16 => if P x then BitVec.ofNat 32 x.val else 1073741824#32)
    (b := 2147483647#32) (op := IntOp.minsi) (op' := (min : Int → Int → Int)) (m := BitVec.toInt) minsi_toInt
  rw [← BitVec.toInt_inj, ← hfold, toInt_small _ (by omega)]
  simp only [hf]
  have hb : (2147483647#32).toInt = 2147483647 := by decide
  rw [hb]
  have hj := j.isLt
  constructor
  · intro h
    have h1 := (Finset.le_fold_min _).mp h.le
    have h2 := (Finset.fold_min_le _).mp h.ge
    have h3 : ∀ x, P x → j ≤ x := fun x hx => by
      have := h1.2 x (Finset.mem_univ x)
      rw [if_pos hx] at this
      exact Fin.le_def.mpr (by exact_mod_cast this)
    rcases h2 with h2 | ⟨x, -, hx⟩
    · omega
    · by_cases hp : P x
      · rw [if_pos hp] at hx
        have hxj : x ≤ j := Fin.le_def.mpr (by exact_mod_cast hx)
        exact ⟨le_antisymm hxj (h3 x hp) ▸ hp, h3⟩
      · rw [if_neg hp] at hx
        omega
  · rintro ⟨hp, hmin⟩
    refine le_antisymm ((Finset.le_fold_min _).mpr ⟨by omega, fun x _ => ?_⟩) ((Finset.fold_min_le _).mpr (Or.inr ⟨j, Finset.mem_univ j, by rw [if_pos hp]⟩))
    by_cases hx : P x
    · rw [if_pos hx]
      exact_mod_cast Fin.le_def.mp (hmin x hx)
    · rw [if_neg hx]; omega

/-- One round of the kernel's choice, as a word. -/
theorem pick_word (g : Fin 16 → EReal) (j : Fin 16) [∀ x, Decidable (g x = Finset.univ.fold max ⊥ g)] [Decidable (⊥ < Finset.univ.fold max ⊥ g)]
    [Decidable (Pick g j)] :
    IntOp.andi (IntOp.cmpi .eq (BitVec.ofNat 32 j.val)
        (Finset.univ.fold IntOp.minsi 2147483647#32 fun x : Fin 16 => if g x = Finset.univ.fold max ⊥ g then BitVec.ofNat 32 x.val else 1073741824#32))
      (BitVec.ofBool (decide (⊥ < Finset.univ.fold max ⊥ g)))
      = if Pick g j then 1#1 else 0#1 := by
  have hw := least_word (fun x => g x = Finset.univ.fold max ⊥ g) j
  generalize (Finset.univ.fold IntOp.minsi 2147483647#32 fun x : Fin 16 => if g x = Finset.univ.fold max ⊥ g then BitVec.ofNat 32 x.val else 1073741824#32) = W at *
  have hle : ∀ x, g x ≤ Finset.univ.fold max ⊥ g := fun x => (Finset.fold_max_le _).mp le_rfl |>.2 x (Finset.mem_univ x)
  have hp : Pick g j ↔ BitVec.ofNat 32 j.val = W ∧ ⊥ < Finset.univ.fold max ⊥ g := by
    rw [hw]
    constructor
    · rintro ⟨h0, h⟩
      have hm : g j = Finset.univ.fold max ⊥ g := le_antisymm (hle j) ((Finset.fold_max_le _).mpr ⟨bot_le, fun x _ => (h x).1⟩)
      exact ⟨⟨hm, fun x hx => (h x).2 (hx.trans hm.symm)⟩, hm ▸ h0⟩
    · rintro ⟨⟨hm, h⟩, h0⟩
      exact ⟨hm ▸ h0, fun x => ⟨hm ▸ hle x, fun hx => h x (hx.trans hm)⟩⟩
  have hc : IntOp.cmpi .eq (BitVec.ofNat 32 j.val) W = if BitVec.ofNat 32 j.val = W then 1#1 else 0#1 := by
    by_cases h : BitVec.ofNat 32 j.val = W
    · simp [IntOp.cmpi, h]
    · rw [if_neg h]
      show BitVec.ofBool (BitVec.ofNat 32 j.val == W) = 0#1
      rw [beq_eq_false_iff_ne.mpr h]
      rfl
  rw [hc, if_congr hp rfl rfl]
  by_cases h1 : BitVec.ofNat 32 j.val = W <;> by_cases h2 : ⊥ < Finset.univ.fold max ⊥ g <;> simp [h1, h2, IntOp.andi]

theorem pay91_at (a : Fin 16) (q : Vec Ideal S1x128x256 .bf16) (M : FVec Ideal S128x128 .bf16) (j : Fin 16) (l : Fin 512) :
    k0_pay91 (F := Ideal) (BitVec.ofNat 32 a.val) (k0_pay86 (F := Ideal) q) M k0_pay87 (k0_pay88 (F := Ideal)) (k0_pay89 (F := Ideal) q) k0_pay90 (ix2 j l)
      = if j.val < a.val then ∑ x : Fin 128, M (ix2 (⟨j.val, by omega⟩ : Fin 128) x)
          * (if x.val / 64 = l.val / 256 then q (ix3 (0 : Fin 1) x (⟨l.val % 256, by omega⟩ : Fin 256)) else 0) else ⊥ := by
  unfold k0_pay91 k0_pay86 k0_pay87 k0_pay88 k0_pay89 k0_pay90 k0_pay86 k0_pay87 k0_pay88
  pointwise []
  rw [MobaRef.slt16 (⟨j.val, by omega⟩ : Fin 17) (⟨a.val, by omega⟩ : Fin 17), Memory.neg_inf, Memory.select_if]
  refine if_congr Iff.rfl (Finset.sum_congr rfl fun x _ => congrArg _ ?_) rfl
  exact two_heads x l fun n => q (ix3 (0 : Fin 1) x n)

section Rounds

variable (a : BitVec 32) (v7 : FVec Ideal S128x256 .bf16) (M : FVec Ideal S128x128 .bf16) (v33 : IVec S128x256 32) (v34 v37 : FVec Ideal S128x256 .bf16) (v38 : IVec S128x256 32)

theorem pay92_at (j : Fin 16) (l : Fin 512) :
    k0_pay92 (F := Ideal) a v7 M v33 v34 v37 v38 (ix2 j l)
      = if Pick (fun j => k0_pay91 (F := Ideal) a v7 M v33 v34 v37 v38 (ix2 j l)) j then 1#1 else 0#1 := by
  unfold k0_pay92
  generalize k0_pay91 (F := Ideal) a v7 M v33 v34 v37 v38 = y
  pointwise []
  simp only [Memory.neg_inf]
  exact pick_word (fun j => y (ix2 j l)) j

theorem pay93_at (j : Fin 16) (l : Fin 512) :
    k0_pay93 (F := Ideal) a v7 M v33 v34 v37 v38 (ix2 j l)
      = drop (fun j => k0_pay91 (F := Ideal) a v7 M v33 v34 v37 v38 (ix2 j l)) j := by
  have h := pay92_at a v7 M v33 v34 v37 v38 j l
  unfold k0_pay93
  generalize k0_pay91 (F := Ideal) a v7 M v33 v34 v37 v38 = y at *
  generalize k0_pay92 (F := Ideal) a v7 M v33 v34 v37 v38 = p at *
  pointwise []
  rw [h, Memory.neg_inf, Memory.select_if]
  rfl

theorem pay94_at (j : Fin 16) (l : Fin 512) :
    k0_pay94 (F := Ideal) a v7 M v33 v34 v37 v38 (ix2 j l)
      = if Pick (drop (fun j => k0_pay91 (F := Ideal) a v7 M v33 v34 v37 v38 (ix2 j l))) j then 1#1 else 0#1 := by
  have h : (fun j => k0_pay93 (F := Ideal) a v7 M v33 v34 v37 v38 (ix2 j l)) = _ := funext fun j => pay93_at a v7 M v33 v34 v37 v38 j l
  unfold k0_pay94
  rw [← h]
  generalize k0_pay93 (F := Ideal) a v7 M v33 v34 v37 v38 = y
  pointwise []
  simp only [Memory.neg_inf]
  exact pick_word (fun j => y (ix2 j l)) j

theorem three_ifs (P Q R : Prop) [Decidable P] [Decidable Q] [Decidable R] [Decidable (R ∨ Q ∨ P)] (x y : EReal) :
    Scalar.select (if R then 1#1 else 0#1) x (Scalar.select (if Q then 1#1 else 0#1) x (Scalar.select (if P then 1#1 else 0#1) x y)) = if R ∨ Q ∨ P then x else y := by
  by_cases h1 : P <;> by_cases h2 : Q <;> by_cases h3 : R <;> simp [h1, h2, h3, Scalar.select]

/-- The chosen blocks: the three greatest gates, ties to the first. -/
theorem pay96_at (j : Fin 16) (l : Fin 512) :
    k0_pay96 (F := Ideal) (iota .tc S16x512 32 [0] iota_S16x512_d0_w32) (k0_pay93 (F := Ideal) a v7 M v33 v34 v37 v38)
        (k0_pay94 (F := Ideal) a v7 M v33 v34 v37 v38) (k0_pay95 (F := Ideal) a v7 M v33 v34 v37 v38) (ix2 j l)
      = if ⊥ < k0_pay91 (F := Ideal) a v7 M v33 v34 v37 v38 (ix2 j l) ∧ rank (fun j => k0_pay91 (F := Ideal) a v7 M v33 v34 v37 v38 (ix2 j l)) j < 3
        then 1 else 0 := by
  have h2 := pay92_at a v7 M v33 v34 v37 v38 j l
  have h3 : ∀ j, k0_pay93 (F := Ideal) a v7 M v33 v34 v37 v38 (ix2 j l) = _ := fun j => pay93_at a v7 M v33 v34 v37 v38 j l
  have h4 : ∀ j, k0_pay94 (F := Ideal) a v7 M v33 v34 v37 v38 (ix2 j l) = _ := fun j => pay94_at a v7 M v33 v34 v37 v38 j l
  unfold k0_pay96 k0_pay95
  generalize k0_pay93 (F := Ideal) a v7 M v33 v34 v37 v38 = y at *
  generalize k0_pay92 (F := Ideal) a v7 M v33 v34 v37 v38 = p at *
  generalize k0_pay94 (F := Ideal) a v7 M v33 v34 v37 v38 = p2 at *
  generalize k0_pay91 (F := Ideal) a v7 M v33 v34 v37 v38 = g at *
  pointwise []
  simp only [Memory.neg_inf]
  have h5 : ∀ x : Fin 16, Scalar.select (p2 (ix2 x l)) ⊥ (y (ix2 x l)) = drop (drop fun j => g (ix2 j l)) x := fun x => by
    rw [h4 x, h3 x, Memory.select_if]
    rfl
  simp only [h5]
  rw [h2, h4 j]
  refine (congrArg (fun z => Scalar.select z (1 : EReal) (Scalar.select (if Pick (drop fun j => g (ix2 j l)) j then 1#1 else 0#1) 1
    (Scalar.select (if Pick (fun j => g (ix2 j l)) j then 1#1 else 0#1) 1 0))) ((pick_word (drop (drop fun j => g (ix2 j l))) j))).trans ?_
  exact (three_ifs _ _ _ _ _).trans (if_congr (rounds (fun j => g (ix2 j l)) j) rfl rfl)

end Rounds

end Cert.Proof.MobaPay
-- ==== Proof.MobaLoop.lean ====
/-
  Hand-written, untrusted. The kernel's walk over the earlier blocks keeps the running maximum, denominator and
  numerator of one query in step with the attended keys of the blocks seen.
-/
module

public import proofs.«01_k».proof.Proof.MobaPay

@[expose] public section

noncomputable section

namespace Cert.Proof.MobaLoop

open Cert.MobaIdeal Cert.MobaIdeal.Gen Idealize.ShloMosaic Idealize.SL.Sem
open Cert.Proof.MobaSpec Cert.Proof.MobaPay
open scoped Classical

/-! ## Where the loads look -/

/-- A load over a rectangle of unit steps, at one element. -/
theorem readAt_unit {κ : Kind} {sp : Space} {s : Shape} {e : EltTy} (v : View sig κ sp s e) {off size : Fin s.rank → Nat} (inb : ∀ a, off a + size a ≤ s.size a)
    (f : v.ty.Contents (Elt Ideal)) (x : (Rect.unit off size inb).shape.Idx) (y : s.Idx) (h : ∀ a, off a + (x a).val = (y a).val) :
    v.readAt (Elt Ideal) (Rect.unit off size inb).toLoadRect f x = v.read (Elt Ideal) f y := by
  show v.read (Elt Ideal) f ((Rect.unit off size inb).toLoadRect.idx x) = _
  refine congrArg _ (funext fun a => Fin.ext ?_)
  show off a + 1 * (x a).val = _
  rw [← h a]; omega

theorem trips_eq : ∀ n : Fin 16, Scf.trips 0#32 (Scalar.addi 0#32 (Scalar.muli (Scalar.divsi (Scalar.subi (BitVec.ofNat 32 n.val) 0#32) 1#32) 1#32)) 1#32 = n.val := by
  decide +kernel

theorem trips2_eq : ∀ n : Fin 16, Scf.trips (Scalar.addi 0#32 (Scalar.muli (Scalar.divsi (Scalar.subi (BitVec.ofNat 32 n.val) 0#32) 1#32) 1#32))
    (Scalar.addi 0#32 (Scalar.subi (BitVec.ofNat 32 n.val) 0#32)) 1#32 = 0 := by
  decide +kernel

theorem loop_trips (i : grid0.Coords) : (k0_t1_loop i).trips = (i 2).val := trips_eq (i 2)

theorem rows_word : ∀ n : Fin 16, (Scalar.indexCast (Scalar.muli (Scf.iv 0#32 1#32 n.val) 256#32) : BitVec 32).toNat = 256 * n.val := by decide +kernel
theorem block_word : ∀ n : Fin 16, (Scalar.indexCast (Scf.iv 0#32 1#32 n.val) : BitVec 32).toNat = n.val := by decide +kernel
theorem own_rows : ∀ n : Fin 16, (Scalar.indexCast (Scalar.muli (BitVec.ofNat 32 n.val) 256#32) : BitVec 32).toNat = 256 * n.val := by decide +kernel
theorem own_block : ∀ n : Fin 16, (Scalar.indexCast (BitVec.ofNat 32 n.val) : BitVec 32).toNat = n.val := by decide +kernel
theorem head_word0 : ∀ n : Fin 4, (Scalar.indexCast (Scalar.addi (Scalar.muli 2#32 (BitVec.ofNat 32 n.val)) 0#32) : BitVec 32).toNat = 2 * n.val := by decide +kernel
theorem head_word1 : ∀ n : Fin 4, (Scalar.indexCast (Scalar.addi (Scalar.muli 2#32 (BitVec.ofNat 32 n.val)) 1#32) : BitVec 32).toNat = 2 * n.val + 1 := by decide +kernel
theorem dist_word : ∀ a k : Fin 16, (Scalar.muli (Scalar.subi (BitVec.ofNat 32 a.val) (Scf.iv 0#32 1#32 k.val)) 256#32 : BitVec 32).toInt = 256 * ((a.val : Int) - k.val) := by
  decide +kernel

theorem off4_eq (i : grid0.Coords) (k : Fin (k0_t1_loop i).trips) : k0_off4 i k = ![0, 256 * k.val, 0] := by
  have h : k.val < 16 := by have := loop_trips i; have := k.isLt; have : (i 2).val < 16 := (i 2).isLt; omega
  unfold k0_off4
  rw [← rows_word ⟨k.val, h⟩]
theorem off5_eq (i : grid0.Coords) (k : Fin (k0_t1_loop i).trips) : k0_off5 i k = ![k.val, 0, 0] := by
  have h : k.val < 16 := by have := loop_trips i; have := k.isLt; have : (i 2).val < 16 := (i 2).isLt; omega
  unfold k0_off5
  conv_rhs => rw [← block_word ⟨k.val, h⟩]
theorem off6_eq (i : grid0.Coords) (k : Fin (k0_t1_loop i).trips) : k0_off6 i k = ![k.val, 0] := by
  have h : k.val < 16 := by have := loop_trips i; have := k.isLt; have : (i 2).val < 16 := (i 2).isLt; omega
  unfold k0_off6
  conv_rhs => rw [← block_word ⟨k.val, h⟩]
theorem off8_eq (i : grid0.Coords) (k : Fin (k0_t1_loop i).trips) : k0_off8 i k = ![k.val, 256] := by
  have h : k.val < 16 := by have := loop_trips i; have := k.isLt; have : (i 2).val < 16 := (i 2).isLt; omega
  unfold k0_off8
  conv_rhs => rw [← block_word ⟨k.val, h⟩]
theorem off7_eq0 (i : grid0.Coords) : k0_off7 i 0#32 = ![2 * (i 1).val] := by
  unfold k0_off7
  rw [← head_word0 (i 1)]
theorem off7_eq1 (i : grid0.Coords) : k0_off7 i 1#32 = ![2 * (i 1).val + 1] := by
  unfold k0_off7
  rw [← head_word1 (i 1)]
theorem off2_eq (i : grid0.Coords) : k0_off2 i = ![0, 256 * (i 2).val, 0] := by
  unfold k0_off2
  rw [← own_rows (i 2)]
theorem off3_eq (i : grid0.Coords) : k0_off3 i = ![(i 2).val, 0, 0] := by
  unfold k0_off3
  conv_rhs => rw [← own_block (i 2)]

theorem pay45_eq (i : grid0.Coords) (k : Fin (k0_t1_loop i).trips) :
    k0_pay45 (F := Ideal) i (BitVec.ofNat 32 (i 2).val) 0#32 1#32 k = ((256 * (((i 2).val : ℝ) - (k.val : ℝ)) : ℝ) : EReal) := by
  have h : k.val < 16 := by have := loop_trips i; have := k.isLt; have : (i 2).val < 16 := (i 2).isLt; omega
  show (((Scalar.muli (Scalar.subi (BitVec.ofNat 32 (i 2).val) (Scf.iv 0#32 1#32 k.val)) 256#32 : BitVec 32).toInt : ℝ) : EReal) = _
  rw [dist_word (i 2) ⟨k.val, h⟩]
  push_cast
  rfl

theorem half : Ideal.ofBits .f32 0x3F000000#32 = ((1 / 2 : ℝ) : EReal) := by
  simp [Ideal.ofBits, Ideal.ieee]
  rw [← EReal.coe_mul]
  norm_num

theorem half_lt_one : Ideal.ofBits .f32 0x3F000000#32 < (1 : EReal) := by
  rw [half, ← EReal.coe_one, EReal.coe_lt_coe_iff]; norm_num

theorem not_half_lt_zero : ¬ Ideal.ofBits .f32 0x3F000000#32 < (0 : EReal) := by
  rw [half, ← EReal.coe_zero, EReal.coe_lt_coe_iff]; norm_num

/-! ## The walk -/

/-- The blocks seen: the query's own, then the first `n`. -/
def seen (a : Fin 16) (n : Nat) : Finset (Fin 16) := insert a (Finset.univ.filter fun j => j.val < n)

theorem seen_succ (a : Fin 16) (n : Nat) (h : n < 16) : seen a (n + 1) = insert (⟨n, h⟩ : Fin 16) (seen a n) := by
  ext j
  simp only [seen, Finset.mem_insert, Finset.mem_filter, Finset.mem_univ, true_and, Fin.ext_iff]
  omega

theorem seen_not_mem (a : Fin 16) (n : Nat) (h : n < 16) (hn : n < a.val) : (⟨n, h⟩ : Fin 16) ∉ seen a n := by
  simp only [seen, Finset.mem_insert, Finset.mem_filter, Finset.mem_univ, true_and, Fin.ext_iff]
  omega

/-- One earlier block, first head. -/
theorem step0 {i : grid0.Coords} {a2 : BitVec 32} {v140 : FVec Ideal S128x512 .bf16} {k : Fin (k0_t1_loop i).trips} {m a : FVec Ideal S1x256 .f32} {acc : FVec Ideal S64x256 .f32}
    {K : Vec Ideal S1x256x128 .bf16} {sel : Vec Ideal S1x256 .f32} {pen : Vec Ideal S1x256x256 .f32} {w : Elt Ideal .f32} {V : Vec Ideal S1x128x256 .bf16}
    {l : Fin 256} {e : Fin 64} {x : Fin 16 → Fin 256 → ℝ} {p : Fin 16 → Fin 256 → Prop} {v : Fin 16 → Fin 256 → EReal} {B : Finset (Fin 16)} (j : Fin 16) (hj : j ∉ B) (c : ℝ)
    (hc : w * k0_pay45 (F := Ideal) i a2 0#32 1#32 k = (c : EReal))
    (hs : ∀ r : Fin 256, (∑ z : Fin 128, K (ix3 (0 : Fin 1) r z) * v140 (ix2 z (⟨l.val, by omega⟩ : Fin 512))) - pen (ix3 (0 : Fin 1) r l) = ((x j r + c : ℝ) : EReal))
    (hp : ∀ r : Fin 256, Ideal.ofBits .f32 0x3F000000#32 < sel (ix2 (0 : Fin 1) l) ↔ p j r)
    (hv : ∀ r : Fin 256, V (ix3 (0 : Fin 1) (⟨e.val, by omega⟩ : Fin 128) r) = v j r)
    (h : Inv x p v B (m (ix2 (0 : Fin 1) l)) (a (ix2 (0 : Fin 1) l)) (acc (ix2 e l))) :
    Inv x p v (insert j B) (k0_pay49 (F := Ideal) i a2 v140 0#32 1#32 k m K sel pen w (ix2 (0 : Fin 1) l))
      (k0_pay53 (F := Ideal) (k0_pay51 (F := Ideal) i a2 v140 0#32 1#32 k m K sel pen w) (k0_pay52 (F := Ideal) i a2 v140 0#32 1#32 k m a K sel pen w) (ix2 (0 : Fin 1) l))
      (k0_pay54 (F := Ideal) acc (k0_pay48 (F := Ideal) V) (k0_pay50 (F := Ideal) i a2 v140 0#32 1#32 k m K sel pen w) (k0_pay51 (F := Ideal) i a2 v140 0#32 1#32 k m K sel pen w) (ix2 e l)) := by
  have hsc : ∀ r : Fin 256, k0_pay46 (F := Ideal) v140 K sel pen (ix2 r l) = if p j r then ((x j r + c : ℝ) : EReal) else ⊥ := fun r => by
    rw [pay46_at, pay43_at, hs r]
    exact if_congr (hp r) rfl rfl
  have := inv_step h j hj c _ hsc (k0_pay49 (F := Ideal) i a2 v140 0#32 1#32 k m K sel pen w (ix2 (0 : Fin 1) l)) (by rw [pay49_at, hc])
  rw [pay53_at, pay54_at, hc]
  simp only [hv]
  exact this

/-- One earlier block, second head. -/
theorem step1 {S : FVec Ideal S256x512 .f32} {o : Ideal .f32} {m a : FVec Ideal S1x256 .f32} {acc : FVec Ideal S64x256 .f32}
    {sel : Vec Ideal S1x256 .f32} {pen : Vec Ideal S1x256x256 .f32} {w : Elt Ideal .f32} {V : Vec Ideal S1x128x256 .bf16}
    {l : Fin 256} {e : Fin 64} {x : Fin 16 → Fin 256 → ℝ} {p : Fin 16 → Fin 256 → Prop} {v : Fin 16 → Fin 256 → EReal} {B : Finset (Fin 16)} (j : Fin 16) (hj : j ∉ B) (c : ℝ)
    (hc : w * o = (c : EReal))
    (hs : ∀ r : Fin 256, S (ix2 r (⟨256 + l.val, by omega⟩ : Fin 512)) - pen (ix3 (0 : Fin 1) r l) = ((x j r + c : ℝ) : EReal))
    (hp : ∀ r : Fin 256, Ideal.ofBits .f32 0x3F000000#32 < sel (ix2 (0 : Fin 1) l) ↔ p j r)
    (hv : ∀ r : Fin 256, V (ix3 (0 : Fin 1) (⟨64 + e.val, by omega⟩ : Fin 128) r) = v j r)
    (h : Inv x p v B (m (ix2 (0 : Fin 1) l)) (a (ix2 (0 : Fin 1) l)) (acc (ix2 e l))) :
    Inv x p v (insert j B) (k0_pay57 (F := Ideal) m S o sel pen w (ix2 (0 : Fin 1) l)) (k0_pay60 (F := Ideal) m a S o sel pen w (ix2 (0 : Fin 1) l))
      (k0_pay61 (F := Ideal) m acc S (k0_pay44 (F := Ideal) V) o sel pen w (ix2 e l)) := by
  have hsc : ∀ r : Fin 256, k0_pay55 (F := Ideal) S sel pen (ix2 r l) = if p j r then ((x j r + c : ℝ) : EReal) else ⊥ := fun r => by
    rw [pay55_at, hs r]
    exact if_congr (hp r) rfl rfl
  have := inv_step h j hj c _ hsc (k0_pay57 (F := Ideal) m S o sel pen w (ix2 (0 : Fin 1) l)) (by rw [pay57_at, hc])
  rw [pay60_at, pay61_at, hc]
  simp only [pay44_at, hv]
  exact this

section Walk

variable (c : Dev nD) (i : grid0.Coords) (arg3 : Memref sig .tc .smem S8 .f32) (harg3 : arg3.IsWhole) (arg4 : Memref sig .tc .vmem S1x128x256 .bf16) (harg4 : arg4.IsWhole)
  (arg5 : Memref sig .tc .vmem S1x4096x128 .bf16) (harg5 : arg5.IsWhole) (arg6 : Memref sig .tc .vmem S1x128x4096 .f32) (harg6 : arg6.IsWhole)
  (arg7 : Memref sig .tc .vmem S1x128x4096 .f32) (harg7 : arg7.IsWhole) (arg8 : Memref sig .tc .vmem S1x256x128 .bf16) (harg8 : arg8.IsWhole)
  (arg9 : Memref sig .tc .vmem S16x128x256 .bf16) (harg9 : arg9.IsWhole) (arg10 : Memref sig .tc .vmem S128x128 .bf16) (harg10 : arg10.IsWhole)
  (arg11 : Memref sig .tc .vmem S2x256x256 .f32) (harg11 : arg11.IsWhole) (arg12 : Memref sig .tc .vmem S16x512 .f32) (harg12 : arg12.IsWhole)
  (a1 : BitVec 32) (v140 : FVec Ideal S128x512 .bf16) (X3 : BufTy.Contents (Elt Ideal) arg3.view.ty) (X5 : BufTy.Contents (Elt Ideal) arg5.view.ty)
  (X9 : BufTy.Contents (Elt Ideal) arg9.view.ty) (X11 : BufTy.Contents (Elt Ideal) arg11.view.ty) (X12 : BufTy.Contents (Elt Ideal) arg12.view.ty)
  (init : FVec Ideal S1x256 .f32 × FVec Ideal S1x256 .f32 × FVec Ideal S64x256 .f32 × FVec Ideal S1x256 .f32 × FVec Ideal S1x256 .f32 × FVec Ideal S64x256 .f32)

/-- What the walk needs of its buffers for one query, head and output column. -/
structure Reads (hh : Fin 2) (l : Fin 256) (e : Fin 64) (x : Fin 16 → Fin 256 → ℝ) (p : Fin 16 → Fin 256 → Prop) (v : Fin 16 → Fin 256 → EReal) (sl : ℝ) : Prop where
  slope : arg3.view.read (Elt Ideal) X3 (ix1 (⟨2 * (i 1).val + hh.val, by have : (i 1).val < 4 := (i 1).isLt; omega⟩ : Fin 8)) = (sl : EReal)
  score : ∀ (k : Fin 16), k.val < (i 2).val → ∀ r : Fin 256,
    (∑ z : Fin 128, arg5.view.read (Elt Ideal) X5 (ix3 (0 : Fin 1) (⟨256 * k.val + r.val, by omega⟩ : Fin 4096) z) * v140 (ix2 z (⟨256 * hh.val + l.val, by omega⟩ : Fin 512)))
      - arg11.view.read (Elt Ideal) X11 (ix3 hh r l) = ((x k r + sl * (256 * (((i 2).val : ℝ) - (k.val : ℝ))) : ℝ) : EReal)
  chosen : ∀ (k : Fin 16), k.val < (i 2).val → ∀ r : Fin 256,
    (Ideal.ofBits .f32 0x3F000000#32 < arg12.view.read (Elt Ideal) X12 (ix2 k (⟨256 * hh.val + l.val, by omega⟩ : Fin 512)) ↔ p k r)
  value : ∀ (k : Fin 16) (r : Fin 256), arg9.view.read (Elt Ideal) X9 (ix3 k (⟨64 * hh.val + e.val, by omega⟩ : Fin 128) r) = v k r

theorem walk0 (l : Fin 256) (e : Fin 64) (x : Fin 16 → Fin 256 → ℝ) (p : Fin 16 → Fin 256 → Prop) (v : Fin 16 → Fin 256 → EReal) (sl : ℝ)
    (hr : Reads i arg3 arg5 arg9 arg11 arg12 v140 X3 X5 X9 X11 X12 0 l e x p v sl)
    (h0 : Inv x p v (seen (i 2) 0) (init.1 (ix2 (0 : Fin 1) l)) (init.2.1 (ix2 (0 : Fin 1) l)) (init.2.2.1 (ix2 e l))) (n : Nat) (hn : n ≤ (i 2).val) :
    Inv x p v (seen (i 2) n) ((st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) v140 X3 X5 X9 X11 X12 init n).1 (ix2 (0 : Fin 1) l)) ((st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) v140 X3 X5 X9 X11 X12 init n).2.1 (ix2 (0 : Fin 1) l)) ((st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) v140 X3 X5 X9 X11 X12 init n).2.2.1 (ix2 e l)) := by
  induction n with
  | zero => exact h0
  | succ n ih =>
    have h16 : n < 16 := by have : (i 2).val < 16 := (i 2).isLt; omega
    have ht : n < (k0_t1_loop i).trips := by rw [loop_trips]; omega
    have ih := ih (by omega)
    rw [show st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) v140 X3 X5 X9 X11 X12 init (n + 1) = _ from st_k0_t1_succ (F := Ideal) Variants.none c none i arg3 harg3 arg4 harg4 arg5 harg5 arg6 harg6 arg7 harg7 arg8 harg8 arg9 harg9 arg10 harg10 arg11 harg11 arg12 harg12 a1 (BitVec.ofNat 32 (i 2).val) v140 X3 X5 X9 X11 X12 init ⟨n, ht⟩]
    dsimp only
    generalize st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) v140 X3 X5 X9 X11 X12 init n = acc at *
    unfold tripR_k0_t1 trip_k0_t1
    dsimp only
    refine Eq.mpr (congrArg (fun B => Inv x p v B _ _ _) (seen_succ (i 2) n h16)) ?_
    refine step0 (⟨n, h16⟩ : Fin 16) (seen_not_mem _ _ h16 (by omega)) (sl * (256 * (((i 2).val : ℝ) - (n : ℝ)))) ?hc ?hs ?hp ?hv ih
    case hc =>
      refine (congrArg₂ (· * ·) (Eq.trans (readAt_unit arg3.view _ X3 _ (ix1 (⟨2 * (i 1).val + 0, by have : (i 1).val < 4 := (i 1).isLt; omega⟩ : Fin 8)) fun a => ?_) hr.slope) (pay45_eq i ⟨n, ht⟩)).trans (EReal.coe_mul _ _).symm
      rw [congrFun (off7_eq0 i) a]
      match a with
      | ⟨0, _⟩ => rfl
    case hs =>
      intro r
      refine Eq.trans (congrArg₂ (· - ·) (Finset.sum_congr rfl fun z _ => congrArg₂ (· * ·) (readAt_unit arg5.view _ X5 _ (ix3 (0 : Fin 1) (⟨256 * n + r.val, by omega⟩ : Fin 4096) z) fun a => ?_) (congrArg (fun y => v140 (ix2 z y)) (Fin.ext ?_)))
        (readAt_unit arg11.view _ X11 _ (ix3 (0 : Fin 2) r l) fun a => ?_)) (hr.score ⟨n, h16⟩ (by show n < _; omega) r)
      · rw [congrFun (off4_eq i ⟨n, ht⟩) a]
        match a with
        | ⟨0, _⟩ => rfl
        | ⟨1, _⟩ => rfl
        | ⟨2, _⟩ => exact Nat.zero_add _
      · show l.val = 256 * 0 + l.val; omega
      · match a with
        | ⟨0, _⟩ => rfl
        | ⟨1, _⟩ => exact Nat.zero_add _
        | ⟨2, _⟩ => exact Nat.zero_add _
    case hp =>
      intro r
      refine (iff_of_eq (congrArg (fun y => Ideal.ofBits .f32 0x3F000000#32 < y) (readAt_unit arg12.view _ X12 _ (ix2 (⟨n, h16⟩ : Fin 16) (⟨256 * (0 : Fin 2).val + l.val, by show 256 * 0 + l.val < 512; omega⟩ : Fin 512)) fun a => ?_))).trans (hr.chosen ⟨n, h16⟩ (by show n < _; omega) r)
      rw [congrFun (off6_eq i ⟨n, ht⟩) a]
      match a with
      | ⟨0, _⟩ => rfl
      | ⟨1, _⟩ => (show 0 + l.val = 256 * 0 + l.val; omega)
    case hv =>
      intro r
      refine (readAt_unit arg9.view _ X9 _ (ix3 (⟨n, h16⟩ : Fin 16) (⟨64 * (0 : Fin 2).val + e.val, by show 64 * 0 + e.val < 128; omega⟩ : Fin 128) r) fun a => ?_).trans (hr.value ⟨n, h16⟩ r)
      rw [congrFun (off5_eq i ⟨n, ht⟩) a]
      match a with
      | ⟨0, _⟩ => rfl
      | ⟨1, _⟩ => (show 0 + e.val = 64 * 0 + e.val; omega)
      | ⟨2, _⟩ => exact Nat.zero_add _

theorem walk1 (l : Fin 256) (e : Fin 64) (x : Fin 16 → Fin 256 → ℝ) (p : Fin 16 → Fin 256 → Prop) (v : Fin 16 → Fin 256 → EReal) (sl : ℝ)
    (hr : Reads i arg3 arg5 arg9 arg11 arg12 v140 X3 X5 X9 X11 X12 1 l e x p v sl)
    (h0 : Inv x p v (seen (i 2) 0) (init.2.2.2.1 (ix2 (0 : Fin 1) l)) (init.2.2.2.2.1 (ix2 (0 : Fin 1) l)) (init.2.2.2.2.2 (ix2 e l))) (n : Nat) (hn : n ≤ (i 2).val) :
    Inv x p v (seen (i 2) n) ((st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) v140 X3 X5 X9 X11 X12 init n).2.2.2.1 (ix2 (0 : Fin 1) l)) ((st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) v140 X3 X5 X9 X11 X12 init n).2.2.2.2.1 (ix2 (0 : Fin 1) l)) ((st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) v140 X3 X5 X9 X11 X12 init n).2.2.2.2.2 (ix2 e l)) := by
  induction n with
  | zero => exact h0
  | succ n ih =>
    have h16 : n < 16 := by have : (i 2).val < 16 := (i 2).isLt; omega
    have ht : n < (k0_t1_loop i).trips := by rw [loop_trips]; omega
    have ih := ih (by omega)
    rw [show st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) v140 X3 X5 X9 X11 X12 init (n + 1) = _ from st_k0_t1_succ (F := Ideal) Variants.none c none i arg3 harg3 arg4 harg4 arg5 harg5 arg6 harg6 arg7 harg7 arg8 harg8 arg9 harg9 arg10 harg10 arg11 harg11 arg12 harg12 a1 (BitVec.ofNat 32 (i 2).val) v140 X3 X5 X9 X11 X12 init ⟨n, ht⟩]
    dsimp only
    generalize st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) v140 X3 X5 X9 X11 X12 init n = acc at *
    unfold tripR_k0_t1 trip_k0_t1
    dsimp only
    refine Eq.mpr (congrArg (fun B => Inv x p v B _ _ _) (seen_succ (i 2) n h16)) ?_
    refine step1 (⟨n, h16⟩ : Fin 16) (seen_not_mem _ _ h16 (by omega)) (sl * (256 * (((i 2).val : ℝ) - (n : ℝ)))) ?hc ?hs ?hp ?hv ih
    case hc =>
      refine (congrArg₂ (· * ·) (Eq.trans (readAt_unit arg3.view _ X3 _ (ix1 (⟨2 * (i 1).val + 1, by have : (i 1).val < 4 := (i 1).isLt; omega⟩ : Fin 8)) fun a => ?_) hr.slope) (pay45_eq i ⟨n, ht⟩)).trans (EReal.coe_mul _ _).symm
      rw [congrFun (off7_eq1 i) a]
      match a with
      | ⟨0, _⟩ => rfl
    case hs =>
      intro r
      refine (congrArg (· - _) (pay43_at _ _ _ _)).trans ?_
      refine Eq.trans (congrArg₂ (· - ·) (Finset.sum_congr rfl fun z _ => congrArg₂ (· * ·) (readAt_unit arg5.view _ X5 _ (ix3 (0 : Fin 1) (⟨256 * n + r.val, by omega⟩ : Fin 4096) z) fun a => ?_) (congrArg (fun y => v140 (ix2 z y)) (Fin.ext ?_)))
        (readAt_unit arg11.view _ X11 _ (ix3 (1 : Fin 2) r l) fun a => ?_)) (hr.score ⟨n, h16⟩ (by show n < _; omega) r)
      · rw [congrFun (off4_eq i ⟨n, ht⟩) a]
        match a with
        | ⟨0, _⟩ => rfl
        | ⟨1, _⟩ => rfl
        | ⟨2, _⟩ => exact Nat.zero_add _
      · rfl
      · match a with
        | ⟨0, _⟩ => rfl
        | ⟨1, _⟩ => exact Nat.zero_add _
        | ⟨2, _⟩ => exact Nat.zero_add _
    case hp =>
      intro r
      refine (iff_of_eq (congrArg (fun y => Ideal.ofBits .f32 0x3F000000#32 < y) (readAt_unit arg12.view _ X12 _ (ix2 (⟨n, h16⟩ : Fin 16) (⟨256 * (1 : Fin 2).val + l.val, by show 256 * 1 + l.val < 512; omega⟩ : Fin 512)) fun a => ?_))).trans (hr.chosen ⟨n, h16⟩ (by show n < _; omega) r)
      rw [congrFun (off8_eq i ⟨n, ht⟩) a]
      match a with
      | ⟨0, _⟩ => rfl
      | ⟨1, _⟩ => rfl
    case hv =>
      intro r
      refine (readAt_unit arg9.view _ X9 _ (ix3 (⟨n, h16⟩ : Fin 16) (⟨64 * (1 : Fin 2).val + e.val, by show 64 * 1 + e.val < 128; omega⟩ : Fin 128) r) fun a => ?_).trans (hr.value ⟨n, h16⟩ r)
      rw [congrFun (off5_eq i ⟨n, ht⟩) a]
      match a with
      | ⟨0, _⟩ => rfl
      | ⟨1, _⟩ => (show 0 + (64 + e.val) = 64 * 1 + e.val; omega)
      | ⟨2, _⟩ => exact Nat.zero_add _

end Walk

end Cert.Proof.MobaLoop
-- ==== Proof.MobaSoft.lean ====
/-
  Hand-written, untrusted. The reference's softmax over a query's keys and its result at one element.
-/
module

public import proofs.«01_k».proof.Proof.MobaRef

@[expose] public section

noncomputable section

namespace Cert.Proof.MobaRef

open Cert.MobaRefIdeal Cert.MobaRefIdeal.Gen Cert.MobaRefIdeal.Read Idealize.ShloMosaic Idealize.ShloMosaic.StableHlo Idealize.SL.Sem
open Cert.Proof.MobaSpec

theorem exp_sub (x y : EReal) : FloatOps.hostUnary (F := Ideal) (φ := .f32) .exp (FloatOps.subf (F := Ideal) (φ := .f32) x y) = Ideal.exp (x - y) := rfl

theorem ref_v78 (q k : T4) (b : Fin 4) (t : Fin 4096) (h : Fin 8) (s : Fin 4096) :
    val_main_v78 (F := Ideal) q k (ix4 b t h s) = Ideal.exp (msc q k b t h s - top q k b t h) := by
  have e : val_main_v76 (F := Ideal) q k (ix4 b t h s) = top q k b t h := by
    rw [val_main_v76_apply, val_main_v75_apply, ← ref_v74]
    exact congrArg _ (funext fun a => Fin.ext (by
      match a with
      | ⟨0, _⟩ => rfl
      | ⟨1, _⟩ => rfl
      | ⟨2, _⟩ => rfl))
  rw [val_main_v78_apply, val_main_v77_apply, e, ref_v71]
  exact exp_sub _ _

theorem ref_v82 (q k : T4) (b : Fin 4) (t : Fin 4096) (h : Fin 8) (s : Fin 4096) :
    val_main_v82 (F := Ideal) q k (ix4 b t h s)
      = Ideal.div (Ideal.exp (msc q k b t h s - top q k b t h)) (∑ s' : Fin 4096, Ideal.exp (msc q k b t h s' - top q k b t h)) := by
  have e : val_main_v82 (F := Ideal) q k (ix4 b t h s)
      = Ideal.div (val_main_v78 (F := Ideal) q k (ix4 b t h s)) (∑ s' : Fin 4096, val_main_v78 (F := Ideal) q k (ix4 b t h s')) := by
    unfold val_main_v82 val_main_v81 val_main_v80 val_main_v79
    generalize val_main_v78 (F := Ideal) q k = y
    unfold val_main_cst_18
    pointwise []
  rw [e]
  simp only [ref_v78]

/-- The reference's result. -/
theorem ref_v86 (q k v : T4) (b : Fin 4) (t : Fin 4096) (c : Fin 512) :
    val_main_v86 (F := Ideal) q k v (ix3 b t c)
      = ∑ s : Fin 4096, v (ix4 b s (⟨c.val / 64, by omega⟩ : Fin 8) (⟨c.val % 64, by omega⟩ : Fin 64))
          * Ideal.div (Ideal.exp (msc q k b t ⟨c.val / 64, by omega⟩ s - top q k b t ⟨c.val / 64, by omega⟩))
            (∑ s' : Fin 4096, Ideal.exp (msc q k b t ⟨c.val / 64, by omega⟩ s' - top q k b t ⟨c.val / 64, by omega⟩)) := by
  have e : val_main_v86 (F := Ideal) q k v (ix3 b t c)
      = ∑ s : Fin 4096, v (ix4 b s (⟨c.val / 64, by omega⟩ : Fin 8) (⟨c.val % 64, by omega⟩ : Fin 64))
          * val_main_v82 (F := Ideal) q k (ix4 b t (⟨c.val / 64, by omega⟩ : Fin 8) s) := by
    unfold val_main_v86 val_main_v85 val_main_v84 val_main_v83
    generalize val_main_v82 (F := Ideal) q k = y
    pointwise []
  rw [e]
  simp only [ref_v82]

end Cert.Proof.MobaRef
-- ==== Proof.MobaRow.lean ====
/-
  Hand-written, untrusted. One query of the block attention: which keys it attends to, block by block, that its scores are
  real numbers, and that a softmax accumulated over the blocks it sees is the reference's row.
-/
module

public import proofs.«01_k».proof.Proof.MobaSoft

@[expose] public section

noncomputable section

namespace Cert.Proof.MobaRow

open Idealize.ShloMosaic
open Cert.Proof.MobaSpec Cert.Proof.MobaRef
open Cert.Proof.Memory (scale scale_real mul_real sum_real)
open scoped Classical

/-- A real number. -/
abbrev IsReal (x : EReal) : Prop := x ≠ ⊥ ∧ x ≠ ⊤

theorem coe_real (r : ℝ) : IsReal (r : EReal) := ⟨EReal.coe_ne_bot _, EReal.coe_ne_top _⟩

theorem lift {x : EReal} (h : IsReal x) : ∃ r : ℝ, x = (r : EReal) := ⟨x.toReal, (EReal.coe_toReal h.2 h.1).symm⟩

theorem sub_real {x y : EReal} (hx : IsReal x) (hy : IsReal y) : IsReal (x - y) := by
  obtain ⟨a, rfl⟩ := lift hx
  obtain ⟨b, rfl⟩ := lift hy
  rw [← EReal.coe_sub]; exact coe_real _

theorem add_real {x y : EReal} (hx : IsReal x) (hy : IsReal y) : IsReal (x + y) := by
  obtain ⟨a, rfl⟩ := lift hx
  obtain ⟨b, rfl⟩ := lift hy
  rw [← EReal.coe_add]; exact coe_real _

theorem div_real {x y : EReal} (hx : IsReal x) (hy : IsReal y) (h0 : y ≠ 0) : IsReal (Ideal.div x y) := by
  obtain ⟨a, rfl⟩ := lift hx
  obtain ⟨b, rfl⟩ := lift hy
  unfold Ideal.div
  rw [if_neg h0, ← EReal.coe_inv, ← EReal.coe_mul]; exact coe_real _

theorem exp_real {x : EReal} (hx : IsReal x) : IsReal (Ideal.exp x) := by
  obtain ⟨a, rfl⟩ := lift hx
  rw [Ideal.exp_coe]; exact coe_real _

theorem eight : Ideal.ofBits .f32 0x41000000#32 = ((8 : ℝ) : EReal) := by
  simp [Ideal.ofBits, Ideal.ieee]
  rw [← EReal.coe_mul]; norm_num

theorem width : Ideal.ofBits .f32 0x43800000#32 = ((256 : ℝ) : EReal) := by
  simp [Ideal.ofBits, Ideal.ieee]
  rw [← EReal.coe_mul]; norm_num

theorem eighth : Ideal.ofBits .bf16 0x3E00#16 = ((1 / 8 : ℝ) : EReal) := by
  simp [Ideal.ofBits, Ideal.ieee]
  rw [← EReal.coe_mul]; norm_num

theorem scale_eq : scale = ((1 / 8 : ℝ) : EReal) := by
  simp [scale, Ideal.ofBits, Ideal.ieee]
  rw [← EReal.coe_mul]; norm_num

theorem least_real : IsReal (Ideal.ofBits .f32 0xF149F2CA#32) := by
  simp [Ideal.ofBits, Ideal.ieee]
  exact coe_real _

theorem slope_real (h : Fin 8) : IsReal (slope h) := by
  unfold MobaRef.slope
  have b1 : IsReal (Ideal.ofBits .f32 0x3F317218#32) := by simp [Ideal.ofBits, Ideal.ieee]; exact coe_real _
  have b2 : IsReal (Ideal.ofBits .f32 0xC1000000#32) := by simp [Ideal.ofBits, Ideal.ieee]; exact coe_real _
  have b3 : IsReal (Ideal.ofBits .f32 0x3F800000#32) := by simp [Ideal.ofBits, Ideal.ieee]; exact coe_real _
  refine exp_real (mul_real b1 (div_real (mul_real b2 (add_real b3 ?_)) (eight ▸ coe_real _) ?_))
  · exact coe_real _
  · rw [eight]; norm_num

/-- Two heads share a column group. -/
abbrev hp (g : Fin 4) (hh : Fin 2) : Fin 8 := ⟨2 * g.val + hh.val, by omega⟩
abbrev hd (g : Fin 4) (z : Fin 128) : Fin 8 := ⟨2 * g.val + z.val / 64, by omega⟩
abbrev ln (z : Fin 128) : Fin 64 := ⟨z.val % 64, by omega⟩
abbrev lane (hh : Fin 2) (d : Fin 64) : Fin 128 := ⟨64 * hh.val + d.val, by omega⟩

theorem hd_lane (g : Fin 4) (hh : Fin 2) (d : Fin 64) : hd g (lane hh d) = hp g hh := Fin.ext (by show 2 * g.val + (64 * hh.val + d.val) / 64 = 2 * g.val + hh.val; omega)
theorem ln_lane (hh : Fin 2) (d : Fin 64) : ln (lane hh d) = d := Fin.ext (by show (64 * hh.val + d.val) % 64 = d.val; omega)

/-- A sum over two heads' lanes that is zero off one head is the sum over that head's lanes. -/
theorem sum_head (hh : Fin 2) (f : Fin 128 → EReal) :
    (∑ x : Fin 128, if x.val / 64 = hh.val then f x else 0) = ∑ d : Fin 64, f (lane hh d) := by
  have e : ∀ f : Fin 128 → EReal, ∑ x, f x = ∑ a : Fin 2, ∑ d : Fin 64, f (lane a d) := fun f => by
    rw [← Finset.sum_product', Finset.univ_product_univ]
    refine (Fintype.sum_equiv (finProdFinEquiv (m := 2) (n := 64)) _ _ fun p => ?_).symm
    refine congrArg f (Fin.ext ?_)
    show 64 * p.1.val + p.2.val = p.2.val + 64 * p.1.val
    omega
  rw [e, Finset.sum_eq_single hh]
  · refine Finset.sum_congr rfl fun d _ => if_pos ?_
    show (64 * hh.val + d.val) / 64 = hh.val
    omega
  · intro a _ ha
    refine Finset.sum_eq_zero fun d _ => if_neg ?_
    show ¬ (64 * a.val + d.val) / 64 = hh.val
    intro h; exact ha (Fin.ext (by omega))
  · intro h; exact absurd (Finset.mem_univ _) h

/-- A sum over the tokens, block by block. -/
theorem sum_keys (f : Fin 4096 → EReal) : ∑ s, f s = ∑ j : Fin 16, ∑ r : Fin 256, f (key j r) := by
  rw [← Finset.sum_product', Finset.univ_product_univ]
  refine (Fintype.sum_equiv (finProdFinEquiv (m := 16) (n := 256)) _ _ fun p => ?_).symm
  refine congrArg f (Fin.ext ?_)
  show 256 * p.1.val + p.2.val = p.2.val + 256 * p.1.val
  omega

/-! ## One query -/

section Query

variable (q k v : T4) (b : Fin 4) (t : Fin 4096) (h : Fin 8)

abbrev xr (j : Fin 16) (r : Fin 256) : ℝ := (sc q k b t h (key j r)).toReal
abbrev pr (j : Fin 16) (r : Fin 256) : Prop := att q k b t h (key j r)
abbrev vr (e : Fin 64) (j : Fin 16) (r : Fin 256) : EReal := v (ix4 b (key j r) h e)

/-- The reference's output at a query, head and column. -/
def out (e : Fin 64) : EReal :=
  ∑ s : Fin 4096, v (ix4 b s h e) * Ideal.div (Ideal.exp (msc q k b t h s - top q k b t h)) (∑ s' : Fin 4096, Ideal.exp (msc q k b t h s' - top q k b t h))

theorem att_iff (a j : Fin 16) (l r : Fin 256) :
    att q k b (key a l) h (key j r) ↔ ((j.val < a.val ∧ rank (gmask q k b (key a l) h) j < 3) ∨ (j = a ∧ r.val ≤ l.val)) := by
  have e1 : blk (key j r) = j := Fin.ext (by show (256 * j.val + r.val) / 256 = j.val; omega)
  have e2 : (key a l).val / 256 = a.val := by show (256 * a.val + l.val) / 256 = a.val; omega
  have e3 : (key j r).val / 256 = j.val := congrArg Fin.val e1
  unfold att
  rw [e1, e2, e3, Fin.ext_iff]
  show _ ∧ 256 * j.val + r.val ≤ 256 * a.val + l.val ↔ _
  constructor
  · rintro ⟨h1 | h1, h2⟩
    · exact Or.inl h1
    · exact Or.inr ⟨h1, by omega⟩
  · rintro (h1 | h1)
    · exact ⟨Or.inl h1, by omega⟩
    · exact ⟨Or.inr h1.1, by omega⟩

variable (hq : ∀ i, IsReal (q i)) (hk : ∀ i, IsReal (k i))
include hq hk

theorem gate_real (j : Fin 16) : IsReal (gate q k b t h j) := by
  unfold gate mean
  refine sum_real _ _ fun d => mul_real (div_real (sum_real _ _ fun r => hk _) (width ▸ coe_real _) ?_) (hq _)
  rw [width]; norm_num

theorem sc_real (s : Fin 4096) : IsReal (sc q k b t h s) := by
  unfold sc
  exact sub_real (mul_real (sum_real _ _ fun d => mul_real (hk _) (hq _)) scale_real) (mul_real (slope_real h) (coe_real _))

theorem chosen_iff (a j : Fin 16) (l r : Fin 256) (hj : j.val < a.val) :
    (⊥ < gmask q k b (key a l) h j ∧ rank (gmask q k b (key a l) h) j < 3) ↔ pr q k b (key a l) h j r := by
  rw [pr, att_iff]
  have e : gmask q k b (key a l) h j = gate q k b (key a l) h j := if_pos (by show j.val < (256 * a.val + l.val) / 256; omega)
  constructor
  · rintro ⟨-, h2⟩; exact Or.inl ⟨hj, h2⟩
  · rintro (h2 | h2)
    · exact ⟨by rw [e]; exact bot_lt_iff_ne_bot.mpr (gate_real q k b _ h hq hk j).1, h2.2⟩
    · exact absurd (congrArg Fin.val h2.1) (by omega)

/-- A kernel score: the head's part of a product over two heads' lanes, less the penalty within a block. -/
theorem score_eq (g : Fin 4) (hh : Fin 2) (a j : Fin 16) (l r : Fin 256) (K w : Fin 128 → EReal) (pen : EReal)
    (hK : ∀ z, K z = k (ix4 b (key j r) (hd g z) (ln z)))
    (hw : ∀ z, w z = if z.val / 64 = hh.val then q (ix4 b (key a l) (hd g z) (ln z)) * Ideal.ofBits .bf16 0x3E00#16 else 0)
    (hpen : pen = MobaRef.slope (hp g hh) * (((l.val : ℝ) - (r.val : ℝ) : ℝ) : EReal)) :
    (∑ z, K z * w z) - pen
      = ((xr q k b (key a l) (hp g hh) j r + (MobaRef.slope (hp g hh)).toReal * (256 * ((a.val : ℝ) - (j.val : ℝ))) : ℝ) : EReal) := by
  have e1 : (∑ z, K z * w z) = ∑ d : Fin 64, k (ix4 b (key j r) (hp g hh) d) * (q (ix4 b (key a l) (hp g hh) d) * Ideal.ofBits .bf16 0x3E00#16) := by
    refine Eq.trans (Finset.sum_congr rfl fun z _ => ?_)
      ((sum_head hh fun z => k (ix4 b (key j r) (hd g z) (ln z)) * (q (ix4 b (key a l) (hd g z) (ln z)) * Ideal.ofBits .bf16 0x3E00#16)).trans
        (Finset.sum_congr rfl fun d _ => by rw [hd_lane, ln_lane]))
    rw [hK, hw]
    split
    · rfl
    · exact mul_zero _
  obtain ⟨sl, hsl⟩ := lift (slope_real (hp g hh))
  obtain ⟨kr, hkr⟩ : ∃ kr : Fin 64 → ℝ, ∀ d, k (ix4 b (key j r) (hp g hh) d) = (kr d : EReal) := ⟨_, fun d => (EReal.coe_toReal (hk _).2 (hk _).1).symm⟩
  obtain ⟨qr, hqr⟩ : ∃ qr : Fin 64 → ℝ, ∀ d, q (ix4 b (key a l) (hp g hh) d) = (qr d : EReal) := ⟨_, fun d => (EReal.coe_toReal (hq _).2 (hq _).1).symm⟩
  have e2 : sc q k b (key a l) (hp g hh) (key j r)
      = (((∑ d, kr d * qr d) * (1 / 8) - sl * (((256 * a.val + l.val : ℕ) : ℝ) - ((256 * j.val + r.val : ℕ) : ℝ)) : ℝ) : EReal) := by
    unfold sc
    simp only [hkr, hqr]
    rw [hsl, scale_eq]
    simp only [← EReal.coe_mul, ← coe_sum, ← EReal.coe_sub]
  rw [xr, e2, EReal.toReal_coe, e1, hpen, hsl, EReal.toReal_coe, eighth]
  simp only [hkr, hqr]
  simp only [← EReal.coe_mul, ← coe_sum, ← EReal.coe_sub]
  refine congrArg _ ?_
  rw [Finset.sum_mul]
  have e3 : (∑ d, kr d * (qr d * (1 / 8))) = ∑ d, kr d * qr d * (1 / 8) := Finset.sum_congr rfl fun d _ => (mul_assoc _ _ _).symm
  rw [e3]
  push_cast
  ring

theorem top_real (a : Fin 16) (l : Fin 256) : IsReal (top q k b (key a l) h) := by
  have hown : att q k b (key a l) h (key a l) := (att_iff q k b h a a l l).mpr (Or.inr ⟨rfl, le_refl _⟩)
  have hle : msc q k b (key a l) h (key a l) ≤ top q k b (key a l) h := (Finset.le_fold_max _).mpr (Or.inr ⟨_, Finset.mem_univ _, le_refl _⟩)
  constructor
  · intro hb
    rw [hb, msc, if_pos hown] at hle
    exact (sc_real q k b _ h hq hk _).1 (le_bot_iff.mp hle)
  · refine fold_max_ne_top _ fun s => ?_
    unfold msc
    split
    · exact (sc_real q k b _ h hq hk _).2
    · exact bot_ne_top

/-- The blocks seen hold every key attended to: the accumulated quotient is the reference's output. -/
theorem row_out (a : Fin 16) (l : Fin 256) (e : Fin 64) (B : Finset (Fin 16)) (m ls acc : EReal)
    (hi : Inv (xr q k b (key a l) h) (pr q k b (key a l) h) (vr v b h e) B m ls acc) (hB : ∀ j, j ∉ B → a.val < j.val) :
    Ideal.div acc ls = out q k v b (key a l) h e := by
  obtain ⟨M, hM⟩ := lift (top_real q k b h hq hk a l)
  have := inv_div hi (fun j hj r hp => by
      have h1 := hB j hj
      rcases (att_iff q k b h a j l r).mp hp with h2 | h2
      · omega
      · have := congrArg Fin.val h2.1; omega) a l ((att_iff q k b h a a l l).mpr (Or.inr ⟨rfl, le_refl _⟩))
    (fun j r => msc q k b (key a l) h (key j r)) (fun j r => by
      unfold msc
      exact if_congr Iff.rfl (EReal.coe_toReal (sc_real q k b _ h hq hk _).2 (sc_real q k b _ h hq hk _).1).symm rfl) M
  rw [this]
  unfold out
  rw [hM, sum_keys, sum_keys (fun s' => Ideal.exp (msc q k b (key a l) h s' - (M : EReal)))]

end Query

end Cert.Proof.MobaRow
-- ==== Proof.MobaPoint.lean ====
/-
  Hand-written, untrusted. One point of the grid: a block of queries of two heads. From what its buffers hold, the own block
  starts the accumulation, the walk carries it over the earlier blocks, and the quotient is the reference's output.
-/
module

public import proofs.«01_k».proof.Proof.MobaLoop
public import proofs.«01_k».proof.Proof.MobaRow

@[expose] public section

noncomputable section

namespace Cert.Proof.MobaPoint

open Cert.MobaIdeal Cert.MobaIdeal.Gen Idealize.ShloMosaic Idealize.SL.Sem
open Cert.Proof.MobaSpec Cert.Proof.MobaPay Cert.Proof.MobaLoop Cert.Proof.MobaRow
open Cert.Proof.MobaRef (T4 key att gmask gate)
open scoped Classical

/-- The query block and the pair of heads of a point. -/
abbrev qb (i : grid0.Coords) : Fin 16 := ⟨(i 2).val, (i 2).isLt⟩
abbrev gr (i : grid0.Coords) : Fin 4 := ⟨(i 1).val, (i 1).isLt⟩

/-- The queries scaled and laid out head by head. -/
abbrev lanes (Q : Vec Ideal S1x128x256 .bf16) : FVec Ideal S128x512 .bf16 :=
  k0_pay101 (F := Ideal) (k0_pay97 (F := Ideal) (k0_pay86 (F := Ideal) Q)) k0_pay98 k0_pay99 k0_pay100

/-- The accumulation after the own block. -/
abbrev start (Q : Vec Ideal S1x128x256 .bf16) (K : Vec Ideal S1x256x128 .bf16) (V : Vec Ideal S1x128x256 .bf16) (p0 p1 : Vec Ideal S1x256x256 .f32) :
    FVec Ideal S1x256 .f32 × FVec Ideal S1x256 .f32 × FVec Ideal S64x256 .f32 × FVec Ideal S1x256 .f32 × FVec Ideal S1x256 .f32 × FVec Ideal S64x256 .f32 :=
  let q := k0_pay97 (F := Ideal) (k0_pay86 (F := Ideal) Q)
  let S := k0_pay102 (F := Ideal) q k0_pay98 k0_pay99 k0_pay100 K
  let m := k0_pay109 (F := Ideal) k0_pay81 q k0_pay98 k0_pay99 k0_pay100 K p0
  let m' := k0_pay110 (F := Ideal) k0_pay81 q k0_pay98 k0_pay99 k0_pay100 K p0
  let s := k0_pay104 (F := Ideal) k0_pay81 q k0_pay98 k0_pay99 k0_pay100 K p0
  (m, k0_pay112 (F := Ideal) s k0_pay106 m m', k0_pay113 (F := Ideal) s k0_pay107 (k0_pay108 (F := Ideal) V) m m',
    k0_pay117 (F := Ideal) k0_pay81 S p1, k0_pay120 (F := Ideal) k0_pay81 S p1,
    k0_pay1 (F := Ideal) (k0_pay116 (F := Ideal) (k0_pay103 (F := Ideal) V)) (k0_pay121 (F := Ideal) k0_pay81 S p1) (k0_pay122 (F := Ideal) k0_pay81 S p1))

/-- The chosen blocks of a point's queries. -/
abbrev chosen (a : Fin 16) (Q : Vec Ideal S1x128x256 .bf16) (M : FVec Ideal S128x128 .bf16) : FVec Ideal S16x512 .f32 :=
  k0_pay96 (F := Ideal) (iota .tc S16x512 32 [0] iota_S16x512_d0_w32)
    (k0_pay93 (F := Ideal) (BitVec.ofNat 32 a.val) (k0_pay86 (F := Ideal) Q) M k0_pay87 (k0_pay88 (F := Ideal)) (k0_pay89 (F := Ideal) Q) k0_pay90)
    (k0_pay94 (F := Ideal) (BitVec.ofNat 32 a.val) (k0_pay86 (F := Ideal) Q) M k0_pay87 (k0_pay88 (F := Ideal)) (k0_pay89 (F := Ideal) Q) k0_pay90)
    (k0_pay95 (F := Ideal) (BitVec.ofNat 32 a.val) (k0_pay86 (F := Ideal) Q) M k0_pay87 (k0_pay88 (F := Ideal)) (k0_pay89 (F := Ideal) Q) k0_pay90)

/-! ## The selection -/

theorem pay91_gmask (q k : T4) (b : Fin 4) (g : Fin 4) (a : Fin 16) (Q : Vec Ideal S1x128x256 .bf16) (M : FVec Ideal S128x128 .bf16) (hh : Fin 2) (l : Fin 256)
    (hQ : ∀ (z : Fin 128) (l : Fin 256), Q (ix3 (0 : Fin 1) z l) = q (ix4 b (key a l) (hd g z) (ln z)))
    (hM : ∀ (j : Fin 16) (z : Fin 128), M (ix2 (⟨j.val, by omega⟩ : Fin 128) z) = MobaRef.mean k b (hd g z) j (ln z)) (j : Fin 16) :
    k0_pay91 (F := Ideal) (BitVec.ofNat 32 a.val) (k0_pay86 (F := Ideal) Q) M k0_pay87 (k0_pay88 (F := Ideal)) (k0_pay89 (F := Ideal) Q) k0_pay90
        (ix2 j (⟨256 * hh.val + l.val, by omega⟩ : Fin 512))
      = gmask q k b (key a l) (hp g hh) j := by
  have e1 : (256 * hh.val + l.val) / 256 = hh.val := by omega
  have e2 : (⟨(256 * hh.val + l.val) % 256, by omega⟩ : Fin 256) = l := Fin.ext (by show (256 * hh.val + l.val) % 256 = l.val; omega)
  have e3 : (key a l).val / 256 = a.val := by show (256 * a.val + l.val) / 256 = a.val; omega
  rw [pay91_at]
  unfold MobaRef.gmask
  rw [e3]
  refine if_congr Iff.rfl ?_ rfl
  unfold MobaRef.gate
  refine Eq.trans (Finset.sum_congr rfl fun z _ => ?_)
    ((sum_head hh fun z => MobaRef.mean k b (hd g z) j (ln z) * q (ix4 b (key a l) (hd g z) (ln z))).trans (Finset.sum_congr rfl fun d _ => by rw [hd_lane, ln_lane]))
  rw [hM]
  show _ * (if z.val / 64 = (256 * hh.val + l.val) / 256 then Q (ix3 (0 : Fin 1) z (⟨(256 * hh.val + l.val) % 256, by omega⟩ : Fin 256)) else 0) = _
  rw [e1, e2, hQ]
  split
  · rfl
  · exact mul_zero _

theorem chosen_at (q k : T4) (b : Fin 4) (g : Fin 4) (a : Fin 16) (Q : Vec Ideal S1x128x256 .bf16) (M : FVec Ideal S128x128 .bf16) (hh : Fin 2) (l : Fin 256)
    (hQ : ∀ (z : Fin 128) (l : Fin 256), Q (ix3 (0 : Fin 1) z l) = q (ix4 b (key a l) (hd g z) (ln z)))
    (hM : ∀ (j : Fin 16) (z : Fin 128), M (ix2 (⟨j.val, by omega⟩ : Fin 128) z) = MobaRef.mean k b (hd g z) j (ln z)) (j : Fin 16) :
    Ideal.ofBits .f32 0x3F000000#32 < chosen a Q M (ix2 j (⟨256 * hh.val + l.val, by omega⟩ : Fin 512))
      ↔ ⊥ < gmask q k b (key a l) (hp g hh) j ∧ rank (gmask q k b (key a l) (hp g hh)) j < 3 := by
  have e := funext (pay91_gmask q k b g a Q M hh l hQ hM)
  rw [chosen, pay96_at, e, pay91_gmask q k b g a Q M hh l hQ hM]
  split
  · next h => exact ⟨fun _ => h, fun _ => half_lt_one⟩
  · next h => exact ⟨fun h' => absurd h' not_half_lt_zero, fun h' => absurd h' h⟩

/-! ## The own block -/

theorem lanes_at (q : T4) (b : Fin 4) (g : Fin 4) (a : Fin 16) (Q : Vec Ideal S1x128x256 .bf16) (hh : Fin 2) (l : Fin 256)
    (hQ : ∀ (z : Fin 128) (l : Fin 256), Q (ix3 (0 : Fin 1) z l) = q (ix4 b (key a l) (hd g z) (ln z))) (z : Fin 128) :
    lanes Q (ix2 z (⟨256 * hh.val + l.val, by omega⟩ : Fin 512))
      = if z.val / 64 = hh.val then q (ix4 b (key a l) (hd g z) (ln z)) * Ideal.ofBits .bf16 0x3E00#16 else 0 := by
  have e1 : (256 * hh.val + l.val) / 256 = hh.val := by omega
  have e2 : (⟨(256 * hh.val + l.val) % 256, by omega⟩ : Fin 256) = l := Fin.ext (by show (256 * hh.val + l.val) % 256 = l.val; omega)
  refine (pay101_at Q z _).trans ?_
  show (if z.val / 64 = (256 * hh.val + l.val) / 256 then Q (ix3 (0 : Fin 1) z (⟨(256 * hh.val + l.val) % 256, by omega⟩ : Fin 256)) * _ else 0) = _
  rw [e1, e2, hQ]

theorem own_inv {x : Fin 16 → Fin 256 → ℝ} {p : Fin 16 → Fin 256 → Prop} {v : Fin 16 → Fin 256 → EReal} (a : Fin 16) (l : Fin 256)
    (hp : ∀ r : Fin 256, p a r ↔ r.val ≤ l.val) (s : Fin 256 → EReal) (hs : ∀ r : Fin 256, s r = if r.val ≤ l.val then ((x a r : ℝ) : EReal) else ⊥)
    (m' : EReal) (hm : m' = max (Ideal.ofBits .f32 0xF149F2CA#32) (Finset.univ.fold max ⊥ s - Ideal.ofBits .f32 0x00000000#32)) :
    Inv x p v (seen a 0) m' (Ideal.exp (Ideal.ofBits .f32 0xF149F2CA#32 - m') * Ideal.ofBits .f32 0x00000000#32
        + ∑ r, Ideal.exp (s r - (m' + Ideal.ofBits .f32 0x00000000#32)))
      (Ideal.exp (Ideal.ofBits .f32 0xF149F2CA#32 - m') * Ideal.ofBits .f32 0x00000000#32
        + ∑ r, v a r * Ideal.exp (s r - (m' + Ideal.ofBits .f32 0x00000000#32))) := by
  have z : Ideal.ofBits .f32 0x00000000#32 = ((0 : ℝ) : EReal) := by simp [Ideal.ofBits, Ideal.ieee]
  have hB : seen a 0 = insert a (∅ : Finset (Fin 16)) := by
    ext j
    simp [seen]
  obtain ⟨μ, hμ⟩ := lift least_real
  rw [z, hμ] at hm ⊢
  rw [hB]
  exact inv_step (inv_empty x p v μ) a (by simp) 0 s (fun r => by rw [hs r, add_zero]; exact if_congr (hp r).symm rfl rfl) m' hm

section Point

variable (c : Dev nD) (i : grid0.Coords) (arg3 : Memref sig .tc .smem S8 .f32) (harg3 : arg3.IsWhole) (arg4 : Memref sig .tc .vmem S1x128x256 .bf16) (harg4 : arg4.IsWhole)
  (arg5 : Memref sig .tc .vmem S1x4096x128 .bf16) (harg5 : arg5.IsWhole) (arg6 : Memref sig .tc .vmem S1x128x4096 .f32) (harg6 : arg6.IsWhole)
  (arg7 : Memref sig .tc .vmem S1x128x4096 .f32) (harg7 : arg7.IsWhole) (arg8 : Memref sig .tc .vmem S1x256x128 .bf16) (harg8 : arg8.IsWhole)
  (arg9 : Memref sig .tc .vmem S16x128x256 .bf16) (harg9 : arg9.IsWhole) (arg10 : Memref sig .tc .vmem S128x128 .bf16) (harg10 : arg10.IsWhole)
  (arg11 : Memref sig .tc .vmem S2x256x256 .f32) (harg11 : arg11.IsWhole) (arg12 : Memref sig .tc .vmem S16x512 .f32) (harg12 : arg12.IsWhole)
  (a1 : BitVec 32) (X3 : BufTy.Contents (Elt Ideal) arg3.view.ty) (X5 : BufTy.Contents (Elt Ideal) arg5.view.ty)
  (X9 : BufTy.Contents (Elt Ideal) arg9.view.ty) (X11 : BufTy.Contents (Elt Ideal) arg11.view.ty) (X12 : BufTy.Contents (Elt Ideal) arg12.view.ty)
  (q k v : T4) (b : Fin 4) (Q : Vec Ideal S1x128x256 .bf16) (M : FVec Ideal S128x128 .bf16)
  (K : Vec Ideal S1x256x128 .bf16) (V : Vec Ideal S1x128x256 .bf16) (p0 p1 : Vec Ideal S1x256x256 .f32)

/-- What a point's buffers hold. -/
structure Point : Prop where
  slope : ∀ h : Fin 8, arg3.view.read (Elt Ideal) X3 (ix1 h) = MobaRef.slope h
  query : ∀ (z : Fin 128) (l : Fin 256), Q (ix3 (0 : Fin 1) z l) = q (ix4 b (key (qb i) l) (hd (gr i) z) (ln z))
  keys : ∀ (s : Fin 4096) (z : Fin 128), arg5.view.read (Elt Ideal) X5 (ix3 (0 : Fin 1) s z) = k (ix4 b s (hd (gr i) z) (ln z))
  values : ∀ (j : Fin 16) (z : Fin 128) (r : Fin 256), arg9.view.read (Elt Ideal) X9 (ix3 j z r) = v (ix4 b (key j r) (hd (gr i) z) (ln z))
  pen : ∀ (hh : Fin 2) (r l : Fin 256), arg11.view.read (Elt Ideal) X11 (ix3 hh r l) = MobaRef.slope (hp (gr i) hh) * (((l.val : ℝ) - (r.val : ℝ) : ℝ) : EReal)
  mean : ∀ (j : Fin 16) (z : Fin 128), M (ix2 (⟨j.val, by omega⟩ : Fin 128) z) = MobaRef.mean k b (hd (gr i) z) j (ln z)
  sel : ∀ (j : Fin 16) (y : Fin 512), arg12.view.read (Elt Ideal) X12 (ix2 j y) = chosen (qb i) Q M (ix2 j y)
  ownK : ∀ (r : Fin 256) (z : Fin 128), K (ix3 (0 : Fin 1) r z) = k (ix4 b (key (qb i) r) (hd (gr i) z) (ln z))
  ownV : ∀ (z : Fin 128) (r : Fin 256), V (ix3 (0 : Fin 1) z r) = v (ix4 b (key (qb i) r) (hd (gr i) z) (ln z))
  pen0 : ∀ r l : Fin 256, p0 (ix3 (0 : Fin 1) r l) = MobaRef.slope (hp (gr i) 0) * (((l.val : ℝ) - (r.val : ℝ) : ℝ) : EReal)
  pen1 : ∀ r l : Fin 256, p1 (ix3 (0 : Fin 1) r l) = MobaRef.slope (hp (gr i) 1) * (((l.val : ℝ) - (r.val : ℝ) : ℝ) : EReal)

variable (hq : ∀ i, IsReal (q i)) (hk : ∀ i, IsReal (k i))
include hq hk

theorem reads_of (P : Point i arg3 arg5 arg9 arg11 arg12 X3 X5 X9 X11 X12 q k v b Q M K V p0 p1) (hh : Fin 2) (l : Fin 256) (e : Fin 64) :
    Reads i arg3 arg5 arg9 arg11 arg12 (lanes Q) X3 X5 X9 X11 X12 hh l e (xr q k b (key (qb i) l) (hp (gr i) hh)) (pr q k b (key (qb i) l) (hp (gr i) hh))
      (vr v b (hp (gr i) hh) e) (MobaRef.slope (hp (gr i) hh)).toReal where
  slope := (P.slope _).trans (EReal.coe_toReal (slope_real _).2 (slope_real _).1).symm
  score := fun j _ r => score_eq q k b hq hk (gr i) hh (qb i) j l r _ _ _ (fun z => P.keys _ z) (fun z => lanes_at q b (gr i) (qb i) Q hh l P.query z) (P.pen hh r l)
  chosen := fun j hj r => (iff_of_eq (congrArg (fun y => Ideal.ofBits .f32 0x3F000000#32 < y) (P.sel j _))).trans
    ((chosen_at q k b (gr i) (qb i) Q M hh l P.query P.mean j).trans (chosen_iff q k b (hp (gr i) hh) hq hk (qb i) j l r hj))
  value := fun j r => (P.values j (lane hh e) r).trans (by rw [hd_lane, ln_lane])

theorem own_att (a : Fin 16) (h : Fin 8) (l r : Fin 256) : pr q k b (key a l) h a r ↔ r.val ≤ l.val :=
  (att_iff q k b h a a l r).trans ⟨fun h => h.elim (fun h => absurd h.1 (lt_irrefl _)) fun h => h.2, fun h => Or.inr ⟨rfl, h⟩⟩

theorem own_score (P : Point i arg3 arg5 arg9 arg11 arg12 X3 X5 X9 X11 X12 q k v b Q M K V p0 p1) (hh : Fin 2) (l r : Fin 256) (pen : EReal)
    (hpen : pen = MobaRef.slope (hp (gr i) hh) * (((l.val : ℝ) - (r.val : ℝ) : ℝ) : EReal)) :
    k0_pay102 (F := Ideal) (k0_pay97 (F := Ideal) (k0_pay86 (F := Ideal) Q)) k0_pay98 k0_pay99 k0_pay100 K (ix2 r (⟨256 * hh.val + l.val, by omega⟩ : Fin 512)) - pen
      = ((xr q k b (key (qb i) l) (hp (gr i) hh) (qb i) r : ℝ) : EReal) := by
  rw [pay102_at]
  refine (score_eq q k b hq hk (gr i) hh (qb i) (qb i) l r _ _ _ (fun z => P.ownK r z) (fun z => lanes_at q b (gr i) (qb i) Q hh l P.query z) hpen).trans (congrArg _ ?_)
  rw [sub_self, mul_zero, mul_zero, add_zero]

theorem own0 (P : Point i arg3 arg5 arg9 arg11 arg12 X3 X5 X9 X11 X12 q k v b Q M K V p0 p1) (l : Fin 256) (e : Fin 64) :
    Inv (xr q k b (key (qb i) l) (hp (gr i) 0)) (pr q k b (key (qb i) l) (hp (gr i) 0)) (vr v b (hp (gr i) 0) e) (seen (qb i) 0)
      ((start Q K V p0 p1).1 (ix2 (0 : Fin 1) l)) ((start Q K V p0 p1).2.1 (ix2 (0 : Fin 1) l)) ((start Q K V p0 p1).2.2.1 (ix2 e l)) := by
  dsimp only [start]
  rw [pay112_at, pay113_at]
  have hv : ∀ r : Fin 256, V (ix3 (0 : Fin 1) (⟨e.val, by omega⟩ : Fin 128) r) = vr v b (hp (gr i) 0) e (qb i) r := fun r => by
    have h1 : (⟨e.val, by omega⟩ : Fin 128) = lane 0 e := Fin.ext (by show e.val = 64 * 0 + e.val; omega)
    rw [h1, P.ownV, hd_lane, ln_lane]
  simp only [hv]
  refine own_inv (qb i) l (own_att q k b hq hk (qb i) _ l) _ (fun r => ?_) _ (pay109_at _ _ _ _ _ _ _ l)
  rw [pay104_at]
  refine if_congr Iff.rfl (Eq.trans (congrArg (fun y => y - _) (congrArg _ (congrArg (ix2 r) (Fin.ext ?_)))) (own_score (P := P) (hq := hq) (hk := hk) (hh := 0) (l := l) (r := r) (pen := _) (hpen := P.pen0 r l))) rfl
  show l.val = 256 * 0 + l.val
  omega

theorem own1 (P : Point i arg3 arg5 arg9 arg11 arg12 X3 X5 X9 X11 X12 q k v b Q M K V p0 p1) (l : Fin 256) (e : Fin 64) :
    Inv (xr q k b (key (qb i) l) (hp (gr i) 1)) (pr q k b (key (qb i) l) (hp (gr i) 1)) (vr v b (hp (gr i) 1) e) (seen (qb i) 0)
      ((start Q K V p0 p1).2.2.2.1 (ix2 (0 : Fin 1) l)) ((start Q K V p0 p1).2.2.2.2.1 (ix2 (0 : Fin 1) l)) ((start Q K V p0 p1).2.2.2.2.2 (ix2 e l)) := by
  dsimp only [start]
  rw [pay120_at, pay1_at]
  have hv : ∀ r : Fin 256, V (ix3 (0 : Fin 1) (⟨64 + e.val, by omega⟩ : Fin 128) r) = vr v b (hp (gr i) 1) e (qb i) r := fun r => by
    have h1 : (⟨64 + e.val, by omega⟩ : Fin 128) = lane 1 e := Fin.ext (by show 64 + e.val = 64 * 1 + e.val; omega)
    rw [h1, P.ownV, hd_lane, ln_lane]
  simp only [hv]
  refine own_inv (qb i) l (own_att q k b hq hk (qb i) _ l) _ (fun r => ?_) _ (pay117_at _ _ _ l)
  rw [pay114_at]
  exact if_congr Iff.rfl (own_score (P := P) (hq := hq) (hk := hk) (hh := 1) (l := l) (r := r) (pen := _) (hpen := P.pen1 r l)) rfl

/-- The point's output. -/
theorem point_out (P : Point i arg3 arg5 arg9 arg11 arg12 X3 X5 X9 X11 X12 q k v b Q M K V p0 p1) (l : Fin 256) (z : Fin 128) :
    k0_pay2 (F := Ideal) (st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) (lanes Q) X3 X5 X9 X11 X12 (start Q K V p0 p1) (i 2).val).2.1 (st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) (lanes Q) X3 X5 X9 X11 X12 (start Q K V p0 p1) (i 2).val).2.2.1
        (st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) (lanes Q) X3 X5 X9 X11 X12 (start Q K V p0 p1) (i 2).val).2.2.2.2.1 (st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) (lanes Q) X3 X5 X9 X11 X12 (start Q K V p0 p1) (i 2).val).2.2.2.2.2 (ix3 (0 : Fin 1) l z)
      = out q k v b (key (qb i) l) (hd (gr i) z) (ln z) := by
  have hB : ∀ j : Fin 16, j ∉ seen (qb i) (i 2).val → (qb i).val < j.val := fun j hj => by
    simp only [seen, Finset.mem_insert, Finset.mem_filter, Finset.mem_univ, true_and, Fin.ext_iff] at hj
    have : (qb i).val = (i 2).val := rfl
    rw [this] at hj ⊢
    obtain ⟨h1, h2⟩ := not_or.mp hj
    exact lt_of_le_of_ne (not_lt.mp h2) (Ne.symm h1)
  have w0 := fun e => row_out q k v b (hp (gr i) 0) hq hk (qb i) l e _ _ _ _ (walk0 c i arg3 harg3 arg4 harg4 arg5 harg5 arg6 harg6 arg7 harg7 arg8 harg8 arg9 harg9 arg10 harg10 arg11 harg11 arg12 harg12 a1 (lanes Q) X3 X5 X9 X11 X12 (start Q K V p0 p1) l e _ _ _ _
    (reads_of (P := P) (hq := hq) (hk := hk) (hh := 0) (l := l) (e := e)) (own0 (P := P) (hq := hq) (hk := hk) (l := l) (e := e)) (i 2).val (le_refl _)) hB
  have w1 := fun e => row_out q k v b (hp (gr i) 1) hq hk (qb i) l e _ _ _ _ (walk1 c i arg3 harg3 arg4 harg4 arg5 harg5 arg6 harg6 arg7 harg7 arg8 harg8 arg9 harg9 arg10 harg10 arg11 harg11 arg12 harg12 a1 (lanes Q) X3 X5 X9 X11 X12 (start Q K V p0 p1) l e _ _ _ _
    (reads_of (P := P) (hq := hq) (hk := hk) (hh := 1) (l := l) (e := e)) (own1 (P := P) (hq := hq) (hk := hk) (l := l) (e := e)) (i 2).val (le_refl _)) hB
  generalize (st_k0_t1 (F := Ideal) Variants.none c none i arg3 harg3 arg4 harg4 arg5 harg5 arg6 harg6 arg7 harg7 arg8 harg8 arg9 harg9 arg10 harg10 arg11 harg11 arg12 harg12 a1 (BitVec.ofNat 32 (i 2).val) (lanes Q) X3 X5 X9 X11 X12 (start Q K V p0 p1) (i 2).val) = S at *
  by_cases hz : z.val < 64
  · obtain ⟨e, he⟩ : ∃ e : Fin 64, z = lane 0 e := ⟨⟨z.val, hz⟩, Fin.ext (by show z.val = 64 * 0 + z.val; omega)⟩
    have h1 : lane 0 e = (⟨e.val, by omega⟩ : Fin 128) := Fin.ext (by show 64 * 0 + e.val = e.val; omega)
    rw [he, hd_lane, ln_lane, h1]
    exact (pay2_at0 _ _ _ _ l e).trans (w0 e)
  · obtain ⟨e, he⟩ : ∃ e : Fin 64, z = lane 1 e := ⟨⟨z.val - 64, by omega⟩, Fin.ext (by show z.val = 64 * 1 + (z.val - 64); omega)⟩
    have h1 : lane 1 e = (⟨64 + e.val, by omega⟩ : Fin 128) := Fin.ext (by show 64 * 1 + e.val = 64 + e.val; omega)
    rw [he, hd_lane, ln_lane, h1]
    exact (pay2_at1 _ _ _ _ l e).trans (w1 e)

end Point

end Cert.Proof.MobaPoint
-- ==== Proof.MobaCaseB.lean ====
/-
  Hand-written, untrusted. A point of the grid that is not the first of its run of sixteen: it finds the values, the block
  means and the penalties where the first point of the run left them, and its output is the reference's.
-/
module

public import proofs.«01_k».proof.Proof.MobaPoint
public import Idealize.ShloMosaic.Lib.WritesUnit

@[expose] public section

noncomputable section

namespace Cert.Proof.MobaCase

open Cert.MobaIdeal Cert.MobaIdeal.Gen Idealize.ShloMosaic Idealize.SL.Sem
open Cert.Proof.MobaSpec Cert.Proof.MobaPay Cert.Proof.MobaLoop Cert.Proof.MobaRow Cert.Proof.MobaPoint
open Cert.Proof.MobaRef (T4 key)
open scoped Classical

variable (c : Dev nD) (i : grid0.Coords) (arg3 : Memref sig .tc .smem S8 .f32) (harg3 : arg3.IsWhole) (arg4 : Memref sig .tc .vmem S1x128x256 .bf16) (harg4 : arg4.IsWhole)
  (arg5 : Memref sig .tc .vmem S1x4096x128 .bf16) (harg5 : arg5.IsWhole) (arg6 : Memref sig .tc .vmem S1x128x4096 .f32) (harg6 : arg6.IsWhole)
  (arg7 : Memref sig .tc .vmem S1x128x4096 .f32) (harg7 : arg7.IsWhole) (arg8 : Memref sig .tc .vmem S1x256x128 .bf16) (harg8 : arg8.IsWhole)
  (arg9 : Memref sig .tc .vmem S16x128x256 .bf16) (harg9 : arg9.IsWhole) (arg10 : Memref sig .tc .vmem S128x128 .bf16) (harg10 : arg10.IsWhole)
  (arg11 : Memref sig .tc .vmem S2x256x256 .f32) (harg11 : arg11.IsWhole) (arg12 : Memref sig .tc .vmem S16x512 .f32) (harg12 : arg12.IsWhole)

section Run

variable (X3 : BufTy.Contents (Elt Ideal) arg3.view.ty) (X5 : BufTy.Contents (Elt Ideal) arg5.view.ty)
  (X9 : BufTy.Contents (Elt Ideal) arg9.view.ty) (X11 : BufTy.Contents (Elt Ideal) arg11.view.ty) (X12 : BufTy.Contents (Elt Ideal) arg12.view.ty)
  (q k v : T4) (b : Fin 4) (Q : Vec Ideal S1x128x256 .bf16) (M : FVec Ideal S128x128 .bf16)
  (K : Vec Ideal S1x256x128 .bf16) (V : Vec Ideal S1x128x256 .bf16) (p0 p1 : Vec Ideal S1x256x256 .f32)

/-- The second walk makes no trip, so the output is read off the first. -/
theorem run_out (w : BitVec 32) (n m : Nat) (ls : FVec Ideal S128x512 .bf16)
    (init mid : FVec Ideal S1x256 .f32 × FVec Ideal S1x256 .f32 × FVec Ideal S64x256 .f32 × FVec Ideal S1x256 .f32 × FVec Ideal S1x256 .f32 × FVec Ideal S64x256 .f32)
    (hn : n = (i 2).val) (hm : m = 0) (hls : ls = lanes Q) (hinit : init = start Q K V p0 p1)
    (hmid : mid = st_k0_t1 (F := Ideal) Variants.none c none i arg3 harg3 arg4 harg4 arg5 harg5 arg6 harg6 arg7 harg7 arg8 harg8 arg9 harg9 arg10 harg10 arg11 harg11 arg12 harg12 (BitVec.ofNat 32 (i 1).val) (BitVec.ofNat 32 (i 2).val) ls X3 X5 X9 X11 X12 init n) (hq : ∀ i, IsReal (q i)) (hk : ∀ i, IsReal (k i))
    (P : Point i arg3 arg5 arg9 arg11 arg12 X3 X5 X9 X11 X12 q k v b Q M K V p0 p1) (l : Fin 256) (z : Fin 128) :
    k0_pay2 (F := Ideal) (st_k0_t2 (F := Ideal) Variants.none c none i arg3 harg3 arg4 harg4 arg5 harg5 arg6 harg6 arg7 harg7 arg8 harg8 arg9 harg9 arg10 harg10 arg11 harg11 arg12 harg12 (BitVec.ofNat 32 (i 1).val) (BitVec.ofNat 32 (i 2).val) ls w X3 X5 X9 X11 X12 mid m).2.1
        (st_k0_t2 (F := Ideal) Variants.none c none i arg3 harg3 arg4 harg4 arg5 harg5 arg6 harg6 arg7 harg7 arg8 harg8 arg9 harg9 arg10 harg10 arg11 harg11 arg12 harg12 (BitVec.ofNat 32 (i 1).val) (BitVec.ofNat 32 (i 2).val) ls w X3 X5 X9 X11 X12 mid m).2.2.1
        (st_k0_t2 (F := Ideal) Variants.none c none i arg3 harg3 arg4 harg4 arg5 harg5 arg6 harg6 arg7 harg7 arg8 harg8 arg9 harg9 arg10 harg10 arg11 harg11 arg12 harg12 (BitVec.ofNat 32 (i 1).val) (BitVec.ofNat 32 (i 2).val) ls w X3 X5 X9 X11 X12 mid m).2.2.2.2.1
        (st_k0_t2 (F := Ideal) Variants.none c none i arg3 harg3 arg4 harg4 arg5 harg5 arg6 harg6 arg7 harg7 arg8 harg8 arg9 harg9 arg10 harg10 arg11 harg11 arg12 harg12 (BitVec.ofNat 32 (i 1).val) (BitVec.ofNat 32 (i 2).val) ls w X3 X5 X9 X11 X12 mid m).2.2.2.2.2 (ix3 (0 : Fin 1) l z)
      = out q k v b (key (qb i) l) (hd (gr i) z) (ln z) := by
  subst hn hm hls hinit hmid
  rw [st_k0_t2_zero]
  exact point_out (hq := hq) (hk := hk) (P := P) (l := l) (z := z) ..

end Run

variable (q k v : T4) (b : Fin 4) (hq : ∀ i, IsReal (q i)) (hk : ∀ i, IsReal (k i))
  (x0 : Vec Ideal S8 .f32) (x1 : Vec Ideal S1x128x256 .bf16) (x2 : Vec Ideal S1x4096x128 .bf16) (x3 x4 : Vec Ideal S1x128x4096 .f32)
  (xs0 : Vec Ideal S16x128x256 .bf16) (xs1 : Vec Ideal S128x128 .bf16) (xs2 : Vec Ideal S2x256x256 .f32)

/-- What a point's inputs hold. -/
structure Inputs : Prop where
  slope : ∀ h : Fin 8, x0 (ix1 h) = MobaRef.slope h
  query : ∀ (z : Fin 128) (l : Fin 256), x1 (ix3 (0 : Fin 1) z l) = q (ix4 b (key (qb i) l) (hd (gr i) z) (ln z))
  keys : ∀ (s : Fin 4096) (z : Fin 128), x2 (ix3 (0 : Fin 1) s z) = k (ix4 b s (hd (gr i) z) (ln z))

/-- What the buffers kept from point to point hold, for a batch and a pair of heads. -/
structure Kept (g : Fin 4) : Prop where
  values : ∀ (j : Fin 16) (z : Fin 128) (r : Fin 256), xs0 (ix3 j z r) = v (ix4 b (key j r) (hd g z) (ln z))
  mean : ∀ (j : Fin 16) (z : Fin 128), xs1 (ix2 (⟨j.val, by omega⟩ : Fin 128) z) = MobaRef.mean k b (hd g z) j (ln z)
  pen : ∀ (hh : Fin 2) (r l : Fin 256), xs2 (ix3 hh r l) = MobaRef.slope (hp g hh) * (((l.val : ℝ) - (r.val : ℝ) : ℝ) : EReal)

include hq hk in
theorem out_B (hc0 : ¬ cond0_0 i) (hI : Inputs i q k b x0 x1 x2) (hS : Kept k v b xs0 xs1 xs2 (gr i)) (l : Fin 256) (z : Fin 128) :
    out0_B_5 c i arg3 harg3 arg4 harg4 arg5 harg5 arg6 harg6 arg7 harg7 arg8 harg8 arg9 harg9 arg10 harg10 arg11 harg11 arg12 harg12 hc0 x0 x1 x2 x3 x4 xs0 xs1 xs2 (ix3 (0 : Fin 1) l z)
      = out q k v b (key (qb i) l) (hd (gr i) z) (ln z) := by
  have hz : (![0, 0, 0] : Fin 3 → Nat) = fun _ => 0 := funext fun a => by fin_cases a <;> rfl
  have h1 := trips_eq (qb i)
  have h2 := trips2_eq (qb i)
  unfold out0_B_5 kernelRun0_B
  rw [View.read_writes_junk_eq_canon]
  refine (congrFun (View.canon_unit_zero (S := S1x256x128) hz _ _) (ix3 (0 : Fin 1) l z)).trans ?_
  refine run_out c i arg3 harg3 arg4 harg4 arg5 harg5 arg6 harg6 arg7 harg7 arg8 harg8 arg9 harg9 arg10 harg10 arg11 harg11 arg12 harg12
    (harg3.unread x0) (harg5.unread x2) (harg9.unread xs0) (harg11.unread xs2) _ q k v b
    (arg4.view.readAt (Elt Ideal) (Rect.unit ![0, 0, 0] S1x128x256.size inb_S1x128x256_S1x128x256_0_0_0).toLoadRect (harg4.unread x1))
    (arg10.view.readAt (Elt Ideal) (Rect.unit ![0, 0] S128x128.size inb_S128x128_S128x128_0_0).toLoadRect (harg10.unread xs1))
    (arg5.view.readAt (Elt Ideal) (Rect.unit (s := S1x4096x128) (k0_off2 i) S1x256x128.size (k0_off2_inb i)).toLoadRect (harg5.unread x2))
    (arg9.view.readAt (Elt Ideal) (Rect.unit (s := S16x128x256) (k0_off3 i) S1x128x256.size (k0_off3_inb i)).toLoadRect (harg9.unread xs0))
    (arg11.view.readAt (Elt Ideal) (Rect.unit (s := S2x256x256) ![0, 0, 0] S1x256x256.size inb_S2x256x256_S1x256x256_0_0_0).toLoadRect (harg11.unread xs2))
    (arg11.view.readAt (Elt Ideal) (Rect.unit (s := S2x256x256) ![1, 0, 0] S1x256x256.size inb_S2x256x256_S1x256x256_1_0_0).toLoadRect (harg11.unread xs2))
    _ ?trips _ _ ?init _ ?hn ?hm ?hls ?hinit ?hmid hq hk ?P l z
  case hmid => rfl
  case hn => exact h1
  case hm => exact h2
  case hls => rfl
  case hinit => rfl
  exact
  { slope := fun h => by rw [Memref.IsWhole.read_unread]; exact hI.slope h
    query := fun z l => by
      refine (readAt_unit _ _ _ _ (ix3 (0 : Fin 1) z l) fun a => ?_).trans ?_
      · fin_cases a <;> exact Nat.zero_add _
      · rw [Memref.IsWhole.read_unread]; exact hI.query z l
    keys := fun s z => by rw [Memref.IsWhole.read_unread]; exact hI.keys s z
    values := fun j z r => by rw [Memref.IsWhole.read_unread]; exact hS.values j z r
    pen := fun hh r l => by rw [Memref.IsWhole.read_unread]; exact hS.pen hh r l
    mean := fun j z => by
      refine (readAt_unit _ _ _ _ (ix2 (⟨j.val, by omega⟩ : Fin 128) z) fun a => ?_).trans ?_
      · fin_cases a <;> exact Nat.zero_add _
      · rw [Memref.IsWhole.read_unread]; exact hS.mean j z
    sel := fun j y => by
      refine (View.read_writes_cons_unit_of_mem (off' := ![0, 0]) _ _ _ _ _ (ix2 j y) (ix2 j y) ?_ fun a => ?_)
      · rfl
      · fin_cases a <;> exact (Nat.zero_add _).symm
    ownK := fun r z => by
      refine (readAt_unit _ _ _ _ (ix3 (0 : Fin 1) (key (qb i) r) z) fun a => ?_).trans ?_
      · rw [congrFun (off2_eq i) a]
        fin_cases a <;> first | exact Nat.zero_add _ | rfl
      · rw [Memref.IsWhole.read_unread]; exact hI.keys _ z
    ownV := fun z r => by
      refine (readAt_unit _ _ _ _ (ix3 (qb i) z r) fun a => ?_).trans ?_
      · rw [congrFun (off3_eq i) a]
        fin_cases a <;> first | exact Nat.zero_add _ | rfl
      · rw [Memref.IsWhole.read_unread]; exact hS.values _ z r
    pen0 := fun r l => by
      refine (readAt_unit _ _ _ _ (ix3 (0 : Fin 2) r l) fun a => ?_).trans ?_
      · fin_cases a <;> exact Nat.zero_add _
      · rw [Memref.IsWhole.read_unread]; exact hS.pen 0 r l
    pen1 := fun r l => by
      refine (readAt_unit _ _ _ _ (ix3 (1 : Fin 2) r l) fun a => ?_).trans ?_
      · fin_cases a <;> first | exact Nat.zero_add _ | rfl
      · rw [Memref.IsWhole.read_unread]; exact hS.pen 1 r l }

end Cert.Proof.MobaCase
-- ==== Proof.MobaKept.lean ====
/-
  Hand-written, untrusted. What the first point of a run of sixteen leaves in its buffers: the values block by block, the
  mean key of every block, and the distance penalties of the two heads.
-/
module

public import proofs.«01_k».proof.Proof.MobaCaseB

@[expose] public section

noncomputable section

namespace Cert.Proof.MobaCase

open Cert.MobaIdeal Cert.MobaIdeal.Gen Idealize.ShloMosaic Idealize.SL.Sem
open Cert.Proof.MobaSpec Cert.Proof.MobaPay Cert.Proof.MobaLoop Cert.Proof.MobaRow Cert.Proof.MobaPoint
open Cert.Proof.MobaRef (T4 key)
open scoped Classical

/-! ## The values -/

/-- A store of one slab of a stack of sixteen, read at an element. -/
theorem slab (v : View sig .tc .vmem S16x128x256 .bf16) (f : v.ty.Contents (Elt Ideal)) (n : Nat) (inb : ∀ a, (![n, 0, 0] : Fin 3 → Nat) a + S1x128x256.size a ≤ S16x128x256.size a)
    (w : (Rect.unit (s := S16x128x256) ![n, 0, 0] S1x128x256.size inb).shape.Idx → Elt Ideal .bf16) (L : List (View.Piece (Elt Ideal) S16x128x256 .bf16))
    (j : Fin 16) (z : Fin 128) (r : Fin 256) :
    v.read (Elt Ideal) (v.writes (Elt Ideal) f (⟨Rect.unit (s := S16x128x256) ![n, 0, 0] S1x128x256.size inb, w⟩ :: L)) (ix3 j z r)
      = if j.val = n then w (ix3 (0 : Fin 1) z r) else v.read (Elt Ideal) (v.writes (Elt Ideal) f L) (ix3 j z r) := by
  split
  · next h =>
    refine View.read_writes_cons_unit_of_mem v f inb w L (ix3 j z r) (ix3 (0 : Fin 1) z r) rfl fun a => ?_
    fin_cases a
    · exact h
    · exact (Nat.zero_add _).symm
    · exact (Nat.zero_add _).symm
  · next h =>
    refine View.read_writes_cons_unit_of_not_mem v f inb w L (ix3 j z r) rfl (0 : Fin 3) ?_
    show j.val < n ∨ n + 1 ≤ j.val
    omega

theorem pay5_at (V : Vec Ideal S1x128x256 .f32) (z : Fin 128) (r : Fin 256) :
    k0_pay5 (F := Ideal) V (ix3 (0 : Fin 1) z r) = V (ix3 (0 : Fin 1) z r) := by
  unfold k0_pay5
  pointwise []

/-! ## The block means -/

theorem pay7_at (V : Vec Ideal S1x128x256 .f32) (z : Fin 128) :
    k0_pay7 (F := Ideal) V (ix2 z (0 : Fin 1)) = Ideal.div (∑ r : Fin 256, V (ix3 (0 : Fin 1) z r)) (Ideal.ofBits .f32 0x43800000#32) := by
  unfold k0_pay7
  pointwise []

/-- The number of a column. -/
abbrev cols : IVec S128x128 32 := iota .tc S128x128 32 [1] iota_S128x128_d1_w32

/-- The columns of one number. -/
abbrev mask (w : BitVec 32) : IVec S128x128 1 := cmpi .eq cols (broadcast S128x128 w)

theorem mask_at (w : BitVec 32) (z j : Fin 128) : mask w (ix2 z j) = BitVec.ofBool (BitVec.ofNat 32 j.val == w) := by
  unfold mask cols
  pointwise []
  all_goals rfl

/-- Two more columns of means. -/
def two (w : BitVec 32) (prev : FVec Ideal S128x128 .f32) (m : IVec S128x128 1) (row : FVec Ideal S128x1 .f32) (V : Vec Ideal S1x128x256 .f32) : FVec Ideal S128x128 .f32 :=
  select (mask w) (broadcastTo S128x128 (shapeCast S128x1 (k0_pay7 (F := Ideal) V) shapeCasts_S128x1_S128x1) broadcasts_S128x1_S128x128)
    (select m (broadcastTo S128x128 (shapeCast S128x1 row shapeCasts_S128x1_S128x1) broadcasts_S128x1_S128x128) prev)

theorem two_at (w : BitVec 32) (prev : FVec Ideal S128x128 .f32) (m : IVec S128x128 1) (row : FVec Ideal S128x1 .f32) (V : Vec Ideal S1x128x256 .f32) (z j : Fin 128) :
    two w prev m row V (ix2 z j) = Scalar.select (mask w (ix2 z j)) (k0_pay7 (F := Ideal) V (ix2 z (0 : Fin 1))) (Scalar.select (m (ix2 z j)) (row (ix2 z (0 : Fin 1))) (prev (ix2 z j))) := by
  unfold two
  generalize mask w = c
  generalize k0_pay7 (F := Ideal) V = R
  pointwise []

theorem mask_sel (n : Nat) (hn : n < 128) (z j : Fin 128) (x y : EReal) :
    Scalar.select (mask (BitVec.ofNat 32 n) (ix2 z j)) x y = if j.val = n then x else y := by
  rw [mask_at]
  by_cases h : j.val = n
  · rw [if_pos h, h, beq_self_eq_true]
    rfl
  · have e : (BitVec.ofNat 32 j.val == BitVec.ofNat 32 n) = false := by
      refine beq_false_of_ne fun h' => h ?_
      have h2 := congrArg BitVec.toNat h'
      rw [BitVec.toNat_ofNat, BitVec.toNat_ofNat] at h2
      omega
    rw [if_neg h, e]
    rfl

theorem two_holds (n : Nat) (hn : n + 2 < 128) (z : Fin 128) (B : Nat → EReal) (w : BitVec 32) (hw : w = BitVec.ofNat 32 (n + 2)) (prev : FVec Ideal S128x128 .f32) (m : IVec S128x128 1)
    (row : FVec Ideal S128x1 .f32) (V : Vec Ideal S1x128x256 .f32) (hprev : ∀ j : Fin 128, j.val ≤ n → prev (ix2 z j) = B j.val) (hm : m = mask (BitVec.ofNat 32 (n + 1)))
    (hrow : row (ix2 z (0 : Fin 1)) = B (n + 1)) (hV : k0_pay7 (F := Ideal) V (ix2 z (0 : Fin 1)) = B (n + 2)) (j : Fin 128) (hj : j.val ≤ n + 2) :
    two w prev m row V (ix2 z j) = B j.val := by
  subst hw hm
  rw [two_at, mask_sel _ hn, mask_sel _ (by omega), hrow, hV]
  by_cases h2 : j.val = n + 2
  · rw [if_pos h2, h2]
  · rw [if_neg h2]
    by_cases h1 : j.val = n + 1
    · rw [if_pos h1, h1]
    · rw [if_neg h1, hprev j (by omega)]

theorem pay4_at (V : Vec Ideal S1x128x256 .f32) (z j : Fin 128) (hj : j.val ≤ 0) :
    k0_pay4 (F := Ideal) V (ix2 z j) = k0_pay7 (F := Ideal) V (ix2 z (0 : Fin 1)) := by
  have e : k0_pay4 (F := Ideal) V (ix2 z j) = Scalar.select (mask (BitVec.ofNat 32 0) (ix2 z j)) (k0_pay7 (F := Ideal) V (ix2 z (0 : Fin 1))) (Scalar.ofBits (F := Ideal) .f32 0x00000000#32) := by
    show select (mask (BitVec.ofNat 32 0)) (broadcastTo S128x128 (shapeCast S128x1 (k0_pay7 (F := Ideal) V) shapeCasts_S128x1_S128x1) broadcasts_S128x1_S128x128)
        (broadcast S128x128 (Scalar.ofBits (F := Ideal) .f32 0x00000000#32)) (ix2 z j) = _
    generalize mask (BitVec.ofNat 32 0) = c
    generalize k0_pay7 (F := Ideal) V = R
    pointwise []
  rw [e, mask_sel _ (by norm_num), if_pos (by omega)]

theorem pay82_at (prev : FVec Ideal S128x128 .f32) (m : IVec S128x128 1) (row : FVec Ideal S128x1 .f32) (j z : Fin 128) :
    k0_pay82 (F := Ideal) prev m row (ix2 j z) = Scalar.select (m (ix2 z j)) (row (ix2 z (0 : Fin 1))) (prev (ix2 z j)) := by
  unfold k0_pay82
  pointwise []

/-! ## The penalties -/

theorem pay84_at (s : EReal) (r l : Fin 256) :
    k0_pay84 (F := Ideal) s (ix3 (0 : Fin 1) r l) = s * (((l.val : ℝ) - (r.val : ℝ) : ℝ) : EReal) := by
  have e : k0_pay84 (F := Ideal) s (ix3 (0 : Fin 1) r l) = s * (((k0_pay81 (ix2 r l)).toInt : ℝ) : EReal) := by
    unfold k0_pay84 k0_pay83
    generalize k0_pay81 = D
    pointwise []
    rfl
  rw [e, pay81_at]
  refine congrArg _ (congrArg _ ?_)
  rw [show (BitVec.ofNat 32 l.val - BitVec.ofNat 32 r.val).toInt = (l.val : Int) - r.val from MobaRef.sub_toInt l.val r.val (by omega) (by omega)]
  push_cast
  rfl

theorem off1_eq0 (i : grid0.Coords) : k0_off1 i 0#32 = ![2 * (i 1).val] := by
  unfold k0_off1
  rw [← head_word0 (i 1)]
theorem off1_eq1 (i : grid0.Coords) : k0_off1 i 1#32 = ![2 * (i 1).val + 1] := by
  unfold k0_off1
  rw [← head_word1 (i 1)]

/-! ## The buffers after the first point -/

variable (c : Dev nD) (i : grid0.Coords) (arg3 : Memref sig .tc .smem S8 .f32) (harg3 : arg3.IsWhole)
  (arg6 : Memref sig .tc .vmem S1x128x4096 .f32) (harg6 : arg6.IsWhole) (arg7 : Memref sig .tc .vmem S1x128x4096 .f32) (harg7 : arg7.IsWhole)
  (k v : T4) (b : Fin 4) (g : Fin 4) (x0 : Vec Ideal S8 .f32) (x3 x4 : Vec Ideal S1x128x4096 .f32)

theorem value_row (o : Nat) (inb : ∀ a, (![0, 0, o] : Fin 3 → Nat) a + S1x128x256.size a ≤ S1x128x4096.size a) (j : Fin 16) (z : Fin 128) (r : Fin 256) (ho : o = 256 * j.val) :
    k0_pay5 (F := Ideal) (arg7.view.readAt (Elt Ideal) (Rect.unit (s := S1x128x4096) ![0, 0, o] S1x128x256.size inb).toLoadRect (harg7.unread x4)) (ix3 (0 : Fin 1) z r)
      = x4 (ix3 (0 : Fin 1) z (key j r)) := by
  subst ho
  refine (pay5_at _ z r).trans ((readAt_unit _ _ _ _ (ix3 (0 : Fin 1) z (key j r)) fun a => ?_).trans ?_)
  · fin_cases a <;> first | exact Nat.zero_add _ | rfl
  · rw [Memref.IsWhole.read_unread]

theorem mean_row (h3 : ∀ (s : Fin 4096) (z : Fin 128), x3 (ix3 (0 : Fin 1) z s) = k (ix4 b s (hd g z) (ln z)))
    (o : Nat) (inb : ∀ a, (![0, 0, o] : Fin 3 → Nat) a + S1x128x256.size a ≤ S1x128x4096.size a) (j : Fin 16) (z : Fin 128) (ho : o = 256 * j.val) :
    k0_pay7 (F := Ideal) (arg6.view.readAt (Elt Ideal) (Rect.unit (s := S1x128x4096) ![0, 0, o] S1x128x256.size inb).toLoadRect (harg6.unread x3)) (ix2 z (0 : Fin 1))
      = MobaRef.mean k b (hd g z) j (ln z) := by
  subst ho
  refine (pay7_at _ z).trans (congrArg (fun y => Ideal.div y _) (Finset.sum_congr rfl fun r _ => ?_))
  refine (readAt_unit _ _ _ _ (ix3 (0 : Fin 1) z (key j r)) fun a => ?_).trans ?_
  · fin_cases a <;> first | exact Nat.zero_add _ | rfl
  · rw [Memref.IsWhole.read_unread]
    exact h3 _ z

theorem kept_values (v : View sig .tc .vmem S16x128x256 .bf16) (f : v.ty.Contents (Elt Ideal)) (j : Fin 16) (z : Fin 128) (r : Fin 256) :
    v.read (Elt Ideal) (v.writes (Elt Ideal) f (kernelRun0_A.sl.HS0_16 (F := Ideal) c arg7 harg7 x4)) (ix3 j z r) = x4 (ix3 (0 : Fin 1) z (key j r)) := by
  refine (slab v f 15 _ _ _ j z r).trans ?_
  split
  · next h => exact value_row arg7 harg7 x4 3840 _ j z r (by omega)
  refine (slab v f 14 _ _ _ j z r).trans ?_
  split
  · next h => exact value_row arg7 harg7 x4 3584 _ j z r (by omega)
  refine (slab v f 13 _ _ _ j z r).trans ?_
  split
  · next h => exact value_row arg7 harg7 x4 3328 _ j z r (by omega)
  refine (slab v f 12 _ _ _ j z r).trans ?_
  split
  · next h => exact value_row arg7 harg7 x4 3072 _ j z r (by omega)
  refine (slab v f 11 _ _ _ j z r).trans ?_
  split
  · next h => exact value_row arg7 harg7 x4 2816 _ j z r (by omega)
  refine (slab v f 10 _ _ _ j z r).trans ?_
  split
  · next h => exact value_row arg7 harg7 x4 2560 _ j z r (by omega)
  refine (slab v f 9 _ _ _ j z r).trans ?_
  split
  · next h => exact value_row arg7 harg7 x4 2304 _ j z r (by omega)
  refine (slab v f 8 _ _ _ j z r).trans ?_
  split
  · next h => exact value_row arg7 harg7 x4 2048 _ j z r (by omega)
  refine (slab v f 7 _ _ _ j z r).trans ?_
  split
  · next h => exact value_row arg7 harg7 x4 1792 _ j z r (by omega)
  refine (slab v f 6 _ _ _ j z r).trans ?_
  split
  · next h => exact value_row arg7 harg7 x4 1536 _ j z r (by omega)
  refine (slab v f 5 _ _ _ j z r).trans ?_
  split
  · next h => exact value_row arg7 harg7 x4 1280 _ j z r (by omega)
  refine (slab v f 4 _ _ _ j z r).trans ?_
  split
  · next h => exact value_row arg7 harg7 x4 1024 _ j z r (by omega)
  refine (slab v f 3 _ _ _ j z r).trans ?_
  split
  · next h => exact value_row arg7 harg7 x4 768 _ j z r (by omega)
  refine (slab v f 2 _ _ _ j z r).trans ?_
  split
  · next h => exact value_row arg7 harg7 x4 512 _ j z r (by omega)
  refine (slab v f 1 _ _ _ j z r).trans ?_
  split
  · next h => exact value_row arg7 harg7 x4 256 _ j z r (by omega)
  refine (slab v f 0 _ _ _ j z r).trans ?_
  split
  · next h => exact value_row arg7 harg7 x4 0 _ j z r (by omega)
  omega

theorem kept_mean (h3 : ∀ (s : Fin 4096) (z : Fin 128), x3 (ix3 (0 : Fin 1) z s) = k (ix4 b s (hd g z) (ln z)))
    (v : View sig .tc .vmem S128x128 .bf16) (f : v.ty.Contents (Elt Ideal)) (j : Fin 16) (z : Fin 128) :
    v.read (Elt Ideal) (v.writes (Elt Ideal) f (kernelRun0_A.sl.HS1_1 (F := Ideal) c arg6 harg6 x3)) (ix2 (⟨j.val, by omega⟩ : Fin 128) z)
      = MobaRef.mean k b (hd g z) j (ln z) := by
  obtain ⟨B, hBj⟩ : ∃ B : Nat → EReal, ∀ j : Fin 16, B j.val = MobaRef.mean k b (hd g z) j (ln z) :=
    ⟨fun n => if h : n < 16 then MobaRef.mean k b (hd g z) ⟨n, h⟩ (ln z) else 0, fun j => dif_pos j.isLt⟩
  have hB : ∀ (n : Nat) (hn : n < 16) (o : Nat) (inb : ∀ a, (![0, 0, o] : Fin 3 → Nat) a + S1x128x256.size a ≤ S1x128x4096.size a), o = 256 * n →
      k0_pay7 (F := Ideal) (arg6.view.readAt (Elt Ideal) (Rect.unit (s := S1x128x4096) ![0, 0, o] S1x128x256.size inb).toLoadRect (harg6.unread x3)) (ix2 z (0 : Fin 1)) = B n :=
    fun n hn o inb ho => (mean_row arg6 harg6 k b g x3 h3 o inb ⟨n, hn⟩ z ho).trans (hBj ⟨n, hn⟩).symm
  have h0 : ∀ j : Fin 128, j.val ≤ 0 → kernelRun0_A.sl.r (F := Ideal) c arg6 harg6 x3 (ix2 z j) = B j.val := fun j hj => by
    have e : j.val = 0 := by omega
    refine (pay4_at _ z j hj).trans ?_
    rw [e]
    exact hB 0 (by norm_num) 0 _ (by norm_num)
  have h2 : ∀ j : Fin 128, j.val ≤ 2 → kernelRun0_A.sl.r_2 (F := Ideal) c arg6 harg6 x3 (ix2 z j) = B j.val := fun j hj =>
    two_holds 0 (by norm_num) z B 2#32 rfl _ _ _ _ h0 rfl (hB 1 (by norm_num) 256 _ (by norm_num)) (hB 2 (by norm_num) 512 _ (by norm_num)) j hj
  have h4 : ∀ j : Fin 128, j.val ≤ 4 → kernelRun0_A.sl.r_4 (F := Ideal) c arg6 harg6 x3 (ix2 z j) = B j.val := fun j hj =>
    two_holds 2 (by norm_num) z B 4#32 rfl _ _ _ _ h2 rfl (hB 3 (by norm_num) 768 _ (by norm_num)) (hB 4 (by norm_num) 1024 _ (by norm_num)) j hj
  have h6 : ∀ j : Fin 128, j.val ≤ 6 → kernelRun0_A.sl.r_6 (F := Ideal) c arg6 harg6 x3 (ix2 z j) = B j.val := fun j hj =>
    two_holds 4 (by norm_num) z B 6#32 rfl _ _ _ _ h4 rfl (hB 5 (by norm_num) 1280 _ (by norm_num)) (hB 6 (by norm_num) 1536 _ (by norm_num)) j hj
  have h8 : ∀ j : Fin 128, j.val ≤ 8 → kernelRun0_A.sl.r_8 (F := Ideal) c arg6 harg6 x3 (ix2 z j) = B j.val := fun j hj =>
    two_holds 6 (by norm_num) z B 8#32 rfl _ _ _ _ h6 rfl (hB 7 (by norm_num) 1792 _ (by norm_num)) (hB 8 (by norm_num) 2048 _ (by norm_num)) j hj
  have h10 : ∀ j : Fin 128, j.val ≤ 10 → kernelRun0_A.sl.r_10 (F := Ideal) c arg6 harg6 x3 (ix2 z j) = B j.val := fun j hj =>
    two_holds 8 (by norm_num) z B 10#32 rfl _ _ _ _ h8 rfl (hB 9 (by norm_num) 2304 _ (by norm_num)) (hB 10 (by norm_num) 2560 _ (by norm_num)) j hj
  have h12 : ∀ j : Fin 128, j.val ≤ 12 → kernelRun0_A.sl.r_12 (F := Ideal) c arg6 harg6 x3 (ix2 z j) = B j.val := fun j hj =>
    two_holds 10 (by norm_num) z B 12#32 rfl _ _ _ _ h10 rfl (hB 11 (by norm_num) 2816 _ (by norm_num)) (hB 12 (by norm_num) 3072 _ (by norm_num)) j hj
  have h14 : ∀ j : Fin 128, j.val ≤ 14 → kernelRun0_A.sl.r_14 (F := Ideal) c arg6 harg6 x3 (ix2 z j) = B j.val := fun j hj =>
    two_holds 12 (by norm_num) z B 14#32 rfl _ _ _ _ h12 rfl (hB 13 (by norm_num) 3328 _ (by norm_num)) (hB 14 (by norm_num) 3584 _ (by norm_num)) j hj
  refine (View.read_writes_cons_unit_of_mem (off' := ![0, 0]) v f _ _ _ _ (ix2 (⟨j.val, by omega⟩ : Fin 128) z) rfl fun a => ?_).trans ?_
  · fin_cases a <;> exact (Nat.zero_add _).symm
  refine (pay82_at _ _ _ (⟨j.val, by omega⟩ : Fin 128) z).trans ?_
  have hj : MobaRef.mean k b (hd g z) j (ln z) = B j.val := (hBj j).symm
  rw [hj]
  refine (mask_sel 15 (by norm_num) z _ _ _).trans ?_
  split
  · next h =>
    rw [show j.val = 15 from h]
    exact hB 15 (by norm_num) 3840 _ (by norm_num)
  · next h => exact h14 _ (by have : j.val ≠ 15 := h; show j.val ≤ 14; omega)

theorem kept_pen (hc0 : cond0_0 i) (h0 : ∀ h : Fin 8, x0 (ix1 h) = MobaRef.slope h) (v : View sig .tc .vmem S2x256x256 .f32) (f : v.ty.Contents (Elt Ideal)) (hh : Fin 2) (r l : Fin 256) :
    v.read (Elt Ideal) (v.writes (Elt Ideal) f (kernelRun0_A.sl.HS2_2 (F := Ideal) c i arg3 harg3 hc0 x0)) (ix3 hh r l)
      = MobaRef.slope (hp (gr i) hh) * (((l.val : ℝ) - (r.val : ℝ) : ℝ) : EReal) := by
  have e0 : kernelRun0_A.sl.r_16 (F := Ideal) c i arg3 harg3 hc0 x0 = MobaRef.slope (hp (gr i) 0) := by
    refine (readAt_unit _ _ _ _ (ix1 (hp (gr i) 0)) fun a => ?_).trans ?_
    · rw [congrFun (off1_eq0 i) a]
      fin_cases a
      rfl
    · rw [Memref.IsWhole.read_unread]
      exact h0 _
  have e1 : kernelRun0_A.sl.r_17 (F := Ideal) c i arg3 harg3 hc0 x0 = MobaRef.slope (hp (gr i) 1) := by
    refine (readAt_unit _ _ _ _ (ix1 (hp (gr i) 1)) fun a => ?_).trans ?_
    · rw [congrFun (off1_eq1 i) a]
      fin_cases a
      rfl
    · rw [Memref.IsWhole.read_unread]
      exact h0 _
  by_cases h : hh = 1
  · subst h
    refine (View.read_writes_cons_unit_of_mem (off' := ![1, 0, 0]) v f _ _ _ _ (ix3 (0 : Fin 1) r l) rfl fun a => ?_).trans ?_
    · fin_cases a <;> first | exact (Nat.zero_add _).symm | rfl
    · refine (pay84_at _ r l).trans ?_
      rw [e1]
  · have h : hh = 0 := by omega
    subst h
    refine (View.read_writes_cons_unit_of_not_mem (off' := ![1, 0, 0]) v f _ _ _ _ rfl (0 : Fin 3) (Or.inl Nat.zero_lt_one)).trans ?_
    refine (View.read_writes_cons_unit_of_mem (off' := ![0, 0, 0]) v f _ _ _ _ (ix3 (0 : Fin 1) r l) rfl fun a => ?_).trans ?_
    · fin_cases a <;> first | exact (Nat.zero_add _).symm | rfl
    · refine (pay84_at _ r l).trans ?_
      rw [e0]

end Cert.Proof.MobaCase
-- ==== Proof.MobaCaseA.lean ====
/-
  Hand-written, untrusted. The first point of a run of sixteen: it writes the values, the block means and the penalties,
  reads them back, and its output is the reference's.
-/
module

public import proofs.«01_k».proof.Proof.MobaKept

@[expose] public section

noncomputable section

namespace Cert.Proof.MobaCase

open Cert.MobaIdeal Cert.MobaIdeal.Gen Idealize.ShloMosaic Idealize.SL.Sem
open Cert.Proof.MobaSpec Cert.Proof.MobaPay Cert.Proof.MobaLoop Cert.Proof.MobaRow Cert.Proof.MobaPoint
open Cert.Proof.MobaRef (T4 key)
open scoped Classical

variable (c : Dev nD) (i : grid0.Coords) (arg3 : Memref sig .tc .smem S8 .f32) (harg3 : arg3.IsWhole) (arg4 : Memref sig .tc .vmem S1x128x256 .bf16) (harg4 : arg4.IsWhole)
  (arg5 : Memref sig .tc .vmem S1x4096x128 .bf16) (harg5 : arg5.IsWhole) (arg6 : Memref sig .tc .vmem S1x128x4096 .f32) (harg6 : arg6.IsWhole)
  (arg7 : Memref sig .tc .vmem S1x128x4096 .f32) (harg7 : arg7.IsWhole) (arg8 : Memref sig .tc .vmem S1x256x128 .bf16) (harg8 : arg8.IsWhole)
  (arg9 : Memref sig .tc .vmem S16x128x256 .bf16) (harg9 : arg9.IsWhole) (arg10 : Memref sig .tc .vmem S128x128 .bf16) (harg10 : arg10.IsWhole)
  (arg11 : Memref sig .tc .vmem S2x256x256 .f32) (harg11 : arg11.IsWhole) (arg12 : Memref sig .tc .vmem S16x512 .f32) (harg12 : arg12.IsWhole)

variable (q k v : T4) (b : Fin 4) (hq : ∀ i, IsReal (q i)) (hk : ∀ i, IsReal (k i))
  (x0 : Vec Ideal S8 .f32) (x1 : Vec Ideal S1x128x256 .bf16) (x2 : Vec Ideal S1x4096x128 .bf16) (x3 x4 : Vec Ideal S1x128x4096 .f32)
  (hI : Inputs i q k b x0 x1 x2) (h3 : ∀ (s : Fin 4096) (z : Fin 128), x3 (ix3 (0 : Fin 1) z s) = k (ix4 b s (hd (gr i) z) (ln z)))
  (h4 : ∀ (s : Fin 4096) (z : Fin 128), x4 (ix3 (0 : Fin 1) z s) = v (ix4 b s (hd (gr i) z) (ln z)))
include hI h3 h4

theorem kept_A (hc0 : cond0_0 i) :
    Kept k v b (sout0_A_0 c i arg3 harg3 arg4 harg4 arg5 harg5 arg6 harg6 arg7 harg7 arg8 harg8 arg9 harg9 arg10 harg10 arg11 harg11 arg12 harg12 hc0 x0 x1 x2 x3 x4)
      (sout0_A_1 c i arg3 harg3 arg4 harg4 arg5 harg5 arg6 harg6 arg7 harg7 arg8 harg8 arg9 harg9 arg10 harg10 arg11 harg11 arg12 harg12 hc0 x0 x1 x2 x3 x4)
      (sout0_A_2 c i arg3 harg3 arg4 harg4 arg5 harg5 arg6 harg6 arg7 harg7 arg8 harg8 arg9 harg9 arg10 harg10 arg11 harg11 arg12 harg12 hc0 x0 x1 x2 x3 x4) (gr i) where
  values := fun j z r => by
    unfold sout0_A_0 kernelRun0_A
    exact (kept_values c arg7 harg7 x4 _ _ j z r).trans (h4 _ z)
  mean := fun j z => by
    unfold sout0_A_1 kernelRun0_A
    exact kept_mean c arg6 harg6 k b (gr i) x3 h3 _ _ j z
  pen := fun hh r l => by
    unfold sout0_A_2 kernelRun0_A
    exact kept_pen c i arg3 harg3 x0 hc0 hI.slope _ _ hh r l

include hq hk in
theorem out_A (hc0 : cond0_0 i) (l : Fin 256) (z : Fin 128) :
    out0_A_5 c i arg3 harg3 arg4 harg4 arg5 harg5 arg6 harg6 arg7 harg7 arg8 harg8 arg9 harg9 arg10 harg10 arg11 harg11 arg12 harg12 hc0 x0 x1 x2 x3 x4 (ix3 (0 : Fin 1) l z)
      = out q k v b (key (qb i) l) (hd (gr i) z) (ln z) := by
  have hz : (![0, 0, 0] : Fin 3 → Nat) = fun _ => 0 := funext fun a => by fin_cases a <;> rfl
  have h1 := trips_eq (qb i)
  have h2 := trips2_eq (qb i)
  unfold out0_A_5 kernelRun0_A
  rw [View.read_writes_junk_eq_canon]
  refine (congrFun (View.canon_unit_zero (S := S1x256x128) hz _ _) (ix3 (0 : Fin 1) l z)).trans ?_
  refine run_out c i arg3 harg3 arg4 harg4 arg5 harg5 arg6 harg6 arg7 harg7 arg8 harg8 arg9 harg9 arg10 harg10 arg11 harg11 arg12 harg12
    (harg3.unread x0) (harg5.unread x2) (arg9.view.writes (Elt Ideal) arg9.view.junk (kernelRun0_A.sl.HS0_16 (F := Ideal) c arg7 harg7 x4))
    (arg11.view.writes (Elt Ideal) arg11.view.junk (kernelRun0_A.sl.HS2_2 (F := Ideal) c i arg3 harg3 hc0 x0)) _ q k v b
    (arg4.view.readAt (Elt Ideal) (Rect.unit ![0, 0, 0] S1x128x256.size inb_S1x128x256_S1x128x256_0_0_0).toLoadRect (harg4.unread x1))
    (arg10.view.readAt (Elt Ideal) (Rect.unit ![0, 0] S128x128.size inb_S128x128_S128x128_0_0).toLoadRect (arg10.view.writes (Elt Ideal) arg10.view.junk (kernelRun0_A.sl.HS1_1 (F := Ideal) c arg6 harg6 x3)))
    (arg5.view.readAt (Elt Ideal) (Rect.unit (s := S1x4096x128) (k0_off2 i) S1x256x128.size (k0_off2_inb i)).toLoadRect (harg5.unread x2))
    (arg9.view.readAt (Elt Ideal) (Rect.unit (s := S16x128x256) (k0_off3 i) S1x128x256.size (k0_off3_inb i)).toLoadRect (arg9.view.writes (Elt Ideal) arg9.view.junk (kernelRun0_A.sl.HS0_16 (F := Ideal) c arg7 harg7 x4)))
    (arg11.view.readAt (Elt Ideal) (Rect.unit (s := S2x256x256) ![0, 0, 0] S1x256x256.size inb_S2x256x256_S1x256x256_0_0_0).toLoadRect (arg11.view.writes (Elt Ideal) arg11.view.junk (kernelRun0_A.sl.HS2_2 (F := Ideal) c i arg3 harg3 hc0 x0)))
    (arg11.view.readAt (Elt Ideal) (Rect.unit (s := S2x256x256) ![1, 0, 0] S1x256x256.size inb_S2x256x256_S1x256x256_1_0_0).toLoadRect (arg11.view.writes (Elt Ideal) arg11.view.junk (kernelRun0_A.sl.HS2_2 (F := Ideal) c i arg3 harg3 hc0 x0)))
    _ ?trips _ _ ?init _ ?hn ?hm ?hls ?hinit ?hmid hq hk ?P l z
  case hmid => rfl
  case hn => exact h1
  case hm => exact h2
  case hls => rfl
  case hinit => rfl
  exact
  { slope := fun h => by rw [Memref.IsWhole.read_unread]; exact hI.slope h
    query := fun z l => by
      refine (readAt_unit _ _ _ _ (ix3 (0 : Fin 1) z l) fun a => ?_).trans ?_
      · fin_cases a <;> exact Nat.zero_add _
      · rw [Memref.IsWhole.read_unread]; exact hI.query z l
    keys := fun s z => by rw [Memref.IsWhole.read_unread]; exact hI.keys s z
    values := fun j z r => (kept_values c arg7 harg7 x4 _ _ j z r).trans (h4 _ z)
    pen := fun hh r l => kept_pen c i arg3 harg3 x0 hc0 hI.slope _ _ hh r l
    mean := fun j z => by
      refine (readAt_unit _ _ _ _ (ix2 (⟨j.val, by omega⟩ : Fin 128) z) fun a => ?_).trans ?_
      · fin_cases a <;> exact Nat.zero_add _
      · exact kept_mean c arg6 harg6 k b (gr i) x3 h3 _ _ j z
    sel := fun j y => by
      refine (View.read_writes_cons_unit_of_mem (off' := ![0, 0]) _ _ _ _ _ (ix2 j y) (ix2 j y) ?_ fun a => ?_)
      · rfl
      · fin_cases a <;> exact (Nat.zero_add _).symm
    ownK := fun r z => by
      refine (readAt_unit _ _ _ _ (ix3 (0 : Fin 1) (key (qb i) r) z) fun a => ?_).trans ?_
      · rw [congrFun (off2_eq i) a]
        fin_cases a <;> first | exact Nat.zero_add _ | rfl
      · rw [Memref.IsWhole.read_unread]; exact hI.keys _ z
    ownV := fun z r => by
      refine (readAt_unit _ _ _ _ (ix3 (qb i) z r) fun a => ?_).trans ?_
      · rw [congrFun (off3_eq i) a]
        fin_cases a <;> first | exact Nat.zero_add _ | rfl
      · exact (kept_values c arg7 harg7 x4 _ _ (qb i) z r).trans (h4 _ z)
    pen0 := fun r l => by
      refine (readAt_unit _ _ _ _ (ix3 (0 : Fin 2) r l) fun a => ?_).trans ?_
      · fin_cases a <;> exact Nat.zero_add _
      · exact kept_pen c i arg3 harg3 x0 hc0 hI.slope _ _ 0 r l
    pen1 := fun r l => by
      refine (readAt_unit _ _ _ _ (ix3 (1 : Fin 2) r l) fun a => ?_).trans ?_
      · fin_cases a <;> first | exact Nat.zero_add _ | rfl
      · exact kept_pen c i arg3 harg3 x0 hc0 hI.slope _ _ 1 r l }

end Cert.Proof.MobaCase
-- ==== Proof.MobaHost.lean ====
/-
  Hand-written, untrusted. What a point of the grid finds in its input blocks: the slopes, its queries, the keys of its
  batch and pair of heads, and the same keys and the values transposed.
-/
module

public import proofs.«01_k».proof.Proof.MobaPoint

@[expose] public section

noncomputable section

namespace Cert.Proof.MobaHost

open Cert.MobaIdeal Cert.MobaIdeal.Gen Idealize.ShloMosaic Idealize.ShloMosaic.TcCoe Idealize.SL.Sem
open Cert.Proof.MobaPoint Cert.Proof.MobaRow
open Cert.Proof.MobaRef (T4 key)

variable (m : (ℓ : Loc nD τ sig) → Buf (Elt Ideal) ℓ)

/-- The arguments. -/
abbrev aq (c : Dev nD) : T4 := m ((c : Thread nD τ).loc main_arg0)
abbrev ak (c : Dev nD) : T4 := m ((c : Thread nD τ).loc main_arg1)
abbrev av (c : Dev nD) : T4 := m ((c : Thread nD τ).loc main_arg2)

abbrev ch (x : Fin 512) : Fin 8 := ⟨x.val / 64, by omega⟩
abbrev cl (x : Fin 512) : Fin 64 := ⟨x.val % 64, by omega⟩

theorem V_v18 (c : Dev nD) (h : Fin 8) : V m c main_v18 (ix1 h) = MobaRef.slope h := by
  unfold V MobaRef.slope
  after_reads_at

theorem V_v2 (c : Dev nD) (b : Fin 4) (x : Fin 512) (t : Fin 4096) : V m c main_v2 (ix3 b x t) = aq m c (ix4 b t (ch x) (cl x)) := by
  unfold V
  after_reads_at

theorem V_v4 (c : Dev nD) (b : Fin 4) (x : Fin 512) (t : Fin 4096) : V m c main_v4 (ix3 b t x) = ak m c (ix4 b t (ch x) (cl x)) := by
  unfold V
  after_reads_at

theorem V_v6 (c : Dev nD) (b : Fin 4) (x : Fin 512) (t : Fin 4096) : V m c main_v6 (ix3 b x t) = ak m c (ix4 b t (ch x) (cl x)) := by
  unfold V
  after_reads_at

theorem V_v8 (c : Dev nD) (b : Fin 4) (x : Fin 512) (t : Fin 4096) : V m c main_v8 (ix3 b x t) = av m c (ix4 b t (ch x) (cl x)) := by
  unfold V
  after_reads_at

/-- The point's coordinates: batch, pair of heads, query block. -/
theorem coords0 : ∀ t : Fin cfg0.N, (grid0.coords t 0).val = t.val / 64 ∧ (grid0.coords t 1).val = t.val / 16 % 4 ∧ (grid0.coords t 2).val = t.val % 16 := by
  decide +kernel

theorem idx0 : ∀ t : Fin cfg0.N, win0_0.index t 0 = 0
    ∧ (win0_1.index t 0 = t.val / 64 ∧ win0_1.index t 1 = t.val / 16 % 4 ∧ win0_1.index t 2 = t.val % 16)
    ∧ (win0_2.index t 0 = t.val / 64 ∧ win0_2.index t 1 = 0 ∧ win0_2.index t 2 = t.val / 16 % 4) := by decide +kernel

theorem idx1 : ∀ t : Fin cfg0.N, (win0_3.index t 0 = t.val / 64 ∧ win0_3.index t 1 = t.val / 16 % 4 ∧ win0_3.index t 2 = 0)
    ∧ (win0_4.index t 0 = t.val / 64 ∧ win0_4.index t 1 = t.val / 16 % 4 ∧ win0_4.index t 2 = 0)
    ∧ (win0_5.index t 0 = t.val / 64 ∧ win0_5.index t 1 = t.val % 16 ∧ win0_5.index t 2 = t.val / 16 % 4) := by decide +kernel

/-- The batch of a point. -/
abbrev bt (t : Fin cfg0.N) : Fin 4 := ⟨t.val / 64, by have : t.val < 256 := t.isLt; omega⟩

abbrev col (g : Fin 4) (z : Fin 128) : Fin 512 := ⟨128 * g.val + z.val, by omega⟩

theorem ch_col (g : Fin 4) (z : Fin 128) : ch (col g z) = hd g z := Fin.ext (by show (128 * g.val + z.val) / 64 = 2 * g.val + z.val / 64; omega)
theorem cl_col (g : Fin 4) (z : Fin 128) : cl (col g z) = ln z := Fin.ext (by show (128 * g.val + z.val) % 64 = z.val % 64; omega)

theorem blk0 (c : Dev nD) (t : Fin cfg0.N) (h : Fin 8) : iblk m c 0 t (ix1 h) = MobaRef.slope h := by
  refine Eq.trans ?_ (V_v18 m c h)
  show V m c main_v18 ((win0_0.rect t).emb (ix1 h)) = _
  refine congrArg _ (funext fun a => Fin.ext ?_)
  rw [win0_0.rect_emb_val t (ix1 h) a]
  have h0 := (idx0 t).1
  match a with
  | ⟨0, _⟩ => show win0_0.index t 0 * 8 + h.val = h.val; omega

theorem blk1 (c : Dev nD) (t : Fin cfg0.N) (z : Fin 128) (l : Fin 256) :
    iblk m c 1 t (ix3 (0 : Fin 1) z l) = aq m c (ix4 (bt t) (key (qb (grid0.coords t)) l) (hd (gr (grid0.coords t)) z) (ln z)) := by
  rw [← ch_col, ← cl_col]
  refine Eq.trans ?_ (V_v2 m c (bt t) _ _)
  show V m c main_v2 ((win0_1.rect t).emb (ix3 0 z l)) = _
  refine congrArg _ (funext fun a => Fin.ext ?_)
  rw [win0_1.rect_emb_val t (ix3 0 z l) a]
  obtain ⟨-, ⟨h0, h1, h2⟩, -⟩ := idx0 t
  obtain ⟨c0, c1, c2⟩ := coords0 t
  match a with
  | ⟨0, _⟩ => show win0_1.index t 0 * 1 + 0 = t.val / 64; omega
  | ⟨1, _⟩ => show win0_1.index t 1 * 128 + z.val = 128 * (grid0.coords t 1).val + z.val; omega
  | ⟨2, _⟩ => show win0_1.index t 2 * 256 + l.val = 256 * (grid0.coords t 2).val + l.val; omega

theorem blk2 (c : Dev nD) (t : Fin cfg0.N) (s : Fin 4096) (z : Fin 128) :
    iblk m c 2 t (ix3 (0 : Fin 1) s z) = ak m c (ix4 (bt t) s (hd (gr (grid0.coords t)) z) (ln z)) := by
  rw [← ch_col, ← cl_col]
  refine Eq.trans ?_ (V_v4 m c (bt t) _ _)
  show V m c main_v4 ((win0_2.rect t).emb (ix3 0 s z)) = _
  refine congrArg _ (funext fun a => Fin.ext ?_)
  rw [win0_2.rect_emb_val t (ix3 0 s z) a]
  obtain ⟨-, -, ⟨h0, h1, h2⟩⟩ := idx0 t
  obtain ⟨c0, c1, c2⟩ := coords0 t
  match a with
  | ⟨0, _⟩ => show win0_2.index t 0 * 1 + 0 = t.val / 64; omega
  | ⟨1, _⟩ => show win0_2.index t 1 * 4096 + s.val = s.val; omega
  | ⟨2, _⟩ => show win0_2.index t 2 * 128 + z.val = 128 * (grid0.coords t 1).val + z.val; omega

theorem blk3 (c : Dev nD) (t : Fin cfg0.N) (s : Fin 4096) (z : Fin 128) :
    iblk m c 3 t (ix3 (0 : Fin 1) z s) = ak m c (ix4 (bt t) s (hd (gr (grid0.coords t)) z) (ln z)) := by
  rw [← ch_col, ← cl_col]
  refine Eq.trans ?_ (V_v6 m c (bt t) _ _)
  show V m c main_v6 ((win0_3.rect t).emb (ix3 0 z s)) = _
  refine congrArg _ (funext fun a => Fin.ext ?_)
  rw [win0_3.rect_emb_val t (ix3 0 z s) a]
  obtain ⟨⟨h0, h1, h2⟩, -⟩ := idx1 t
  obtain ⟨c0, c1, c2⟩ := coords0 t
  match a with
  | ⟨0, _⟩ => show win0_3.index t 0 * 1 + 0 = t.val / 64; omega
  | ⟨1, _⟩ => show win0_3.index t 1 * 128 + z.val = 128 * (grid0.coords t 1).val + z.val; omega
  | ⟨2, _⟩ => show win0_3.index t 2 * 4096 + s.val = s.val; omega

theorem blk4 (c : Dev nD) (t : Fin cfg0.N) (s : Fin 4096) (z : Fin 128) :
    iblk m c 4 t (ix3 (0 : Fin 1) z s) = av m c (ix4 (bt t) s (hd (gr (grid0.coords t)) z) (ln z)) := by
  rw [← ch_col, ← cl_col]
  refine Eq.trans ?_ (V_v8 m c (bt t) _ _)
  show V m c main_v8 ((win0_4.rect t).emb (ix3 0 z s)) = _
  refine congrArg _ (funext fun a => Fin.ext ?_)
  rw [win0_4.rect_emb_val t (ix3 0 z s) a]
  obtain ⟨-, ⟨h0, h1, h2⟩, -⟩ := idx1 t
  obtain ⟨c0, c1, c2⟩ := coords0 t
  match a with
  | ⟨0, _⟩ => show win0_4.index t 0 * 1 + 0 = t.val / 64; omega
  | ⟨1, _⟩ => show win0_4.index t 1 * 128 + z.val = 128 * (grid0.coords t 1).val + z.val; omega
  | ⟨2, _⟩ => show win0_4.index t 2 * 4096 + s.val = s.val; omega

/-- No two points write the same block. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (Fin.ext (by
    have h' : win0_5.index t = win0_5.index t' := h
    obtain ⟨-, -, ⟨h0, h1, h2⟩⟩ := idx1 t
    obtain ⟨-, -, ⟨h0', h1', h2'⟩⟩ := idx1 t'
    rw [h'] at h0 h1 h2
    have : t.val < 256 := t.isLt
    have : t'.val < 256 := t'.isLt
    omega))

/-- Where a point's block sits in the result. -/
theorem emb5 (t : Fin cfg0.N) (l : Fin 256) (z : Fin 128) :
    ((cfg0.win 5).blk t).view.emb (ix3 (0 : Fin 1) l z) = ix3 (bt t) (key (qb (grid0.coords t)) l) (col (gr (grid0.coords t)) z) := by
  show (win0_5.rect t).emb (ix3 (0 : Fin 1) l z) = _
  refine funext fun a => Fin.ext ?_
  rw [win0_5.rect_emb_val t (ix3 0 l z) a]
  obtain ⟨-, -, ⟨h0, h1, h2⟩⟩ := idx1 t
  obtain ⟨c0, c1, c2⟩ := coords0 t
  match a with
  | ⟨0, _⟩ => show win0_5.index t 0 * 1 + 0 = t.val / 64; omega
  | ⟨1, _⟩ => show win0_5.index t 1 * 256 + l.val = 256 * (grid0.coords t 2).val + l.val; omega
  | ⟨2, _⟩ => show win0_5.index t 2 * 128 + z.val = 128 * (grid0.coords t 1).val + z.val; omega

end Cert.Proof.MobaHost
-- ==== Proof.MobaValue.lean ====
/-
  Hand-written, untrusted. The value of the block attention over the prompt: what the buffers kept from point to point
  hold, every point's block of the result, and the claim that the whole result is the reference's.
-/
module

public import proofs.«01_k».proof.Defs
public import proofs.«01_k».proof.Proof.MobaCaseA
public import proofs.«01_k».proof.Proof.MobaHost
public import proofs.«01_k».proof.Proof.MobaSoft
public import proofs.«01_k».proof.Proof.MemoryValue
public import proofs.«01_k».proof.Proof.Gen.MobaIdeal.Value

@[expose] public section

noncomputable section

namespace Cert.Proof.Moba

open Cert.MobaIdeal Cert.MobaIdeal.Gen Idealize.ShloMosaic Idealize.ShloMosaic.TcCoe Idealize.SL.Sem
open Cert.Proof.MobaRow Cert.Proof.MobaPoint Cert.Proof.MobaHost Cert.Proof.MobaCase
open Cert.Proof.MobaRef (T4 key)

variable (m : (ℓ : Loc nD τ sig) → Buf (Elt Ideal) ℓ)

theorem inputs (c : Dev nD) (t : Fin cfg0.N) :
    Inputs (grid0.coords t) (aq m c) (ak m c) (bt t) (iblk m c 0 t) (iblk m c 1 t) (iblk m c 2 t) where
  slope := blk0 m c t
  query := blk1 m c t
  keys := blk2 m c t

/-- The kept buffers, out of all a point leaves, hold a batch's and a pair of heads' values, means and penalties. -/
def Holds (k v : T4) (b g : Fin 4) {A : Type} (o : A × Vec Ideal S16x128x256 .bf16 × Vec Ideal S128x128 .bf16 × Vec Ideal S2x256x256 .f32) : Prop :=
  Kept k v b o.2.1 o.2.2.1 o.2.2.2 g

theorem Holds.intro {k v : T4} {b g : Fin 4} {A : Type} {o : A × Vec Ideal S16x128x256 .bf16 × Vec Ideal S128x128 .bf16 × Vec Ideal S2x256x256 .f32}
    {a : A} {s0 : Vec Ideal S16x128x256 .bf16} {s1 : Vec Ideal S128x128 .bf16} {s2 : Vec Ideal S2x256x256 .f32} (e : o = (a, s0, s1, s2)) (h : Kept k v b s0 s1 s2 g) : Holds k v b g o := by
  subst e
  exact h

theorem bt_pred (t : Fin cfg0.N) (hl : t.val - 1 < cfg0.N) (h0 : ¬ t.val % 16 = 0) : bt ⟨t.val - 1, hl⟩ = bt t :=
  Fin.ext (by show (t.val - 1) / 64 = t.val / 64; omega)

theorem gr_pred (t : Fin cfg0.N) (hl : t.val - 1 < cfg0.N) (h0 : ¬ t.val % 16 = 0) : gr (grid0.coords ⟨t.val - 1, hl⟩) = gr (grid0.coords t) := by
  obtain ⟨-, h1, -⟩ := coords0 t
  obtain ⟨-, h2, -⟩ := coords0 ⟨t.val - 1, hl⟩
  refine Fin.ext ?_
  show (grid0.coords ⟨t.val - 1, hl⟩ 1).val = (grid0.coords t 1).val
  rw [h1, h2]
  show (t.val - 1) / 16 % 4 = t.val / 16 % 4
  omega

theorem kept_first (c : Dev nD) (t : Fin cfg0.N) (h0 : t.val % 16 = 0) : Holds (ak m c) (av m c) (bt t) (gr (grid0.coords t)) (outsAt0 m c t.val t.isLt) :=
  Holds.intro (outsAt0_A m c t h0) (kept_A (hI := inputs m c t) (h3 := blk3 m c t) (h4 := blk4 m c t) ..)

theorem kept_next (c : Dev nD) (t : Fin cfg0.N) (h0 : ¬ t.val % 16 = 0)
    (h : Holds (ak m c) (av m c) (bt t) (gr (grid0.coords t)) (outsAt0 m c (t.val - 1) (Nat.lt_of_le_of_lt (Nat.sub_le _ _) t.isLt))) :
    Holds (ak m c) (av m c) (bt t) (gr (grid0.coords t)) (outsAt0 m c t.val t.isLt) :=
  Holds.intro (outsAt0_B m c t h0) h

/-- After every point the kept buffers hold its batch's and its pair of heads' values, means and penalties. -/
theorem kept (c : Dev nD) (n : Nat) (t : Fin cfg0.N) (ht : t.val = n) :
    Holds (ak m c) (av m c) (bt t) (gr (grid0.coords t)) (outsAt0 m c t.val t.isLt) := by
  induction n generalizing t with
  | zero => exact kept_first m c t (by rw [ht])
  | succ n ih =>
    by_cases h0 : t.val % 16 = 0
    · exact kept_first m c t h0
    · have hl : t.val - 1 < cfg0.N := Nat.lt_of_le_of_lt (Nat.sub_le _ _) t.isLt
      have h := ih ⟨t.val - 1, hl⟩ (by show t.val - 1 = n; omega)
      rw [bt_pred t hl h0, gr_pred t hl h0] at h
      exact kept_next m c t h0 h

/-- One point's block of the result. -/
theorem block (c : Dev nD) (hq : ∀ i, IsReal (aq m c i)) (hk : ∀ i, IsReal (ak m c i)) (t : Fin cfg0.N) (l : Fin 256) (z : Fin 128) :
    (dats m 0 c).flushed 5 t (ix3 (0 : Fin 1) l z)
      = out (aq m c) (ak m c) (av m c) (bt t) (key (qb (grid0.coords t)) l) (hd (gr (grid0.coords t)) z) (ln z) := by
  by_cases h0 : t.val % 16 = 0
  · refine (congrFun (Value.flushed5_A m c t h0) (ix3 (0 : Fin 1) l z)).trans ?_
    exact out_A (hq := hq) (hk := hk) (hI := inputs m c t) (h3 := blk3 m c t) (h4 := blk4 m c t) (l := l) (z := z) ..
  · refine (congrFun (Value.flushed5_B m c t h0) (ix3 (0 : Fin 1) l z)).trans ?_
    have hl : t.val - 1 < cfg0.N := Nat.lt_of_le_of_lt (Nat.sub_le _ _) t.isLt
    have h := kept m c _ ⟨t.val - 1, hl⟩ rfl
    rw [bt_pred t hl h0, gr_pred t hl h0] at h
    exact out_B (hq := hq) (hk := hk) (hI := inputs m c t) (hS := h) (l := l) (z := z) ..

/-- The whole result. -/
theorem final (c : Dev nD) (hq : ∀ i, IsReal (aq m c i)) (hk : ∀ i, IsReal (ak m c i)) (b : Fin 4) (t : Fin 4096) (j : Fin 512) :
    (dats m 0 c).arrAt 5 cfg0.N (ix3 b t j) = out (aq m c) (ak m c) (av m c) b t (ch j) (cl j) := by
  obtain ⟨p, hp⟩ : ∃ p : Fin cfg0.N, p.val = 64 * b.val + 16 * (j.val / 128) + t.val / 256 :=
    ⟨⟨64 * b.val + 16 * (j.val / 128) + t.val / 256, by show _ < 256; omega⟩, rfl⟩
  obtain ⟨l, hl⟩ : ∃ l : Fin 256, l.val = t.val % 256 := ⟨⟨t.val % 256, by omega⟩, rfl⟩
  obtain ⟨z, hz⟩ : ∃ z : Fin 128, z.val = j.val % 128 := ⟨⟨j.val % 128, by omega⟩, rfl⟩
  obtain ⟨-, c1, c2⟩ := coords0 p
  have eb : bt p = b := Fin.ext (by show p.val / 64 = b.val; omega)
  have et : key (qb (grid0.coords p)) l = t := Fin.ext (by show 256 * (grid0.coords p 2).val + l.val = t.val; omega)
  have ej : col (gr (grid0.coords p)) z = j := Fin.ext (by show 128 * (grid0.coords p 1).val + z.val = j.val; omega)
  have h := (dats m 0 c).arrAt_emb_eq_flushed 5 disjoint5 p (flush0_5 p) (ix3 (0 : Fin 1) l z)
  rw [emb5, eb, et, ej] at h
  refine h.trans ((block m c hq hk p l z).trans ?_)
  rw [eb, et, ← ch_col, ← cl_col, ej]

/-- The value claim. -/
theorem algebraic [Cert.Pre_finite_gates.Facts] : Cert.algebraic_MobaIdeal_MobaRefIdeal_pre_finite_gates := by
  intro m g m' g' hpre hagree
  refine ⟨fun c => (dats m 0 c).arrAt 5 cfg0.N, Value.run_blocks m g, ?_⟩
  refine (θ_run Cert.MobaRefIdeal.defs _ _).mono (fun r h c => ?_) (Cert.MobaRefIdeal.Value.run m' g')
  obtain ⟨h1, h2⟩ := h c
  refine ⟨?_, h2⟩
  rw [h1, Cert.MobaRefIdeal.Read.val_main_v86_eq, (hagree c).1, (hagree c).2.1, (hagree c).2.2]
  refine funext fun (i : S4x4096x512.Idx) => ?_
  obtain ⟨b, t, j, rfl⟩ : ∃ (b : Fin 4) (t : Fin 4096) (j : Fin 512), i = ix3 b t j := ⟨i 0, i 1, i 2, eq_ix3 i⟩
  have hq : ∀ i, IsReal (aq m c i) := fun i => Memory.real_of_abs_lt _ (congrFun (hpre c).1 i)
  have hk : ∀ i, IsReal (ak m c i) := fun i => Memory.real_of_abs_lt _ (congrFun (hpre c).2 i)
  exact (MobaRef.ref_v86 _ _ _ b t j).trans (final m c hq hk b t j).symm

end Cert.Proof.Moba
-- ==== Proof.SampleMemoryValue.lean ====
/-
  Hand-written, untrusted. The value of the sample batch's memory attention: one grid point per request, the
  eight tokens' rows of the four heads stacked, and the softmax-weighted sum the reference computes.
-/
module

public import proofs.«01_k».proof.Proof.MemoryValue
public import proofs.«01_k».proof.Proof.Gen.SampleMemoryIdeal.Value
public import proofs.«01_k».proof.Proof.Gen.SampleMemoryRefIdeal.Read
public import Idealize.ShloMosaic.Lib.Pipeline.Value
public import Idealize.ShloMosaic.Lib.Pointwise
public import Idealize.ShloMosaic.Lib.StableHlo.ReadAt
public import Idealize.ShloMosaic.PureOps.Ideal.Laws

@[expose] public section

noncomputable section

namespace Cert.Proof.SampleMemory

open Idealize.ShloMosaic Idealize.SL.Sem Idealize.ShloMosaic.TcCoe
open Cert.SampleMemoryIdeal Cert.SampleMemoryIdeal.Gen
open Idealize.ShloMosaic.Pipeline (Dat Cfg Window)
open Cert.Proof.Memory (exp_nonneg sum_exp_ne_zero div_sum sum_real mul_real scale scale_real neg_inf hd ln sum_head mask_eq ge_eq
  select_if lane_split real_of_abs_lt)

/-! ## The function -/

/-- The score of token `t` against slot `n` in head `h` of batch `b`. -/
def score (q : FVec Ideal S32x8x4x64 .f32) (k : FVec Ideal S32x256x4x64 .f32) (b : Fin 32) (h : Fin 4) (t : Fin 8) (n : Fin 256) : EReal :=
  (∑ d : Fin 64, q (ix4 b t h d) * k (ix4 b n h d)) * scale

/-- The weight of slot `n`: the exponential of its score over the row's greatest. -/
def weight (q : FVec Ideal S32x8x4x64 .f32) (k : FVec Ideal S32x256x4x64 .f32) (b : Fin 32) (h : Fin 4) (t : Fin 8) (n : Fin 256) : EReal :=
  Ideal.exp (score q k b h t n - Finset.univ.fold max ⊥ (score q k b h t))

/-! ## The kernel's payloads at an index -/

/-- Token `i`'s score against slot `n` in head `h`, from the blocks of one request. -/
def raw (x0 : Vec Ideal S1x8x256 .f32) (x1 : Vec Ideal S1x256x256 .f32) (h : Fin 4) (i : Fin 8) (n : Fin 256) : EReal :=
  (∑ d : Fin 64, x0 (ix3 0 i ⟨64 * h.val + d.val, by omega⟩) * x1 (ix3 0 ⟨64 * h.val + d.val, by omega⟩ n)) * scale

/-- The scores of the stacked rows, less the row's greatest: row `8·h + i` holds token `i`'s scores in head `h`. -/
theorem pay2_apply (x0 : Vec Ideal S1x8x256 .f32) (x1 : Vec Ideal S1x256x256 .f32) (r : Fin 32) (h : Fin 4) (i : Fin 8) (n : Fin 256)
    (hr : r.val = 8 * h.val + i.val) (s : Fin 256 → EReal)
    (hs : ∀ n, raw x0 x1 h i n = s n) :
    k0_pay2 (F := Ideal) x0 x1 (ix2 r n) = s n - Finset.univ.fold max ⊥ s := by
  rw [← hs n, ← funext hs]
  unfold raw
  pointwise [k0_pay2]
  rw [neg_inf]
  refine congrArg₂ (fun (a : EReal) (f : Fin 256 → EReal) => a - Finset.univ.fold max ⊥ f) ?_ (funext fun n => ?_)
  all_goals
    refine congrArg (fun a : EReal => a * scale) ?_
    rw [← sum_head h fun x => x0 (ix3 0 i x) * x1 (ix3 0 x n)]
    refine Finset.sum_congr rfl fun x _ => ?_
    obtain ⟨m0, m1, m2, m3⟩ := mask_eq x
    rw [m0, m1, m2, m3]
    simp only [select_if]
    match h, hr with
    | ⟨0, _⟩, hr =>
      have hr : r.val = i.val := by simpa using hr
      have this : r.val < 8 := by omega
      have e : (⟨r.val, this⟩  : Fin 8) = i := Fin.ext hr
      rw [dif_pos this]
      simp only [e, ite_mul, zero_mul]
    | ⟨1, _⟩, hr =>
      have e : (⟨r.val - 8, by simp at hr; omega⟩  : Fin 8) = i := Fin.ext (by simp at hr ⊢; omega)
      rw [dif_neg (by simp at hr; omega), dif_pos (by simp at hr; omega)]
      simp only [e, ite_mul, zero_mul]
    | ⟨2, _⟩, hr =>
      have e : (⟨r.val - 8 - 8, by simp at hr; omega⟩  : Fin 8) = i := Fin.ext (by simp at hr ⊢; omega)
      rw [dif_neg (by simp at hr; omega), dif_neg (by simp at hr; omega), dif_pos (by simp at hr; omega)]
      simp only [e, ite_mul, zero_mul]
    | ⟨3, _⟩, hr =>
      have e : (⟨r.val - 8 - 8 - 8, by simp at hr; omega⟩  : Fin 8) = i := Fin.ext (by simp at hr ⊢; omega)
      rw [dif_neg (by simp at hr; omega), dif_neg (by simp at hr; omega), dif_neg (by simp at hr; omega)]
      simp only [e, ite_mul, zero_mul]

/-- The stored block: lane `j` takes the stacked row of its own head. -/
theorem pay1_apply (y : FVec Ideal S32x256 .f32) (x1 : Vec Ideal S1x256x256 .f32) (u : Fin 1) (i : Fin 8) (j : Fin 256) (r : Fin 32)
    (hr : r.val = 8 * (j.val / 64) + i.val) :
    k0_pay1 (F := Ideal) y x1 (ix3 u i j)
      = Ideal.div (∑ n : Fin 256, Ideal.exp (y (ix2 r n)) * x1 (ix3 0 j n)) (∑ n : Fin 256, Ideal.exp (y (ix2 r n))) := by
  pointwise [k0_pay1]
  obtain ⟨m1, m2, m3⟩ := ge_eq j
  rw [m1, m2, m3]
  simp only [select_if]
  by_cases h3 : 3 ≤ j.val / 64
  · have e : (⟨24 + i.val, by omega⟩ : Fin 32) = r := Fin.ext (by simp; omega)
    rw [if_pos h3]; simp only [e]
  by_cases h2 : 2 ≤ j.val / 64
  · have e : (⟨16 + i.val, by omega⟩ : Fin 32) = r := Fin.ext (by simp; omega)
    rw [if_neg h3, if_pos h2]; simp only [e]
  by_cases h1 : 1 ≤ j.val / 64
  · have e : (⟨8 + i.val, by omega⟩ : Fin 32) = r := Fin.ext (by simp; omega)
    rw [if_neg h3, if_neg h2, if_pos h1]; simp only [e]
  · have e : (⟨i.val, by omega⟩ : Fin 32) = r := Fin.ext (by simp; omega)
    rw [if_neg h3, if_neg h2, if_neg h1]; simp only [e]

/-! ## The reference, stage by stage -/

section Ref
open Cert.SampleMemoryRefIdeal.Read
variable (q : FVec Ideal S32x8x4x64 .f32) (k v : FVec Ideal S32x256x4x64 .f32)

theorem ref_v2 (b : Fin 32) (h : Fin 4) (t : Fin 8) (n : Fin 256) : val_main_v2 (F := Ideal) q k (ix4 b h t n) = score q k b h t n := by
  pointwise [val_main_v2, val_main_v1, val_main_v0, val_main_cst, score, scale]

/-- The host's row maximum as a fold over the slots. -/
theorem row_max (y : FVec Ideal Cert.SampleMemoryRefIdeal.S32x4x8x256 .f32) (z : FVec Ideal Cert.SampleMemoryRefIdeal.S_ .f32) (b : Fin 32) (h : Fin 4) (t : Fin 8) :
    Host.reduce FloatOps.maximumf y z Cert.SampleMemoryRefIdeal.Gen.reducesTo_S32x4x8x256_S32x4x8_d3 Cert.SampleMemoryRefIdeal.Gen.h_S_ (ix3 b h t)
      = Finset.univ.fold max (z (Shape.Idx.first Cert.SampleMemoryRefIdeal.Gen.h_S_)) fun n : Fin 256 => y (ix4 b h t n) :=
  (Host.reduce_eq_fold _ _ _ _ _ _).trans
    (Shape.ReducesTo.fold_fiber_r4_a3 Cert.SampleMemoryRefIdeal.Gen.reducesTo_S32x4x8x256_S32x4x8_d3 (ix3 b h t) max _ y)

theorem ref_v5 (b : Fin 32) (h : Fin 4) (t : Fin 8) :
    val_main_v5 (F := Ideal) q k (ix3 b h t) = Finset.univ.fold max ⊥ fun n : Fin 256 => val_main_v2 (F := Ideal) q k (ix4 b h t n) := by
  have e : val_main_v3 (F := Ideal) q k (ix3 b h t) = Finset.univ.fold max ⊥ fun n : Fin 256 => val_main_v2 (F := Ideal) q k (ix4 b h t n) := by
    unfold val_main_v3
    refine (row_max (val_main_v2 (F := Ideal) q k) _ b h t).trans ?_
    rw [val_main_cst_0_apply, ← neg_inf]
    rfl
  rw [val_main_v5_apply, e, val_main_v4_apply, val_main_cst_1_apply]
  generalize (Finset.univ.fold max ⊥ fun n : Fin 256 => val_main_v2 (F := Ideal) q k (ix4 b h t n)) = y
  show max (Ideal.ofBits .f32 0xFF800000#32) y = y
  rw [neg_inf]
  exact max_eq_right bot_le

theorem ref_v9 (b : Fin 32) (h : Fin 4) (t : Fin 8) (n : Fin 256) : val_main_v9 (F := Ideal) q k (ix4 b h t n) = weight q k b h t n := by
  have e : val_main_v9 (F := Ideal) q k (ix4 b h t n) = Ideal.exp (val_main_v2 (F := Ideal) q k (ix4 b h t n) - val_main_v5 (F := Ideal) q k (ix3 b h t)) := by
    pointwise [val_main_v9, val_main_v8, val_main_v7, val_main_v6]
  rw [e, ref_v5]
  simp only [ref_v2]
  rfl

theorem ref_v13 (b : Fin 32) (h : Fin 4) (t : Fin 8) (n : Fin 256) :
    val_main_v13 (F := Ideal) q k (ix4 b h t n) = Ideal.div (weight q k b h t n) (∑ x : Fin 256, weight q k b h t x) := by
  have e : val_main_v13 (F := Ideal) q k (ix4 b h t n)
      = Ideal.div (val_main_v9 (F := Ideal) q k (ix4 b h t n)) (∑ x : Fin 256, val_main_v9 (F := Ideal) q k (ix4 b h t x)) := by
    pointwise [val_main_v13, val_main_v12, val_main_v11, val_main_v10, val_main_cst_2]
  rw [e]
  simp only [ref_v9]

theorem ref_v17 (b : Fin 32) (t : Fin 8) (j : Fin 256) :
    val_main_v16 (F := Ideal) q k v (ix3 b t j)
      = ∑ n : Fin 256, v (ix4 b n (hd j) (ln j)) * Ideal.div (weight q k b (hd j) t n) (∑ x : Fin 256, weight q k b (hd j) t x) := by
  have e : val_main_v16 (F := Ideal) q k v (ix3 b t j)
      = ∑ n : Fin 256, v (ix4 b n (hd j) (ln j)) * val_main_v13 (F := Ideal) q k (ix4 b (hd j) t n) := by
    pointwise [val_main_v16, val_main_v15, val_main_v14]
  rw [e]
  simp only [ref_v13]

end Ref

/-! ## The run -/

variable (m : (ℓ : Loc nD τ sig) → Buf (Elt Ideal) ℓ) (ρ : Dev nD → PrngReg)

/-- One store through the whole buffer leaves its payload, and whole-buffer loads read the buffers. -/
theorem out_eq {F : FTy → Type} [FloatOps F] (x0 : Vec F S1x8x256 .f32) (x1 x2 : Vec F S1x256x256 .f32) :
    out0_3 (F := F) x0 x1 x2 = k0_pay1 (k0_pay2 x0 x1) x2 := by
  have hz : (![0, 0, 0] : Fin S1x256x256.rank → Nat) = fun _ => 0 := funext fun a => by fin_cases a <;> rfl
  unfold out0_3
  rw [View.canon_unit_zero hz, View.ld_unit_zero hz, View.ld_unit_zero hz, View.ld_unit_zero hz]

theorem V_v0 (c : Dev nD) (b : Fin 32) (t : Fin 8) (x : Fin 256) :
    V m c main_v0 (ix3 b t x) = m ((c : Thread nD τ).loc main_arg0) (ix4 b t (hd x) (ln x)) := by
  unfold V
  after_reads_at

theorem V_v2 (c : Dev nD) (b : Fin 32) (x n : Fin 256) :
    V m c main_v2 (ix3 b x n) = m ((c : Thread nD τ).loc main_arg1) (ix4 b n (hd x) (ln x)) := by
  unfold V
  after_reads_at

theorem V_v4 (c : Dev nD) (b : Fin 32) (x n : Fin 256) :
    V m c main_v4 (ix3 b x n) = m ((c : Thread nD τ).loc main_arg2) (ix4 b n (hd x) (ln x)) := by
  unfold V
  after_reads_at

/-- The windows' blocks at point `t`: request `t` of the queries, of the keys, of the values and of the result. -/
theorem idx0 : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0) := by decide +kernel

theorem blk0 (c : Dev nD) (p : Fin cfg0.N) (b : Fin 32) (i : Fin 8) (x : Fin 256) (hb : p.val = b.val) :
    iblk m c 0 p (ix3 0 i x) = m ((c : Thread nD τ).loc main_arg0) (ix4 b i (hd x) (ln x)) := by
  refine Eq.trans ?_ (V_v0 m c b i x)
  show V m c main_v0 ((win0_0.rect p).emb (ix3 0 i x)) = _
  refine congrArg _ (funext fun a => Fin.ext ?_)
  rw [win0_0.rect_emb_val p (ix3 0 i x) a]
  obtain ⟨⟨h0, h1, h2⟩, -⟩ := idx0 p
  match a with
  | ⟨0, _⟩ => show win0_0.index p 0 * 1 + 0 = b.val; omega
  | ⟨1, _⟩ => show win0_0.index p 1 * 8 + i.val = i.val; omega
  | ⟨2, _⟩ => show win0_0.index p 2 * 256 + x.val = x.val; omega

theorem blk1 (c : Dev nD) (p : Fin cfg0.N) (b : Fin 32) (x n : Fin 256) (hb : p.val = b.val) :
    iblk m c 1 p (ix3 0 x n) = m ((c : Thread nD τ).loc main_arg1) (ix4 b n (hd x) (ln x)) := by
  refine Eq.trans ?_ (V_v2 m c b x n)
  show V m c main_v2 ((win0_1.rect p).emb (ix3 0 x n)) = _
  refine congrArg _ (funext fun a => Fin.ext ?_)
  rw [win0_1.rect_emb_val p (ix3 0 x n) a]
  obtain ⟨-, ⟨h0, h1, h2⟩, -⟩ := idx0 p
  match a with
  | ⟨0, _⟩ => show win0_1.index p 0 * 1 + 0 = b.val; omega
  | ⟨1, _⟩ => show win0_1.index p 1 * 256 + x.val = x.val; omega
  | ⟨2, _⟩ => show win0_1.index p 2 * 256 + n.val = n.val; omega

theorem blk2 (c : Dev nD) (p : Fin cfg0.N) (b : Fin 32) (x n : Fin 256) (hb : p.val = b.val) :
    iblk m c 2 p (ix3 0 x n) = m ((c : Thread nD τ).loc main_arg2) (ix4 b n (hd x) (ln x)) := by
  refine Eq.trans ?_ (V_v4 m c b x n)
  show V m c main_v4 ((win0_2.rect p).emb (ix3 0 x n)) = _
  refine congrArg _ (funext fun a => Fin.ext ?_)
  rw [win0_2.rect_emb_val p (ix3 0 x n) a]
  obtain ⟨-, -, ⟨h0, h1, h2⟩, -⟩ := idx0 p
  match a with
  | ⟨0, _⟩ => show win0_2.index p 0 * 1 + 0 = b.val; omega
  | ⟨1, _⟩ => show win0_2.index p 1 * 256 + x.val = x.val; omega
  | ⟨2, _⟩ => show win0_2.index p 2 * 256 + n.val = n.val; omega

/-- The stacked scores of a grid point are the scores of its request's tokens. -/
theorem scores (c : Dev nD) (p : Fin cfg0.N) (b : Fin 32) (h : Fin 4) (i : Fin 8) (hb : p.val = b.val) (n : Fin 256) :
    raw (iblk m c 0 p) (iblk m c 1 p) h i n
      = score (m ((c : Thread nD τ).loc main_arg0)) (m ((c : Thread nD τ).loc main_arg1)) b h i n := by
  refine congrArg (fun a : EReal => a * scale) (Finset.sum_congr rfl fun d _ => ?_)
  have e0 := blk0 m c p b i ⟨64 * h.val + d.val, by omega⟩ hb
  have e1 := blk1 m c p b ⟨64 * h.val + d.val, by omega⟩ n hb
  rw [(lane_split h d).1, (lane_split h d).2] at e0 e1
  exact congrArg₂ (fun a b : EReal => a * b) e0 e1

/-- The result array after the run, element by element. -/
theorem final (c : Dev nD) (b : Fin 32) (t : Fin 8) (j : Fin 256) :
    (dats m 0 c).arrAt 3 cfg0.N (ix3 b t j)
      = Ideal.div (∑ n : Fin 256, weight (m ((c : Thread nD τ).loc main_arg0)) (m ((c : Thread nD τ).loc main_arg1)) b (hd j) t n
            * (m ((c : Thread nD τ).loc main_arg2) : FVec Ideal S32x256x4x64 .f32) (ix4 b n (hd j) (ln j)))
          (∑ n : Fin 256, weight (m ((c : Thread nD τ).loc main_arg0)) (m ((c : Thread nD τ).loc main_arg1)) b (hd j) t n) := by
  obtain ⟨p, hb⟩ : ∃ p : Fin cfg0.N, p.val = b.val := ⟨⟨b.val, by show _ < 32; omega⟩, rfl⟩
  obtain ⟨r, hr⟩ : ∃ r : Fin 32, r.val = 8 * (j.val / 64) + t.val := ⟨⟨8 * (j.val / 64) + t.val, by omega⟩, rfl⟩
  have e : ((cfg0.win 3).blk p).view.emb (ix3 (0 : Fin 1) t j) = ix3 b t j := by
    show (win0_3.rect p).emb (ix3 (0 : Fin 1) t j) = _
    refine funext fun a => Fin.ext ?_
    rw [win0_3.rect_emb_val p (ix3 0 t j) a]
    obtain ⟨-, -, -, h0, h1, h2⟩ := idx0 p
    match a with
    | ⟨0, _⟩ => show win0_3.index p 0 * 1 + 0 = b.val; omega
    | ⟨1, _⟩ => show win0_3.index p 1 * 8 + t.val = t.val; omega
    | ⟨2, _⟩ => show win0_3.index p 2 * 256 + j.val = j.val; omega
  have h := (dats m 0 c).arrAt_emb_eq_flushed 3 Value.disjoint3 p (flush0_3 p) (ix3 (0 : Fin 1) t j)
  rw [e] at h
  refine h.trans ((congrFun (Value.flushed3 m c p) (ix3 (0 : Fin 1) t j)).trans ?_)
  rw [out_eq]
  refine (pay1_apply (k0_pay2 (F := Ideal) (iblk m c 0 p) (iblk m c 1 p)) (iblk m c 2 p) 0 t j r hr).trans ?_
  have ew : ∀ n, Ideal.exp (k0_pay2 (F := Ideal) (iblk m c 0 p) (iblk m c 1 p) (ix2 r n))
      = weight (m ((c : Thread nD τ).loc main_arg0)) (m ((c : Thread nD τ).loc main_arg1)) b (hd j) t n :=
    fun n => congrArg Ideal.exp (pay2_apply (iblk m c 0 p) (iblk m c 1 p) r (hd j) t n hr _ fun n => scores m c p b (hd j) t hb n)
  refine congrArg₂ Ideal.div (Finset.sum_congr rfl fun n _ => ?_) (Finset.sum_congr rfl fun n _ => ew n)
  exact congrArg₂ (fun a b : EReal => a * b) (ew n) (blk2 m c p b j n hb)

/-! ## The precondition -/

/-- Under the precondition every score is real. -/
theorem score_real [Cert.Pre_finite_sample_scores.Facts] (q : FVec Ideal S32x8x4x64 .f32) (k v : FVec Ideal S32x256x4x64 .f32)
    (hq : (Cert.Pre_finite_sample_scores.fn (F := Ideal) q k v).1 = fun _ => 1#1) (hk : (Cert.Pre_finite_sample_scores.fn (F := Ideal) q k v).2 = fun _ => 1#1)
    (b : Fin 32) (h : Fin 4) (t : Fin 8) (n : Fin 256) : score q k b h t n ≠ ⊥ ∧ score q k b h t n ≠ ⊤ :=
  mul_real (sum_real _ _ fun d => mul_real (real_of_abs_lt _ (congrFun hq _)) (real_of_abs_lt _ (congrFun hk _))) scale_real

/-- The value claim. -/
theorem algebraic [Cert.Pre_finite_sample_scores.Facts] : Cert.algebraic_SampleMemoryIdeal_SampleMemoryRefIdeal_pre_finite_sample_scores := by
  intro m g m' g' hpre hagree
  refine ⟨fun c => (dats m 0 c).arrAt 3 cfg0.N, Value.run_blocks m g, ?_⟩
  refine (θ_run Cert.SampleMemoryRefIdeal.defs _ _).mono (fun r h c => ?_) (Cert.SampleMemoryRefIdeal.Value.run m' g')
  obtain ⟨h1, h2⟩ := h c
  refine ⟨?_, h2⟩
  rw [h1, (hagree c).1, (hagree c).2.1, (hagree c).2.2, Cert.SampleMemoryRefIdeal.Read.val_main_v16_eq]
  refine funext fun (i : S32x8x256.Idx) => ?_
  obtain ⟨b, t, j, rfl⟩ : ∃ (b : Fin 32) (t : Fin 8) (j : Fin 256), i = ix3 b t j := ⟨i 0, i 1, i 2, eq_ix3 i⟩
  refine (ref_v17 _ _ _ b t j).trans (Eq.trans ?_ (final m c b t j).symm)
  have hs : ∀ n, score (m ((c : Thread nD τ).loc main_arg0)) (m ((c : Thread nD τ).loc main_arg1)) b (hd j) t n ≠ ⊥
      ∧ score (m ((c : Thread nD τ).loc main_arg0)) (m ((c : Thread nD τ).loc main_arg1)) b (hd j) t n ≠ ⊤ :=
    fun n => score_real _ _ _ (hpre c).1 (hpre c).2 b (hd j) t n
  exact (div_sum _ (fun n => (m ((c : Thread nD τ).loc main_arg2) : FVec Ideal S32x256x4x64 .f32) (ix4 b n (hd j) (ln j)))
    (fun n => exp_nonneg _) (sum_exp_ne_zero (by decide) _ (fun n => (hs n).1) fun n => (hs n).2)).symm

end Cert.Proof.SampleMemory

end
-- ==== Proof.lean ====
/-
  Hand-written, untrusted. The proof of `Cert.Claim`: the frames of the kernels are the generated ones, a
  reference's frame is its run with no semaphore to account for, `preserves` has no rewrite to justify, and
  the value of each call is its own module's `algebraic`.
-/
module

public import proofs.«01_k».proof.Defs
public import proofs.«01_k».proof.Proof.Gen.Memory.Frame
public import proofs.«01_k».proof.Proof.Gen.MemoryIdeal.Frame
public import proofs.«01_k».proof.Proof.Gen.MemoryRefIdeal.Run
public import proofs.«01_k».proof.Proof.MemoryValue
public import proofs.«01_k».proof.Proof.Gen.Tail.Frame
public import proofs.«01_k».proof.Proof.Gen.TailIdeal.Frame
public import proofs.«01_k».proof.Proof.Gen.TailRefIdeal.Run
public import proofs.«01_k».proof.Proof.TailValue
public import proofs.«01_k».proof.Proof.Gen.Proj.Frame
public import proofs.«01_k».proof.Proof.Gen.ProjIdeal.Frame
public import proofs.«01_k».proof.Proof.Gen.ProjRefIdeal.Run
public import proofs.«01_k».proof.Proof.ProjValue
public import proofs.«01_k».proof.Proof.Gen.SampleTail.Frame
public import proofs.«01_k».proof.Proof.Gen.SampleTailIdeal.Frame
public import proofs.«01_k».proof.Proof.Gen.SampleTailRefIdeal.Run
public import proofs.«01_k».proof.Proof.SampleTailValue
public import proofs.«01_k».proof.Proof.Gen.SampleProj.Frame
public import proofs.«01_k».proof.Proof.Gen.SampleProjIdeal.Frame
public import proofs.«01_k».proof.Proof.Gen.SampleProjRefIdeal.Run
public import proofs.«01_k».proof.Proof.SampleProjValue
public import proofs.«01_k».proof.Proof.Gen.MemKv.Frame
public import proofs.«01_k».proof.Proof.Gen.MemKvIdeal.Frame
public import proofs.«01_k».proof.Proof.Gen.MemKvRefIdeal.Run
public import proofs.«01_k».proof.Proof.MemKvValue
public import proofs.«01_k».proof.Proof.Gen.Moba.Frame
public import proofs.«01_k».proof.Proof.Gen.MobaIdeal.Frame
public import proofs.«01_k».proof.Proof.Gen.MobaRefIdeal.Run
public import proofs.«01_k».proof.Proof.MobaValue
public import proofs.«01_k».proof.Proof.Gen.SampleMemory.Frame
public import proofs.«01_k».proof.Proof.Gen.SampleMemoryIdeal.Frame
public import proofs.«01_k».proof.Proof.Gen.SampleMemoryRefIdeal.Run
public import proofs.«01_k».proof.Proof.SampleMemoryValue
public import proofs.«01_k».proof.Proof.Gen.Pre_finite_scores
public import proofs.«01_k».proof.Proof.Gen.Pre_finite_gates
public import proofs.«01_k».proof.Proof.Gen.Pre_finite_sample_scores

@[expose] public section

noncomputable section

namespace Cert.Proof

open Idealize.ShloMosaic Idealize.SL.Sem

theorem frame_MemoryRef : Cert.quiescent_MemoryRefIdeal := fun m ρ _ =>
  (θ_run Cert.MemoryRefIdeal.defs _ _).mono (fun r h => ⟨fun c => (h c).2,
      sem_eq_zero_of_no_sems (by decide) r.2⟩)
    (Cert.MemoryRefIdeal.Value.run (F := Ideal) m ρ)

theorem frame_MemoryRef_pre_finite_scores : Cert.quiescent_MemoryRefIdeal_pre_finite_scores := fun m ρ _ =>
  (θ_run Cert.MemoryRefIdeal.defs _ _).mono (fun r h => ⟨fun c => (h c).2,
      sem_eq_zero_of_no_sems (by decide) r.2⟩)
    (Cert.MemoryRefIdeal.Value.run (F := Ideal) m ρ)

theorem frame_TailRef : Cert.quiescent_TailRefIdeal := fun m ρ _ =>
  (θ_run Cert.TailRefIdeal.defs _ _).mono (fun r h => ⟨fun c => (h c).2,
      sem_eq_zero_of_no_sems (by decide) r.2⟩)
    (Cert.TailRefIdeal.Value.run (F := Ideal) m ρ)

theorem frame_ProjRef : Cert.quiescent_ProjRefIdeal := fun m ρ _ =>
  (θ_run Cert.ProjRefIdeal.defs _ _).mono (fun r h => ⟨fun c => (h c).2.2.2.2.2.2.2.2.2.2.2.2.2,
      sem_eq_zero_of_no_sems (by decide) r.2⟩)
    (Cert.ProjRefIdeal.Value.run (F := Ideal) m ρ)

theorem frame_SampleTailRef : Cert.quiescent_SampleTailRefIdeal := fun m ρ _ =>
  (θ_run Cert.SampleTailRefIdeal.defs _ _).mono (fun r h => ⟨fun c => (h c).2,
      sem_eq_zero_of_no_sems (by decide) r.2⟩)
    (Cert.SampleTailRefIdeal.Value.run (F := Ideal) m ρ)

theorem frame_SampleProjRef : Cert.quiescent_SampleProjRefIdeal := fun m ρ _ =>
  (θ_run Cert.SampleProjRefIdeal.defs _ _).mono (fun r h => ⟨fun c => (h c).2,
      sem_eq_zero_of_no_sems (by decide) r.2⟩)
    (Cert.SampleProjRefIdeal.Value.run (F := Ideal) m ρ)

theorem frame_MemKvRef : Cert.quiescent_MemKvRefIdeal := fun m ρ _ =>
  (θ_run Cert.MemKvRefIdeal.defs _ _).mono (fun r h => ⟨fun c => (h c).2,
      sem_eq_zero_of_no_sems (by decide) r.2⟩)
    (Cert.MemKvRefIdeal.Value.run (F := Ideal) m ρ)

theorem frame_MobaRef : Cert.quiescent_MobaRefIdeal := fun m ρ _ =>
  (θ_run Cert.MobaRefIdeal.defs _ _).mono (fun r h => ⟨fun c => (h c).2,
      sem_eq_zero_of_no_sems (by decide) r.2⟩)
    (Cert.MobaRefIdeal.Value.run (F := Ideal) m ρ)

theorem frame_MobaRef_pre_finite_gates : Cert.quiescent_MobaRefIdeal_pre_finite_gates := fun m ρ _ =>
  (θ_run Cert.MobaRefIdeal.defs _ _).mono (fun r h => ⟨fun c => (h c).2,
      sem_eq_zero_of_no_sems (by decide) r.2⟩)
    (Cert.MobaRefIdeal.Value.run (F := Ideal) m ρ)

theorem frame_SampleMemoryRef : Cert.quiescent_SampleMemoryRefIdeal := fun m ρ _ =>
  (θ_run Cert.SampleMemoryRefIdeal.defs _ _).mono (fun r h => ⟨fun c => (h c).2,
      sem_eq_zero_of_no_sems (by decide) r.2⟩)
    (Cert.SampleMemoryRefIdeal.Value.run (F := Ideal) m ρ)

theorem frame_SampleMemoryRef_pre_finite_sample_scores : Cert.quiescent_SampleMemoryRefIdeal_pre_finite_sample_scores := fun m ρ _ =>
  (θ_run Cert.SampleMemoryRefIdeal.defs _ _).mono (fun r h => ⟨fun c => (h c).2,
      sem_eq_zero_of_no_sems (by decide) r.2⟩)
    (Cert.SampleMemoryRefIdeal.Value.run (F := Ideal) m ρ)

theorem claim : Cert.Claim := ⟨Cert.Memory.Gen.facts,
  Cert.MemoryIdeal.Gen.facts,
  Cert.MemoryRefIdeal.Gen.facts,
  Cert.Tail.Gen.facts,
  Cert.TailIdeal.Gen.facts,
  Cert.TailRefIdeal.Gen.facts,
  Cert.Proj.Gen.facts,
  Cert.ProjIdeal.Gen.facts,
  Cert.ProjRefIdeal.Gen.facts,
  Cert.SampleTail.Gen.facts,
  Cert.SampleTailIdeal.Gen.facts,
  Cert.SampleTailRefIdeal.Gen.facts,
  Cert.SampleProj.Gen.facts,
  Cert.SampleProjIdeal.Gen.facts,
  Cert.SampleProjRefIdeal.Gen.facts,
  Cert.MemKv.Gen.facts,
  Cert.MemKvIdeal.Gen.facts,
  Cert.MemKvRefIdeal.Gen.facts,
  Cert.Moba.Gen.facts,
  Cert.MobaIdeal.Gen.facts,
  Cert.MobaRefIdeal.Gen.facts,
  Cert.SampleMemory.Gen.facts,
  Cert.SampleMemoryIdeal.Gen.facts,
  Cert.SampleMemoryRefIdeal.Gen.facts,
  Cert.Pre_finite_scores.Gen.facts,
  Cert.Pre_finite_gates.Gen.facts,
  Cert.Pre_finite_sample_scores.Gen.facts,
  fun m ρ _ => Cert.Memory.Gen.frame m ρ,
  fun m ρ _ => Cert.MemoryIdeal.Gen.frame m ρ,
  fun m ρ _ => Cert.MemoryIdeal.Gen.frame m ρ,
  frame_MemoryRef,
  frame_MemoryRef_pre_finite_scores,
  fun m ρ _ => Cert.Tail.Gen.frame m ρ,
  fun m ρ _ => Cert.TailIdeal.Gen.frame m ρ,
  frame_TailRef,
  fun m ρ _ => Cert.Proj.Gen.frame m ρ,
  fun m ρ _ => Cert.ProjIdeal.Gen.frame m ρ,
  frame_ProjRef,
  fun m ρ _ => Cert.SampleTail.Gen.frame m ρ,
  fun m ρ _ => Cert.SampleTailIdeal.Gen.frame m ρ,
  frame_SampleTailRef,
  fun m ρ _ => Cert.SampleProj.Gen.frame m ρ,
  fun m ρ _ => Cert.SampleProjIdeal.Gen.frame m ρ,
  frame_SampleProjRef,
  fun m ρ _ => Cert.MemKv.Gen.frame m ρ,
  fun m ρ _ => Cert.MemKvIdeal.Gen.frame m ρ,
  frame_MemKvRef,
  fun m ρ _ => Cert.Moba.Gen.frame m ρ,
  fun m ρ _ => Cert.MobaIdeal.Gen.frame m ρ,
  fun m ρ _ => Cert.MobaIdeal.Gen.frame m ρ,
  frame_MobaRef,
  frame_MobaRef_pre_finite_gates,
  fun m ρ _ => Cert.SampleMemory.Gen.frame m ρ,
  fun m ρ _ => Cert.SampleMemoryIdeal.Gen.frame m ρ,
  fun m ρ _ => Cert.SampleMemoryIdeal.Gen.frame m ρ,
  frame_SampleMemoryRef,
  frame_SampleMemoryRef_pre_finite_sample_scores,
  trivial,
  Memory.algebraic,
  trivial,
  Tail.algebraic,
  trivial,
  Proj.algebraic,
  trivial,
  SampleTail.algebraic,
  trivial,
  SampleProj.algebraic,
  trivial,
  MemKv.algebraic,
  trivial,
  Moba.algebraic,
  trivial,
  SampleMemory.algebraic⟩

end Cert.Proof

end
